-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_gates_above [hPre_gates_above : Cert.Pre_gates_above.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_gates_above.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_gates_above [hPre_gates_above : Cert.Pre_gates_above.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_gates_above.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_gates_above [hKernel3Ideal : Cert.Kernel3Ideal.Facts] [hPre_gates_above : Cert.Pre_gates_above.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_gates_above m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_gates_above [hReference3Ideal : Cert.Reference3Ideal.Facts] [hPre_gates_above : Cert.Pre_gates_above.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_gates_above m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_gates_above [hKernel3Ideal : Cert.Kernel3Ideal.Facts] [hReference3Ideal : Cert.Reference3Ideal.Facts] [hPre_gates_above : Cert.Pre_gates_above.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_gates_above m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def Claim : Prop :=
  ∃ (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_gates_above : Cert.Pre_gates_above.Facts),
    quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_gates_above (hKernel3Ideal := hKernel3Ideal) (hPre_gates_above := hPre_gates_above)
    ∧ quiescent_Reference3Ideal (hReference3Ideal := hReference3Ideal)
    ∧ quiescent_Reference3Ideal_pre_gates_above (hReference3Ideal := hReference3Ideal) (hPre_gates_above := hPre_gates_above)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_gates_above (hKernel3Ideal := hKernel3Ideal) (hReference3Ideal := hReference3Ideal) (hPre_gates_above := hPre_gates_above)
    ∧ preserves_Kernel4_Kernel4Ideal
    ∧ algebraic_Kernel4Ideal_Reference4Ideal (hKernel4Ideal := hKernel4Ideal) (hReference4Ideal := hReference4Ideal)
-- ==== Pre_gates_above.lean ====
abbrev S4x4096x2048 : Shape := ⟨3, ![4, 4096, 2048]⟩
abbrev S4x4096x14336 : Shape := ⟨3, ![4, 4096, 14336]⟩
abbrev S2x2048 : Shape := ⟨2, ![2, 2048]⟩
abbrev S2x2048x2048 : Shape := ⟨3, ![2, 2048, 2048]⟩
abbrev S2x4096x2048 : Shape := ⟨3, ![2, 4096, 2048]⟩
abbrev S_ : Shape := ⟨0, ![]⟩

class Facts : Prop where
  slices_S4x4096x14336_S4x4096x2048_0_0_6144 : S4x4096x14336.Slices ![0, 0, 6144] S4x4096x2048
  slices_S4x4096x14336_S4x4096x2048_0_0_12288 : S4x4096x14336.Slices ![0, 0, 12288] S4x4096x2048
  bcast_S_S4x4096x2048 : S_.BroadcastsInDim S4x4096x2048 (![] : Fin 0 → Fin S4x4096x2048.rank)

variable [Facts]

def fn {F : FTy → Type} [FloatOps F] (main_arg0 : FVec F S4x4096x2048 .f32) (main_arg1 : FVec F S4x4096x14336 .bf16) (main_arg2 : FVec F S4x4096x2048 .bf16) (main_arg3 : FVec F S4x4096x2048 .f32) (main_arg4 : FVec F S2x2048 .f32) (main_arg5 : FVec F S2x2048 .f32) (main_arg6 : FVec F S2x2048x2048 .f32) (main_arg7 : FVec F S2x4096x2048 .f32) : IVec S4x4096x2048 1 :=
  let main_v0 : FVec F S4x4096x2048 .bf16 := (extractStridedSlice S4x4096x2048 ![0, 0, 6144] · slices_S4x4096x14336_S4x4096x2048_0_0_6144) main_arg1
  let main_v1 : FVec F S4x4096x2048 .bf16 := (extractStridedSlice S4x4096x2048 ![0, 0, 12288] · slices_S4x4096x14336_S4x4096x2048_0_0_12288) main_arg1
  let main_v2 : FVec F S4x4096x2048 .bf16 := minimumf main_v0 main_v1
  let main_cst : FVec F S_ .bf16 := constant S_ .bf16 0xFF80#16
  let main_v3 : FVec F S4x4096x2048 .bf16 := broadcastInDim S4x4096x2048 ![] bcast_S_S4x4096x2048 main_cst
  let main_v4 : IVec S4x4096x2048 1 := cmpf .ogt main_v2 main_v3
  main_v4
-- ==== KernelIdeal.lean ====
abbrev S4x4096x14336 : Shape := ⟨3, ![4, 4096, 14336]⟩
abbrev S128 : Shape := ⟨1, ![128]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S256 : Shape := ⟨1, ![256]⟩
abbrev S1x256 : Shape := ⟨2, ![1, 256]⟩
abbrev S128x1 : Shape := ⟨2, ![128, 1]⟩
abbrev S128x256 : Shape := ⟨2, ![128, 256]⟩
abbrev S1x128x256 : Shape := ⟨3, ![1, 128, 256]⟩
abbrev S4x128x256 : Shape := ⟨3, ![4, 128, 256]⟩
abbrev S1x128 : Shape := ⟨2, ![1, 128]⟩
abbrev S128x128 : Shape := ⟨2, ![128, 128]⟩
abbrev S128x64 : Shape := ⟨2, ![128, 64]⟩
abbrev S4x4096x2048 : Shape := ⟨3, ![4, 4096, 2048]⟩
abbrev S1x4096x128 : Shape := ⟨3, ![1, 4096, 128]⟩
abbrev S2x4096x128 : Shape := ⟨3, ![2, 4096, 128]⟩
abbrev S1x4096x256 : Shape := ⟨3, ![1, 4096, 256]⟩
abbrev S1x256x128 : Shape := ⟨3, ![1, 256, 128]⟩
abbrev S256x128 : Shape := ⟨2, ![256, 128]⟩
abbrev S256x1 : Shape := ⟨2, ![256, 1]⟩
abbrev S1x32x128 : Shape := ⟨3, ![1, 32, 128]⟩
abbrev S32x128 : Shape := ⟨2, ![32, 128]⟩
abbrev S256x256 : Shape := ⟨2, ![256, 256]⟩
abbrev S1x128x128 : Shape := ⟨3, ![1, 128, 128]⟩
abbrev S1x256x256 : Shape := ⟨3, ![1, 256, 256]⟩

abbrev nBuf : Space → Nat
  | .hbm => 175
  | .vmem => 30
  | .smem => 0
  | _ => 0

abbrev hbmTy0_0 (i : Nat) : BufTy := match i % 128 with
  | 0 => ⟨S4x4096x14336, .bf16⟩
  | 1 => ⟨S128, .f32⟩
  | 2 => ⟨S128, .f32⟩
  | 3 => ⟨S64, .f32⟩
  | 4 => ⟨S_, .f32⟩
  | 5 => ⟨S64, .f32⟩
  | 6 => ⟨S64, .f32⟩
  | 7 => ⟨S_, .f32⟩
  | 8 => ⟨S64, .f32⟩
  | 9 => ⟨S64, .f32⟩
  | 10 => ⟨S_, .f32⟩
  | 11 => ⟨S64, .f32⟩
  | 12 => ⟨S64, .f32⟩
  | 13 => ⟨S_, .f32⟩
  | 14 => ⟨S64, .f32⟩
  | 15 => ⟨S64, .f32⟩
  | 16 => ⟨S_, .f32⟩
  | 17 => ⟨S64, .f32⟩
  | 18 => ⟨S64, .f32⟩
  | 19 => ⟨S4096, .f32⟩
  | 20 => ⟨S4096x1, .f32⟩
  | 21 => ⟨S1x64, .f32⟩
  | 22 => ⟨S4096x64, .f32⟩
  | 23 => ⟨S4096x64, .f32⟩
  | 24 => ⟨S4096x64, .f32⟩
  | 25 => ⟨S4096x64, .f32⟩
  | 26 => ⟨S4096x64, .f32⟩
  | 27 => ⟨S4096x128, .f32⟩
  | 28 => ⟨S4096x64, .f32⟩
  | 29 => ⟨S4096x128, .f32⟩
  | 30 => ⟨S128, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S128, .i32⟩
  | 38 => ⟨S128, .i32⟩
  | 39 => ⟨S_, .i32⟩
  | 40 => ⟨S128, .i32⟩
  | 41 => ⟨S128, .i1⟩
  | 42 => ⟨S_, .i32⟩
  | 43 => ⟨S128, .i32⟩
  | 44 => ⟨S128, .i1⟩
  | 45 => ⟨S_, .i32⟩
  | 46 => ⟨S_, .i1⟩
  | 47 => ⟨S128, .i1⟩
  | 48 => ⟨S128, .i1⟩
  | 49 => ⟨S128, .i1⟩
  | 50 => ⟨S128, .i32⟩
  | 51 => ⟨S128, .i32⟩
  | 52 => ⟨S128, .i32⟩
  | 53 => ⟨S_, .i32⟩
  | 54 => ⟨S128, .i32⟩
  | 55 => ⟨S128, .i32⟩
  | 56 => ⟨S_, .i32⟩
  | 57 => ⟨S_, .i32⟩
  | 58 => ⟨S128, .i32⟩
  | 59 => ⟨S128, .i32⟩
  | 60 => ⟨S128, .i32⟩
  | 61 => ⟨S_, .i32⟩
  | 62 => ⟨S128, .i32⟩
  | 63 => ⟨S128, .i1⟩
  | 64 => ⟨S128, .i32⟩
  | 65 => ⟨S128, .i32⟩
  | 66 => ⟨S_, .i32⟩
  | 67 => ⟨S128, .i32⟩
  | 68 => ⟨S128, .i1⟩
  | 69 => ⟨S128, .i1⟩
  | 70 => ⟨S_, .i32⟩
  | 71 => ⟨S128, .i32⟩
  | 72 => ⟨S128, .i32⟩
  | 73 => ⟨S128, .i32⟩
  | 74 => ⟨S128, .i32⟩
  | 75 => ⟨S256, .i32⟩
  | 76 => ⟨S1x256, .i32⟩
  | 77 => ⟨S128x1, .i32⟩
  | 78 => ⟨S_, .i32⟩
  | 79 => ⟨S128x1, .i32⟩
  | 80 => ⟨S128x1, .i32⟩
  | 81 => ⟨S128x256, .i32⟩
  | 82 => ⟨S128x256, .i32⟩
  | 83 => ⟨S128x256, .i32⟩
  | 84 => ⟨S_, .i32⟩
  | 85 => ⟨S128x256, .i32⟩
  | 86 => ⟨S128x256, .i1⟩
  | 87 => ⟨S_, .i32⟩
  | 88 => ⟨S128x256, .i32⟩
  | 89 => ⟨S128x256, .i1⟩
  | 90 => ⟨S128x256, .i1⟩
  | 91 => ⟨S_, .f32⟩
  | 92 => ⟨S_, .f32⟩
  | 93 => ⟨S128x256, .f32⟩
  | 94 => ⟨S128x256, .f32⟩
  | 95 => ⟨S128x256, .f32⟩
  | 96 => ⟨S128x256, .f32⟩
  | 97 => ⟨S128x1, .i32⟩
  | 98 => ⟨S_, .i32⟩
  | 99 => ⟨S128x1, .i32⟩
  | 100 => ⟨S128x1, .i32⟩
  | 101 => ⟨S128x256, .i32⟩
  | 102 => ⟨S128x256, .i32⟩
  | 103 => ⟨S128x256, .i32⟩
  | 104 => ⟨S_, .i32⟩
  | 105 => ⟨S128x256, .i32⟩
  | 106 => ⟨S128x256, .i1⟩
  | 107 => ⟨S_, .i32⟩
  | 108 => ⟨S128x256, .i32⟩
  | 109 => ⟨S128x256, .i1⟩
  | 110 => ⟨S128x256, .i1⟩
  | 111 => ⟨S_, .f32⟩
  | 112 => ⟨S_, .f32⟩
  | 113 => ⟨S128x256, .f32⟩
  | 114 => ⟨S128x256, .f32⟩
  | 115 => ⟨S128x256, .f32⟩
  | 116 => ⟨S128x256, .f32⟩
  | 117 => ⟨S128x1, .i32⟩
  | 118 => ⟨S_, .i32⟩
  | 119 => ⟨S128x1, .i32⟩
  | 120 => ⟨S128x1, .i32⟩
  | 121 => ⟨S128x256, .i32⟩
  | 122 => ⟨S128x256, .i32⟩
  | 123 => ⟨S128x256, .i32⟩
  | 124 => ⟨S_, .i32⟩
  | 125 => ⟨S128x256, .i32⟩
  | 126 => ⟨S128x256, .i1⟩
  | 127 => ⟨S_, .i32⟩
  | _ => ⟨S4x4096x14336, .bf16⟩

abbrev hbmTy0_1 (i : Nat) : BufTy := match i % 128 with
  | 0 => ⟨S128x256, .i32⟩
  | 1 => ⟨S128x256, .i1⟩
  | 2 => ⟨S128x256, .i1⟩
  | 3 => ⟨S_, .f32⟩
  | 4 => ⟨S_, .f32⟩
  | 5 => ⟨S128x256, .f32⟩
  | 6 => ⟨S128x256, .f32⟩
  | 7 => ⟨S128x256, .f32⟩
  | 8 => ⟨S128x256, .f32⟩
  | 9 => ⟨S128x1, .i32⟩
  | 10 => ⟨S_, .i32⟩
  | 11 => ⟨S128x1, .i32⟩
  | 12 => ⟨S128x1, .i32⟩
  | 13 => ⟨S128x256, .i32⟩
  | 14 => ⟨S128x256, .i32⟩
  | 15 => ⟨S128x256, .i32⟩
  | 16 => ⟨S_, .i32⟩
  | 17 => ⟨S128x256, .i32⟩
  | 18 => ⟨S128x256, .i1⟩
  | 19 => ⟨S_, .i32⟩
  | 20 => ⟨S128x256, .i32⟩
  | 21 => ⟨S128x256, .i1⟩
  | 22 => ⟨S128x256, .i1⟩
  | 23 => ⟨S_, .f32⟩
  | 24 => ⟨S_, .f32⟩
  | 25 => ⟨S128x256, .f32⟩
  | 26 => ⟨S128x256, .f32⟩
  | 27 => ⟨S128x256, .f32⟩
  | 28 => ⟨S128x256, .f32⟩
  | 29 => ⟨S1x128x256, .f32⟩
  | 30 => ⟨S1x128x256, .f32⟩
  | 31 => ⟨S1x128x256, .f32⟩
  | 32 => ⟨S1x128x256, .f32⟩
  | 33 => ⟨S4x128x256, .f32⟩
  | 34 => ⟨S1x128, .f32⟩
  | 35 => ⟨S1x128, .f32⟩
  | 36 => ⟨S128x128, .i32⟩
  | 37 => ⟨S128x128, .i32⟩
  | 38 => ⟨S_, .i32⟩
  | 39 => ⟨S128x128, .i32⟩
  | 40 => ⟨S128x128, .i32⟩
  | 41 => ⟨S128x128, .i1⟩
  | 42 => ⟨S128x128, .bf16⟩
  | 43 => ⟨S128x64, .bf16⟩
  | 44 => ⟨S128x64, .bf16⟩
  | 45 => ⟨S128x128, .bf16⟩
  | 46 => ⟨S4x4096x2048, .f32⟩
  | _ => ⟨S4x4096x14336, .bf16⟩

abbrev hbmTy (i : Nat) : BufTy := match i / 128 with
  | 0 => hbmTy0_0 i
  | 1 => hbmTy0_1 i
  | _ => ⟨S4x4096x14336, .bf16⟩

abbrev bufTy : (tb : Table) → Fin (tcTables nBuf tb) → BufTy
  | .hbm, ⟨i, _⟩ => hbmTy i
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S4096x128, .f32⟩
  | .local _ .vmem, ⟨7, _⟩ => ⟨S4096x128, .f32⟩
  | .local _ .vmem, ⟨8, _⟩ => ⟨S1x128, .f32⟩
  | .local _ .vmem, ⟨9, _⟩ => ⟨S1x128, .f32⟩
  | .local _ .vmem, ⟨10, _⟩ => ⟨S4x128x256, .f32⟩
  | .local _ .vmem, ⟨11, _⟩ => ⟨S128x128, .bf16⟩
  | .local _ .vmem, ⟨12, _⟩ => ⟨S1x4096x128, .f32⟩
  | .local _ .vmem, ⟨13, _⟩ => ⟨S1x4096x128, .f32⟩
  | .local _ .vmem, ⟨14, _⟩ => ⟨S1x4096x128, .bf16⟩
  | .local _ .vmem, ⟨15, _⟩ => ⟨S2x4096x128, .bf16⟩
  | .local _ .vmem, ⟨16, _⟩ => ⟨S1x4096x256, .bf16⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | .local _ .vmem, ⟨22, _⟩ => ⟨S4096x128, .f32⟩
  | .local _ .vmem, ⟨23, _⟩ => ⟨S4096x128, .f32⟩
  | .local _ .vmem, ⟨24, _⟩ => ⟨S4096x128, .f32⟩
  | .local _ .vmem, ⟨25, _⟩ => ⟨S4096x128, .f32⟩
  | .local _ .vmem, ⟨26, _⟩ => ⟨S4096x128, .f32⟩
  | .local _ .vmem, ⟨27, _⟩ => ⟨S4096x128, .f32⟩
  | .local _ .vmem, ⟨28, _⟩ => ⟨S4096x128, .f32⟩
  | .local _ .vmem, ⟨29, _⟩ => ⟨S4096x128, .f32⟩
  | _, _ => ⟨S4x4096x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c : Ref sig .tc := ⟨.hbm, 31, rfl⟩
abbrev main_call0_v0 : Ref sig .tc := ⟨.hbm, 32, rfl⟩
abbrev main_call0_c : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_c_1 : Ref sig .tc := ⟨.hbm, 39, rfl⟩
abbrev main_call0_v5 : Ref sig .tc := ⟨.hbm, 40, rfl⟩
abbrev main_call0_v6 : Ref sig .tc := ⟨.hbm, 41, rfl⟩
abbrev main_call0_c_2 : Ref sig .tc := ⟨.hbm, 42, rfl⟩
abbrev main_call0_v7 : Ref sig .tc := ⟨.hbm, 43, rfl⟩
abbrev main_call0_v8 : Ref sig .tc := ⟨.hbm, 44, rfl⟩
abbrev main_call0_c_3 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_v12 : Ref sig .tc := ⟨.hbm, 49, rfl⟩
abbrev main_call0_v13 : Ref sig .tc := ⟨.hbm, 50, rfl⟩
abbrev main_call0_v14 : Ref sig .tc := ⟨.hbm, 51, rfl⟩
abbrev main_v23 : Ref sig .tc := ⟨.hbm, 52, rfl⟩
abbrev main_c_4 : Ref sig .tc := ⟨.hbm, 53, rfl⟩
abbrev main_v24 : Ref sig .tc := ⟨.hbm, 54, rfl⟩
abbrev main_v25 : Ref sig .tc := ⟨.hbm, 55, rfl⟩
abbrev main_c_5 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_c : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_0 : Ref sig .tc := ⟨.hbm, 70, rfl⟩
abbrev main_call1_v12 : Ref sig .tc := ⟨.hbm, 71, rfl⟩
abbrev main_call1_v13 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_c_6 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_c_7 : Ref sig .tc := ⟨.hbm, 84, rfl⟩
abbrev main_v36 : Ref sig .tc := ⟨.hbm, 85, rfl⟩
abbrev main_v37 : Ref sig .tc := ⟨.hbm, 86, rfl⟩
abbrev main_c_8 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_cst_9 : Ref sig .tc := ⟨.hbm, 91, rfl⟩
abbrev main_cst_10 : Ref sig .tc := ⟨.hbm, 92, rfl⟩
abbrev main_call2_v0 : Ref sig .tc := ⟨.hbm, 93, rfl⟩
abbrev main_call2_v1 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_c_11 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_c_12 : Ref sig .tc := ⟨.hbm, 104, rfl⟩
abbrev main_v49 : Ref sig .tc := ⟨.hbm, 105, rfl⟩
abbrev main_v50 : Ref sig .tc := ⟨.hbm, 106, rfl⟩
abbrev main_c_13 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_cst_14 : Ref sig .tc := ⟨.hbm, 111, rfl⟩
abbrev main_cst_15 : Ref sig .tc := ⟨.hbm, 112, rfl⟩
abbrev main_call3_v0 : Ref sig .tc := ⟨.hbm, 113, rfl⟩
abbrev main_call3_v1 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_c_16 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_c_17 : Ref sig .tc := ⟨.hbm, 124, rfl⟩
abbrev main_v62 : Ref sig .tc := ⟨.hbm, 125, rfl⟩
abbrev main_v63 : Ref sig .tc := ⟨.hbm, 126, rfl⟩
abbrev main_c_18 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_cst_19 : Ref sig .tc := ⟨.hbm, 131, rfl⟩
abbrev main_cst_20 : Ref sig .tc := ⟨.hbm, 132, rfl⟩
abbrev main_call4_v0 : Ref sig .tc := ⟨.hbm, 133, rfl⟩
abbrev main_call4_v1 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_c_21 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_c_22 : Ref sig .tc := ⟨.hbm, 144, rfl⟩
abbrev main_v75 : Ref sig .tc := ⟨.hbm, 145, rfl⟩
abbrev main_v76 : Ref sig .tc := ⟨.hbm, 146, rfl⟩
abbrev main_c_23 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_cst_24 : Ref sig .tc := ⟨.hbm, 151, rfl⟩
abbrev main_cst_25 : Ref sig .tc := ⟨.hbm, 152, rfl⟩
abbrev main_call5_v0 : Ref sig .tc := ⟨.hbm, 153, rfl⟩
abbrev main_call5_v1 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_c_26 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_call6_v0 : Ref sig .tc := ⟨.hbm, 171, rfl⟩
abbrev main_call6_v1 : Ref sig .tc := ⟨.hbm, 172, rfl⟩
abbrev main_v95 : Ref sig .tc := ⟨.hbm, 173, rfl⟩
abbrev main_v96 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch10 : Ref sig .tc := ⟨.vmem, 24, rfl⟩
abbrev cc0_scratch11 : Ref sig .tc := ⟨.vmem, 25, rfl⟩
abbrev cc0_scratch12 : Ref sig .tc := ⟨.vmem, 26, rfl⟩
abbrev cc0_scratch13 : Ref sig .tc := ⟨.vmem, 27, rfl⟩
abbrev cc0_scratch14 : Ref sig .tc := ⟨.vmem, 28, rfl⟩
abbrev cc0_scratch15 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 16], ![false, false]⟩

def k0_mult1 : BitVec 32 :=
  let c0_i32_3 : BitVec 32 := 0#32
  let c256_i32 : BitVec 32 := 256#32
  let v10 : BitVec 32 := Scalar.muli c0_i32_3 c256_i32
  v10
def k0_off1 (c0_i32_3 : BitVec 32) : Fin 3 → Nat :=
  let c0_4 : Index := 0#32
  let c256_i32 : BitVec 32 := 256#32
  let v10 : BitVec 32 := Scalar.muli c0_i32_3 c256_i32
  let v11 : BitVec 32 := v10
  let v12 : Index := Scalar.indexCast v11
  let c0_5 : Index := 0#32
  ![0, v12.toNat, 0]
def k0_off2 (c0_i32_3 : BitVec 32) : Fin 2 → Nat :=
  let c256_i32 : BitVec 32 := 256#32
  let v10 : BitVec 32 := Scalar.muli c0_i32_3 c256_i32
  let v11 : BitVec 32 := v10
  let v29 : Index := Scalar.indexCast v11
  let c0_12 : Index := 0#32
  ![v29.toNat, 0]
def k0_mult2 : BitVec 32 :=
  let c1_i32 : BitVec 32 := 1#32
  let c256_i32_15 : BitVec 32 := 256#32
  let v46 : BitVec 32 := Scalar.muli c1_i32 c256_i32_15
  v46
def k0_mult3 : BitVec 32 :=
  let c2_i32 : BitVec 32 := 2#32
  let c256_i32_27 : BitVec 32 := 256#32
  let v82 : BitVec 32 := Scalar.muli c2_i32 c256_i32_27
  v82
def k0_mult4 : BitVec 32 :=
  let c3_i32 : BitVec 32 := 3#32
  let c256_i32_39 : BitVec 32 := 256#32
  let v118 : BitVec 32 := Scalar.muli c3_i32 c256_i32_39
  v118
def k0_mult5 : BitVec 32 :=
  let c4_i32 : BitVec 32 := 4#32
  let c256_i32_51 : BitVec 32 := 256#32
  let v154 : BitVec 32 := Scalar.muli c4_i32 c256_i32_51
  v154
def k0_mult6 : BitVec 32 :=
  let c5_i32 : BitVec 32 := 5#32
  let c256_i32_63 : BitVec 32 := 256#32
  let v190 : BitVec 32 := Scalar.muli c5_i32 c256_i32_63
  v190
def k0_mult7 : BitVec 32 :=
  let c6_i32 : BitVec 32 := 6#32
  let c256_i32_75 : BitVec 32 := 256#32
  let v226 : BitVec 32 := Scalar.muli c6_i32 c256_i32_75
  v226
def k0_mult8 : BitVec 32 :=
  let c7_i32 : BitVec 32 := 7#32
  let c256_i32_87 : BitVec 32 := 256#32
  let v262 : BitVec 32 := Scalar.muli c7_i32 c256_i32_87
  v262
def k0_mult9 : BitVec 32 :=
  let c8_i32 : BitVec 32 := 8#32
  let c256_i32_99 : BitVec 32 := 256#32
  let v298 : BitVec 32 := Scalar.muli c8_i32 c256_i32_99
  v298
def k0_mult10 : BitVec 32 :=
  let c9_i32 : BitVec 32 := 9#32
  let c256_i32_111 : BitVec 32 := 256#32
  let v334 : BitVec 32 := Scalar.muli c9_i32 c256_i32_111
  v334
def k0_mult11 : BitVec 32 :=
  let c10_i32 : BitVec 32 := 10#32
  let c256_i32_123 : BitVec 32 := 256#32
  let v370 : BitVec 32 := Scalar.muli c10_i32 c256_i32_123
  v370
def k0_mult12 : BitVec 32 :=
  let c11_i32 : BitVec 32 := 11#32
  let c256_i32_135 : BitVec 32 := 256#32
  let v406 : BitVec 32 := Scalar.muli c11_i32 c256_i32_135
  v406
def k0_mult13 : BitVec 32 :=
  let c12_i32 : BitVec 32 := 12#32
  let c256_i32_147 : BitVec 32 := 256#32
  let v442 : BitVec 32 := Scalar.muli c12_i32 c256_i32_147
  v442
def k0_mult14 : BitVec 32 :=
  let c13_i32 : BitVec 32 := 13#32
  let c256_i32_159 : BitVec 32 := 256#32
  let v478 : BitVec 32 := Scalar.muli c13_i32 c256_i32_159
  v478
def k0_mult15 : BitVec 32 :=
  let c14_i32 : BitVec 32 := 14#32
  let c256_i32_171 : BitVec 32 := 256#32
  let v514 : BitVec 32 := Scalar.muli c14_i32 c256_i32_171
  v514
def k0_mult16 : BitVec 32 :=
  let c15_i32 : BitVec 32 := 15#32
  let c256_i32_183 : BitVec 32 := 256#32
  let v550 : BitVec 32 := Scalar.muli c15_i32 c256_i32_183
  v550
def k0_off3 (c0_i32_196 : BitVec 32) (c0_i32_195 : BitVec 32) : Fin 2 → Nat :=
  let c1024_i32 : BitVec 32 := 1024#32
  let v586 : BitVec 32 := Scalar.muli c0_i32_195 c1024_i32
  let v587 : BitVec 32 := Scalar.addi c0_i32_196 v586
  let v588 : Index := Scalar.indexCast v587
  let c0_197 : Index := 0#32
  ![v588.toNat, 0]
def k0_mult17 : BitVec 32 :=
  let c0_i32_199 : BitVec 32 := 0#32
  let c0_i32_195 : BitVec 32 := 0#32
  let c256_i32_198 : BitVec 32 := 256#32
  let v590 : BitVec 32 := Scalar.muli c0_i32_195 c256_i32_198
  let v591 : BitVec 32 := Scalar.addi c0_i32_199 v590
  v591
def k0_off4 (c0_i32_199 : BitVec 32) (c0_i32_195 : BitVec 32) : Fin 2 → Nat :=
  let c256_i32_198 : BitVec 32 := 256#32
  let v590 : BitVec 32 := Scalar.muli c0_i32_195 c256_i32_198
  let v591 : BitVec 32 := Scalar.addi c0_i32_199 v590
  let v592 : BitVec 32 := v591
  let v593 : Index := Scalar.indexCast v592
  let c0_200 : Index := 0#32
  ![v593.toNat, 0]
def k0_off5 (c0_i32_199 : BitVec 32) (c0_i32_195 : BitVec 32) : Fin 3 → Nat :=
  let c0_201 : Index := 0#32
  let c256_i32_198 : BitVec 32 := 256#32
  let v590 : BitVec 32 := Scalar.muli c0_i32_195 c256_i32_198
  let v591 : BitVec 32 := Scalar.addi c0_i32_199 v590
  let v592 : BitVec 32 := v591
  let v598 : Index := Scalar.indexCast v592
  let c0_202 : Index := 0#32
  ![0, v598.toNat, 0]
def k0_mult18 : BitVec 32 :=
  let c0_i32_208 : BitVec 32 := 0#32
  let c1_i32_203 : BitVec 32 := 1#32
  let c256_i32_207 : BitVec 32 := 256#32
  let v606 : BitVec 32 := Scalar.muli c1_i32_203 c256_i32_207
  let v607 : BitVec 32 := Scalar.addi c0_i32_208 v606
  v607
def k0_mult19 : BitVec 32 :=
  let c0_i32_217 : BitVec 32 := 0#32
  let c2_i32_212 : BitVec 32 := 2#32
  let c256_i32_216 : BitVec 32 := 256#32
  let v622 : BitVec 32 := Scalar.muli c2_i32_212 c256_i32_216
  let v623 : BitVec 32 := Scalar.addi c0_i32_217 v622
  v623
def k0_mult20 : BitVec 32 :=
  let c0_i32_226 : BitVec 32 := 0#32
  let c3_i32_221 : BitVec 32 := 3#32
  let c256_i32_225 : BitVec 32 := 256#32
  let v638 : BitVec 32 := Scalar.muli c3_i32_221 c256_i32_225
  let v639 : BitVec 32 := Scalar.addi c0_i32_226 v638
  v639
def k0_mult21 : BitVec 32 :=
  let c1024_i32_236 : BitVec 32 := 1024#32
  let c0_i32_231 : BitVec 32 := 0#32
  let c256_i32_235 : BitVec 32 := 256#32
  let v654 : BitVec 32 := Scalar.muli c0_i32_231 c256_i32_235
  let v655 : BitVec 32 := Scalar.addi c1024_i32_236 v654
  v655
def k0_mult22 : BitVec 32 :=
  let c1024_i32_245 : BitVec 32 := 1024#32
  let c1_i32_240 : BitVec 32 := 1#32
  let c256_i32_244 : BitVec 32 := 256#32
  let v670 : BitVec 32 := Scalar.muli c1_i32_240 c256_i32_244
  let v671 : BitVec 32 := Scalar.addi c1024_i32_245 v670
  v671
def k0_mult23 : BitVec 32 :=
  let c1024_i32_254 : BitVec 32 := 1024#32
  let c2_i32_249 : BitVec 32 := 2#32
  let c256_i32_253 : BitVec 32 := 256#32
  let v686 : BitVec 32 := Scalar.muli c2_i32_249 c256_i32_253
  let v687 : BitVec 32 := Scalar.addi c1024_i32_254 v686
  v687
def k0_mult24 : BitVec 32 :=
  let c1024_i32_263 : BitVec 32 := 1024#32
  let c3_i32_258 : BitVec 32 := 3#32
  let c256_i32_262 : BitVec 32 := 256#32
  let v702 : BitVec 32 := Scalar.muli c3_i32_258 c256_i32_262
  let v703 : BitVec 32 := Scalar.addi c1024_i32_263 v702
  v703
def k0_mult25 : BitVec 32 :=
  let c2048_i32 : BitVec 32 := 2048#32
  let c0_i32_268 : BitVec 32 := 0#32
  let c256_i32_272 : BitVec 32 := 256#32
  let v718 : BitVec 32 := Scalar.muli c0_i32_268 c256_i32_272
  let v719 : BitVec 32 := Scalar.addi c2048_i32 v718
  v719
def k0_mult26 : BitVec 32 :=
  let c2048_i32_281 : BitVec 32 := 2048#32
  let c1_i32_276 : BitVec 32 := 1#32
  let c256_i32_280 : BitVec 32 := 256#32
  let v734 : BitVec 32 := Scalar.muli c1_i32_276 c256_i32_280
  let v735 : BitVec 32 := Scalar.addi c2048_i32_281 v734
  v735
def k0_mult27 : BitVec 32 :=
  let c2048_i32_290 : BitVec 32 := 2048#32
  let c2_i32_285 : BitVec 32 := 2#32
  let c256_i32_289 : BitVec 32 := 256#32
  let v750 : BitVec 32 := Scalar.muli c2_i32_285 c256_i32_289
  let v751 : BitVec 32 := Scalar.addi c2048_i32_290 v750
  v751
def k0_mult28 : BitVec 32 :=
  let c2048_i32_299 : BitVec 32 := 2048#32
  let c3_i32_294 : BitVec 32 := 3#32
  let c256_i32_298 : BitVec 32 := 256#32
  let v766 : BitVec 32 := Scalar.muli c3_i32_294 c256_i32_298
  let v767 : BitVec 32 := Scalar.addi c2048_i32_299 v766
  v767
def k0_mult29 : BitVec 32 :=
  let c3072_i32 : BitVec 32 := 3072#32
  let c0_i32_304 : BitVec 32 := 0#32
  let c256_i32_308 : BitVec 32 := 256#32
  let v782 : BitVec 32 := Scalar.muli c0_i32_304 c256_i32_308
  let v783 : BitVec 32 := Scalar.addi c3072_i32 v782
  v783
def k0_mult30 : BitVec 32 :=
  let c3072_i32_317 : BitVec 32 := 3072#32
  let c1_i32_312 : BitVec 32 := 1#32
  let c256_i32_316 : BitVec 32 := 256#32
  let v798 : BitVec 32 := Scalar.muli c1_i32_312 c256_i32_316
  let v799 : BitVec 32 := Scalar.addi c3072_i32_317 v798
  v799
def k0_mult31 : BitVec 32 :=
  let c3072_i32_326 : BitVec 32 := 3072#32
  let c2_i32_321 : BitVec 32 := 2#32
  let c256_i32_325 : BitVec 32 := 256#32
  let v814 : BitVec 32 := Scalar.muli c2_i32_321 c256_i32_325
  let v815 : BitVec 32 := Scalar.addi c3072_i32_326 v814
  v815
def k0_mult32 : BitVec 32 :=
  let c3072_i32_335 : BitVec 32 := 3072#32
  let c3_i32_330 : BitVec 32 := 3#32
  let c256_i32_334 : BitVec 32 := 256#32
  let v830 : BitVec 32 := Scalar.muli c3_i32_330 c256_i32_334
  let v831 : BitVec 32 := Scalar.addi c3072_i32_335 v830
  v831
def k0_mult33 : BitVec 32 :=
  let c0_i32_344 : BitVec 32 := 0#32
  let c256_i32_345 : BitVec 32 := 256#32
  let v847 : BitVec 32 := Scalar.muli c0_i32_344 c256_i32_345
  v847
def k0_off6 (c0_i32_344 : BitVec 32) : Fin 3 → Nat :=
  let c0_357 : Index := 0#32
  let c256_i32_345 : BitVec 32 := 256#32
  let v847 : BitVec 32 := Scalar.muli c0_i32_344 c256_i32_345
  let v848 : BitVec 32 := v847
  let v884 : Index := Scalar.indexCast v848
  let c0_358 : Index := 0#32
  ![0, v884.toNat, 0]
def k0_mult34 : BitVec 32 :=
  let c1_i32_359 : BitVec 32 := 1#32
  let c256_i32_360 : BitVec 32 := 256#32
  let v888 : BitVec 32 := Scalar.muli c1_i32_359 c256_i32_360
  v888
def k0_mult35 : BitVec 32 :=
  let c2_i32_374 : BitVec 32 := 2#32
  let c256_i32_375 : BitVec 32 := 256#32
  let v929 : BitVec 32 := Scalar.muli c2_i32_374 c256_i32_375
  v929
def k0_mult36 : BitVec 32 :=
  let c3_i32_389 : BitVec 32 := 3#32
  let c256_i32_390 : BitVec 32 := 256#32
  let v970 : BitVec 32 := Scalar.muli c3_i32_389 c256_i32_390
  v970
def k0_mult37 : BitVec 32 :=
  let c4_i32_404 : BitVec 32 := 4#32
  let c256_i32_405 : BitVec 32 := 256#32
  let v1011 : BitVec 32 := Scalar.muli c4_i32_404 c256_i32_405
  v1011
def k0_mult38 : BitVec 32 :=
  let c5_i32_419 : BitVec 32 := 5#32
  let c256_i32_420 : BitVec 32 := 256#32
  let v1052 : BitVec 32 := Scalar.muli c5_i32_419 c256_i32_420
  v1052
def k0_mult39 : BitVec 32 :=
  let c6_i32_434 : BitVec 32 := 6#32
  let c256_i32_435 : BitVec 32 := 256#32
  let v1093 : BitVec 32 := Scalar.muli c6_i32_434 c256_i32_435
  v1093
def k0_mult40 : BitVec 32 :=
  let c7_i32_449 : BitVec 32 := 7#32
  let c256_i32_450 : BitVec 32 := 256#32
  let v1134 : BitVec 32 := Scalar.muli c7_i32_449 c256_i32_450
  v1134
def k0_mult41 : BitVec 32 :=
  let c8_i32_464 : BitVec 32 := 8#32
  let c256_i32_465 : BitVec 32 := 256#32
  let v1175 : BitVec 32 := Scalar.muli c8_i32_464 c256_i32_465
  v1175
def k0_mult42 : BitVec 32 :=
  let c9_i32_479 : BitVec 32 := 9#32
  let c256_i32_480 : BitVec 32 := 256#32
  let v1216 : BitVec 32 := Scalar.muli c9_i32_479 c256_i32_480
  v1216
def k0_mult43 : BitVec 32 :=
  let c10_i32_494 : BitVec 32 := 10#32
  let c256_i32_495 : BitVec 32 := 256#32
  let v1257 : BitVec 32 := Scalar.muli c10_i32_494 c256_i32_495
  v1257
def k0_mult44 : BitVec 32 :=
  let c11_i32_509 : BitVec 32 := 11#32
  let c256_i32_510 : BitVec 32 := 256#32
  let v1298 : BitVec 32 := Scalar.muli c11_i32_509 c256_i32_510
  v1298
def k0_mult45 : BitVec 32 :=
  let c12_i32_524 : BitVec 32 := 12#32
  let c256_i32_525 : BitVec 32 := 256#32
  let v1339 : BitVec 32 := Scalar.muli c12_i32_524 c256_i32_525
  v1339
def k0_mult46 : BitVec 32 :=
  let c13_i32_539 : BitVec 32 := 13#32
  let c256_i32_540 : BitVec 32 := 256#32
  let v1380 : BitVec 32 := Scalar.muli c13_i32_539 c256_i32_540
  v1380
def k0_mult47 : BitVec 32 :=
  let c14_i32_554 : BitVec 32 := 14#32
  let c256_i32_555 : BitVec 32 := 256#32
  let v1421 : BitVec 32 := Scalar.muli c14_i32_554 c256_i32_555
  v1421
def k0_mult48 : BitVec 32 :=
  let c15_i32_569 : BitVec 32 := 15#32
  let c256_i32_570 : BitVec 32 := 256#32
  let v1462 : BitVec 32 := Scalar.muli c15_i32_569 c256_i32_570
  v1462
def k0_mult49 : BitVec 32 :=
  let c0_i32_590 : BitVec 32 := 0#32
  let c0_i32_585 : BitVec 32 := 0#32
  let c256_i32_589 : BitVec 32 := 256#32
  let v1507 : BitVec 32 := Scalar.muli c0_i32_585 c256_i32_589
  let v1508 : BitVec 32 := Scalar.addi c0_i32_590 v1507
  v1508
def k0_off7 (c0_i32_590 : BitVec 32) (c0_i32_585 : BitVec 32) : Fin 3 → Nat :=
  let c1 : Index := 1#32
  let c256_i32_589 : BitVec 32 := 256#32
  let v1507 : BitVec 32 := Scalar.muli c0_i32_585 c256_i32_589
  let v1508 : BitVec 32 := Scalar.addi c0_i32_590 v1507
  let v1509 : BitVec 32 := v1508
  let v1515 : Index := Scalar.indexCast v1509
  let c0_592 : Index := 0#32
  ![1, v1515.toNat, 0]
def k0_mult50 : BitVec 32 :=
  let c0_i32_598 : BitVec 32 := 0#32
  let c1_i32_593 : BitVec 32 := 1#32
  let c256_i32_597 : BitVec 32 := 256#32
  let v1523 : BitVec 32 := Scalar.muli c1_i32_593 c256_i32_597
  let v1524 : BitVec 32 := Scalar.addi c0_i32_598 v1523
  v1524
def k0_mult51 : BitVec 32 :=
  let c0_i32_607 : BitVec 32 := 0#32
  let c2_i32_602 : BitVec 32 := 2#32
  let c256_i32_606 : BitVec 32 := 256#32
  let v1539 : BitVec 32 := Scalar.muli c2_i32_602 c256_i32_606
  let v1540 : BitVec 32 := Scalar.addi c0_i32_607 v1539
  v1540
def k0_mult52 : BitVec 32 :=
  let c0_i32_616 : BitVec 32 := 0#32
  let c3_i32_611 : BitVec 32 := 3#32
  let c256_i32_615 : BitVec 32 := 256#32
  let v1555 : BitVec 32 := Scalar.muli c3_i32_611 c256_i32_615
  let v1556 : BitVec 32 := Scalar.addi c0_i32_616 v1555
  v1556
def k0_mult53 : BitVec 32 :=
  let c1024_i32_626 : BitVec 32 := 1024#32
  let c0_i32_621 : BitVec 32 := 0#32
  let c256_i32_625 : BitVec 32 := 256#32
  let v1571 : BitVec 32 := Scalar.muli c0_i32_621 c256_i32_625
  let v1572 : BitVec 32 := Scalar.addi c1024_i32_626 v1571
  v1572
def k0_mult54 : BitVec 32 :=
  let c1024_i32_635 : BitVec 32 := 1024#32
  let c1_i32_630 : BitVec 32 := 1#32
  let c256_i32_634 : BitVec 32 := 256#32
  let v1587 : BitVec 32 := Scalar.muli c1_i32_630 c256_i32_634
  let v1588 : BitVec 32 := Scalar.addi c1024_i32_635 v1587
  v1588
def k0_mult55 : BitVec 32 :=
  let c1024_i32_644 : BitVec 32 := 1024#32
  let c2_i32_639 : BitVec 32 := 2#32
  let c256_i32_643 : BitVec 32 := 256#32
  let v1603 : BitVec 32 := Scalar.muli c2_i32_639 c256_i32_643
  let v1604 : BitVec 32 := Scalar.addi c1024_i32_644 v1603
  v1604
def k0_mult56 : BitVec 32 :=
  let c1024_i32_653 : BitVec 32 := 1024#32
  let c3_i32_648 : BitVec 32 := 3#32
  let c256_i32_652 : BitVec 32 := 256#32
  let v1619 : BitVec 32 := Scalar.muli c3_i32_648 c256_i32_652
  let v1620 : BitVec 32 := Scalar.addi c1024_i32_653 v1619
  v1620
def k0_mult57 : BitVec 32 :=
  let c2048_i32_663 : BitVec 32 := 2048#32
  let c0_i32_658 : BitVec 32 := 0#32
  let c256_i32_662 : BitVec 32 := 256#32
  let v1635 : BitVec 32 := Scalar.muli c0_i32_658 c256_i32_662
  let v1636 : BitVec 32 := Scalar.addi c2048_i32_663 v1635
  v1636
def k0_mult58 : BitVec 32 :=
  let c2048_i32_672 : BitVec 32 := 2048#32
  let c1_i32_667 : BitVec 32 := 1#32
  let c256_i32_671 : BitVec 32 := 256#32
  let v1651 : BitVec 32 := Scalar.muli c1_i32_667 c256_i32_671
  let v1652 : BitVec 32 := Scalar.addi c2048_i32_672 v1651
  v1652
def k0_mult59 : BitVec 32 :=
  let c2048_i32_681 : BitVec 32 := 2048#32
  let c2_i32_676 : BitVec 32 := 2#32
  let c256_i32_680 : BitVec 32 := 256#32
  let v1667 : BitVec 32 := Scalar.muli c2_i32_676 c256_i32_680
  let v1668 : BitVec 32 := Scalar.addi c2048_i32_681 v1667
  v1668
def k0_mult60 : BitVec 32 :=
  let c2048_i32_690 : BitVec 32 := 2048#32
  let c3_i32_685 : BitVec 32 := 3#32
  let c256_i32_689 : BitVec 32 := 256#32
  let v1683 : BitVec 32 := Scalar.muli c3_i32_685 c256_i32_689
  let v1684 : BitVec 32 := Scalar.addi c2048_i32_690 v1683
  v1684
def k0_mult61 : BitVec 32 :=
  let c3072_i32_700 : BitVec 32 := 3072#32
  let c0_i32_695 : BitVec 32 := 0#32
  let c256_i32_699 : BitVec 32 := 256#32
  let v1699 : BitVec 32 := Scalar.muli c0_i32_695 c256_i32_699
  let v1700 : BitVec 32 := Scalar.addi c3072_i32_700 v1699
  v1700
def k0_mult62 : BitVec 32 :=
  let c3072_i32_709 : BitVec 32 := 3072#32
  let c1_i32_704 : BitVec 32 := 1#32
  let c256_i32_708 : BitVec 32 := 256#32
  let v1715 : BitVec 32 := Scalar.muli c1_i32_704 c256_i32_708
  let v1716 : BitVec 32 := Scalar.addi c3072_i32_709 v1715
  v1716
def k0_mult63 : BitVec 32 :=
  let c3072_i32_718 : BitVec 32 := 3072#32
  let c2_i32_713 : BitVec 32 := 2#32
  let c256_i32_717 : BitVec 32 := 256#32
  let v1731 : BitVec 32 := Scalar.muli c2_i32_713 c256_i32_717
  let v1732 : BitVec 32 := Scalar.addi c3072_i32_718 v1731
  v1732
def k0_mult64 : BitVec 32 :=
  let c3072_i32_727 : BitVec 32 := 3072#32
  let c3_i32_722 : BitVec 32 := 3#32
  let c256_i32_726 : BitVec 32 := 256#32
  let v1747 : BitVec 32 := Scalar.muli c3_i32_722 c256_i32_726
  let v1748 : BitVec 32 := Scalar.addi c3072_i32_727 v1747
  v1748
def k0_mult65 : BitVec 32 :=
  let c0_i32_732 : BitVec 32 := 0#32
  let c256_i32_733 : BitVec 32 := 256#32
  let v1759 : BitVec 32 := Scalar.muli c0_i32_732 c256_i32_733
  v1759
def k0_mult66 : BitVec 32 :=
  let c1_i32_737 : BitVec 32 := 1#32
  let c256_i32_738 : BitVec 32 := 256#32
  let v1769 : BitVec 32 := Scalar.muli c1_i32_737 c256_i32_738
  v1769
def k0_mult67 : BitVec 32 :=
  let c2_i32_742 : BitVec 32 := 2#32
  let c256_i32_743 : BitVec 32 := 256#32
  let v1779 : BitVec 32 := Scalar.muli c2_i32_742 c256_i32_743
  v1779
def k0_mult68 : BitVec 32 :=
  let c3_i32_747 : BitVec 32 := 3#32
  let c256_i32_748 : BitVec 32 := 256#32
  let v1789 : BitVec 32 := Scalar.muli c3_i32_747 c256_i32_748
  v1789
def k0_mult69 : BitVec 32 :=
  let c4_i32_752 : BitVec 32 := 4#32
  let c256_i32_753 : BitVec 32 := 256#32
  let v1799 : BitVec 32 := Scalar.muli c4_i32_752 c256_i32_753
  v1799
def k0_mult70 : BitVec 32 :=
  let c5_i32_757 : BitVec 32 := 5#32
  let c256_i32_758 : BitVec 32 := 256#32
  let v1809 : BitVec 32 := Scalar.muli c5_i32_757 c256_i32_758
  v1809
def k0_mult71 : BitVec 32 :=
  let c6_i32_762 : BitVec 32 := 6#32
  let c256_i32_763 : BitVec 32 := 256#32
  let v1819 : BitVec 32 := Scalar.muli c6_i32_762 c256_i32_763
  v1819
def k0_mult72 : BitVec 32 :=
  let c7_i32_767 : BitVec 32 := 7#32
  let c256_i32_768 : BitVec 32 := 256#32
  let v1829 : BitVec 32 := Scalar.muli c7_i32_767 c256_i32_768
  v1829
def k0_mult73 : BitVec 32 :=
  let c8_i32_772 : BitVec 32 := 8#32
  let c256_i32_773 : BitVec 32 := 256#32
  let v1839 : BitVec 32 := Scalar.muli c8_i32_772 c256_i32_773
  v1839
def k0_mult74 : BitVec 32 :=
  let c9_i32_777 : BitVec 32 := 9#32
  let c256_i32_778 : BitVec 32 := 256#32
  let v1849 : BitVec 32 := Scalar.muli c9_i32_777 c256_i32_778
  v1849
def k0_mult75 : BitVec 32 :=
  let c10_i32_782 : BitVec 32 := 10#32
  let c256_i32_783 : BitVec 32 := 256#32
  let v1859 : BitVec 32 := Scalar.muli c10_i32_782 c256_i32_783
  v1859
def k0_mult76 : BitVec 32 :=
  let c11_i32_787 : BitVec 32 := 11#32
  let c256_i32_788 : BitVec 32 := 256#32
  let v1869 : BitVec 32 := Scalar.muli c11_i32_787 c256_i32_788
  v1869
def k0_mult77 : BitVec 32 :=
  let c12_i32_792 : BitVec 32 := 12#32
  let c256_i32_793 : BitVec 32 := 256#32
  let v1879 : BitVec 32 := Scalar.muli c12_i32_792 c256_i32_793
  v1879
def k0_mult78 : BitVec 32 :=
  let c13_i32_797 : BitVec 32 := 13#32
  let c256_i32_798 : BitVec 32 := 256#32
  let v1889 : BitVec 32 := Scalar.muli c13_i32_797 c256_i32_798
  v1889
def k0_mult79 : BitVec 32 :=
  let c14_i32_802 : BitVec 32 := 14#32
  let c256_i32_803 : BitVec 32 := 256#32
  let v1899 : BitVec 32 := Scalar.muli c14_i32_802 c256_i32_803
  v1899
def k0_mult80 : BitVec 32 :=
  let c15_i32_807 : BitVec 32 := 15#32
  let c256_i32_808 : BitVec 32 := 256#32
  let v1909 : BitVec 32 := Scalar.muli c15_i32_807 c256_i32_808
  v1909
def k0_mult81 : BitVec 32 :=
  let c0_i32_818 : BitVec 32 := 0#32
  let c0_i32_813 : BitVec 32 := 0#32
  let c256_i32_817 : BitVec 32 := 256#32
  let v1923 : BitVec 32 := Scalar.muli c0_i32_813 c256_i32_817
  let v1924 : BitVec 32 := Scalar.addi c0_i32_818 v1923
  v1924
def k0_off8 (c0_i32_818 : BitVec 32) (c0_i32_813 : BitVec 32) : Fin 3 → Nat :=
  let c0_820 : Index := 0#32
  let c256_i32_817 : BitVec 32 := 256#32
  let v1923 : BitVec 32 := Scalar.muli c0_i32_813 c256_i32_817
  let v1924 : BitVec 32 := Scalar.addi c0_i32_818 v1923
  let v1925 : BitVec 32 := v1924
  let v1931 : Index := Scalar.indexCast v1925
  let c0_821 : Index := 0#32
  ![0, v1931.toNat, 0]
def k0_mult82 : BitVec 32 :=
  let c0_i32_827 : BitVec 32 := 0#32
  let c1_i32_822 : BitVec 32 := 1#32
  let c256_i32_826 : BitVec 32 := 256#32
  let v1939 : BitVec 32 := Scalar.muli c1_i32_822 c256_i32_826
  let v1940 : BitVec 32 := Scalar.addi c0_i32_827 v1939
  v1940
def k0_mult83 : BitVec 32 :=
  let c0_i32_836 : BitVec 32 := 0#32
  let c2_i32_831 : BitVec 32 := 2#32
  let c256_i32_835 : BitVec 32 := 256#32
  let v1955 : BitVec 32 := Scalar.muli c2_i32_831 c256_i32_835
  let v1956 : BitVec 32 := Scalar.addi c0_i32_836 v1955
  v1956
def k0_mult84 : BitVec 32 :=
  let c0_i32_845 : BitVec 32 := 0#32
  let c3_i32_840 : BitVec 32 := 3#32
  let c256_i32_844 : BitVec 32 := 256#32
  let v1971 : BitVec 32 := Scalar.muli c3_i32_840 c256_i32_844
  let v1972 : BitVec 32 := Scalar.addi c0_i32_845 v1971
  v1972
def k0_mult85 : BitVec 32 :=
  let c1024_i32_855 : BitVec 32 := 1024#32
  let c0_i32_850 : BitVec 32 := 0#32
  let c256_i32_854 : BitVec 32 := 256#32
  let v1987 : BitVec 32 := Scalar.muli c0_i32_850 c256_i32_854
  let v1988 : BitVec 32 := Scalar.addi c1024_i32_855 v1987
  v1988
def k0_mult86 : BitVec 32 :=
  let c1024_i32_864 : BitVec 32 := 1024#32
  let c1_i32_859 : BitVec 32 := 1#32
  let c256_i32_863 : BitVec 32 := 256#32
  let v2003 : BitVec 32 := Scalar.muli c1_i32_859 c256_i32_863
  let v2004 : BitVec 32 := Scalar.addi c1024_i32_864 v2003
  v2004
def k0_mult87 : BitVec 32 :=
  let c1024_i32_873 : BitVec 32 := 1024#32
  let c2_i32_868 : BitVec 32 := 2#32
  let c256_i32_872 : BitVec 32 := 256#32
  let v2019 : BitVec 32 := Scalar.muli c2_i32_868 c256_i32_872
  let v2020 : BitVec 32 := Scalar.addi c1024_i32_873 v2019
  v2020
def k0_mult88 : BitVec 32 :=
  let c1024_i32_882 : BitVec 32 := 1024#32
  let c3_i32_877 : BitVec 32 := 3#32
  let c256_i32_881 : BitVec 32 := 256#32
  let v2035 : BitVec 32 := Scalar.muli c3_i32_877 c256_i32_881
  let v2036 : BitVec 32 := Scalar.addi c1024_i32_882 v2035
  v2036
def k0_mult89 : BitVec 32 :=
  let c2048_i32_892 : BitVec 32 := 2048#32
  let c0_i32_887 : BitVec 32 := 0#32
  let c256_i32_891 : BitVec 32 := 256#32
  let v2051 : BitVec 32 := Scalar.muli c0_i32_887 c256_i32_891
  let v2052 : BitVec 32 := Scalar.addi c2048_i32_892 v2051
  v2052
def k0_mult90 : BitVec 32 :=
  let c2048_i32_901 : BitVec 32 := 2048#32
  let c1_i32_896 : BitVec 32 := 1#32
  let c256_i32_900 : BitVec 32 := 256#32
  let v2067 : BitVec 32 := Scalar.muli c1_i32_896 c256_i32_900
  let v2068 : BitVec 32 := Scalar.addi c2048_i32_901 v2067
  v2068
def k0_mult91 : BitVec 32 :=
  let c2048_i32_910 : BitVec 32 := 2048#32
  let c2_i32_905 : BitVec 32 := 2#32
  let c256_i32_909 : BitVec 32 := 256#32
  let v2083 : BitVec 32 := Scalar.muli c2_i32_905 c256_i32_909
  let v2084 : BitVec 32 := Scalar.addi c2048_i32_910 v2083
  v2084
def k0_mult92 : BitVec 32 :=
  let c2048_i32_919 : BitVec 32 := 2048#32
  let c3_i32_914 : BitVec 32 := 3#32
  let c256_i32_918 : BitVec 32 := 256#32
  let v2099 : BitVec 32 := Scalar.muli c3_i32_914 c256_i32_918
  let v2100 : BitVec 32 := Scalar.addi c2048_i32_919 v2099
  v2100
def k0_mult93 : BitVec 32 :=
  let c3072_i32_929 : BitVec 32 := 3072#32
  let c0_i32_924 : BitVec 32 := 0#32
  let c256_i32_928 : BitVec 32 := 256#32
  let v2115 : BitVec 32 := Scalar.muli c0_i32_924 c256_i32_928
  let v2116 : BitVec 32 := Scalar.addi c3072_i32_929 v2115
  v2116
def k0_mult94 : BitVec 32 :=
  let c3072_i32_938 : BitVec 32 := 3072#32
  let c1_i32_933 : BitVec 32 := 1#32
  let c256_i32_937 : BitVec 32 := 256#32
  let v2131 : BitVec 32 := Scalar.muli c1_i32_933 c256_i32_937
  let v2132 : BitVec 32 := Scalar.addi c3072_i32_938 v2131
  v2132
def k0_mult95 : BitVec 32 :=
  let c3072_i32_947 : BitVec 32 := 3072#32
  let c2_i32_942 : BitVec 32 := 2#32
  let c256_i32_946 : BitVec 32 := 256#32
  let v2147 : BitVec 32 := Scalar.muli c2_i32_942 c256_i32_946
  let v2148 : BitVec 32 := Scalar.addi c3072_i32_947 v2147
  v2148
def k0_mult96 : BitVec 32 :=
  let c3072_i32_956 : BitVec 32 := 3072#32
  let c3_i32_951 : BitVec 32 := 3#32
  let c256_i32_955 : BitVec 32 := 256#32
  let v2163 : BitVec 32 := Scalar.muli c3_i32_951 c256_i32_955
  let v2164 : BitVec 32 := Scalar.addi c3072_i32_956 v2163
  v2164
def k0_mult97 : BitVec 32 :=
  let c0_i32_961 : BitVec 32 := 0#32
  let c32_i32 : BitVec 32 := 32#32
  let v2175 : BitVec 32 := Scalar.muli c0_i32_961 c32_i32
  let c0_i32_962 : BitVec 32 := 0#32
  let v2176 : BitVec 32 := Scalar.addi v2175 c0_i32_962
  let c32_i32_963 : BitVec 32 := 32#32
  let v2177 : BitVec 32 := Scalar.remsi v2176 c32_i32_963
  let c0_i32_964 : BitVec 32 := 0#32
  let v2178 : BitVec 1 := Scalar.cmpi .eq v2177 c0_i32_964
  let c128_i32 : BitVec 32 := 128#32
  let v2179 : BitVec 32 := Scalar.muli v2176 c128_i32
  let c1_i32_965 : BitVec 32 := 1#32
  let v2180 : BitVec 32 := Scalar.subi v2176 c1_i32_965
  let c128_i32_966 : BitVec 32 := 128#32
  let v2181 : BitVec 32 := Scalar.muli v2180 c128_i32_966
  let v2182 : BitVec 32 := Scalar.select v2178 v2179 v2181
  v2182
def k0_mult98 : BitVec 32 :=
  let c0_i32_968 : BitVec 32 := 0#32
  let c0_i32_961 : BitVec 32 := 0#32
  let c32_i32 : BitVec 32 := 32#32
  let v2175 : BitVec 32 := Scalar.muli c0_i32_961 c32_i32
  let c0_i32_962 : BitVec 32 := 0#32
  let v2176 : BitVec 32 := Scalar.addi v2175 c0_i32_962
  let c32_i32_967 : BitVec 32 := 32#32
  let v2184 : BitVec 32 := Scalar.muli v2176 c32_i32_967
  let v2185 : BitVec 32 := Scalar.addi c0_i32_968 v2184
  v2185
def k0_mult99 : BitVec 32 :=
  let c1024_i32_970 : BitVec 32 := 1024#32
  let c0_i32_961 : BitVec 32 := 0#32
  let c32_i32 : BitVec 32 := 32#32
  let v2175 : BitVec 32 := Scalar.muli c0_i32_961 c32_i32
  let c0_i32_962 : BitVec 32 := 0#32
  let v2176 : BitVec 32 := Scalar.addi v2175 c0_i32_962
  let c32_i32_969 : BitVec 32 := 32#32
  let v2187 : BitVec 32 := Scalar.muli v2176 c32_i32_969
  let v2188 : BitVec 32 := Scalar.addi c1024_i32_970 v2187
  v2188
def k0_mult100 : BitVec 32 :=
  let c2048_i32_972 : BitVec 32 := 2048#32
  let c0_i32_961 : BitVec 32 := 0#32
  let c32_i32 : BitVec 32 := 32#32
  let v2175 : BitVec 32 := Scalar.muli c0_i32_961 c32_i32
  let c0_i32_962 : BitVec 32 := 0#32
  let v2176 : BitVec 32 := Scalar.addi v2175 c0_i32_962
  let c32_i32_971 : BitVec 32 := 32#32
  let v2190 : BitVec 32 := Scalar.muli v2176 c32_i32_971
  let v2191 : BitVec 32 := Scalar.addi c2048_i32_972 v2190
  v2191
def k0_mult101 : BitVec 32 :=
  let c3072_i32_974 : BitVec 32 := 3072#32
  let c0_i32_961 : BitVec 32 := 0#32
  let c32_i32 : BitVec 32 := 32#32
  let v2175 : BitVec 32 := Scalar.muli c0_i32_961 c32_i32
  let c0_i32_962 : BitVec 32 := 0#32
  let v2176 : BitVec 32 := Scalar.addi v2175 c0_i32_962
  let c32_i32_973 : BitVec 32 := 32#32
  let v2193 : BitVec 32 := Scalar.muli v2176 c32_i32_973
  let v2194 : BitVec 32 := Scalar.addi c3072_i32_974 v2193
  v2194
def k0_off9 (c0_i32_968 : BitVec 32) (c0_i32_962 : BitVec 32) : Fin 3 → Nat :=
  let c0_975 : Index := 0#32
  let c0_i32_961 : BitVec 32 := 0#32
  let c32_i32 : BitVec 32 := 32#32
  let v2175 : BitVec 32 := Scalar.muli c0_i32_961 c32_i32
  let v2176 : BitVec 32 := Scalar.addi v2175 c0_i32_962
  let c32_i32_967 : BitVec 32 := 32#32
  let v2184 : BitVec 32 := Scalar.muli v2176 c32_i32_967
  let v2185 : BitVec 32 := Scalar.addi c0_i32_968 v2184
  let v2186 : BitVec 32 := v2185
  let v2196 : Index := Scalar.indexCast v2186
  let c0_976 : Index := 0#32
  ![0, v2196.toNat, 0]
def k0_off10 (c0_i32_962 : BitVec 32) : Fin 3 → Nat :=
  let c0_983 : Index := 0#32
  let c0_i32_961 : BitVec 32 := 0#32
  let c32_i32 : BitVec 32 := 32#32
  let v2175 : BitVec 32 := Scalar.muli c0_i32_961 c32_i32
  let v2176 : BitVec 32 := Scalar.addi v2175 c0_i32_962
  let c32_i32_963 : BitVec 32 := 32#32
  let v2177 : BitVec 32 := Scalar.remsi v2176 c32_i32_963
  let c0_i32_964 : BitVec 32 := 0#32
  let v2178 : BitVec 1 := Scalar.cmpi .eq v2177 c0_i32_964
  let c128_i32 : BitVec 32 := 128#32
  let v2179 : BitVec 32 := Scalar.muli v2176 c128_i32
  let c1_i32_965 : BitVec 32 := 1#32
  let v2180 : BitVec 32 := Scalar.subi v2176 c1_i32_965
  let c128_i32_966 : BitVec 32 := 128#32
  let v2181 : BitVec 32 := Scalar.muli v2180 c128_i32_966
  let v2182 : BitVec 32 := Scalar.select v2178 v2179 v2181
  let v2183 : BitVec 32 := v2182
  let v2209 : Index := Scalar.indexCast v2183
  let c0_984 : Index := 0#32
  ![0, v2209.toNat, 0]
def k0_off11 (c0_i32_962 : BitVec 32) : Fin 3 → Nat :=
  let c0_985 : Index := 0#32
  let c0_i32_961 : BitVec 32 := 0#32
  let c32_i32 : BitVec 32 := 32#32
  let v2175 : BitVec 32 := Scalar.muli c0_i32_961 c32_i32
  let v2176 : BitVec 32 := Scalar.addi v2175 c0_i32_962
  let c32_i32_963 : BitVec 32 := 32#32
  let v2177 : BitVec 32 := Scalar.remsi v2176 c32_i32_963
  let c0_i32_964 : BitVec 32 := 0#32
  let v2178 : BitVec 1 := Scalar.cmpi .eq v2177 c0_i32_964
  let c128_i32 : BitVec 32 := 128#32
  let v2179 : BitVec 32 := Scalar.muli v2176 c128_i32
  let c1_i32_965 : BitVec 32 := 1#32
  let v2180 : BitVec 32 := Scalar.subi v2176 c1_i32_965
  let c128_i32_966 : BitVec 32 := 128#32
  let v2181 : BitVec 32 := Scalar.muli v2180 c128_i32_966
  let v2182 : BitVec 32 := Scalar.select v2178 v2179 v2181
  let v2183 : BitVec 32 := v2182
  let v2212 : Index := Scalar.indexCast v2183
  let c0_986 : Index := 0#32
  ![0, v2212.toNat, 0]
def k0_off12 (c0_i32_962 : BitVec 32) (c32_i32_963 : BitVec 32) (c0_i32_991 : BitVec 32) : Fin 3 → Nat :=
  let c0_i32_961 : BitVec 32 := 0#32
  let c32_i32 : BitVec 32 := 32#32
  let v2175 : BitVec 32 := Scalar.muli c0_i32_961 c32_i32
  let v2176 : BitVec 32 := Scalar.addi v2175 c0_i32_962
  let v2177 : BitVec 32 := Scalar.remsi v2176 c32_i32_963
  let c0_i32_964 : BitVec 32 := 0#32
  let v2178 : BitVec 1 := Scalar.cmpi .eq v2177 c0_i32_964
  let c0_i32_989 : BitVec 32 := 0#32
  let c1_i32_990 : BitVec 32 := 1#32
  let v2218 : BitVec 32 := Scalar.select v2178 c0_i32_989 c1_i32_990
  let v2219 : BitVec 32 := Scalar.addi v2218 c0_i32_991
  let v2220 : Index := Scalar.indexCast v2219
  let c0_992 : Index := 0#32
  let c0_993 : Index := 0#32
  ![v2220.toNat, 0, 0]
def k0_off12_at (r : Fin 96) : BitVec 32 × BitVec 32 × BitVec 32 :=
  if r.val < 48 then
    if r.val < 24 then
      if r.val < 12 then
        if r.val < 6 then
          if r.val < 3 then
            if r.val < 1 then
              (0#32, 32#32, 0#32)
            else
              if r.val < 2 then
                (1#32, 32#32, 0#32)
              else
                (2#32, 32#32, 0#32)
          else
            if r.val < 4 then
              (3#32, 32#32, 0#32)
            else
              if r.val < 5 then
                (4#32, 32#32, 0#32)
              else
                (5#32, 32#32, 0#32)
        else
          if r.val < 9 then
            if r.val < 7 then
              (6#32, 32#32, 0#32)
            else
              if r.val < 8 then
                (7#32, 32#32, 0#32)
              else
                (8#32, 32#32, 0#32)
          else
            if r.val < 10 then
              (9#32, 32#32, 0#32)
            else
              if r.val < 11 then
                (10#32, 32#32, 0#32)
              else
                (11#32, 32#32, 0#32)
      else
        if r.val < 18 then
          if r.val < 15 then
            if r.val < 13 then
              (12#32, 32#32, 0#32)
            else
              if r.val < 14 then
                (13#32, 32#32, 0#32)
              else
                (14#32, 32#32, 0#32)
          else
            if r.val < 16 then
              (15#32, 32#32, 0#32)
            else
              if r.val < 17 then
                (16#32, 32#32, 0#32)
              else
                (17#32, 32#32, 0#32)
        else
          if r.val < 21 then
            if r.val < 19 then
              (18#32, 32#32, 0#32)
            else
              if r.val < 20 then
                (19#32, 32#32, 0#32)
              else
                (20#32, 32#32, 0#32)
          else
            if r.val < 22 then
              (21#32, 32#32, 0#32)
            else
              if r.val < 23 then
                (22#32, 32#32, 0#32)
              else
                (23#32, 32#32, 0#32)
    else
      if r.val < 36 then
        if r.val < 30 then
          if r.val < 27 then
            if r.val < 25 then
              (24#32, 32#32, 0#32)
            else
              if r.val < 26 then
                (25#32, 32#32, 0#32)
              else
                (26#32, 32#32, 0#32)
          else
            if r.val < 28 then
              (27#32, 32#32, 0#32)
            else
              if r.val < 29 then
                (28#32, 32#32, 0#32)
              else
                (29#32, 32#32, 0#32)
        else
          if r.val < 33 then
            if r.val < 31 then
              (30#32, 32#32, 0#32)
            else
              if r.val < 32 then
                (31#32, 32#32, 0#32)
              else
                (0#32, 8#32, 2#32)
          else
            if r.val < 34 then
              (1#32, 8#32, 2#32)
            else
              if r.val < 35 then
                (2#32, 8#32, 2#32)
              else
                (3#32, 8#32, 2#32)
      else
        if r.val < 42 then
          if r.val < 39 then
            if r.val < 37 then
              (4#32, 8#32, 2#32)
            else
              if r.val < 38 then
                (5#32, 8#32, 2#32)
              else
                (6#32, 8#32, 2#32)
          else
            if r.val < 40 then
              (7#32, 8#32, 2#32)
            else
              if r.val < 41 then
                (8#32, 8#32, 2#32)
              else
                (9#32, 8#32, 2#32)
        else
          if r.val < 45 then
            if r.val < 43 then
              (10#32, 8#32, 2#32)
            else
              if r.val < 44 then
                (11#32, 8#32, 2#32)
              else
                (12#32, 8#32, 2#32)
          else
            if r.val < 46 then
              (13#32, 8#32, 2#32)
            else
              if r.val < 47 then
                (14#32, 8#32, 2#32)
              else
                (15#32, 8#32, 2#32)
  else
    if r.val < 72 then
      if r.val < 60 then
        if r.val < 54 then
          if r.val < 51 then
            if r.val < 49 then
              (16#32, 8#32, 2#32)
            else
              if r.val < 50 then
                (17#32, 8#32, 2#32)
              else
                (18#32, 8#32, 2#32)
          else
            if r.val < 52 then
              (19#32, 8#32, 2#32)
            else
              if r.val < 53 then
                (20#32, 8#32, 2#32)
              else
                (21#32, 8#32, 2#32)
        else
          if r.val < 57 then
            if r.val < 55 then
              (22#32, 8#32, 2#32)
            else
              if r.val < 56 then
                (23#32, 8#32, 2#32)
              else
                (24#32, 8#32, 2#32)
          else
            if r.val < 58 then
              (25#32, 8#32, 2#32)
            else
              if r.val < 59 then
                (26#32, 8#32, 2#32)
              else
                (27#32, 8#32, 2#32)
      else
        if r.val < 66 then
          if r.val < 63 then
            if r.val < 61 then
              (28#32, 8#32, 2#32)
            else
              if r.val < 62 then
                (29#32, 8#32, 2#32)
              else
                (30#32, 8#32, 2#32)
          else
            if r.val < 64 then
              (31#32, 8#32, 2#32)
            else
              if r.val < 65 then
                (0#32, 2#32, 2#32)
              else
                (1#32, 2#32, 2#32)
        else
          if r.val < 69 then
            if r.val < 67 then
              (2#32, 2#32, 2#32)
            else
              if r.val < 68 then
                (3#32, 2#32, 2#32)
              else
                (4#32, 2#32, 2#32)
          else
            if r.val < 70 then
              (5#32, 2#32, 2#32)
            else
              if r.val < 71 then
                (6#32, 2#32, 2#32)
              else
                (7#32, 2#32, 2#32)
    else
      if r.val < 84 then
        if r.val < 78 then
          if r.val < 75 then
            if r.val < 73 then
              (8#32, 2#32, 2#32)
            else
              if r.val < 74 then
                (9#32, 2#32, 2#32)
              else
                (10#32, 2#32, 2#32)
          else
            if r.val < 76 then
              (11#32, 2#32, 2#32)
            else
              if r.val < 77 then
                (12#32, 2#32, 2#32)
              else
                (13#32, 2#32, 2#32)
        else
          if r.val < 81 then
            if r.val < 79 then
              (14#32, 2#32, 2#32)
            else
              if r.val < 80 then
                (15#32, 2#32, 2#32)
              else
                (16#32, 2#32, 2#32)
          else
            if r.val < 82 then
              (17#32, 2#32, 2#32)
            else
              if r.val < 83 then
                (18#32, 2#32, 2#32)
              else
                (19#32, 2#32, 2#32)
      else
        if r.val < 90 then
          if r.val < 87 then
            if r.val < 85 then
              (20#32, 2#32, 2#32)
            else
              if r.val < 86 then
                (21#32, 2#32, 2#32)
              else
                (22#32, 2#32, 2#32)
          else
            if r.val < 88 then
              (23#32, 2#32, 2#32)
            else
              if r.val < 89 then
                (24#32, 2#32, 2#32)
              else
                (25#32, 2#32, 2#32)
        else
          if r.val < 93 then
            if r.val < 91 then
              (26#32, 2#32, 2#32)
            else
              if r.val < 92 then
                (27#32, 2#32, 2#32)
              else
                (28#32, 2#32, 2#32)
          else
            if r.val < 94 then
              (29#32, 2#32, 2#32)
            else
              if r.val < 95 then
                (30#32, 2#32, 2#32)
              else
                (31#32, 2#32, 2#32)
def k0_off13 (c0_i32_968 : BitVec 32) (c0_i32_962 : BitVec 32) : Fin 2 → Nat :=
  let c0_i32_961 : BitVec 32 := 0#32
  let c32_i32 : BitVec 32 := 32#32
  let v2175 : BitVec 32 := Scalar.muli c0_i32_961 c32_i32
  let v2176 : BitVec 32 := Scalar.addi v2175 c0_i32_962
  let c32_i32_967 : BitVec 32 := 32#32
  let v2184 : BitVec 32 := Scalar.muli v2176 c32_i32_967
  let v2185 : BitVec 32 := Scalar.addi c0_i32_968 v2184
  let v2186 : BitVec 32 := v2185
  let v2236 : Index := Scalar.indexCast v2186
  let c0_996 : Index := 0#32
  ![v2236.toNat, 0]
def k0_mult102 : BitVec 32 :=
  let c0_i32_961 : BitVec 32 := 0#32
  let c32_i32_1008 : BitVec 32 := 32#32
  let v2295 : BitVec 32 := Scalar.muli c0_i32_961 c32_i32_1008
  let c1_i32_1009 : BitVec 32 := 1#32
  let v2296 : BitVec 32 := Scalar.addi v2295 c1_i32_1009
  let c32_i32_1010 : BitVec 32 := 32#32
  let v2297 : BitVec 32 := Scalar.remsi v2296 c32_i32_1010
  let c0_i32_1011 : BitVec 32 := 0#32
  let v2298 : BitVec 1 := Scalar.cmpi .eq v2297 c0_i32_1011
  let c128_i32_1012 : BitVec 32 := 128#32
  let v2299 : BitVec 32 := Scalar.muli v2296 c128_i32_1012
  let c1_i32_1013 : BitVec 32 := 1#32
  let v2300 : BitVec 32 := Scalar.subi v2296 c1_i32_1013
  let c128_i32_1014 : BitVec 32 := 128#32
  let v2301 : BitVec 32 := Scalar.muli v2300 c128_i32_1014
  let v2302 : BitVec 32 := Scalar.select v2298 v2299 v2301
  v2302
def k0_mult103 : BitVec 32 :=
  let c0_i32_1016 : BitVec 32 := 0#32
  let c0_i32_961 : BitVec 32 := 0#32
  let c32_i32_1008 : BitVec 32 := 32#32
  let v2295 : BitVec 32 := Scalar.muli c0_i32_961 c32_i32_1008
  let c1_i32_1009 : BitVec 32 := 1#32
  let v2296 : BitVec 32 := Scalar.addi v2295 c1_i32_1009
  let c32_i32_1015 : BitVec 32 := 32#32
  let v2304 : BitVec 32 := Scalar.muli v2296 c32_i32_1015
  let v2305 : BitVec 32 := Scalar.addi c0_i32_1016 v2304
  v2305
def k0_mult104 : BitVec 32 :=
  let c1024_i32_1018 : BitVec 32 := 1024#32
  let c0_i32_961 : BitVec 32 := 0#32
  let c32_i32_1008 : BitVec 32 := 32#32
  let v2295 : BitVec 32 := Scalar.muli c0_i32_961 c32_i32_1008
  let c1_i32_1009 : BitVec 32 := 1#32
  let v2296 : BitVec 32 := Scalar.addi v2295 c1_i32_1009
  let c32_i32_1017 : BitVec 32 := 32#32
  let v2307 : BitVec 32 := Scalar.muli v2296 c32_i32_1017
  let v2308 : BitVec 32 := Scalar.addi c1024_i32_1018 v2307
  v2308
def k0_mult105 : BitVec 32 :=
  let c2048_i32_1020 : BitVec 32 := 2048#32
  let c0_i32_961 : BitVec 32 := 0#32
  let c32_i32_1008 : BitVec 32 := 32#32
  let v2295 : BitVec 32 := Scalar.muli c0_i32_961 c32_i32_1008
  let c1_i32_1009 : BitVec 32 := 1#32
  let v2296 : BitVec 32 := Scalar.addi v2295 c1_i32_1009
  let c32_i32_1019 : BitVec 32 := 32#32
  let v2310 : BitVec 32 := Scalar.muli v2296 c32_i32_1019
  let v2311 : BitVec 32 := Scalar.addi c2048_i32_1020 v2310
  v2311
def k0_mult106 : BitVec 32 :=
  let c3072_i32_1022 : BitVec 32 := 3072#32
  let c0_i32_961 : BitVec 32 := 0#32
  let c32_i32_1008 : BitVec 32 := 32#32
  let v2295 : BitVec 32 := Scalar.muli c0_i32_961 c32_i32_1008
  let c1_i32_1009 : BitVec 32 := 1#32
  let v2296 : BitVec 32 := Scalar.addi v2295 c1_i32_1009
  let c32_i32_1021 : BitVec 32 := 32#32
  let v2313 : BitVec 32 := Scalar.muli v2296 c32_i32_1021
  let v2314 : BitVec 32 := Scalar.addi c3072_i32_1022 v2313
  v2314
def k0_mult107 : BitVec 32 :=
  let c0_i32_961 : BitVec 32 := 0#32
  let c32_i32_1056 : BitVec 32 := 32#32
  let v2415 : BitVec 32 := Scalar.muli c0_i32_961 c32_i32_1056
  let c2_i32_1057 : BitVec 32 := 2#32
  let v2416 : BitVec 32 := Scalar.addi v2415 c2_i32_1057
  let c32_i32_1058 : BitVec 32 := 32#32
  let v2417 : BitVec 32 := Scalar.remsi v2416 c32_i32_1058
  let c0_i32_1059 : BitVec 32 := 0#32
  let v2418 : BitVec 1 := Scalar.cmpi .eq v2417 c0_i32_1059
  let c128_i32_1060 : BitVec 32 := 128#32
  let v2419 : BitVec 32 := Scalar.muli v2416 c128_i32_1060
  let c1_i32_1061 : BitVec 32 := 1#32
  let v2420 : BitVec 32 := Scalar.subi v2416 c1_i32_1061
  let c128_i32_1062 : BitVec 32 := 128#32
  let v2421 : BitVec 32 := Scalar.muli v2420 c128_i32_1062
  let v2422 : BitVec 32 := Scalar.select v2418 v2419 v2421
  v2422
def k0_mult108 : BitVec 32 :=
  let c0_i32_1064 : BitVec 32 := 0#32
  let c0_i32_961 : BitVec 32 := 0#32
  let c32_i32_1056 : BitVec 32 := 32#32
  let v2415 : BitVec 32 := Scalar.muli c0_i32_961 c32_i32_1056
  let c2_i32_1057 : BitVec 32 := 2#32
  let v2416 : BitVec 32 := Scalar.addi v2415 c2_i32_1057
  let c32_i32_1063 : BitVec 32 := 32#32
  let v2424 : BitVec 32 := Scalar.muli v2416 c32_i32_1063
  let v2425 : BitVec 32 := Scalar.addi c0_i32_1064 v2424
  v2425
def k0_mult109 : BitVec 32 :=
  let c1024_i32_1066 : BitVec 32 := 1024#32
  let c0_i32_961 : BitVec 32 := 0#32
  let c32_i32_1056 : BitVec 32 := 32#32
  let v2415 : BitVec 32 := Scalar.muli c0_i32_961 c32_i32_1056
  let c2_i32_1057 : BitVec 32 := 2#32
  let v2416 : BitVec 32 := Scalar.addi v2415 c2_i32_1057
  let c32_i32_1065 : BitVec 32 := 32#32
  let v2427 : BitVec 32 := Scalar.muli v2416 c32_i32_1065
  let v2428 : BitVec 32 := Scalar.addi c1024_i32_1066 v2427
  v2428
def k0_mult110 : BitVec 32 :=
  let c2048_i32_1068 : BitVec 32 := 2048#32
  let c0_i32_961 : BitVec 32 := 0#32
  let c32_i32_1056 : BitVec 32 := 32#32
  let v2415 : BitVec 32 := Scalar.muli c0_i32_961 c32_i32_1056
  let c2_i32_1057 : BitVec 32 := 2#32
  let v2416 : BitVec 32 := Scalar.addi v2415 c2_i32_1057
  let c32_i32_1067 : BitVec 32 := 32#32
  let v2430 : BitVec 32 := Scalar.muli v2416 c32_i32_1067
  let v2431 : BitVec 32 := Scalar.addi c2048_i32_1068 v2430
  v2431
def k0_mult111 : BitVec 32 :=
  let c3072_i32_1070 : BitVec 32 := 3072#32
  let c0_i32_961 : BitVec 32 := 0#32
  let c32_i32_1056 : BitVec 32 := 32#32
  let v2415 : BitVec 32 := Scalar.muli c0_i32_961 c32_i32_1056
  let c2_i32_1057 : BitVec 32 := 2#32
  let v2416 : BitVec 32 := Scalar.addi v2415 c2_i32_1057
  let c32_i32_1069 : BitVec 32 := 32#32
  let v2433 : BitVec 32 := Scalar.muli v2416 c32_i32_1069
  let v2434 : BitVec 32 := Scalar.addi c3072_i32_1070 v2433
  v2434
def k0_mult112 : BitVec 32 :=
  let c0_i32_961 : BitVec 32 := 0#32
  let c32_i32_1104 : BitVec 32 := 32#32
  let v2535 : BitVec 32 := Scalar.muli c0_i32_961 c32_i32_1104
  let c3_i32_1105 : BitVec 32 := 3#32
  let v2536 : BitVec 32 := Scalar.addi v2535 c3_i32_1105
  let c32_i32_1106 : BitVec 32 := 32#32
  let v2537 : BitVec 32 := Scalar.remsi v2536 c32_i32_1106
  let c0_i32_1107 : BitVec 32 := 0#32
  let v2538 : BitVec 1 := Scalar.cmpi .eq v2537 c0_i32_1107
  let c128_i32_1108 : BitVec 32 := 128#32
  let v2539 : BitVec 32 := Scalar.muli v2536 c128_i32_1108
  let c1_i32_1109 : BitVec 32 := 1#32
  let v2540 : BitVec 32 := Scalar.subi v2536 c1_i32_1109
  let c128_i32_1110 : BitVec 32 := 128#32
  let v2541 : BitVec 32 := Scalar.muli v2540 c128_i32_1110
  let v2542 : BitVec 32 := Scalar.select v2538 v2539 v2541
  v2542
def k0_mult113 : BitVec 32 :=
  let c0_i32_1112 : BitVec 32 := 0#32
  let c0_i32_961 : BitVec 32 := 0#32
  let c32_i32_1104 : BitVec 32 := 32#32
  let v2535 : BitVec 32 := Scalar.muli c0_i32_961 c32_i32_1104
  let c3_i32_1105 : BitVec 32 := 3#32
  let v2536 : BitVec 32 := Scalar.addi v2535 c3_i32_1105
  let c32_i32_1111 : BitVec 32 := 32#32
  let v2544 : BitVec 32 := Scalar.muli v2536 c32_i32_1111
  let v2545 : BitVec 32 := Scalar.addi c0_i32_1112 v2544
  v2545
def k0_mult114 : BitVec 32 :=
  let c1024_i32_1114 : BitVec 32 := 1024#32
  let c0_i32_961 : BitVec 32 := 0#32
  let c32_i32_1104 : BitVec 32 := 32#32
  let v2535 : BitVec 32 := Scalar.muli c0_i32_961 c32_i32_1104
  let c3_i32_1105 : BitVec 32 := 3#32
  let v2536 : BitVec 32 := Scalar.addi v2535 c3_i32_1105
  let c32_i32_1113 : BitVec 32 := 32#32
  let v2547 : BitVec 32 := Scalar.muli v2536 c32_i32_1113
  let v2548 : BitVec 32 := Scalar.addi c1024_i32_1114 v2547
  v2548
def k0_mult115 : BitVec 32 :=
  let c2048_i32_1116 : BitVec 32 := 2048#32
  let c0_i32_961 : BitVec 32 := 0#32
  let c32_i32_1104 : BitVec 32 := 32#32
  let v2535 : BitVec 32 := Scalar.muli c0_i32_961 c32_i32_1104
  let c3_i32_1105 : BitVec 32 := 3#32
  let v2536 : BitVec 32 := Scalar.addi v2535 c3_i32_1105
  let c32_i32_1115 : BitVec 32 := 32#32
  let v2550 : BitVec 32 := Scalar.muli v2536 c32_i32_1115
  let v2551 : BitVec 32 := Scalar.addi c2048_i32_1116 v2550
  v2551
def k0_mult116 : BitVec 32 :=
  let c3072_i32_1118 : BitVec 32 := 3072#32
  let c0_i32_961 : BitVec 32 := 0#32
  let c32_i32_1104 : BitVec 32 := 32#32
  let v2535 : BitVec 32 := Scalar.muli c0_i32_961 c32_i32_1104
  let c3_i32_1105 : BitVec 32 := 3#32
  let v2536 : BitVec 32 := Scalar.addi v2535 c3_i32_1105
  let c32_i32_1117 : BitVec 32 := 32#32
  let v2553 : BitVec 32 := Scalar.muli v2536 c32_i32_1117
  let v2554 : BitVec 32 := Scalar.addi c3072_i32_1118 v2553
  v2554
def k0_mult117 : BitVec 32 :=
  let c0_i32_961 : BitVec 32 := 0#32
  let c32_i32_1152 : BitVec 32 := 32#32
  let v2655 : BitVec 32 := Scalar.muli c0_i32_961 c32_i32_1152
  let c4_i32_1153 : BitVec 32 := 4#32
  let v2656 : BitVec 32 := Scalar.addi v2655 c4_i32_1153
  let c32_i32_1154 : BitVec 32 := 32#32
  let v2657 : BitVec 32 := Scalar.remsi v2656 c32_i32_1154
  let c0_i32_1155 : BitVec 32 := 0#32
  let v2658 : BitVec 1 := Scalar.cmpi .eq v2657 c0_i32_1155
  let c128_i32_1156 : BitVec 32 := 128#32
  let v2659 : BitVec 32 := Scalar.muli v2656 c128_i32_1156
  let c1_i32_1157 : BitVec 32 := 1#32
  let v2660 : BitVec 32 := Scalar.subi v2656 c1_i32_1157
  let c128_i32_1158 : BitVec 32 := 128#32
  let v2661 : BitVec 32 := Scalar.muli v2660 c128_i32_1158
  let v2662 : BitVec 32 := Scalar.select v2658 v2659 v2661
  v2662
def k0_mult118 : BitVec 32 :=
  let c0_i32_1160 : BitVec 32 := 0#32
  let c0_i32_961 : BitVec 32 := 0#32
  let c32_i32_1152 : BitVec 32 := 32#32
  let v2655 : BitVec 32 := Scalar.muli c0_i32_961 c32_i32_1152
  let c4_i32_1153 : BitVec 32 := 4#32
  let v2656 : BitVec 32 := Scalar.addi v2655 c4_i32_1153
  let c32_i32_1159 : BitVec 32 := 32#32
  let v2664 : BitVec 32 := Scalar.muli v2656 c32_i32_1159
  let v2665 : BitVec 32 := Scalar.addi c0_i32_1160 v2664
  v2665
def k0_mult119 : BitVec 32 :=
  let c1024_i32_1162 : BitVec 32 := 1024#32
  let c0_i32_961 : BitVec 32 := 0#32
  let c32_i32_1152 : BitVec 32 := 32#32
  let v2655 : BitVec 32 := Scalar.muli c0_i32_961 c32_i32_1152
  let c4_i32_1153 : BitVec 32 := 4#32
  let v2656 : BitVec 32 := Scalar.addi v2655 c4_i32_1153
  let c32_i32_1161 : BitVec 32 := 32#32
  let v2667 : BitVec 32 := Scalar.muli v2656 c32_i32_1161
  let v2668 : BitVec 32 := Scalar.addi c1024_i32_1162 v2667
  v2668
def k0_mult120 : BitVec 32 :=
  let c2048_i32_1164 : BitVec 32 := 2048#32
  let c0_i32_961 : BitVec 32 := 0#32
  let c32_i32_1152 : BitVec 32 := 32#32
  let v2655 : BitVec 32 := Scalar.muli c0_i32_961 c32_i32_1152
  let c4_i32_1153 : BitVec 32 := 4#32
  let v2656 : BitVec 32 := Scalar.addi v2655 c4_i32_1153
  let c32_i32_1163 : BitVec 32 := 32#32
  let v2670 : BitVec 32 := Scalar.muli v2656 c32_i32_1163
  let v2671 : BitVec 32 := Scalar.addi c2048_i32_1164 v2670
  v2671
def k0_mult121 : BitVec 32 :=
  let c3072_i32_1166 : BitVec 32 := 3072#32
  let c0_i32_961 : BitVec 32 := 0#32
  let c32_i32_1152 : BitVec 32 := 32#32
  let v2655 : BitVec 32 := Scalar.muli c0_i32_961 c32_i32_1152
  let c4_i32_1153 : BitVec 32 := 4#32
  let v2656 : BitVec 32 := Scalar.addi v2655 c4_i32_1153
  let c32_i32_1165 : BitVec 32 := 32#32
  let v2673 : BitVec 32 := Scalar.muli v2656 c32_i32_1165
  let v2674 : BitVec 32 := Scalar.addi c3072_i32_1166 v2673
  v2674
def k0_mult122 : BitVec 32 :=
  let c0_i32_961 : BitVec 32 := 0#32
  let c32_i32_1200 : BitVec 32 := 32#32
  let v2775 : BitVec 32 := Scalar.muli c0_i32_961 c32_i32_1200
  let c5_i32_1201 : BitVec 32 := 5#32
  let v2776 : BitVec 32 := Scalar.addi v2775 c5_i32_1201
  let c32_i32_1202 : BitVec 32 := 32#32
  let v2777 : BitVec 32 := Scalar.remsi v2776 c32_i32_1202
  let c0_i32_1203 : BitVec 32 := 0#32
  let v2778 : BitVec 1 := Scalar.cmpi .eq v2777 c0_i32_1203
  let c128_i32_1204 : BitVec 32 := 128#32
  let v2779 : BitVec 32 := Scalar.muli v2776 c128_i32_1204
  let c1_i32_1205 : BitVec 32 := 1#32
  let v2780 : BitVec 32 := Scalar.subi v2776 c1_i32_1205
  let c128_i32_1206 : BitVec 32 := 128#32
  let v2781 : BitVec 32 := Scalar.muli v2780 c128_i32_1206
  let v2782 : BitVec 32 := Scalar.select v2778 v2779 v2781
  v2782
def k0_mult123 : BitVec 32 :=
  let c0_i32_1208 : BitVec 32 := 0#32
  let c0_i32_961 : BitVec 32 := 0#32
  let c32_i32_1200 : BitVec 32 := 32#32
  let v2775 : BitVec 32 := Scalar.muli c0_i32_961 c32_i32_1200
  let c5_i32_1201 : BitVec 32 := 5#32
  let v2776 : BitVec 32 := Scalar.addi v2775 c5_i32_1201
  let c32_i32_1207 : BitVec 32 := 32#32
  let v2784 : BitVec 32 := Scalar.muli v2776 c32_i32_1207
  let v2785 : BitVec 32 := Scalar.addi c0_i32_1208 v2784
  v2785
def k0_mult124 : BitVec 32 :=
  let c1024_i32_1210 : BitVec 32 := 1024#32
  let c0_i32_961 : BitVec 32 := 0#32
  let c32_i32_1200 : BitVec 32 := 32#32
  let v2775 : BitVec 32 := Scalar.muli c0_i32_961 c32_i32_1200
  let c5_i32_1201 : BitVec 32 := 5#32
  let v2776 : BitVec 32 := Scalar.addi v2775 c5_i32_1201
  let c32_i32_1209 : BitVec 32 := 32#32
  let v2787 : BitVec 32 := Scalar.muli v2776 c32_i32_1209
  let v2788 : BitVec 32 := Scalar.addi c1024_i32_1210 v2787
  v2788
def k0_mult125 : BitVec 32 :=
  let c2048_i32_1212 : BitVec 32 := 2048#32
  let c0_i32_961 : BitVec 32 := 0#32
  let c32_i32_1200 : BitVec 32 := 32#32
  let v2775 : BitVec 32 := Scalar.muli c0_i32_961 c32_i32_1200
  let c5_i32_1201 : BitVec 32 := 5#32
  let v2776 : BitVec 32 := Scalar.addi v2775 c5_i32_1201
  let c32_i32_1211 : BitVec 32 := 32#32
  let v2790 : BitVec 32 := Scalar.muli v2776 c32_i32_1211
  let v2791 : BitVec 32 := Scalar.addi c2048_i32_1212 v2790
  v2791
def k0_mult126 : BitVec 32 :=
  let c3072_i32_1214 : BitVec 32 := 3072#32
  let c0_i32_961 : BitVec 32 := 0#32
  let c32_i32_1200 : BitVec 32 := 32#32
  let v2775 : BitVec 32 := Scalar.muli c0_i32_961 c32_i32_1200
  let c5_i32_1201 : BitVec 32 := 5#32
  let v2776 : BitVec 32 := Scalar.addi v2775 c5_i32_1201
  let c32_i32_1213 : BitVec 32 := 32#32
  let v2793 : BitVec 32 := Scalar.muli v2776 c32_i32_1213
  let v2794 : BitVec 32 := Scalar.addi c3072_i32_1214 v2793
  v2794
def k0_mult127 : BitVec 32 :=
  let c0_i32_961 : BitVec 32 := 0#32
  let c32_i32_1248 : BitVec 32 := 32#32
  let v2895 : BitVec 32 := Scalar.muli c0_i32_961 c32_i32_1248
  let c6_i32_1249 : BitVec 32 := 6#32
  let v2896 : BitVec 32 := Scalar.addi v2895 c6_i32_1249
  let c32_i32_1250 : BitVec 32 := 32#32
  let v2897 : BitVec 32 := Scalar.remsi v2896 c32_i32_1250
  let c0_i32_1251 : BitVec 32 := 0#32
  let v2898 : BitVec 1 := Scalar.cmpi .eq v2897 c0_i32_1251
  let c128_i32_1252 : BitVec 32 := 128#32
  let v2899 : BitVec 32 := Scalar.muli v2896 c128_i32_1252
  let c1_i32_1253 : BitVec 32 := 1#32
  let v2900 : BitVec 32 := Scalar.subi v2896 c1_i32_1253
  let c128_i32_1254 : BitVec 32 := 128#32
  let v2901 : BitVec 32 := Scalar.muli v2900 c128_i32_1254
  let v2902 : BitVec 32 := Scalar.select v2898 v2899 v2901
  v2902
def k0_mult128 : BitVec 32 :=
  let c0_i32_1256 : BitVec 32 := 0#32
  let c0_i32_961 : BitVec 32 := 0#32
  let c32_i32_1248 : BitVec 32 := 32#32
  let v2895 : BitVec 32 := Scalar.muli c0_i32_961 c32_i32_1248
  let c6_i32_1249 : BitVec 32 := 6#32
  let v2896 : BitVec 32 := Scalar.addi v2895 c6_i32_1249
  let c32_i32_1255 : BitVec 32 := 32#32
  let v2904 : BitVec 32 := Scalar.muli v2896 c32_i32_1255
  let v2905 : BitVec 32 := Scalar.addi c0_i32_1256 v2904
  v2905
def k0_mult129 : BitVec 32 :=
  let c1024_i32_1258 : BitVec 32 := 1024#32
  let c0_i32_961 : BitVec 32 := 0#32
  let c32_i32_1248 : BitVec 32 := 32#32
  let v2895 : BitVec 32 := Scalar.muli c0_i32_961 c32_i32_1248
  let c6_i32_1249 : BitVec 32 := 6#32
  let v2896 : BitVec 32 := Scalar.addi v2895 c6_i32_1249
  let c32_i32_1257 : BitVec 32 := 32#32
  let v2907 : BitVec 32 := Scalar.muli v2896 c32_i32_1257
  let v2908 : BitVec 32 := Scalar.addi c1024_i32_1258 v2907
  v2908
def k0_mult130 : BitVec 32 :=
  let c2048_i32_1260 : BitVec 32 := 2048#32
  let c0_i32_961 : BitVec 32 := 0#32
  let c32_i32_1248 : BitVec 32 := 32#32
  let v2895 : BitVec 32 := Scalar.muli c0_i32_961 c32_i32_1248
  let c6_i32_1249 : BitVec 32 := 6#32
  let v2896 : BitVec 32 := Scalar.addi v2895 c6_i32_1249
  let c32_i32_1259 : BitVec 32 := 32#32
  let v2910 : BitVec 32 := Scalar.muli v2896 c32_i32_1259
  let v2911 : BitVec 32 := Scalar.addi c2048_i32_1260 v2910
  v2911
def k0_mult131 : BitVec 32 :=
  let c3072_i32_1262 : BitVec 32 := 3072#32
  let c0_i32_961 : BitVec 32 := 0#32
  let c32_i32_1248 : BitVec 32 := 32#32
  let v2895 : BitVec 32 := Scalar.muli c0_i32_961 c32_i32_1248
  let c6_i32_1249 : BitVec 32 := 6#32
  let v2896 : BitVec 32 := Scalar.addi v2895 c6_i32_1249
  let c32_i32_1261 : BitVec 32 := 32#32
  let v2913 : BitVec 32 := Scalar.muli v2896 c32_i32_1261
  let v2914 : BitVec 32 := Scalar.addi c3072_i32_1262 v2913
  v2914
def k0_mult132 : BitVec 32 :=
  let c0_i32_961 : BitVec 32 := 0#32
  let c32_i32_1296 : BitVec 32 := 32#32
  let v3015 : BitVec 32 := Scalar.muli c0_i32_961 c32_i32_1296
  let c7_i32_1297 : BitVec 32 := 7#32
  let v3016 : BitVec 32 := Scalar.addi v3015 c7_i32_1297
  let c32_i32_1298 : BitVec 32 := 32#32
  let v3017 : BitVec 32 := Scalar.remsi v3016 c32_i32_1298
  let c0_i32_1299 : BitVec 32 := 0#32
  let v3018 : BitVec 1 := Scalar.cmpi .eq v3017 c0_i32_1299
  let c128_i32_1300 : BitVec 32 := 128#32
  let v3019 : BitVec 32 := Scalar.muli v3016 c128_i32_1300
  let c1_i32_1301 : BitVec 32 := 1#32
  let v3020 : BitVec 32 := Scalar.subi v3016 c1_i32_1301
  let c128_i32_1302 : BitVec 32 := 128#32
  let v3021 : BitVec 32 := Scalar.muli v3020 c128_i32_1302
  let v3022 : BitVec 32 := Scalar.select v3018 v3019 v3021
  v3022
def k0_mult133 : BitVec 32 :=
  let c0_i32_1304 : BitVec 32 := 0#32
  let c0_i32_961 : BitVec 32 := 0#32
  let c32_i32_1296 : BitVec 32 := 32#32
  let v3015 : BitVec 32 := Scalar.muli c0_i32_961 c32_i32_1296
  let c7_i32_1297 : BitVec 32 := 7#32
  let v3016 : BitVec 32 := Scalar.addi v3015 c7_i32_1297
  let c32_i32_1303 : BitVec 32 := 32#32
  let v3024 : BitVec 32 := Scalar.muli v3016 c32_i32_1303
  let v3025 : BitVec 32 := Scalar.addi c0_i32_1304 v3024
  v3025
def k0_mult134 : BitVec 32 :=
  let c1024_i32_1306 : BitVec 32 := 1024#32
  let c0_i32_961 : BitVec 32 := 0#32
  let c32_i32_1296 : BitVec 32 := 32#32
  let v3015 : BitVec 32 := Scalar.muli c0_i32_961 c32_i32_1296
  let c7_i32_1297 : BitVec 32 := 7#32
  let v3016 : BitVec 32 := Scalar.addi v3015 c7_i32_1297
  let c32_i32_1305 : BitVec 32 := 32#32
  let v3027 : BitVec 32 := Scalar.muli v3016 c32_i32_1305
  let v3028 : BitVec 32 := Scalar.addi c1024_i32_1306 v3027
  v3028
def k0_mult135 : BitVec 32 :=
  let c2048_i32_1308 : BitVec 32 := 2048#32
  let c0_i32_961 : BitVec 32 := 0#32
  let c32_i32_1296 : BitVec 32 := 32#32
  let v3015 : BitVec 32 := Scalar.muli c0_i32_961 c32_i32_1296
  let c7_i32_1297 : BitVec 32 := 7#32
  let v3016 : BitVec 32 := Scalar.addi v3015 c7_i32_1297
  let c32_i32_1307 : BitVec 32 := 32#32
  let v3030 : BitVec 32 := Scalar.muli v3016 c32_i32_1307
  let v3031 : BitVec 32 := Scalar.addi c2048_i32_1308 v3030
  v3031
def k0_mult136 : BitVec 32 :=
  let c3072_i32_1310 : BitVec 32 := 3072#32
  let c0_i32_961 : BitVec 32 := 0#32
  let c32_i32_1296 : BitVec 32 := 32#32
  let v3015 : BitVec 32 := Scalar.muli c0_i32_961 c32_i32_1296
  let c7_i32_1297 : BitVec 32 := 7#32
  let v3016 : BitVec 32 := Scalar.addi v3015 c7_i32_1297
  let c32_i32_1309 : BitVec 32 := 32#32
  let v3033 : BitVec 32 := Scalar.muli v3016 c32_i32_1309
  let v3034 : BitVec 32 := Scalar.addi c3072_i32_1310 v3033
  v3034
def k0_mult137 : BitVec 32 :=
  let c0_i32_961 : BitVec 32 := 0#32
  let c32_i32_1344 : BitVec 32 := 32#32
  let v3135 : BitVec 32 := Scalar.muli c0_i32_961 c32_i32_1344
  let c8_i32_1345 : BitVec 32 := 8#32
  let v3136 : BitVec 32 := Scalar.addi v3135 c8_i32_1345
  let c32_i32_1346 : BitVec 32 := 32#32
  let v3137 : BitVec 32 := Scalar.remsi v3136 c32_i32_1346
  let c0_i32_1347 : BitVec 32 := 0#32
  let v3138 : BitVec 1 := Scalar.cmpi .eq v3137 c0_i32_1347
  let c128_i32_1348 : BitVec 32 := 128#32
  let v3139 : BitVec 32 := Scalar.muli v3136 c128_i32_1348
  let c1_i32_1349 : BitVec 32 := 1#32
  let v3140 : BitVec 32 := Scalar.subi v3136 c1_i32_1349
  let c128_i32_1350 : BitVec 32 := 128#32
  let v3141 : BitVec 32 := Scalar.muli v3140 c128_i32_1350
  let v3142 : BitVec 32 := Scalar.select v3138 v3139 v3141
  v3142
def k0_mult138 : BitVec 32 :=
  let c0_i32_1352 : BitVec 32 := 0#32
  let c0_i32_961 : BitVec 32 := 0#32
  let c32_i32_1344 : BitVec 32 := 32#32
  let v3135 : BitVec 32 := Scalar.muli c0_i32_961 c32_i32_1344
  let c8_i32_1345 : BitVec 32 := 8#32
  let v3136 : BitVec 32 := Scalar.addi v3135 c8_i32_1345
  let c32_i32_1351 : BitVec 32 := 32#32
  let v3144 : BitVec 32 := Scalar.muli v3136 c32_i32_1351
  let v3145 : BitVec 32 := Scalar.addi c0_i32_1352 v3144
  v3145
def k0_mult139 : BitVec 32 :=
  let c1024_i32_1354 : BitVec 32 := 1024#32
  let c0_i32_961 : BitVec 32 := 0#32
  let c32_i32_1344 : BitVec 32 := 32#32
  let v3135 : BitVec 32 := Scalar.muli c0_i32_961 c32_i32_1344
  let c8_i32_1345 : BitVec 32 := 8#32
  let v3136 : BitVec 32 := Scalar.addi v3135 c8_i32_1345
  let c32_i32_1353 : BitVec 32 := 32#32
  let v3147 : BitVec 32 := Scalar.muli v3136 c32_i32_1353
  let v3148 : BitVec 32 := Scalar.addi c1024_i32_1354 v3147
  v3148
def k0_mult140 : BitVec 32 :=
  let c2048_i32_1356 : BitVec 32 := 2048#32
  let c0_i32_961 : BitVec 32 := 0#32
  let c32_i32_1344 : BitVec 32 := 32#32
  let v3135 : BitVec 32 := Scalar.muli c0_i32_961 c32_i32_1344
  let c8_i32_1345 : BitVec 32 := 8#32
  let v3136 : BitVec 32 := Scalar.addi v3135 c8_i32_1345
  let c32_i32_1355 : BitVec 32 := 32#32
  let v3150 : BitVec 32 := Scalar.muli v3136 c32_i32_1355
  let v3151 : BitVec 32 := Scalar.addi c2048_i32_1356 v3150
  v3151
def k0_mult141 : BitVec 32 :=
  let c3072_i32_1358 : BitVec 32 := 3072#32
  let c0_i32_961 : BitVec 32 := 0#32
  let c32_i32_1344 : BitVec 32 := 32#32
  let v3135 : BitVec 32 := Scalar.muli c0_i32_961 c32_i32_1344
  let c8_i32_1345 : BitVec 32 := 8#32
  let v3136 : BitVec 32 := Scalar.addi v3135 c8_i32_1345
  let c32_i32_1357 : BitVec 32 := 32#32
  let v3153 : BitVec 32 := Scalar.muli v3136 c32_i32_1357
  let v3154 : BitVec 32 := Scalar.addi c3072_i32_1358 v3153
  v3154
def k0_mult142 : BitVec 32 :=
  let c0_i32_961 : BitVec 32 := 0#32
  let c32_i32_1392 : BitVec 32 := 32#32
  let v3255 : BitVec 32 := Scalar.muli c0_i32_961 c32_i32_1392
  let c9_i32_1393 : BitVec 32 := 9#32
  let v3256 : BitVec 32 := Scalar.addi v3255 c9_i32_1393
  let c32_i32_1394 : BitVec 32 := 32#32
  let v3257 : BitVec 32 := Scalar.remsi v3256 c32_i32_1394
  let c0_i32_1395 : BitVec 32 := 0#32
  let v3258 : BitVec 1 := Scalar.cmpi .eq v3257 c0_i32_1395
  let c128_i32_1396 : BitVec 32 := 128#32
  let v3259 : BitVec 32 := Scalar.muli v3256 c128_i32_1396
  let c1_i32_1397 : BitVec 32 := 1#32
  let v3260 : BitVec 32 := Scalar.subi v3256 c1_i32_1397
  let c128_i32_1398 : BitVec 32 := 128#32
  let v3261 : BitVec 32 := Scalar.muli v3260 c128_i32_1398
  let v3262 : BitVec 32 := Scalar.select v3258 v3259 v3261
  v3262
def k0_mult143 : BitVec 32 :=
  let c0_i32_1400 : BitVec 32 := 0#32
  let c0_i32_961 : BitVec 32 := 0#32
  let c32_i32_1392 : BitVec 32 := 32#32
  let v3255 : BitVec 32 := Scalar.muli c0_i32_961 c32_i32_1392
  let c9_i32_1393 : BitVec 32 := 9#32
  let v3256 : BitVec 32 := Scalar.addi v3255 c9_i32_1393
  let c32_i32_1399 : BitVec 32 := 32#32
  let v3264 : BitVec 32 := Scalar.muli v3256 c32_i32_1399
  let v3265 : BitVec 32 := Scalar.addi c0_i32_1400 v3264
  v3265
def k0_mult144 : BitVec 32 :=
  let c1024_i32_1402 : BitVec 32 := 1024#32
  let c0_i32_961 : BitVec 32 := 0#32
  let c32_i32_1392 : BitVec 32 := 32#32
  let v3255 : BitVec 32 := Scalar.muli c0_i32_961 c32_i32_1392
  let c9_i32_1393 : BitVec 32 := 9#32
  let v3256 : BitVec 32 := Scalar.addi v3255 c9_i32_1393
  let c32_i32_1401 : BitVec 32 := 32#32
  let v3267 : BitVec 32 := Scalar.muli v3256 c32_i32_1401
  let v3268 : BitVec 32 := Scalar.addi c1024_i32_1402 v3267
  v3268
def k0_mult145 : BitVec 32 :=
  let c2048_i32_1404 : BitVec 32 := 2048#32
  let c0_i32_961 : BitVec 32 := 0#32
  let c32_i32_1392 : BitVec 32 := 32#32
  let v3255 : BitVec 32 := Scalar.muli c0_i32_961 c32_i32_1392
  let c9_i32_1393 : BitVec 32 := 9#32
  let v3256 : BitVec 32 := Scalar.addi v3255 c9_i32_1393
  let c32_i32_1403 : BitVec 32 := 32#32
  let v3270 : BitVec 32 := Scalar.muli v3256 c32_i32_1403
  let v3271 : BitVec 32 := Scalar.addi c2048_i32_1404 v3270
  v3271
def k0_mult146 : BitVec 32 :=
  let c3072_i32_1406 : BitVec 32 := 3072#32
  let c0_i32_961 : BitVec 32 := 0#32
  let c32_i32_1392 : BitVec 32 := 32#32
  let v3255 : BitVec 32 := Scalar.muli c0_i32_961 c32_i32_1392
  let c9_i32_1393 : BitVec 32 := 9#32
  let v3256 : BitVec 32 := Scalar.addi v3255 c9_i32_1393
  let c32_i32_1405 : BitVec 32 := 32#32
  let v3273 : BitVec 32 := Scalar.muli v3256 c32_i32_1405
  let v3274 : BitVec 32 := Scalar.addi c3072_i32_1406 v3273
  v3274
def k0_mult147 : BitVec 32 :=
  let c0_i32_961 : BitVec 32 := 0#32
  let c32_i32_1440 : BitVec 32 := 32#32
  let v3375 : BitVec 32 := Scalar.muli c0_i32_961 c32_i32_1440
  let c10_i32_1441 : BitVec 32 := 10#32
  let v3376 : BitVec 32 := Scalar.addi v3375 c10_i32_1441
  let c32_i32_1442 : BitVec 32 := 32#32
  let v3377 : BitVec 32 := Scalar.remsi v3376 c32_i32_1442
  let c0_i32_1443 : BitVec 32 := 0#32
  let v3378 : BitVec 1 := Scalar.cmpi .eq v3377 c0_i32_1443
  let c128_i32_1444 : BitVec 32 := 128#32
  let v3379 : BitVec 32 := Scalar.muli v3376 c128_i32_1444
  let c1_i32_1445 : BitVec 32 := 1#32
  let v3380 : BitVec 32 := Scalar.subi v3376 c1_i32_1445
  let c128_i32_1446 : BitVec 32 := 128#32
  let v3381 : BitVec 32 := Scalar.muli v3380 c128_i32_1446
  let v3382 : BitVec 32 := Scalar.select v3378 v3379 v3381
  v3382
def k0_mult148 : BitVec 32 :=
  let c0_i32_1448 : BitVec 32 := 0#32
  let c0_i32_961 : BitVec 32 := 0#32
  let c32_i32_1440 : BitVec 32 := 32#32
  let v3375 : BitVec 32 := Scalar.muli c0_i32_961 c32_i32_1440
  let c10_i32_1441 : BitVec 32 := 10#32
  let v3376 : BitVec 32 := Scalar.addi v3375 c10_i32_1441
  let c32_i32_1447 : BitVec 32 := 32#32
  let v3384 : BitVec 32 := Scalar.muli v3376 c32_i32_1447
  let v3385 : BitVec 32 := Scalar.addi c0_i32_1448 v3384
  v3385
def k0_mult149 : BitVec 32 :=
  let c1024_i32_1450 : BitVec 32 := 1024#32
  let c0_i32_961 : BitVec 32 := 0#32
  let c32_i32_1440 : BitVec 32 := 32#32
  let v3375 : BitVec 32 := Scalar.muli c0_i32_961 c32_i32_1440
  let c10_i32_1441 : BitVec 32 := 10#32
  let v3376 : BitVec 32 := Scalar.addi v3375 c10_i32_1441
  let c32_i32_1449 : BitVec 32 := 32#32
  let v3387 : BitVec 32 := Scalar.muli v3376 c32_i32_1449
  let v3388 : BitVec 32 := Scalar.addi c1024_i32_1450 v3387
  v3388
def k0_mult150 : BitVec 32 :=
  let c2048_i32_1452 : BitVec 32 := 2048#32
  let c0_i32_961 : BitVec 32 := 0#32
  let c32_i32_1440 : BitVec 32 := 32#32
  let v3375 : BitVec 32 := Scalar.muli c0_i32_961 c32_i32_1440
  let c10_i32_1441 : BitVec 32 := 10#32
  let v3376 : BitVec 32 := Scalar.addi v3375 c10_i32_1441
  let c32_i32_1451 : BitVec 32 := 32#32
  let v3390 : BitVec 32 := Scalar.muli v3376 c32_i32_1451
  let v3391 : BitVec 32 := Scalar.addi c2048_i32_1452 v3390
  v3391
def k0_mult151 : BitVec 32 :=
  let c3072_i32_1454 : BitVec 32 := 3072#32
  let c0_i32_961 : BitVec 32 := 0#32
  let c32_i32_1440 : BitVec 32 := 32#32
  let v3375 : BitVec 32 := Scalar.muli c0_i32_961 c32_i32_1440
  let c10_i32_1441 : BitVec 32 := 10#32
  let v3376 : BitVec 32 := Scalar.addi v3375 c10_i32_1441
  let c32_i32_1453 : BitVec 32 := 32#32
  let v3393 : BitVec 32 := Scalar.muli v3376 c32_i32_1453
  let v3394 : BitVec 32 := Scalar.addi c3072_i32_1454 v3393
  v3394
def k0_mult152 : BitVec 32 :=
  let c0_i32_961 : BitVec 32 := 0#32
  let c32_i32_1488 : BitVec 32 := 32#32
  let v3495 : BitVec 32 := Scalar.muli c0_i32_961 c32_i32_1488
  let c11_i32_1489 : BitVec 32 := 11#32
  let v3496 : BitVec 32 := Scalar.addi v3495 c11_i32_1489
  let c32_i32_1490 : BitVec 32 := 32#32
  let v3497 : BitVec 32 := Scalar.remsi v3496 c32_i32_1490
  let c0_i32_1491 : BitVec 32 := 0#32
  let v3498 : BitVec 1 := Scalar.cmpi .eq v3497 c0_i32_1491
  let c128_i32_1492 : BitVec 32 := 128#32
  let v3499 : BitVec 32 := Scalar.muli v3496 c128_i32_1492
  let c1_i32_1493 : BitVec 32 := 1#32
  let v3500 : BitVec 32 := Scalar.subi v3496 c1_i32_1493
  let c128_i32_1494 : BitVec 32 := 128#32
  let v3501 : BitVec 32 := Scalar.muli v3500 c128_i32_1494
  let v3502 : BitVec 32 := Scalar.select v3498 v3499 v3501
  v3502
def k0_mult153 : BitVec 32 :=
  let c0_i32_1496 : BitVec 32 := 0#32
  let c0_i32_961 : BitVec 32 := 0#32
  let c32_i32_1488 : BitVec 32 := 32#32
  let v3495 : BitVec 32 := Scalar.muli c0_i32_961 c32_i32_1488
  let c11_i32_1489 : BitVec 32 := 11#32
  let v3496 : BitVec 32 := Scalar.addi v3495 c11_i32_1489
  let c32_i32_1495 : BitVec 32 := 32#32
  let v3504 : BitVec 32 := Scalar.muli v3496 c32_i32_1495
  let v3505 : BitVec 32 := Scalar.addi c0_i32_1496 v3504
  v3505
def k0_mult154 : BitVec 32 :=
  let c1024_i32_1498 : BitVec 32 := 1024#32
  let c0_i32_961 : BitVec 32 := 0#32
  let c32_i32_1488 : BitVec 32 := 32#32
  let v3495 : BitVec 32 := Scalar.muli c0_i32_961 c32_i32_1488
  let c11_i32_1489 : BitVec 32 := 11#32
  let v3496 : BitVec 32 := Scalar.addi v3495 c11_i32_1489
  let c32_i32_1497 : BitVec 32 := 32#32
  let v3507 : BitVec 32 := Scalar.muli v3496 c32_i32_1497
  let v3508 : BitVec 32 := Scalar.addi c1024_i32_1498 v3507
  v3508
def k0_mult155 : BitVec 32 :=
  let c2048_i32_1500 : BitVec 32 := 2048#32
  let c0_i32_961 : BitVec 32 := 0#32
  let c32_i32_1488 : BitVec 32 := 32#32
  let v3495 : BitVec 32 := Scalar.muli c0_i32_961 c32_i32_1488
  let c11_i32_1489 : BitVec 32 := 11#32
  let v3496 : BitVec 32 := Scalar.addi v3495 c11_i32_1489
  let c32_i32_1499 : BitVec 32 := 32#32
  let v3510 : BitVec 32 := Scalar.muli v3496 c32_i32_1499
  let v3511 : BitVec 32 := Scalar.addi c2048_i32_1500 v3510
  v3511
def k0_mult156 : BitVec 32 :=
  let c3072_i32_1502 : BitVec 32 := 3072#32
  let c0_i32_961 : BitVec 32 := 0#32
  let c32_i32_1488 : BitVec 32 := 32#32
  let v3495 : BitVec 32 := Scalar.muli c0_i32_961 c32_i32_1488
  let c11_i32_1489 : BitVec 32 := 11#32
  let v3496 : BitVec 32 := Scalar.addi v3495 c11_i32_1489
  let c32_i32_1501 : BitVec 32 := 32#32
  let v3513 : BitVec 32 := Scalar.muli v3496 c32_i32_1501
  let v3514 : BitVec 32 := Scalar.addi c3072_i32_1502 v3513
  v3514
def k0_mult157 : BitVec 32 :=
  let c0_i32_961 : BitVec 32 := 0#32
  let c32_i32_1536 : BitVec 32 := 32#32
  let v3615 : BitVec 32 := Scalar.muli c0_i32_961 c32_i32_1536
  let c12_i32_1537 : BitVec 32 := 12#32
  let v3616 : BitVec 32 := Scalar.addi v3615 c12_i32_1537
  let c32_i32_1538 : BitVec 32 := 32#32
  let v3617 : BitVec 32 := Scalar.remsi v3616 c32_i32_1538
  let c0_i32_1539 : BitVec 32 := 0#32
  let v3618 : BitVec 1 := Scalar.cmpi .eq v3617 c0_i32_1539
  let c128_i32_1540 : BitVec 32 := 128#32
  let v3619 : BitVec 32 := Scalar.muli v3616 c128_i32_1540
  let c1_i32_1541 : BitVec 32 := 1#32
  let v3620 : BitVec 32 := Scalar.subi v3616 c1_i32_1541
  let c128_i32_1542 : BitVec 32 := 128#32
  let v3621 : BitVec 32 := Scalar.muli v3620 c128_i32_1542
  let v3622 : BitVec 32 := Scalar.select v3618 v3619 v3621
  v3622
def k0_mult158 : BitVec 32 :=
  let c0_i32_1544 : BitVec 32 := 0#32
  let c0_i32_961 : BitVec 32 := 0#32
  let c32_i32_1536 : BitVec 32 := 32#32
  let v3615 : BitVec 32 := Scalar.muli c0_i32_961 c32_i32_1536
  let c12_i32_1537 : BitVec 32 := 12#32
  let v3616 : BitVec 32 := Scalar.addi v3615 c12_i32_1537
  let c32_i32_1543 : BitVec 32 := 32#32
  let v3624 : BitVec 32 := Scalar.muli v3616 c32_i32_1543
  let v3625 : BitVec 32 := Scalar.addi c0_i32_1544 v3624
  v3625
def k0_mult159 : BitVec 32 :=
  let c1024_i32_1546 : BitVec 32 := 1024#32
  let c0_i32_961 : BitVec 32 := 0#32
  let c32_i32_1536 : BitVec 32 := 32#32
  let v3615 : BitVec 32 := Scalar.muli c0_i32_961 c32_i32_1536
  let c12_i32_1537 : BitVec 32 := 12#32
  let v3616 : BitVec 32 := Scalar.addi v3615 c12_i32_1537
  let c32_i32_1545 : BitVec 32 := 32#32
  let v3627 : BitVec 32 := Scalar.muli v3616 c32_i32_1545
  let v3628 : BitVec 32 := Scalar.addi c1024_i32_1546 v3627
  v3628
def k0_mult160 : BitVec 32 :=
  let c2048_i32_1548 : BitVec 32 := 2048#32
  let c0_i32_961 : BitVec 32 := 0#32
  let c32_i32_1536 : BitVec 32 := 32#32
  let v3615 : BitVec 32 := Scalar.muli c0_i32_961 c32_i32_1536
  let c12_i32_1537 : BitVec 32 := 12#32
  let v3616 : BitVec 32 := Scalar.addi v3615 c12_i32_1537
  let c32_i32_1547 : BitVec 32 := 32#32
  let v3630 : BitVec 32 := Scalar.muli v3616 c32_i32_1547
  let v3631 : BitVec 32 := Scalar.addi c2048_i32_1548 v3630
  v3631
def k0_mult161 : BitVec 32 :=
  let c3072_i32_1550 : BitVec 32 := 3072#32
  let c0_i32_961 : BitVec 32 := 0#32
  let c32_i32_1536 : BitVec 32 := 32#32
  let v3615 : BitVec 32 := Scalar.muli c0_i32_961 c32_i32_1536
  let c12_i32_1537 : BitVec 32 := 12#32
  let v3616 : BitVec 32 := Scalar.addi v3615 c12_i32_1537
  let c32_i32_1549 : BitVec 32 := 32#32
  let v3633 : BitVec 32 := Scalar.muli v3616 c32_i32_1549
  let v3634 : BitVec 32 := Scalar.addi c3072_i32_1550 v3633
  v3634
def k0_mult162 : BitVec 32 :=
  let c0_i32_961 : BitVec 32 := 0#32
  let c32_i32_1584 : BitVec 32 := 32#32
  let v3735 : BitVec 32 := Scalar.muli c0_i32_961 c32_i32_1584
  let c13_i32_1585 : BitVec 32 := 13#32
  let v3736 : BitVec 32 := Scalar.addi v3735 c13_i32_1585
  let c32_i32_1586 : BitVec 32 := 32#32
  let v3737 : BitVec 32 := Scalar.remsi v3736 c32_i32_1586
  let c0_i32_1587 : BitVec 32 := 0#32
  let v3738 : BitVec 1 := Scalar.cmpi .eq v3737 c0_i32_1587
  let c128_i32_1588 : BitVec 32 := 128#32
  let v3739 : BitVec 32 := Scalar.muli v3736 c128_i32_1588
  let c1_i32_1589 : BitVec 32 := 1#32
  let v3740 : BitVec 32 := Scalar.subi v3736 c1_i32_1589
  let c128_i32_1590 : BitVec 32 := 128#32
  let v3741 : BitVec 32 := Scalar.muli v3740 c128_i32_1590
  let v3742 : BitVec 32 := Scalar.select v3738 v3739 v3741
  v3742
def k0_mult163 : BitVec 32 :=
  let c0_i32_1592 : BitVec 32 := 0#32
  let c0_i32_961 : BitVec 32 := 0#32
  let c32_i32_1584 : BitVec 32 := 32#32
  let v3735 : BitVec 32 := Scalar.muli c0_i32_961 c32_i32_1584
  let c13_i32_1585 : BitVec 32 := 13#32
  let v3736 : BitVec 32 := Scalar.addi v3735 c13_i32_1585
  let c32_i32_1591 : BitVec 32 := 32#32
  let v3744 : BitVec 32 := Scalar.muli v3736 c32_i32_1591
  let v3745 : BitVec 32 := Scalar.addi c0_i32_1592 v3744
  v3745
def k0_mult164 : BitVec 32 :=
  let c1024_i32_1594 : BitVec 32 := 1024#32
  let c0_i32_961 : BitVec 32 := 0#32
  let c32_i32_1584 : BitVec 32 := 32#32
  let v3735 : BitVec 32 := Scalar.muli c0_i32_961 c32_i32_1584
  let c13_i32_1585 : BitVec 32 := 13#32
  let v3736 : BitVec 32 := Scalar.addi v3735 c13_i32_1585
  let c32_i32_1593 : BitVec 32 := 32#32
  let v3747 : BitVec 32 := Scalar.muli v3736 c32_i32_1593
  let v3748 : BitVec 32 := Scalar.addi c1024_i32_1594 v3747
  v3748
def k0_mult165 : BitVec 32 :=
  let c2048_i32_1596 : BitVec 32 := 2048#32
  let c0_i32_961 : BitVec 32 := 0#32
  let c32_i32_1584 : BitVec 32 := 32#32
  let v3735 : BitVec 32 := Scalar.muli c0_i32_961 c32_i32_1584
  let c13_i32_1585 : BitVec 32 := 13#32
  let v3736 : BitVec 32 := Scalar.addi v3735 c13_i32_1585
  let c32_i32_1595 : BitVec 32 := 32#32
  let v3750 : BitVec 32 := Scalar.muli v3736 c32_i32_1595
  let v3751 : BitVec 32 := Scalar.addi c2048_i32_1596 v3750
  v3751
def k0_mult166 : BitVec 32 :=
  let c3072_i32_1598 : BitVec 32 := 3072#32
  let c0_i32_961 : BitVec 32 := 0#32
  let c32_i32_1584 : BitVec 32 := 32#32
  let v3735 : BitVec 32 := Scalar.muli c0_i32_961 c32_i32_1584
  let c13_i32_1585 : BitVec 32 := 13#32
  let v3736 : BitVec 32 := Scalar.addi v3735 c13_i32_1585
  let c32_i32_1597 : BitVec 32 := 32#32
  let v3753 : BitVec 32 := Scalar.muli v3736 c32_i32_1597
  let v3754 : BitVec 32 := Scalar.addi c3072_i32_1598 v3753
  v3754
def k0_mult167 : BitVec 32 :=
  let c0_i32_961 : BitVec 32 := 0#32
  let c32_i32_1632 : BitVec 32 := 32#32
  let v3855 : BitVec 32 := Scalar.muli c0_i32_961 c32_i32_1632
  let c14_i32_1633 : BitVec 32 := 14#32
  let v3856 : BitVec 32 := Scalar.addi v3855 c14_i32_1633
  let c32_i32_1634 : BitVec 32 := 32#32
  let v3857 : BitVec 32 := Scalar.remsi v3856 c32_i32_1634
  let c0_i32_1635 : BitVec 32 := 0#32
  let v3858 : BitVec 1 := Scalar.cmpi .eq v3857 c0_i32_1635
  let c128_i32_1636 : BitVec 32 := 128#32
  let v3859 : BitVec 32 := Scalar.muli v3856 c128_i32_1636
  let c1_i32_1637 : BitVec 32 := 1#32
  let v3860 : BitVec 32 := Scalar.subi v3856 c1_i32_1637
  let c128_i32_1638 : BitVec 32 := 128#32
  let v3861 : BitVec 32 := Scalar.muli v3860 c128_i32_1638
  let v3862 : BitVec 32 := Scalar.select v3858 v3859 v3861
  v3862
def k0_mult168 : BitVec 32 :=
  let c0_i32_1640 : BitVec 32 := 0#32
  let c0_i32_961 : BitVec 32 := 0#32
  let c32_i32_1632 : BitVec 32 := 32#32
  let v3855 : BitVec 32 := Scalar.muli c0_i32_961 c32_i32_1632
  let c14_i32_1633 : BitVec 32 := 14#32
  let v3856 : BitVec 32 := Scalar.addi v3855 c14_i32_1633
  let c32_i32_1639 : BitVec 32 := 32#32
  let v3864 : BitVec 32 := Scalar.muli v3856 c32_i32_1639
  let v3865 : BitVec 32 := Scalar.addi c0_i32_1640 v3864
  v3865
def k0_mult169 : BitVec 32 :=
  let c1024_i32_1642 : BitVec 32 := 1024#32
  let c0_i32_961 : BitVec 32 := 0#32
  let c32_i32_1632 : BitVec 32 := 32#32
  let v3855 : BitVec 32 := Scalar.muli c0_i32_961 c32_i32_1632
  let c14_i32_1633 : BitVec 32 := 14#32
  let v3856 : BitVec 32 := Scalar.addi v3855 c14_i32_1633
  let c32_i32_1641 : BitVec 32 := 32#32
  let v3867 : BitVec 32 := Scalar.muli v3856 c32_i32_1641
  let v3868 : BitVec 32 := Scalar.addi c1024_i32_1642 v3867
  v3868
def k0_mult170 : BitVec 32 :=
  let c2048_i32_1644 : BitVec 32 := 2048#32
  let c0_i32_961 : BitVec 32 := 0#32
  let c32_i32_1632 : BitVec 32 := 32#32
  let v3855 : BitVec 32 := Scalar.muli c0_i32_961 c32_i32_1632
  let c14_i32_1633 : BitVec 32 := 14#32
  let v3856 : BitVec 32 := Scalar.addi v3855 c14_i32_1633
  let c32_i32_1643 : BitVec 32 := 32#32
  let v3870 : BitVec 32 := Scalar.muli v3856 c32_i32_1643
  let v3871 : BitVec 32 := Scalar.addi c2048_i32_1644 v3870
  v3871
def k0_mult171 : BitVec 32 :=
  let c3072_i32_1646 : BitVec 32 := 3072#32
  let c0_i32_961 : BitVec 32 := 0#32
  let c32_i32_1632 : BitVec 32 := 32#32
  let v3855 : BitVec 32 := Scalar.muli c0_i32_961 c32_i32_1632
  let c14_i32_1633 : BitVec 32 := 14#32
  let v3856 : BitVec 32 := Scalar.addi v3855 c14_i32_1633
  let c32_i32_1645 : BitVec 32 := 32#32
  let v3873 : BitVec 32 := Scalar.muli v3856 c32_i32_1645
  let v3874 : BitVec 32 := Scalar.addi c3072_i32_1646 v3873
  v3874
def k0_mult172 : BitVec 32 :=
  let c0_i32_961 : BitVec 32 := 0#32
  let c32_i32_1680 : BitVec 32 := 32#32
  let v3975 : BitVec 32 := Scalar.muli c0_i32_961 c32_i32_1680
  let c15_i32_1681 : BitVec 32 := 15#32
  let v3976 : BitVec 32 := Scalar.addi v3975 c15_i32_1681
  let c32_i32_1682 : BitVec 32 := 32#32
  let v3977 : BitVec 32 := Scalar.remsi v3976 c32_i32_1682
  let c0_i32_1683 : BitVec 32 := 0#32
  let v3978 : BitVec 1 := Scalar.cmpi .eq v3977 c0_i32_1683
  let c128_i32_1684 : BitVec 32 := 128#32
  let v3979 : BitVec 32 := Scalar.muli v3976 c128_i32_1684
  let c1_i32_1685 : BitVec 32 := 1#32
  let v3980 : BitVec 32 := Scalar.subi v3976 c1_i32_1685
  let c128_i32_1686 : BitVec 32 := 128#32
  let v3981 : BitVec 32 := Scalar.muli v3980 c128_i32_1686
  let v3982 : BitVec 32 := Scalar.select v3978 v3979 v3981
  v3982
def k0_mult173 : BitVec 32 :=
  let c0_i32_1688 : BitVec 32 := 0#32
  let c0_i32_961 : BitVec 32 := 0#32
  let c32_i32_1680 : BitVec 32 := 32#32
  let v3975 : BitVec 32 := Scalar.muli c0_i32_961 c32_i32_1680
  let c15_i32_1681 : BitVec 32 := 15#32
  let v3976 : BitVec 32 := Scalar.addi v3975 c15_i32_1681
  let c32_i32_1687 : BitVec 32 := 32#32
  let v3984 : BitVec 32 := Scalar.muli v3976 c32_i32_1687
  let v3985 : BitVec 32 := Scalar.addi c0_i32_1688 v3984
  v3985
def k0_mult174 : BitVec 32 :=
  let c1024_i32_1690 : BitVec 32 := 1024#32
  let c0_i32_961 : BitVec 32 := 0#32
  let c32_i32_1680 : BitVec 32 := 32#32
  let v3975 : BitVec 32 := Scalar.muli c0_i32_961 c32_i32_1680
  let c15_i32_1681 : BitVec 32 := 15#32
  let v3976 : BitVec 32 := Scalar.addi v3975 c15_i32_1681
  let c32_i32_1689 : BitVec 32 := 32#32
  let v3987 : BitVec 32 := Scalar.muli v3976 c32_i32_1689
  let v3988 : BitVec 32 := Scalar.addi c1024_i32_1690 v3987
  v3988
def k0_mult175 : BitVec 32 :=
  let c2048_i32_1692 : BitVec 32 := 2048#32
  let c0_i32_961 : BitVec 32 := 0#32
  let c32_i32_1680 : BitVec 32 := 32#32
  let v3975 : BitVec 32 := Scalar.muli c0_i32_961 c32_i32_1680
  let c15_i32_1681 : BitVec 32 := 15#32
  let v3976 : BitVec 32 := Scalar.addi v3975 c15_i32_1681
  let c32_i32_1691 : BitVec 32 := 32#32
  let v3990 : BitVec 32 := Scalar.muli v3976 c32_i32_1691
  let v3991 : BitVec 32 := Scalar.addi c2048_i32_1692 v3990
  v3991
def k0_mult176 : BitVec 32 :=
  let c3072_i32_1694 : BitVec 32 := 3072#32
  let c0_i32_961 : BitVec 32 := 0#32
  let c32_i32_1680 : BitVec 32 := 32#32
  let v3975 : BitVec 32 := Scalar.muli c0_i32_961 c32_i32_1680
  let c15_i32_1681 : BitVec 32 := 15#32
  let v3976 : BitVec 32 := Scalar.addi v3975 c15_i32_1681
  let c32_i32_1693 : BitVec 32 := 32#32
  let v3993 : BitVec 32 := Scalar.muli v3976 c32_i32_1693
  let v3994 : BitVec 32 := Scalar.addi c3072_i32_1694 v3993
  v3994
def k0_mult177 : BitVec 32 :=
  let c0_i32_961 : BitVec 32 := 0#32
  let c32_i32_1728 : BitVec 32 := 32#32
  let v4095 : BitVec 32 := Scalar.muli c0_i32_961 c32_i32_1728
  let c16_i32_1729 : BitVec 32 := 16#32
  let v4096 : BitVec 32 := Scalar.addi v4095 c16_i32_1729
  let c32_i32_1730 : BitVec 32 := 32#32
  let v4097 : BitVec 32 := Scalar.remsi v4096 c32_i32_1730
  let c0_i32_1731 : BitVec 32 := 0#32
  let v4098 : BitVec 1 := Scalar.cmpi .eq v4097 c0_i32_1731
  let c128_i32_1732 : BitVec 32 := 128#32
  let v4099 : BitVec 32 := Scalar.muli v4096 c128_i32_1732
  let c1_i32_1733 : BitVec 32 := 1#32
  let v4100 : BitVec 32 := Scalar.subi v4096 c1_i32_1733
  let c128_i32_1734 : BitVec 32 := 128#32
  let v4101 : BitVec 32 := Scalar.muli v4100 c128_i32_1734
  let v4102 : BitVec 32 := Scalar.select v4098 v4099 v4101
  v4102
def k0_mult178 : BitVec 32 :=
  let c0_i32_1736 : BitVec 32 := 0#32
  let c0_i32_961 : BitVec 32 := 0#32
  let c32_i32_1728 : BitVec 32 := 32#32
  let v4095 : BitVec 32 := Scalar.muli c0_i32_961 c32_i32_1728
  let c16_i32_1729 : BitVec 32 := 16#32
  let v4096 : BitVec 32 := Scalar.addi v4095 c16_i32_1729
  let c32_i32_1735 : BitVec 32 := 32#32
  let v4104 : BitVec 32 := Scalar.muli v4096 c32_i32_1735
  let v4105 : BitVec 32 := Scalar.addi c0_i32_1736 v4104
  v4105
def k0_mult179 : BitVec 32 :=
  let c1024_i32_1738 : BitVec 32 := 1024#32
  let c0_i32_961 : BitVec 32 := 0#32
  let c32_i32_1728 : BitVec 32 := 32#32
  let v4095 : BitVec 32 := Scalar.muli c0_i32_961 c32_i32_1728
  let c16_i32_1729 : BitVec 32 := 16#32
  let v4096 : BitVec 32 := Scalar.addi v4095 c16_i32_1729
  let c32_i32_1737 : BitVec 32 := 32#32
  let v4107 : BitVec 32 := Scalar.muli v4096 c32_i32_1737
  let v4108 : BitVec 32 := Scalar.addi c1024_i32_1738 v4107
  v4108
def k0_mult180 : BitVec 32 :=
  let c2048_i32_1740 : BitVec 32 := 2048#32
  let c0_i32_961 : BitVec 32 := 0#32
  let c32_i32_1728 : BitVec 32 := 32#32
  let v4095 : BitVec 32 := Scalar.muli c0_i32_961 c32_i32_1728
  let c16_i32_1729 : BitVec 32 := 16#32
  let v4096 : BitVec 32 := Scalar.addi v4095 c16_i32_1729
  let c32_i32_1739 : BitVec 32 := 32#32
  let v4110 : BitVec 32 := Scalar.muli v4096 c32_i32_1739
  let v4111 : BitVec 32 := Scalar.addi c2048_i32_1740 v4110
  v4111
def k0_mult181 : BitVec 32 :=
  let c3072_i32_1742 : BitVec 32 := 3072#32
  let c0_i32_961 : BitVec 32 := 0#32
  let c32_i32_1728 : BitVec 32 := 32#32
  let v4095 : BitVec 32 := Scalar.muli c0_i32_961 c32_i32_1728
  let c16_i32_1729 : BitVec 32 := 16#32
  let v4096 : BitVec 32 := Scalar.addi v4095 c16_i32_1729
  let c32_i32_1741 : BitVec 32 := 32#32
  let v4113 : BitVec 32 := Scalar.muli v4096 c32_i32_1741
  let v4114 : BitVec 32 := Scalar.addi c3072_i32_1742 v4113
  v4114
def k0_mult182 : BitVec 32 :=
  let c0_i32_961 : BitVec 32 := 0#32
  let c32_i32_1776 : BitVec 32 := 32#32
  let v4215 : BitVec 32 := Scalar.muli c0_i32_961 c32_i32_1776
  let c17_i32 : BitVec 32 := 17#32
  let v4216 : BitVec 32 := Scalar.addi v4215 c17_i32
  let c32_i32_1777 : BitVec 32 := 32#32
  let v4217 : BitVec 32 := Scalar.remsi v4216 c32_i32_1777
  let c0_i32_1778 : BitVec 32 := 0#32
  let v4218 : BitVec 1 := Scalar.cmpi .eq v4217 c0_i32_1778
  let c128_i32_1779 : BitVec 32 := 128#32
  let v4219 : BitVec 32 := Scalar.muli v4216 c128_i32_1779
  let c1_i32_1780 : BitVec 32 := 1#32
  let v4220 : BitVec 32 := Scalar.subi v4216 c1_i32_1780
  let c128_i32_1781 : BitVec 32 := 128#32
  let v4221 : BitVec 32 := Scalar.muli v4220 c128_i32_1781
  let v4222 : BitVec 32 := Scalar.select v4218 v4219 v4221
  v4222
def k0_mult183 : BitVec 32 :=
  let c0_i32_1783 : BitVec 32 := 0#32
  let c0_i32_961 : BitVec 32 := 0#32
  let c32_i32_1776 : BitVec 32 := 32#32
  let v4215 : BitVec 32 := Scalar.muli c0_i32_961 c32_i32_1776
  let c17_i32 : BitVec 32 := 17#32
  let v4216 : BitVec 32 := Scalar.addi v4215 c17_i32
  let c32_i32_1782 : BitVec 32 := 32#32
  let v4224 : BitVec 32 := Scalar.muli v4216 c32_i32_1782
  let v4225 : BitVec 32 := Scalar.addi c0_i32_1783 v4224
  v4225
def k0_mult184 : BitVec 32 :=
  let c1024_i32_1785 : BitVec 32 := 1024#32
  let c0_i32_961 : BitVec 32 := 0#32
  let c32_i32_1776 : BitVec 32 := 32#32
  let v4215 : BitVec 32 := Scalar.muli c0_i32_961 c32_i32_1776
  let c17_i32 : BitVec 32 := 17#32
  let v4216 : BitVec 32 := Scalar.addi v4215 c17_i32
  let c32_i32_1784 : BitVec 32 := 32#32
  let v4227 : BitVec 32 := Scalar.muli v4216 c32_i32_1784
  let v4228 : BitVec 32 := Scalar.addi c1024_i32_1785 v4227
  v4228
def k0_mult185 : BitVec 32 :=
  let c2048_i32_1787 : BitVec 32 := 2048#32
  let c0_i32_961 : BitVec 32 := 0#32
  let c32_i32_1776 : BitVec 32 := 32#32
  let v4215 : BitVec 32 := Scalar.muli c0_i32_961 c32_i32_1776
  let c17_i32 : BitVec 32 := 17#32
  let v4216 : BitVec 32 := Scalar.addi v4215 c17_i32
  let c32_i32_1786 : BitVec 32 := 32#32
  let v4230 : BitVec 32 := Scalar.muli v4216 c32_i32_1786
  let v4231 : BitVec 32 := Scalar.addi c2048_i32_1787 v4230
  v4231
def k0_mult186 : BitVec 32 :=
  let c3072_i32_1789 : BitVec 32 := 3072#32
  let c0_i32_961 : BitVec 32 := 0#32
  let c32_i32_1776 : BitVec 32 := 32#32
  let v4215 : BitVec 32 := Scalar.muli c0_i32_961 c32_i32_1776
  let c17_i32 : BitVec 32 := 17#32
  let v4216 : BitVec 32 := Scalar.addi v4215 c17_i32
  let c32_i32_1788 : BitVec 32 := 32#32
  let v4233 : BitVec 32 := Scalar.muli v4216 c32_i32_1788
  let v4234 : BitVec 32 := Scalar.addi c3072_i32_1789 v4233
  v4234
def k0_mult187 : BitVec 32 :=
  let c0_i32_961 : BitVec 32 := 0#32
  let c32_i32_1823 : BitVec 32 := 32#32
  let v4335 : BitVec 32 := Scalar.muli c0_i32_961 c32_i32_1823
  let c18_i32 : BitVec 32 := 18#32
  let v4336 : BitVec 32 := Scalar.addi v4335 c18_i32
  let c32_i32_1824 : BitVec 32 := 32#32
  let v4337 : BitVec 32 := Scalar.remsi v4336 c32_i32_1824
  let c0_i32_1825 : BitVec 32 := 0#32
  let v4338 : BitVec 1 := Scalar.cmpi .eq v4337 c0_i32_1825
  let c128_i32_1826 : BitVec 32 := 128#32
  let v4339 : BitVec 32 := Scalar.muli v4336 c128_i32_1826
  let c1_i32_1827 : BitVec 32 := 1#32
  let v4340 : BitVec 32 := Scalar.subi v4336 c1_i32_1827
  let c128_i32_1828 : BitVec 32 := 128#32
  let v4341 : BitVec 32 := Scalar.muli v4340 c128_i32_1828
  let v4342 : BitVec 32 := Scalar.select v4338 v4339 v4341
  v4342
def k0_mult188 : BitVec 32 :=
  let c0_i32_1830 : BitVec 32 := 0#32
  let c0_i32_961 : BitVec 32 := 0#32
  let c32_i32_1823 : BitVec 32 := 32#32
  let v4335 : BitVec 32 := Scalar.muli c0_i32_961 c32_i32_1823
  let c18_i32 : BitVec 32 := 18#32
  let v4336 : BitVec 32 := Scalar.addi v4335 c18_i32
  let c32_i32_1829 : BitVec 32 := 32#32
  let v4344 : BitVec 32 := Scalar.muli v4336 c32_i32_1829
  let v4345 : BitVec 32 := Scalar.addi c0_i32_1830 v4344
  v4345
def k0_mult189 : BitVec 32 :=
  let c1024_i32_1832 : BitVec 32 := 1024#32
  let c0_i32_961 : BitVec 32 := 0#32
  let c32_i32_1823 : BitVec 32 := 32#32
  let v4335 : BitVec 32 := Scalar.muli c0_i32_961 c32_i32_1823
  let c18_i32 : BitVec 32 := 18#32
  let v4336 : BitVec 32 := Scalar.addi v4335 c18_i32
  let c32_i32_1831 : BitVec 32 := 32#32
  let v4347 : BitVec 32 := Scalar.muli v4336 c32_i32_1831
  let v4348 : BitVec 32 := Scalar.addi c1024_i32_1832 v4347
  v4348
def k0_mult190 : BitVec 32 :=
  let c2048_i32_1834 : BitVec 32 := 2048#32
  let c0_i32_961 : BitVec 32 := 0#32
  let c32_i32_1823 : BitVec 32 := 32#32
  let v4335 : BitVec 32 := Scalar.muli c0_i32_961 c32_i32_1823
  let c18_i32 : BitVec 32 := 18#32
  let v4336 : BitVec 32 := Scalar.addi v4335 c18_i32
  let c32_i32_1833 : BitVec 32 := 32#32
  let v4350 : BitVec 32 := Scalar.muli v4336 c32_i32_1833
  let v4351 : BitVec 32 := Scalar.addi c2048_i32_1834 v4350
  v4351
def k0_mult191 : BitVec 32 :=
  let c3072_i32_1836 : BitVec 32 := 3072#32
  let c0_i32_961 : BitVec 32 := 0#32
  let c32_i32_1823 : BitVec 32 := 32#32
  let v4335 : BitVec 32 := Scalar.muli c0_i32_961 c32_i32_1823
  let c18_i32 : BitVec 32 := 18#32
  let v4336 : BitVec 32 := Scalar.addi v4335 c18_i32
  let c32_i32_1835 : BitVec 32 := 32#32
  let v4353 : BitVec 32 := Scalar.muli v4336 c32_i32_1835
  let v4354 : BitVec 32 := Scalar.addi c3072_i32_1836 v4353
  v4354
def k0_mult192 : BitVec 32 :=
  let c0_i32_961 : BitVec 32 := 0#32
  let c32_i32_1870 : BitVec 32 := 32#32
  let v4455 : BitVec 32 := Scalar.muli c0_i32_961 c32_i32_1870
  let c19_i32 : BitVec 32 := 19#32
  let v4456 : BitVec 32 := Scalar.addi v4455 c19_i32
  let c32_i32_1871 : BitVec 32 := 32#32
  let v4457 : BitVec 32 := Scalar.remsi v4456 c32_i32_1871
  let c0_i32_1872 : BitVec 32 := 0#32
  let v4458 : BitVec 1 := Scalar.cmpi .eq v4457 c0_i32_1872
  let c128_i32_1873 : BitVec 32 := 128#32
  let v4459 : BitVec 32 := Scalar.muli v4456 c128_i32_1873
  let c1_i32_1874 : BitVec 32 := 1#32
  let v4460 : BitVec 32 := Scalar.subi v4456 c1_i32_1874
  let c128_i32_1875 : BitVec 32 := 128#32
  let v4461 : BitVec 32 := Scalar.muli v4460 c128_i32_1875
  let v4462 : BitVec 32 := Scalar.select v4458 v4459 v4461
  v4462
def k0_mult193 : BitVec 32 :=
  let c0_i32_1877 : BitVec 32 := 0#32
  let c0_i32_961 : BitVec 32 := 0#32
  let c32_i32_1870 : BitVec 32 := 32#32
  let v4455 : BitVec 32 := Scalar.muli c0_i32_961 c32_i32_1870
  let c19_i32 : BitVec 32 := 19#32
  let v4456 : BitVec 32 := Scalar.addi v4455 c19_i32
  let c32_i32_1876 : BitVec 32 := 32#32
  let v4464 : BitVec 32 := Scalar.muli v4456 c32_i32_1876
  let v4465 : BitVec 32 := Scalar.addi c0_i32_1877 v4464
  v4465
def k0_mult194 : BitVec 32 :=
  let c1024_i32_1879 : BitVec 32 := 1024#32
  let c0_i32_961 : BitVec 32 := 0#32
  let c32_i32_1870 : BitVec 32 := 32#32
  let v4455 : BitVec 32 := Scalar.muli c0_i32_961 c32_i32_1870
  let c19_i32 : BitVec 32 := 19#32
  let v4456 : BitVec 32 := Scalar.addi v4455 c19_i32
  let c32_i32_1878 : BitVec 32 := 32#32
  let v4467 : BitVec 32 := Scalar.muli v4456 c32_i32_1878
  let v4468 : BitVec 32 := Scalar.addi c1024_i32_1879 v4467
  v4468
def k0_mult195 : BitVec 32 :=
  let c2048_i32_1881 : BitVec 32 := 2048#32
  let c0_i32_961 : BitVec 32 := 0#32
  let c32_i32_1870 : BitVec 32 := 32#32
  let v4455 : BitVec 32 := Scalar.muli c0_i32_961 c32_i32_1870
  let c19_i32 : BitVec 32 := 19#32
  let v4456 : BitVec 32 := Scalar.addi v4455 c19_i32
  let c32_i32_1880 : BitVec 32 := 32#32
  let v4470 : BitVec 32 := Scalar.muli v4456 c32_i32_1880
  let v4471 : BitVec 32 := Scalar.addi c2048_i32_1881 v4470
  v4471
def k0_mult196 : BitVec 32 :=
  let c3072_i32_1883 : BitVec 32 := 3072#32
  let c0_i32_961 : BitVec 32 := 0#32
  let c32_i32_1870 : BitVec 32 := 32#32
  let v4455 : BitVec 32 := Scalar.muli c0_i32_961 c32_i32_1870
  let c19_i32 : BitVec 32 := 19#32
  let v4456 : BitVec 32 := Scalar.addi v4455 c19_i32
  let c32_i32_1882 : BitVec 32 := 32#32
  let v4473 : BitVec 32 := Scalar.muli v4456 c32_i32_1882
  let v4474 : BitVec 32 := Scalar.addi c3072_i32_1883 v4473
  v4474
def k0_mult197 : BitVec 32 :=
  let c0_i32_961 : BitVec 32 := 0#32
  let c32_i32_1917 : BitVec 32 := 32#32
  let v4575 : BitVec 32 := Scalar.muli c0_i32_961 c32_i32_1917
  let c20_i32 : BitVec 32 := 20#32
  let v4576 : BitVec 32 := Scalar.addi v4575 c20_i32
  let c32_i32_1918 : BitVec 32 := 32#32
  let v4577 : BitVec 32 := Scalar.remsi v4576 c32_i32_1918
  let c0_i32_1919 : BitVec 32 := 0#32
  let v4578 : BitVec 1 := Scalar.cmpi .eq v4577 c0_i32_1919
  let c128_i32_1920 : BitVec 32 := 128#32
  let v4579 : BitVec 32 := Scalar.muli v4576 c128_i32_1920
  let c1_i32_1921 : BitVec 32 := 1#32
  let v4580 : BitVec 32 := Scalar.subi v4576 c1_i32_1921
  let c128_i32_1922 : BitVec 32 := 128#32
  let v4581 : BitVec 32 := Scalar.muli v4580 c128_i32_1922
  let v4582 : BitVec 32 := Scalar.select v4578 v4579 v4581
  v4582
def k0_mult198 : BitVec 32 :=
  let c0_i32_1924 : BitVec 32 := 0#32
  let c0_i32_961 : BitVec 32 := 0#32
  let c32_i32_1917 : BitVec 32 := 32#32
  let v4575 : BitVec 32 := Scalar.muli c0_i32_961 c32_i32_1917
  let c20_i32 : BitVec 32 := 20#32
  let v4576 : BitVec 32 := Scalar.addi v4575 c20_i32
  let c32_i32_1923 : BitVec 32 := 32#32
  let v4584 : BitVec 32 := Scalar.muli v4576 c32_i32_1923
  let v4585 : BitVec 32 := Scalar.addi c0_i32_1924 v4584
  v4585
def k0_mult199 : BitVec 32 :=
  let c1024_i32_1926 : BitVec 32 := 1024#32
  let c0_i32_961 : BitVec 32 := 0#32
  let c32_i32_1917 : BitVec 32 := 32#32
  let v4575 : BitVec 32 := Scalar.muli c0_i32_961 c32_i32_1917
  let c20_i32 : BitVec 32 := 20#32
  let v4576 : BitVec 32 := Scalar.addi v4575 c20_i32
  let c32_i32_1925 : BitVec 32 := 32#32
  let v4587 : BitVec 32 := Scalar.muli v4576 c32_i32_1925
  let v4588 : BitVec 32 := Scalar.addi c1024_i32_1926 v4587
  v4588
def k0_mult200 : BitVec 32 :=
  let c2048_i32_1928 : BitVec 32 := 2048#32
  let c0_i32_961 : BitVec 32 := 0#32
  let c32_i32_1917 : BitVec 32 := 32#32
  let v4575 : BitVec 32 := Scalar.muli c0_i32_961 c32_i32_1917
  let c20_i32 : BitVec 32 := 20#32
  let v4576 : BitVec 32 := Scalar.addi v4575 c20_i32
  let c32_i32_1927 : BitVec 32 := 32#32
  let v4590 : BitVec 32 := Scalar.muli v4576 c32_i32_1927
  let v4591 : BitVec 32 := Scalar.addi c2048_i32_1928 v4590
  v4591
def k0_mult201 : BitVec 32 :=
  let c3072_i32_1930 : BitVec 32 := 3072#32
  let c0_i32_961 : BitVec 32 := 0#32
  let c32_i32_1917 : BitVec 32 := 32#32
  let v4575 : BitVec 32 := Scalar.muli c0_i32_961 c32_i32_1917
  let c20_i32 : BitVec 32 := 20#32
  let v4576 : BitVec 32 := Scalar.addi v4575 c20_i32
  let c32_i32_1929 : BitVec 32 := 32#32
  let v4593 : BitVec 32 := Scalar.muli v4576 c32_i32_1929
  let v4594 : BitVec 32 := Scalar.addi c3072_i32_1930 v4593
  v4594
def k0_mult202 : BitVec 32 :=
  let c0_i32_961 : BitVec 32 := 0#32
  let c32_i32_1964 : BitVec 32 := 32#32
  let v4695 : BitVec 32 := Scalar.muli c0_i32_961 c32_i32_1964
  let c21_i32 : BitVec 32 := 21#32
  let v4696 : BitVec 32 := Scalar.addi v4695 c21_i32
  let c32_i32_1965 : BitVec 32 := 32#32
  let v4697 : BitVec 32 := Scalar.remsi v4696 c32_i32_1965
  let c0_i32_1966 : BitVec 32 := 0#32
  let v4698 : BitVec 1 := Scalar.cmpi .eq v4697 c0_i32_1966
  let c128_i32_1967 : BitVec 32 := 128#32
  let v4699 : BitVec 32 := Scalar.muli v4696 c128_i32_1967
  let c1_i32_1968 : BitVec 32 := 1#32
  let v4700 : BitVec 32 := Scalar.subi v4696 c1_i32_1968
  let c128_i32_1969 : BitVec 32 := 128#32
  let v4701 : BitVec 32 := Scalar.muli v4700 c128_i32_1969
  let v4702 : BitVec 32 := Scalar.select v4698 v4699 v4701
  v4702
def k0_mult203 : BitVec 32 :=
  let c0_i32_1971 : BitVec 32 := 0#32
  let c0_i32_961 : BitVec 32 := 0#32
  let c32_i32_1964 : BitVec 32 := 32#32
  let v4695 : BitVec 32 := Scalar.muli c0_i32_961 c32_i32_1964
  let c21_i32 : BitVec 32 := 21#32
  let v4696 : BitVec 32 := Scalar.addi v4695 c21_i32
  let c32_i32_1970 : BitVec 32 := 32#32
  let v4704 : BitVec 32 := Scalar.muli v4696 c32_i32_1970
  let v4705 : BitVec 32 := Scalar.addi c0_i32_1971 v4704
  v4705
def k0_mult204 : BitVec 32 :=
  let c1024_i32_1973 : BitVec 32 := 1024#32
  let c0_i32_961 : BitVec 32 := 0#32
  let c32_i32_1964 : BitVec 32 := 32#32
  let v4695 : BitVec 32 := Scalar.muli c0_i32_961 c32_i32_1964
  let c21_i32 : BitVec 32 := 21#32
  let v4696 : BitVec 32 := Scalar.addi v4695 c21_i32
  let c32_i32_1972 : BitVec 32 := 32#32
  let v4707 : BitVec 32 := Scalar.muli v4696 c32_i32_1972
  let v4708 : BitVec 32 := Scalar.addi c1024_i32_1973 v4707
  v4708
def k0_mult205 : BitVec 32 :=
  let c2048_i32_1975 : BitVec 32 := 2048#32
  let c0_i32_961 : BitVec 32 := 0#32
  let c32_i32_1964 : BitVec 32 := 32#32
  let v4695 : BitVec 32 := Scalar.muli c0_i32_961 c32_i32_1964
  let c21_i32 : BitVec 32 := 21#32
  let v4696 : BitVec 32 := Scalar.addi v4695 c21_i32
  let c32_i32_1974 : BitVec 32 := 32#32
  let v4710 : BitVec 32 := Scalar.muli v4696 c32_i32_1974
  let v4711 : BitVec 32 := Scalar.addi c2048_i32_1975 v4710
  v4711
def k0_mult206 : BitVec 32 :=
  let c3072_i32_1977 : BitVec 32 := 3072#32
  let c0_i32_961 : BitVec 32 := 0#32
  let c32_i32_1964 : BitVec 32 := 32#32
  let v4695 : BitVec 32 := Scalar.muli c0_i32_961 c32_i32_1964
  let c21_i32 : BitVec 32 := 21#32
  let v4696 : BitVec 32 := Scalar.addi v4695 c21_i32
  let c32_i32_1976 : BitVec 32 := 32#32
  let v4713 : BitVec 32 := Scalar.muli v4696 c32_i32_1976
  let v4714 : BitVec 32 := Scalar.addi c3072_i32_1977 v4713
  v4714
def k0_mult207 : BitVec 32 :=
  let c0_i32_961 : BitVec 32 := 0#32
  let c32_i32_2011 : BitVec 32 := 32#32
  let v4815 : BitVec 32 := Scalar.muli c0_i32_961 c32_i32_2011
  let c22_i32 : BitVec 32 := 22#32
  let v4816 : BitVec 32 := Scalar.addi v4815 c22_i32
  let c32_i32_2012 : BitVec 32 := 32#32
  let v4817 : BitVec 32 := Scalar.remsi v4816 c32_i32_2012
  let c0_i32_2013 : BitVec 32 := 0#32
  let v4818 : BitVec 1 := Scalar.cmpi .eq v4817 c0_i32_2013
  let c128_i32_2014 : BitVec 32 := 128#32
  let v4819 : BitVec 32 := Scalar.muli v4816 c128_i32_2014
  let c1_i32_2015 : BitVec 32 := 1#32
  let v4820 : BitVec 32 := Scalar.subi v4816 c1_i32_2015
  let c128_i32_2016 : BitVec 32 := 128#32
  let v4821 : BitVec 32 := Scalar.muli v4820 c128_i32_2016
  let v4822 : BitVec 32 := Scalar.select v4818 v4819 v4821
  v4822
def k0_mult208 : BitVec 32 :=
  let c0_i32_2018 : BitVec 32 := 0#32
  let c0_i32_961 : BitVec 32 := 0#32
  let c32_i32_2011 : BitVec 32 := 32#32
  let v4815 : BitVec 32 := Scalar.muli c0_i32_961 c32_i32_2011
  let c22_i32 : BitVec 32 := 22#32
  let v4816 : BitVec 32 := Scalar.addi v4815 c22_i32
  let c32_i32_2017 : BitVec 32 := 32#32
  let v4824 : BitVec 32 := Scalar.muli v4816 c32_i32_2017
  let v4825 : BitVec 32 := Scalar.addi c0_i32_2018 v4824
  v4825
def k0_mult209 : BitVec 32 :=
  let c1024_i32_2020 : BitVec 32 := 1024#32
  let c0_i32_961 : BitVec 32 := 0#32
  let c32_i32_2011 : BitVec 32 := 32#32
  let v4815 : BitVec 32 := Scalar.muli c0_i32_961 c32_i32_2011
  let c22_i32 : BitVec 32 := 22#32
  let v4816 : BitVec 32 := Scalar.addi v4815 c22_i32
  let c32_i32_2019 : BitVec 32 := 32#32
  let v4827 : BitVec 32 := Scalar.muli v4816 c32_i32_2019
  let v4828 : BitVec 32 := Scalar.addi c1024_i32_2020 v4827
  v4828
def k0_mult210 : BitVec 32 :=
  let c2048_i32_2022 : BitVec 32 := 2048#32
  let c0_i32_961 : BitVec 32 := 0#32
  let c32_i32_2011 : BitVec 32 := 32#32
  let v4815 : BitVec 32 := Scalar.muli c0_i32_961 c32_i32_2011
  let c22_i32 : BitVec 32 := 22#32
  let v4816 : BitVec 32 := Scalar.addi v4815 c22_i32
  let c32_i32_2021 : BitVec 32 := 32#32
  let v4830 : BitVec 32 := Scalar.muli v4816 c32_i32_2021
  let v4831 : BitVec 32 := Scalar.addi c2048_i32_2022 v4830
  v4831
def k0_mult211 : BitVec 32 :=
  let c3072_i32_2024 : BitVec 32 := 3072#32
  let c0_i32_961 : BitVec 32 := 0#32
  let c32_i32_2011 : BitVec 32 := 32#32
  let v4815 : BitVec 32 := Scalar.muli c0_i32_961 c32_i32_2011
  let c22_i32 : BitVec 32 := 22#32
  let v4816 : BitVec 32 := Scalar.addi v4815 c22_i32
  let c32_i32_2023 : BitVec 32 := 32#32
  let v4833 : BitVec 32 := Scalar.muli v4816 c32_i32_2023
  let v4834 : BitVec 32 := Scalar.addi c3072_i32_2024 v4833
  v4834
def k0_mult212 : BitVec 32 :=
  let c0_i32_961 : BitVec 32 := 0#32
  let c32_i32_2058 : BitVec 32 := 32#32
  let v4935 : BitVec 32 := Scalar.muli c0_i32_961 c32_i32_2058
  let c23_i32 : BitVec 32 := 23#32
  let v4936 : BitVec 32 := Scalar.addi v4935 c23_i32
  let c32_i32_2059 : BitVec 32 := 32#32
  let v4937 : BitVec 32 := Scalar.remsi v4936 c32_i32_2059
  let c0_i32_2060 : BitVec 32 := 0#32
  let v4938 : BitVec 1 := Scalar.cmpi .eq v4937 c0_i32_2060
  let c128_i32_2061 : BitVec 32 := 128#32
  let v4939 : BitVec 32 := Scalar.muli v4936 c128_i32_2061
  let c1_i32_2062 : BitVec 32 := 1#32
  let v4940 : BitVec 32 := Scalar.subi v4936 c1_i32_2062
  let c128_i32_2063 : BitVec 32 := 128#32
  let v4941 : BitVec 32 := Scalar.muli v4940 c128_i32_2063
  let v4942 : BitVec 32 := Scalar.select v4938 v4939 v4941
  v4942
def k0_mult213 : BitVec 32 :=
  let c0_i32_2065 : BitVec 32 := 0#32
  let c0_i32_961 : BitVec 32 := 0#32
  let c32_i32_2058 : BitVec 32 := 32#32
  let v4935 : BitVec 32 := Scalar.muli c0_i32_961 c32_i32_2058
  let c23_i32 : BitVec 32 := 23#32
  let v4936 : BitVec 32 := Scalar.addi v4935 c23_i32
  let c32_i32_2064 : BitVec 32 := 32#32
  let v4944 : BitVec 32 := Scalar.muli v4936 c32_i32_2064
  let v4945 : BitVec 32 := Scalar.addi c0_i32_2065 v4944
  v4945
def k0_mult214 : BitVec 32 :=
  let c1024_i32_2067 : BitVec 32 := 1024#32
  let c0_i32_961 : BitVec 32 := 0#32
  let c32_i32_2058 : BitVec 32 := 32#32
  let v4935 : BitVec 32 := Scalar.muli c0_i32_961 c32_i32_2058
  let c23_i32 : BitVec 32 := 23#32
  let v4936 : BitVec 32 := Scalar.addi v4935 c23_i32
  let c32_i32_2066 : BitVec 32 := 32#32
  let v4947 : BitVec 32 := Scalar.muli v4936 c32_i32_2066
  let v4948 : BitVec 32 := Scalar.addi c1024_i32_2067 v4947
  v4948
def k0_mult215 : BitVec 32 :=
  let c2048_i32_2069 : BitVec 32 := 2048#32
  let c0_i32_961 : BitVec 32 := 0#32
  let c32_i32_2058 : BitVec 32 := 32#32
  let v4935 : BitVec 32 := Scalar.muli c0_i32_961 c32_i32_2058
  let c23_i32 : BitVec 32 := 23#32
  let v4936 : BitVec 32 := Scalar.addi v4935 c23_i32
  let c32_i32_2068 : BitVec 32 := 32#32
  let v4950 : BitVec 32 := Scalar.muli v4936 c32_i32_2068
  let v4951 : BitVec 32 := Scalar.addi c2048_i32_2069 v4950
  v4951
def k0_mult216 : BitVec 32 :=
  let c3072_i32_2071 : BitVec 32 := 3072#32
  let c0_i32_961 : BitVec 32 := 0#32
  let c32_i32_2058 : BitVec 32 := 32#32
  let v4935 : BitVec 32 := Scalar.muli c0_i32_961 c32_i32_2058
  let c23_i32 : BitVec 32 := 23#32
  let v4936 : BitVec 32 := Scalar.addi v4935 c23_i32
  let c32_i32_2070 : BitVec 32 := 32#32
  let v4953 : BitVec 32 := Scalar.muli v4936 c32_i32_2070
  let v4954 : BitVec 32 := Scalar.addi c3072_i32_2071 v4953
  v4954
def k0_mult217 : BitVec 32 :=
  let c0_i32_961 : BitVec 32 := 0#32
  let c32_i32_2105 : BitVec 32 := 32#32
  let v5055 : BitVec 32 := Scalar.muli c0_i32_961 c32_i32_2105
  let c24_i32 : BitVec 32 := 24#32
  let v5056 : BitVec 32 := Scalar.addi v5055 c24_i32
  let c32_i32_2106 : BitVec 32 := 32#32
  let v5057 : BitVec 32 := Scalar.remsi v5056 c32_i32_2106
  let c0_i32_2107 : BitVec 32 := 0#32
  let v5058 : BitVec 1 := Scalar.cmpi .eq v5057 c0_i32_2107
  let c128_i32_2108 : BitVec 32 := 128#32
  let v5059 : BitVec 32 := Scalar.muli v5056 c128_i32_2108
  let c1_i32_2109 : BitVec 32 := 1#32
  let v5060 : BitVec 32 := Scalar.subi v5056 c1_i32_2109
  let c128_i32_2110 : BitVec 32 := 128#32
  let v5061 : BitVec 32 := Scalar.muli v5060 c128_i32_2110
  let v5062 : BitVec 32 := Scalar.select v5058 v5059 v5061
  v5062
def k0_mult218 : BitVec 32 :=
  let c0_i32_2112 : BitVec 32 := 0#32
  let c0_i32_961 : BitVec 32 := 0#32
  let c32_i32_2105 : BitVec 32 := 32#32
  let v5055 : BitVec 32 := Scalar.muli c0_i32_961 c32_i32_2105
  let c24_i32 : BitVec 32 := 24#32
  let v5056 : BitVec 32 := Scalar.addi v5055 c24_i32
  let c32_i32_2111 : BitVec 32 := 32#32
  let v5064 : BitVec 32 := Scalar.muli v5056 c32_i32_2111
  let v5065 : BitVec 32 := Scalar.addi c0_i32_2112 v5064
  v5065
def k0_mult219 : BitVec 32 :=
  let c1024_i32_2114 : BitVec 32 := 1024#32
  let c0_i32_961 : BitVec 32 := 0#32
  let c32_i32_2105 : BitVec 32 := 32#32
  let v5055 : BitVec 32 := Scalar.muli c0_i32_961 c32_i32_2105
  let c24_i32 : BitVec 32 := 24#32
  let v5056 : BitVec 32 := Scalar.addi v5055 c24_i32
  let c32_i32_2113 : BitVec 32 := 32#32
  let v5067 : BitVec 32 := Scalar.muli v5056 c32_i32_2113
  let v5068 : BitVec 32 := Scalar.addi c1024_i32_2114 v5067
  v5068
def k0_mult220 : BitVec 32 :=
  let c2048_i32_2116 : BitVec 32 := 2048#32
  let c0_i32_961 : BitVec 32 := 0#32
  let c32_i32_2105 : BitVec 32 := 32#32
  let v5055 : BitVec 32 := Scalar.muli c0_i32_961 c32_i32_2105
  let c24_i32 : BitVec 32 := 24#32
  let v5056 : BitVec 32 := Scalar.addi v5055 c24_i32
  let c32_i32_2115 : BitVec 32 := 32#32
  let v5070 : BitVec 32 := Scalar.muli v5056 c32_i32_2115
  let v5071 : BitVec 32 := Scalar.addi c2048_i32_2116 v5070
  v5071
def k0_mult221 : BitVec 32 :=
  let c3072_i32_2118 : BitVec 32 := 3072#32
  let c0_i32_961 : BitVec 32 := 0#32
  let c32_i32_2105 : BitVec 32 := 32#32
  let v5055 : BitVec 32 := Scalar.muli c0_i32_961 c32_i32_2105
  let c24_i32 : BitVec 32 := 24#32
  let v5056 : BitVec 32 := Scalar.addi v5055 c24_i32
  let c32_i32_2117 : BitVec 32 := 32#32
  let v5073 : BitVec 32 := Scalar.muli v5056 c32_i32_2117
  let v5074 : BitVec 32 := Scalar.addi c3072_i32_2118 v5073
  v5074
def k0_mult222 : BitVec 32 :=
  let c0_i32_961 : BitVec 32 := 0#32
  let c32_i32_2152 : BitVec 32 := 32#32
  let v5175 : BitVec 32 := Scalar.muli c0_i32_961 c32_i32_2152
  let c25_i32 : BitVec 32 := 25#32
  let v5176 : BitVec 32 := Scalar.addi v5175 c25_i32
  let c32_i32_2153 : BitVec 32 := 32#32
  let v5177 : BitVec 32 := Scalar.remsi v5176 c32_i32_2153
  let c0_i32_2154 : BitVec 32 := 0#32
  let v5178 : BitVec 1 := Scalar.cmpi .eq v5177 c0_i32_2154
  let c128_i32_2155 : BitVec 32 := 128#32
  let v5179 : BitVec 32 := Scalar.muli v5176 c128_i32_2155
  let c1_i32_2156 : BitVec 32 := 1#32
  let v5180 : BitVec 32 := Scalar.subi v5176 c1_i32_2156
  let c128_i32_2157 : BitVec 32 := 128#32
  let v5181 : BitVec 32 := Scalar.muli v5180 c128_i32_2157
  let v5182 : BitVec 32 := Scalar.select v5178 v5179 v5181
  v5182
def k0_mult223 : BitVec 32 :=
  let c0_i32_2159 : BitVec 32 := 0#32
  let c0_i32_961 : BitVec 32 := 0#32
  let c32_i32_2152 : BitVec 32 := 32#32
  let v5175 : BitVec 32 := Scalar.muli c0_i32_961 c32_i32_2152
  let c25_i32 : BitVec 32 := 25#32
  let v5176 : BitVec 32 := Scalar.addi v5175 c25_i32
  let c32_i32_2158 : BitVec 32 := 32#32
  let v5184 : BitVec 32 := Scalar.muli v5176 c32_i32_2158
  let v5185 : BitVec 32 := Scalar.addi c0_i32_2159 v5184
  v5185
def k0_mult224 : BitVec 32 :=
  let c1024_i32_2161 : BitVec 32 := 1024#32
  let c0_i32_961 : BitVec 32 := 0#32
  let c32_i32_2152 : BitVec 32 := 32#32
  let v5175 : BitVec 32 := Scalar.muli c0_i32_961 c32_i32_2152
  let c25_i32 : BitVec 32 := 25#32
  let v5176 : BitVec 32 := Scalar.addi v5175 c25_i32
  let c32_i32_2160 : BitVec 32 := 32#32
  let v5187 : BitVec 32 := Scalar.muli v5176 c32_i32_2160
  let v5188 : BitVec 32 := Scalar.addi c1024_i32_2161 v5187
  v5188
def k0_mult225 : BitVec 32 :=
  let c2048_i32_2163 : BitVec 32 := 2048#32
  let c0_i32_961 : BitVec 32 := 0#32
  let c32_i32_2152 : BitVec 32 := 32#32
  let v5175 : BitVec 32 := Scalar.muli c0_i32_961 c32_i32_2152
  let c25_i32 : BitVec 32 := 25#32
  let v5176 : BitVec 32 := Scalar.addi v5175 c25_i32
  let c32_i32_2162 : BitVec 32 := 32#32
  let v5190 : BitVec 32 := Scalar.muli v5176 c32_i32_2162
  let v5191 : BitVec 32 := Scalar.addi c2048_i32_2163 v5190
  v5191
def k0_mult226 : BitVec 32 :=
  let c3072_i32_2165 : BitVec 32 := 3072#32
  let c0_i32_961 : BitVec 32 := 0#32
  let c32_i32_2152 : BitVec 32 := 32#32
  let v5175 : BitVec 32 := Scalar.muli c0_i32_961 c32_i32_2152
  let c25_i32 : BitVec 32 := 25#32
  let v5176 : BitVec 32 := Scalar.addi v5175 c25_i32
  let c32_i32_2164 : BitVec 32 := 32#32
  let v5193 : BitVec 32 := Scalar.muli v5176 c32_i32_2164
  let v5194 : BitVec 32 := Scalar.addi c3072_i32_2165 v5193
  v5194
def k0_mult227 : BitVec 32 :=
  let c0_i32_961 : BitVec 32 := 0#32
  let c32_i32_2199 : BitVec 32 := 32#32
  let v5295 : BitVec 32 := Scalar.muli c0_i32_961 c32_i32_2199
  let c26_i32 : BitVec 32 := 26#32
  let v5296 : BitVec 32 := Scalar.addi v5295 c26_i32
  let c32_i32_2200 : BitVec 32 := 32#32
  let v5297 : BitVec 32 := Scalar.remsi v5296 c32_i32_2200
  let c0_i32_2201 : BitVec 32 := 0#32
  let v5298 : BitVec 1 := Scalar.cmpi .eq v5297 c0_i32_2201
  let c128_i32_2202 : BitVec 32 := 128#32
  let v5299 : BitVec 32 := Scalar.muli v5296 c128_i32_2202
  let c1_i32_2203 : BitVec 32 := 1#32
  let v5300 : BitVec 32 := Scalar.subi v5296 c1_i32_2203
  let c128_i32_2204 : BitVec 32 := 128#32
  let v5301 : BitVec 32 := Scalar.muli v5300 c128_i32_2204
  let v5302 : BitVec 32 := Scalar.select v5298 v5299 v5301
  v5302
def k0_mult228 : BitVec 32 :=
  let c0_i32_2206 : BitVec 32 := 0#32
  let c0_i32_961 : BitVec 32 := 0#32
  let c32_i32_2199 : BitVec 32 := 32#32
  let v5295 : BitVec 32 := Scalar.muli c0_i32_961 c32_i32_2199
  let c26_i32 : BitVec 32 := 26#32
  let v5296 : BitVec 32 := Scalar.addi v5295 c26_i32
  let c32_i32_2205 : BitVec 32 := 32#32
  let v5304 : BitVec 32 := Scalar.muli v5296 c32_i32_2205
  let v5305 : BitVec 32 := Scalar.addi c0_i32_2206 v5304
  v5305
def k0_mult229 : BitVec 32 :=
  let c1024_i32_2208 : BitVec 32 := 1024#32
  let c0_i32_961 : BitVec 32 := 0#32
  let c32_i32_2199 : BitVec 32 := 32#32
  let v5295 : BitVec 32 := Scalar.muli c0_i32_961 c32_i32_2199
  let c26_i32 : BitVec 32 := 26#32
  let v5296 : BitVec 32 := Scalar.addi v5295 c26_i32
  let c32_i32_2207 : BitVec 32 := 32#32
  let v5307 : BitVec 32 := Scalar.muli v5296 c32_i32_2207
  let v5308 : BitVec 32 := Scalar.addi c1024_i32_2208 v5307
  v5308
def k0_mult230 : BitVec 32 :=
  let c2048_i32_2210 : BitVec 32 := 2048#32
  let c0_i32_961 : BitVec 32 := 0#32
  let c32_i32_2199 : BitVec 32 := 32#32
  let v5295 : BitVec 32 := Scalar.muli c0_i32_961 c32_i32_2199
  let c26_i32 : BitVec 32 := 26#32
  let v5296 : BitVec 32 := Scalar.addi v5295 c26_i32
  let c32_i32_2209 : BitVec 32 := 32#32
  let v5310 : BitVec 32 := Scalar.muli v5296 c32_i32_2209
  let v5311 : BitVec 32 := Scalar.addi c2048_i32_2210 v5310
  v5311
def k0_mult231 : BitVec 32 :=
  let c3072_i32_2212 : BitVec 32 := 3072#32
  let c0_i32_961 : BitVec 32 := 0#32
  let c32_i32_2199 : BitVec 32 := 32#32
  let v5295 : BitVec 32 := Scalar.muli c0_i32_961 c32_i32_2199
  let c26_i32 : BitVec 32 := 26#32
  let v5296 : BitVec 32 := Scalar.addi v5295 c26_i32
  let c32_i32_2211 : BitVec 32 := 32#32
  let v5313 : BitVec 32 := Scalar.muli v5296 c32_i32_2211
  let v5314 : BitVec 32 := Scalar.addi c3072_i32_2212 v5313
  v5314
def k0_mult232 : BitVec 32 :=
  let c0_i32_961 : BitVec 32 := 0#32
  let c32_i32_2246 : BitVec 32 := 32#32
  let v5415 : BitVec 32 := Scalar.muli c0_i32_961 c32_i32_2246
  let c27_i32 : BitVec 32 := 27#32
  let v5416 : BitVec 32 := Scalar.addi v5415 c27_i32
  let c32_i32_2247 : BitVec 32 := 32#32
  let v5417 : BitVec 32 := Scalar.remsi v5416 c32_i32_2247
  let c0_i32_2248 : BitVec 32 := 0#32
  let v5418 : BitVec 1 := Scalar.cmpi .eq v5417 c0_i32_2248
  let c128_i32_2249 : BitVec 32 := 128#32
  let v5419 : BitVec 32 := Scalar.muli v5416 c128_i32_2249
  let c1_i32_2250 : BitVec 32 := 1#32
  let v5420 : BitVec 32 := Scalar.subi v5416 c1_i32_2250
  let c128_i32_2251 : BitVec 32 := 128#32
  let v5421 : BitVec 32 := Scalar.muli v5420 c128_i32_2251
  let v5422 : BitVec 32 := Scalar.select v5418 v5419 v5421
  v5422
def k0_mult233 : BitVec 32 :=
  let c0_i32_2253 : BitVec 32 := 0#32
  let c0_i32_961 : BitVec 32 := 0#32
  let c32_i32_2246 : BitVec 32 := 32#32
  let v5415 : BitVec 32 := Scalar.muli c0_i32_961 c32_i32_2246
  let c27_i32 : BitVec 32 := 27#32
  let v5416 : BitVec 32 := Scalar.addi v5415 c27_i32
  let c32_i32_2252 : BitVec 32 := 32#32
  let v5424 : BitVec 32 := Scalar.muli v5416 c32_i32_2252
  let v5425 : BitVec 32 := Scalar.addi c0_i32_2253 v5424
  v5425
def k0_mult234 : BitVec 32 :=
  let c1024_i32_2255 : BitVec 32 := 1024#32
  let c0_i32_961 : BitVec 32 := 0#32
  let c32_i32_2246 : BitVec 32 := 32#32
  let v5415 : BitVec 32 := Scalar.muli c0_i32_961 c32_i32_2246
  let c27_i32 : BitVec 32 := 27#32
  let v5416 : BitVec 32 := Scalar.addi v5415 c27_i32
  let c32_i32_2254 : BitVec 32 := 32#32
  let v5427 : BitVec 32 := Scalar.muli v5416 c32_i32_2254
  let v5428 : BitVec 32 := Scalar.addi c1024_i32_2255 v5427
  v5428
def k0_mult235 : BitVec 32 :=
  let c2048_i32_2257 : BitVec 32 := 2048#32
  let c0_i32_961 : BitVec 32 := 0#32
  let c32_i32_2246 : BitVec 32 := 32#32
  let v5415 : BitVec 32 := Scalar.muli c0_i32_961 c32_i32_2246
  let c27_i32 : BitVec 32 := 27#32
  let v5416 : BitVec 32 := Scalar.addi v5415 c27_i32
  let c32_i32_2256 : BitVec 32 := 32#32
  let v5430 : BitVec 32 := Scalar.muli v5416 c32_i32_2256
  let v5431 : BitVec 32 := Scalar.addi c2048_i32_2257 v5430
  v5431
def k0_mult236 : BitVec 32 :=
  let c3072_i32_2259 : BitVec 32 := 3072#32
  let c0_i32_961 : BitVec 32 := 0#32
  let c32_i32_2246 : BitVec 32 := 32#32
  let v5415 : BitVec 32 := Scalar.muli c0_i32_961 c32_i32_2246
  let c27_i32 : BitVec 32 := 27#32
  let v5416 : BitVec 32 := Scalar.addi v5415 c27_i32
  let c32_i32_2258 : BitVec 32 := 32#32
  let v5433 : BitVec 32 := Scalar.muli v5416 c32_i32_2258
  let v5434 : BitVec 32 := Scalar.addi c3072_i32_2259 v5433
  v5434
def k0_mult237 : BitVec 32 :=
  let c0_i32_961 : BitVec 32 := 0#32
  let c32_i32_2293 : BitVec 32 := 32#32
  let v5535 : BitVec 32 := Scalar.muli c0_i32_961 c32_i32_2293
  let c28_i32 : BitVec 32 := 28#32
  let v5536 : BitVec 32 := Scalar.addi v5535 c28_i32
  let c32_i32_2294 : BitVec 32 := 32#32
  let v5537 : BitVec 32 := Scalar.remsi v5536 c32_i32_2294
  let c0_i32_2295 : BitVec 32 := 0#32
  let v5538 : BitVec 1 := Scalar.cmpi .eq v5537 c0_i32_2295
  let c128_i32_2296 : BitVec 32 := 128#32
  let v5539 : BitVec 32 := Scalar.muli v5536 c128_i32_2296
  let c1_i32_2297 : BitVec 32 := 1#32
  let v5540 : BitVec 32 := Scalar.subi v5536 c1_i32_2297
  let c128_i32_2298 : BitVec 32 := 128#32
  let v5541 : BitVec 32 := Scalar.muli v5540 c128_i32_2298
  let v5542 : BitVec 32 := Scalar.select v5538 v5539 v5541
  v5542
def k0_mult238 : BitVec 32 :=
  let c0_i32_2300 : BitVec 32 := 0#32
  let c0_i32_961 : BitVec 32 := 0#32
  let c32_i32_2293 : BitVec 32 := 32#32
  let v5535 : BitVec 32 := Scalar.muli c0_i32_961 c32_i32_2293
  let c28_i32 : BitVec 32 := 28#32
  let v5536 : BitVec 32 := Scalar.addi v5535 c28_i32
  let c32_i32_2299 : BitVec 32 := 32#32
  let v5544 : BitVec 32 := Scalar.muli v5536 c32_i32_2299
  let v5545 : BitVec 32 := Scalar.addi c0_i32_2300 v5544
  v5545
def k0_mult239 : BitVec 32 :=
  let c1024_i32_2302 : BitVec 32 := 1024#32
  let c0_i32_961 : BitVec 32 := 0#32
  let c32_i32_2293 : BitVec 32 := 32#32
  let v5535 : BitVec 32 := Scalar.muli c0_i32_961 c32_i32_2293
  let c28_i32 : BitVec 32 := 28#32
  let v5536 : BitVec 32 := Scalar.addi v5535 c28_i32
  let c32_i32_2301 : BitVec 32 := 32#32
  let v5547 : BitVec 32 := Scalar.muli v5536 c32_i32_2301
  let v5548 : BitVec 32 := Scalar.addi c1024_i32_2302 v5547
  v5548
def k0_mult240 : BitVec 32 :=
  let c2048_i32_2304 : BitVec 32 := 2048#32
  let c0_i32_961 : BitVec 32 := 0#32
  let c32_i32_2293 : BitVec 32 := 32#32
  let v5535 : BitVec 32 := Scalar.muli c0_i32_961 c32_i32_2293
  let c28_i32 : BitVec 32 := 28#32
  let v5536 : BitVec 32 := Scalar.addi v5535 c28_i32
  let c32_i32_2303 : BitVec 32 := 32#32
  let v5550 : BitVec 32 := Scalar.muli v5536 c32_i32_2303
  let v5551 : BitVec 32 := Scalar.addi c2048_i32_2304 v5550
  v5551
def k0_mult241 : BitVec 32 :=
  let c3072_i32_2306 : BitVec 32 := 3072#32
  let c0_i32_961 : BitVec 32 := 0#32
  let c32_i32_2293 : BitVec 32 := 32#32
  let v5535 : BitVec 32 := Scalar.muli c0_i32_961 c32_i32_2293
  let c28_i32 : BitVec 32 := 28#32
  let v5536 : BitVec 32 := Scalar.addi v5535 c28_i32
  let c32_i32_2305 : BitVec 32 := 32#32
  let v5553 : BitVec 32 := Scalar.muli v5536 c32_i32_2305
  let v5554 : BitVec 32 := Scalar.addi c3072_i32_2306 v5553
  v5554
def k0_mult242 : BitVec 32 :=
  let c0_i32_961 : BitVec 32 := 0#32
  let c32_i32_2340 : BitVec 32 := 32#32
  let v5655 : BitVec 32 := Scalar.muli c0_i32_961 c32_i32_2340
  let c29_i32 : BitVec 32 := 29#32
  let v5656 : BitVec 32 := Scalar.addi v5655 c29_i32
  let c32_i32_2341 : BitVec 32 := 32#32
  let v5657 : BitVec 32 := Scalar.remsi v5656 c32_i32_2341
  let c0_i32_2342 : BitVec 32 := 0#32
  let v5658 : BitVec 1 := Scalar.cmpi .eq v5657 c0_i32_2342
  let c128_i32_2343 : BitVec 32 := 128#32
  let v5659 : BitVec 32 := Scalar.muli v5656 c128_i32_2343
  let c1_i32_2344 : BitVec 32 := 1#32
  let v5660 : BitVec 32 := Scalar.subi v5656 c1_i32_2344
  let c128_i32_2345 : BitVec 32 := 128#32
  let v5661 : BitVec 32 := Scalar.muli v5660 c128_i32_2345
  let v5662 : BitVec 32 := Scalar.select v5658 v5659 v5661
  v5662
def k0_mult243 : BitVec 32 :=
  let c0_i32_2347 : BitVec 32 := 0#32
  let c0_i32_961 : BitVec 32 := 0#32
  let c32_i32_2340 : BitVec 32 := 32#32
  let v5655 : BitVec 32 := Scalar.muli c0_i32_961 c32_i32_2340
  let c29_i32 : BitVec 32 := 29#32
  let v5656 : BitVec 32 := Scalar.addi v5655 c29_i32
  let c32_i32_2346 : BitVec 32 := 32#32
  let v5664 : BitVec 32 := Scalar.muli v5656 c32_i32_2346
  let v5665 : BitVec 32 := Scalar.addi c0_i32_2347 v5664
  v5665
def k0_mult244 : BitVec 32 :=
  let c1024_i32_2349 : BitVec 32 := 1024#32
  let c0_i32_961 : BitVec 32 := 0#32
  let c32_i32_2340 : BitVec 32 := 32#32
  let v5655 : BitVec 32 := Scalar.muli c0_i32_961 c32_i32_2340
  let c29_i32 : BitVec 32 := 29#32
  let v5656 : BitVec 32 := Scalar.addi v5655 c29_i32
  let c32_i32_2348 : BitVec 32 := 32#32
  let v5667 : BitVec 32 := Scalar.muli v5656 c32_i32_2348
  let v5668 : BitVec 32 := Scalar.addi c1024_i32_2349 v5667
  v5668
def k0_mult245 : BitVec 32 :=
  let c2048_i32_2351 : BitVec 32 := 2048#32
  let c0_i32_961 : BitVec 32 := 0#32
  let c32_i32_2340 : BitVec 32 := 32#32
  let v5655 : BitVec 32 := Scalar.muli c0_i32_961 c32_i32_2340
  let c29_i32 : BitVec 32 := 29#32
  let v5656 : BitVec 32 := Scalar.addi v5655 c29_i32
  let c32_i32_2350 : BitVec 32 := 32#32
  let v5670 : BitVec 32 := Scalar.muli v5656 c32_i32_2350
  let v5671 : BitVec 32 := Scalar.addi c2048_i32_2351 v5670
  v5671
def k0_mult246 : BitVec 32 :=
  let c3072_i32_2353 : BitVec 32 := 3072#32
  let c0_i32_961 : BitVec 32 := 0#32
  let c32_i32_2340 : BitVec 32 := 32#32
  let v5655 : BitVec 32 := Scalar.muli c0_i32_961 c32_i32_2340
  let c29_i32 : BitVec 32 := 29#32
  let v5656 : BitVec 32 := Scalar.addi v5655 c29_i32
  let c32_i32_2352 : BitVec 32 := 32#32
  let v5673 : BitVec 32 := Scalar.muli v5656 c32_i32_2352
  let v5674 : BitVec 32 := Scalar.addi c3072_i32_2353 v5673
  v5674
def k0_mult247 : BitVec 32 :=
  let c0_i32_961 : BitVec 32 := 0#32
  let c32_i32_2387 : BitVec 32 := 32#32
  let v5775 : BitVec 32 := Scalar.muli c0_i32_961 c32_i32_2387
  let c30_i32 : BitVec 32 := 30#32
  let v5776 : BitVec 32 := Scalar.addi v5775 c30_i32
  let c32_i32_2388 : BitVec 32 := 32#32
  let v5777 : BitVec 32 := Scalar.remsi v5776 c32_i32_2388
  let c0_i32_2389 : BitVec 32 := 0#32
  let v5778 : BitVec 1 := Scalar.cmpi .eq v5777 c0_i32_2389
  let c128_i32_2390 : BitVec 32 := 128#32
  let v5779 : BitVec 32 := Scalar.muli v5776 c128_i32_2390
  let c1_i32_2391 : BitVec 32 := 1#32
  let v5780 : BitVec 32 := Scalar.subi v5776 c1_i32_2391
  let c128_i32_2392 : BitVec 32 := 128#32
  let v5781 : BitVec 32 := Scalar.muli v5780 c128_i32_2392
  let v5782 : BitVec 32 := Scalar.select v5778 v5779 v5781
  v5782
def k0_mult248 : BitVec 32 :=
  let c0_i32_2394 : BitVec 32 := 0#32
  let c0_i32_961 : BitVec 32 := 0#32
  let c32_i32_2387 : BitVec 32 := 32#32
  let v5775 : BitVec 32 := Scalar.muli c0_i32_961 c32_i32_2387
  let c30_i32 : BitVec 32 := 30#32
  let v5776 : BitVec 32 := Scalar.addi v5775 c30_i32
  let c32_i32_2393 : BitVec 32 := 32#32
  let v5784 : BitVec 32 := Scalar.muli v5776 c32_i32_2393
  let v5785 : BitVec 32 := Scalar.addi c0_i32_2394 v5784
  v5785
def k0_mult249 : BitVec 32 :=
  let c1024_i32_2396 : BitVec 32 := 1024#32
  let c0_i32_961 : BitVec 32 := 0#32
  let c32_i32_2387 : BitVec 32 := 32#32
  let v5775 : BitVec 32 := Scalar.muli c0_i32_961 c32_i32_2387
  let c30_i32 : BitVec 32 := 30#32
  let v5776 : BitVec 32 := Scalar.addi v5775 c30_i32
  let c32_i32_2395 : BitVec 32 := 32#32
  let v5787 : BitVec 32 := Scalar.muli v5776 c32_i32_2395
  let v5788 : BitVec 32 := Scalar.addi c1024_i32_2396 v5787
  v5788
def k0_mult250 : BitVec 32 :=
  let c2048_i32_2398 : BitVec 32 := 2048#32
  let c0_i32_961 : BitVec 32 := 0#32
  let c32_i32_2387 : BitVec 32 := 32#32
  let v5775 : BitVec 32 := Scalar.muli c0_i32_961 c32_i32_2387
  let c30_i32 : BitVec 32 := 30#32
  let v5776 : BitVec 32 := Scalar.addi v5775 c30_i32
  let c32_i32_2397 : BitVec 32 := 32#32
  let v5790 : BitVec 32 := Scalar.muli v5776 c32_i32_2397
  let v5791 : BitVec 32 := Scalar.addi c2048_i32_2398 v5790
  v5791
def k0_mult251 : BitVec 32 :=
  let c3072_i32_2400 : BitVec 32 := 3072#32
  let c0_i32_961 : BitVec 32 := 0#32
  let c32_i32_2387 : BitVec 32 := 32#32
  let v5775 : BitVec 32 := Scalar.muli c0_i32_961 c32_i32_2387
  let c30_i32 : BitVec 32 := 30#32
  let v5776 : BitVec 32 := Scalar.addi v5775 c30_i32
  let c32_i32_2399 : BitVec 32 := 32#32
  let v5793 : BitVec 32 := Scalar.muli v5776 c32_i32_2399
  let v5794 : BitVec 32 := Scalar.addi c3072_i32_2400 v5793
  v5794
def k0_mult252 : BitVec 32 :=
  let c0_i32_961 : BitVec 32 := 0#32
  let c32_i32_2434 : BitVec 32 := 32#32
  let v5895 : BitVec 32 := Scalar.muli c0_i32_961 c32_i32_2434
  let c31_i32 : BitVec 32 := 31#32
  let v5896 : BitVec 32 := Scalar.addi v5895 c31_i32
  let c32_i32_2435 : BitVec 32 := 32#32
  let v5897 : BitVec 32 := Scalar.remsi v5896 c32_i32_2435
  let c0_i32_2436 : BitVec 32 := 0#32
  let v5898 : BitVec 1 := Scalar.cmpi .eq v5897 c0_i32_2436
  let c128_i32_2437 : BitVec 32 := 128#32
  let v5899 : BitVec 32 := Scalar.muli v5896 c128_i32_2437
  let c1_i32_2438 : BitVec 32 := 1#32
  let v5900 : BitVec 32 := Scalar.subi v5896 c1_i32_2438
  let c128_i32_2439 : BitVec 32 := 128#32
  let v5901 : BitVec 32 := Scalar.muli v5900 c128_i32_2439
  let v5902 : BitVec 32 := Scalar.select v5898 v5899 v5901
  v5902
def k0_mult253 : BitVec 32 :=
  let c0_i32_2441 : BitVec 32 := 0#32
  let c0_i32_961 : BitVec 32 := 0#32
  let c32_i32_2434 : BitVec 32 := 32#32
  let v5895 : BitVec 32 := Scalar.muli c0_i32_961 c32_i32_2434
  let c31_i32 : BitVec 32 := 31#32
  let v5896 : BitVec 32 := Scalar.addi v5895 c31_i32
  let c32_i32_2440 : BitVec 32 := 32#32
  let v5904 : BitVec 32 := Scalar.muli v5896 c32_i32_2440
  let v5905 : BitVec 32 := Scalar.addi c0_i32_2441 v5904
  v5905
def k0_mult254 : BitVec 32 :=
  let c1024_i32_2443 : BitVec 32 := 1024#32
  let c0_i32_961 : BitVec 32 := 0#32
  let c32_i32_2434 : BitVec 32 := 32#32
  let v5895 : BitVec 32 := Scalar.muli c0_i32_961 c32_i32_2434
  let c31_i32 : BitVec 32 := 31#32
  let v5896 : BitVec 32 := Scalar.addi v5895 c31_i32
  let c32_i32_2442 : BitVec 32 := 32#32
  let v5907 : BitVec 32 := Scalar.muli v5896 c32_i32_2442
  let v5908 : BitVec 32 := Scalar.addi c1024_i32_2443 v5907
  v5908
def k0_mult255 : BitVec 32 :=
  let c2048_i32_2445 : BitVec 32 := 2048#32
  let c0_i32_961 : BitVec 32 := 0#32
  let c32_i32_2434 : BitVec 32 := 32#32
  let v5895 : BitVec 32 := Scalar.muli c0_i32_961 c32_i32_2434
  let c31_i32 : BitVec 32 := 31#32
  let v5896 : BitVec 32 := Scalar.addi v5895 c31_i32
  let c32_i32_2444 : BitVec 32 := 32#32
  let v5910 : BitVec 32 := Scalar.muli v5896 c32_i32_2444
  let v5911 : BitVec 32 := Scalar.addi c2048_i32_2445 v5910
  v5911
def k0_mult256 : BitVec 32 :=
  let c3072_i32_2447 : BitVec 32 := 3072#32
  let c0_i32_961 : BitVec 32 := 0#32
  let c32_i32_2434 : BitVec 32 := 32#32
  let v5895 : BitVec 32 := Scalar.muli c0_i32_961 c32_i32_2434
  let c31_i32 : BitVec 32 := 31#32
  let v5896 : BitVec 32 := Scalar.addi v5895 c31_i32
  let c32_i32_2446 : BitVec 32 := 32#32
  let v5913 : BitVec 32 := Scalar.muli v5896 c32_i32_2446
  let v5914 : BitVec 32 := Scalar.addi c3072_i32_2447 v5913
  v5914
def k0_mult257 : BitVec 32 :=
  let c0_i32_2482 : BitVec 32 := 0#32
  let c32_i32_2483 : BitVec 32 := 32#32
  let v6015 : BitVec 32 := Scalar.muli c0_i32_2482 c32_i32_2483
  let c0_i32_2484 : BitVec 32 := 0#32
  let v6016 : BitVec 32 := Scalar.addi v6015 c0_i32_2484
  let c128_i32_2487 : BitVec 32 := 128#32
  let v6019 : BitVec 32 := Scalar.muli v6016 c128_i32_2487
  v6019
def k0_mult258 : BitVec 32 :=
  let c0_i32_2482 : BitVec 32 := 0#32
  let c32_i32_2483 : BitVec 32 := 32#32
  let v6015 : BitVec 32 := Scalar.muli c0_i32_2482 c32_i32_2483
  let c0_i32_2484 : BitVec 32 := 0#32
  let v6016 : BitVec 32 := Scalar.addi v6015 c0_i32_2484
  let c8_i32_2485 : BitVec 32 := 8#32
  let v6017 : BitVec 32 := Scalar.remsi v6016 c8_i32_2485
  let c0_i32_2486 : BitVec 32 := 0#32
  let v6018 : BitVec 1 := Scalar.cmpi .eq v6017 c0_i32_2486
  let c128_i32_2488 : BitVec 32 := 128#32
  let v6021 : BitVec 32 := Scalar.muli v6016 c128_i32_2488
  let c1_i32_2489 : BitVec 32 := 1#32
  let v6022 : BitVec 32 := Scalar.subi v6016 c1_i32_2489
  let c128_i32_2490 : BitVec 32 := 128#32
  let v6023 : BitVec 32 := Scalar.muli v6022 c128_i32_2490
  let v6024 : BitVec 32 := Scalar.select v6018 v6021 v6023
  v6024
def k0_off14 (c0_i32_2484 : BitVec 32) : Fin 3 → Nat :=
  let c0_2491 : Index := 0#32
  let c0_i32_2482 : BitVec 32 := 0#32
  let c32_i32_2483 : BitVec 32 := 32#32
  let v6015 : BitVec 32 := Scalar.muli c0_i32_2482 c32_i32_2483
  let v6016 : BitVec 32 := Scalar.addi v6015 c0_i32_2484
  let c128_i32_2487 : BitVec 32 := 128#32
  let v6019 : BitVec 32 := Scalar.muli v6016 c128_i32_2487
  let v6020 : BitVec 32 := v6019
  let v6026 : Index := Scalar.indexCast v6020
  let c0_2492 : Index := 0#32
  ![0, v6026.toNat, 0]
def k0_off15 (c0_i32_2484 : BitVec 32) : Fin 3 → Nat :=
  let c1_2493 : Index := 1#32
  let c0_i32_2482 : BitVec 32 := 0#32
  let c32_i32_2483 : BitVec 32 := 32#32
  let v6015 : BitVec 32 := Scalar.muli c0_i32_2482 c32_i32_2483
  let v6016 : BitVec 32 := Scalar.addi v6015 c0_i32_2484
  let c8_i32_2485 : BitVec 32 := 8#32
  let v6017 : BitVec 32 := Scalar.remsi v6016 c8_i32_2485
  let c0_i32_2486 : BitVec 32 := 0#32
  let v6018 : BitVec 1 := Scalar.cmpi .eq v6017 c0_i32_2486
  let c128_i32_2488 : BitVec 32 := 128#32
  let v6021 : BitVec 32 := Scalar.muli v6016 c128_i32_2488
  let c1_i32_2489 : BitVec 32 := 1#32
  let v6022 : BitVec 32 := Scalar.subi v6016 c1_i32_2489
  let c128_i32_2490 : BitVec 32 := 128#32
  let v6023 : BitVec 32 := Scalar.muli v6022 c128_i32_2490
  let v6024 : BitVec 32 := Scalar.select v6018 v6021 v6023
  let v6025 : BitVec 32 := v6024
  let v6029 : Index := Scalar.indexCast v6025
  let c0_2494 : Index := 0#32
  ![1, v6029.toNat, 0]
def k0_off16 (c0_i32_2484 : BitVec 32) : Fin 3 → Nat :=
  let c0_2495 : Index := 0#32
  let c0_i32_2482 : BitVec 32 := 0#32
  let c32_i32_2483 : BitVec 32 := 32#32
  let v6015 : BitVec 32 := Scalar.muli c0_i32_2482 c32_i32_2483
  let v6016 : BitVec 32 := Scalar.addi v6015 c0_i32_2484
  let c8_i32_2485 : BitVec 32 := 8#32
  let v6017 : BitVec 32 := Scalar.remsi v6016 c8_i32_2485
  let c0_i32_2486 : BitVec 32 := 0#32
  let v6018 : BitVec 1 := Scalar.cmpi .eq v6017 c0_i32_2486
  let c128_i32_2488 : BitVec 32 := 128#32
  let v6021 : BitVec 32 := Scalar.muli v6016 c128_i32_2488
  let c1_i32_2489 : BitVec 32 := 1#32
  let v6022 : BitVec 32 := Scalar.subi v6016 c1_i32_2489
  let c128_i32_2490 : BitVec 32 := 128#32
  let v6023 : BitVec 32 := Scalar.muli v6022 c128_i32_2490
  let v6024 : BitVec 32 := Scalar.select v6018 v6021 v6023
  let v6025 : BitVec 32 := v6024
  let v6032 : Index := Scalar.indexCast v6025
  let c0_2496 : Index := 0#32
  ![0, v6032.toNat, 0]
def k0_off17 (c0_i32_2484 : BitVec 32) : Fin 2 → Nat :=
  let c0_i32_2482 : BitVec 32 := 0#32
  let c32_i32_2483 : BitVec 32 := 32#32
  let v6015 : BitVec 32 := Scalar.muli c0_i32_2482 c32_i32_2483
  let v6016 : BitVec 32 := Scalar.addi v6015 c0_i32_2484
  let c128_i32_2487 : BitVec 32 := 128#32
  let v6019 : BitVec 32 := Scalar.muli v6016 c128_i32_2487
  let v6020 : BitVec 32 := v6019
  let v6053 : Index := Scalar.indexCast v6020
  let c0_2505 : Index := 0#32
  ![v6053.toNat, 0]
def k0_mult259 : BitVec 32 :=
  let c0_i32_2482 : BitVec 32 := 0#32
  let c32_i32_2508 : BitVec 32 := 32#32
  let v6065 : BitVec 32 := Scalar.muli c0_i32_2482 c32_i32_2508
  let c1_i32_2509 : BitVec 32 := 1#32
  let v6066 : BitVec 32 := Scalar.addi v6065 c1_i32_2509
  let c128_i32_2512 : BitVec 32 := 128#32
  let v6069 : BitVec 32 := Scalar.muli v6066 c128_i32_2512
  v6069
def k0_mult260 : BitVec 32 :=
  let c0_i32_2482 : BitVec 32 := 0#32
  let c32_i32_2508 : BitVec 32 := 32#32
  let v6065 : BitVec 32 := Scalar.muli c0_i32_2482 c32_i32_2508
  let c1_i32_2509 : BitVec 32 := 1#32
  let v6066 : BitVec 32 := Scalar.addi v6065 c1_i32_2509
  let c8_i32_2510 : BitVec 32 := 8#32
  let v6067 : BitVec 32 := Scalar.remsi v6066 c8_i32_2510
  let c0_i32_2511 : BitVec 32 := 0#32
  let v6068 : BitVec 1 := Scalar.cmpi .eq v6067 c0_i32_2511
  let c128_i32_2513 : BitVec 32 := 128#32
  let v6071 : BitVec 32 := Scalar.muli v6066 c128_i32_2513
  let c1_i32_2514 : BitVec 32 := 1#32
  let v6072 : BitVec 32 := Scalar.subi v6066 c1_i32_2514
  let c128_i32_2515 : BitVec 32 := 128#32
  let v6073 : BitVec 32 := Scalar.muli v6072 c128_i32_2515
  let v6074 : BitVec 32 := Scalar.select v6068 v6071 v6073
  v6074
def k0_mult261 : BitVec 32 :=
  let c0_i32_2482 : BitVec 32 := 0#32
  let c32_i32_2533 : BitVec 32 := 32#32
  let v6115 : BitVec 32 := Scalar.muli c0_i32_2482 c32_i32_2533
  let c2_i32_2534 : BitVec 32 := 2#32
  let v6116 : BitVec 32 := Scalar.addi v6115 c2_i32_2534
  let c128_i32_2537 : BitVec 32 := 128#32
  let v6119 : BitVec 32 := Scalar.muli v6116 c128_i32_2537
  v6119
def k0_mult262 : BitVec 32 :=
  let c0_i32_2482 : BitVec 32 := 0#32
  let c32_i32_2533 : BitVec 32 := 32#32
  let v6115 : BitVec 32 := Scalar.muli c0_i32_2482 c32_i32_2533
  let c2_i32_2534 : BitVec 32 := 2#32
  let v6116 : BitVec 32 := Scalar.addi v6115 c2_i32_2534
  let c8_i32_2535 : BitVec 32 := 8#32
  let v6117 : BitVec 32 := Scalar.remsi v6116 c8_i32_2535
  let c0_i32_2536 : BitVec 32 := 0#32
  let v6118 : BitVec 1 := Scalar.cmpi .eq v6117 c0_i32_2536
  let c128_i32_2538 : BitVec 32 := 128#32
  let v6121 : BitVec 32 := Scalar.muli v6116 c128_i32_2538
  let c1_i32_2539 : BitVec 32 := 1#32
  let v6122 : BitVec 32 := Scalar.subi v6116 c1_i32_2539
  let c128_i32_2540 : BitVec 32 := 128#32
  let v6123 : BitVec 32 := Scalar.muli v6122 c128_i32_2540
  let v6124 : BitVec 32 := Scalar.select v6118 v6121 v6123
  v6124
def k0_mult263 : BitVec 32 :=
  let c0_i32_2482 : BitVec 32 := 0#32
  let c32_i32_2558 : BitVec 32 := 32#32
  let v6165 : BitVec 32 := Scalar.muli c0_i32_2482 c32_i32_2558
  let c3_i32_2559 : BitVec 32 := 3#32
  let v6166 : BitVec 32 := Scalar.addi v6165 c3_i32_2559
  let c128_i32_2562 : BitVec 32 := 128#32
  let v6169 : BitVec 32 := Scalar.muli v6166 c128_i32_2562
  v6169
def k0_mult264 : BitVec 32 :=
  let c0_i32_2482 : BitVec 32 := 0#32
  let c32_i32_2558 : BitVec 32 := 32#32
  let v6165 : BitVec 32 := Scalar.muli c0_i32_2482 c32_i32_2558
  let c3_i32_2559 : BitVec 32 := 3#32
  let v6166 : BitVec 32 := Scalar.addi v6165 c3_i32_2559
  let c8_i32_2560 : BitVec 32 := 8#32
  let v6167 : BitVec 32 := Scalar.remsi v6166 c8_i32_2560
  let c0_i32_2561 : BitVec 32 := 0#32
  let v6168 : BitVec 1 := Scalar.cmpi .eq v6167 c0_i32_2561
  let c128_i32_2563 : BitVec 32 := 128#32
  let v6171 : BitVec 32 := Scalar.muli v6166 c128_i32_2563
  let c1_i32_2564 : BitVec 32 := 1#32
  let v6172 : BitVec 32 := Scalar.subi v6166 c1_i32_2564
  let c128_i32_2565 : BitVec 32 := 128#32
  let v6173 : BitVec 32 := Scalar.muli v6172 c128_i32_2565
  let v6174 : BitVec 32 := Scalar.select v6168 v6171 v6173
  v6174
def k0_mult265 : BitVec 32 :=
  let c0_i32_2482 : BitVec 32 := 0#32
  let c32_i32_2583 : BitVec 32 := 32#32
  let v6215 : BitVec 32 := Scalar.muli c0_i32_2482 c32_i32_2583
  let c4_i32_2584 : BitVec 32 := 4#32
  let v6216 : BitVec 32 := Scalar.addi v6215 c4_i32_2584
  let c128_i32_2587 : BitVec 32 := 128#32
  let v6219 : BitVec 32 := Scalar.muli v6216 c128_i32_2587
  v6219
def k0_mult266 : BitVec 32 :=
  let c0_i32_2482 : BitVec 32 := 0#32
  let c32_i32_2583 : BitVec 32 := 32#32
  let v6215 : BitVec 32 := Scalar.muli c0_i32_2482 c32_i32_2583
  let c4_i32_2584 : BitVec 32 := 4#32
  let v6216 : BitVec 32 := Scalar.addi v6215 c4_i32_2584
  let c8_i32_2585 : BitVec 32 := 8#32
  let v6217 : BitVec 32 := Scalar.remsi v6216 c8_i32_2585
  let c0_i32_2586 : BitVec 32 := 0#32
  let v6218 : BitVec 1 := Scalar.cmpi .eq v6217 c0_i32_2586
  let c128_i32_2588 : BitVec 32 := 128#32
  let v6221 : BitVec 32 := Scalar.muli v6216 c128_i32_2588
  let c1_i32_2589 : BitVec 32 := 1#32
  let v6222 : BitVec 32 := Scalar.subi v6216 c1_i32_2589
  let c128_i32_2590 : BitVec 32 := 128#32
  let v6223 : BitVec 32 := Scalar.muli v6222 c128_i32_2590
  let v6224 : BitVec 32 := Scalar.select v6218 v6221 v6223
  v6224
def k0_mult267 : BitVec 32 :=
  let c0_i32_2482 : BitVec 32 := 0#32
  let c32_i32_2608 : BitVec 32 := 32#32
  let v6265 : BitVec 32 := Scalar.muli c0_i32_2482 c32_i32_2608
  let c5_i32_2609 : BitVec 32 := 5#32
  let v6266 : BitVec 32 := Scalar.addi v6265 c5_i32_2609
  let c128_i32_2612 : BitVec 32 := 128#32
  let v6269 : BitVec 32 := Scalar.muli v6266 c128_i32_2612
  v6269
def k0_mult268 : BitVec 32 :=
  let c0_i32_2482 : BitVec 32 := 0#32
  let c32_i32_2608 : BitVec 32 := 32#32
  let v6265 : BitVec 32 := Scalar.muli c0_i32_2482 c32_i32_2608
  let c5_i32_2609 : BitVec 32 := 5#32
  let v6266 : BitVec 32 := Scalar.addi v6265 c5_i32_2609
  let c8_i32_2610 : BitVec 32 := 8#32
  let v6267 : BitVec 32 := Scalar.remsi v6266 c8_i32_2610
  let c0_i32_2611 : BitVec 32 := 0#32
  let v6268 : BitVec 1 := Scalar.cmpi .eq v6267 c0_i32_2611
  let c128_i32_2613 : BitVec 32 := 128#32
  let v6271 : BitVec 32 := Scalar.muli v6266 c128_i32_2613
  let c1_i32_2614 : BitVec 32 := 1#32
  let v6272 : BitVec 32 := Scalar.subi v6266 c1_i32_2614
  let c128_i32_2615 : BitVec 32 := 128#32
  let v6273 : BitVec 32 := Scalar.muli v6272 c128_i32_2615
  let v6274 : BitVec 32 := Scalar.select v6268 v6271 v6273
  v6274
def k0_mult269 : BitVec 32 :=
  let c0_i32_2482 : BitVec 32 := 0#32
  let c32_i32_2633 : BitVec 32 := 32#32
  let v6315 : BitVec 32 := Scalar.muli c0_i32_2482 c32_i32_2633
  let c6_i32_2634 : BitVec 32 := 6#32
  let v6316 : BitVec 32 := Scalar.addi v6315 c6_i32_2634
  let c128_i32_2637 : BitVec 32 := 128#32
  let v6319 : BitVec 32 := Scalar.muli v6316 c128_i32_2637
  v6319
def k0_mult270 : BitVec 32 :=
  let c0_i32_2482 : BitVec 32 := 0#32
  let c32_i32_2633 : BitVec 32 := 32#32
  let v6315 : BitVec 32 := Scalar.muli c0_i32_2482 c32_i32_2633
  let c6_i32_2634 : BitVec 32 := 6#32
  let v6316 : BitVec 32 := Scalar.addi v6315 c6_i32_2634
  let c8_i32_2635 : BitVec 32 := 8#32
  let v6317 : BitVec 32 := Scalar.remsi v6316 c8_i32_2635
  let c0_i32_2636 : BitVec 32 := 0#32
  let v6318 : BitVec 1 := Scalar.cmpi .eq v6317 c0_i32_2636
  let c128_i32_2638 : BitVec 32 := 128#32
  let v6321 : BitVec 32 := Scalar.muli v6316 c128_i32_2638
  let c1_i32_2639 : BitVec 32 := 1#32
  let v6322 : BitVec 32 := Scalar.subi v6316 c1_i32_2639
  let c128_i32_2640 : BitVec 32 := 128#32
  let v6323 : BitVec 32 := Scalar.muli v6322 c128_i32_2640
  let v6324 : BitVec 32 := Scalar.select v6318 v6321 v6323
  v6324
def k0_mult271 : BitVec 32 :=
  let c0_i32_2482 : BitVec 32 := 0#32
  let c32_i32_2658 : BitVec 32 := 32#32
  let v6365 : BitVec 32 := Scalar.muli c0_i32_2482 c32_i32_2658
  let c7_i32_2659 : BitVec 32 := 7#32
  let v6366 : BitVec 32 := Scalar.addi v6365 c7_i32_2659
  let c128_i32_2662 : BitVec 32 := 128#32
  let v6369 : BitVec 32 := Scalar.muli v6366 c128_i32_2662
  v6369
def k0_mult272 : BitVec 32 :=
  let c0_i32_2482 : BitVec 32 := 0#32
  let c32_i32_2658 : BitVec 32 := 32#32
  let v6365 : BitVec 32 := Scalar.muli c0_i32_2482 c32_i32_2658
  let c7_i32_2659 : BitVec 32 := 7#32
  let v6366 : BitVec 32 := Scalar.addi v6365 c7_i32_2659
  let c8_i32_2660 : BitVec 32 := 8#32
  let v6367 : BitVec 32 := Scalar.remsi v6366 c8_i32_2660
  let c0_i32_2661 : BitVec 32 := 0#32
  let v6368 : BitVec 1 := Scalar.cmpi .eq v6367 c0_i32_2661
  let c128_i32_2663 : BitVec 32 := 128#32
  let v6371 : BitVec 32 := Scalar.muli v6366 c128_i32_2663
  let c1_i32_2664 : BitVec 32 := 1#32
  let v6372 : BitVec 32 := Scalar.subi v6366 c1_i32_2664
  let c128_i32_2665 : BitVec 32 := 128#32
  let v6373 : BitVec 32 := Scalar.muli v6372 c128_i32_2665
  let v6374 : BitVec 32 := Scalar.select v6368 v6371 v6373
  v6374
def k0_mult273 : BitVec 32 :=
  let c0_i32_2482 : BitVec 32 := 0#32
  let c32_i32_2683 : BitVec 32 := 32#32
  let v6415 : BitVec 32 := Scalar.muli c0_i32_2482 c32_i32_2683
  let c8_i32_2684 : BitVec 32 := 8#32
  let v6416 : BitVec 32 := Scalar.addi v6415 c8_i32_2684
  let c128_i32_2687 : BitVec 32 := 128#32
  let v6419 : BitVec 32 := Scalar.muli v6416 c128_i32_2687
  v6419
def k0_mult274 : BitVec 32 :=
  let c0_i32_2482 : BitVec 32 := 0#32
  let c32_i32_2683 : BitVec 32 := 32#32
  let v6415 : BitVec 32 := Scalar.muli c0_i32_2482 c32_i32_2683
  let c8_i32_2684 : BitVec 32 := 8#32
  let v6416 : BitVec 32 := Scalar.addi v6415 c8_i32_2684
  let c8_i32_2685 : BitVec 32 := 8#32
  let v6417 : BitVec 32 := Scalar.remsi v6416 c8_i32_2685
  let c0_i32_2686 : BitVec 32 := 0#32
  let v6418 : BitVec 1 := Scalar.cmpi .eq v6417 c0_i32_2686
  let c128_i32_2688 : BitVec 32 := 128#32
  let v6421 : BitVec 32 := Scalar.muli v6416 c128_i32_2688
  let c1_i32_2689 : BitVec 32 := 1#32
  let v6422 : BitVec 32 := Scalar.subi v6416 c1_i32_2689
  let c128_i32_2690 : BitVec 32 := 128#32
  let v6423 : BitVec 32 := Scalar.muli v6422 c128_i32_2690
  let v6424 : BitVec 32 := Scalar.select v6418 v6421 v6423
  v6424
def k0_mult275 : BitVec 32 :=
  let c0_i32_2482 : BitVec 32 := 0#32
  let c32_i32_2708 : BitVec 32 := 32#32
  let v6465 : BitVec 32 := Scalar.muli c0_i32_2482 c32_i32_2708
  let c9_i32_2709 : BitVec 32 := 9#32
  let v6466 : BitVec 32 := Scalar.addi v6465 c9_i32_2709
  let c128_i32_2712 : BitVec 32 := 128#32
  let v6469 : BitVec 32 := Scalar.muli v6466 c128_i32_2712
  v6469
def k0_mult276 : BitVec 32 :=
  let c0_i32_2482 : BitVec 32 := 0#32
  let c32_i32_2708 : BitVec 32 := 32#32
  let v6465 : BitVec 32 := Scalar.muli c0_i32_2482 c32_i32_2708
  let c9_i32_2709 : BitVec 32 := 9#32
  let v6466 : BitVec 32 := Scalar.addi v6465 c9_i32_2709
  let c8_i32_2710 : BitVec 32 := 8#32
  let v6467 : BitVec 32 := Scalar.remsi v6466 c8_i32_2710
  let c0_i32_2711 : BitVec 32 := 0#32
  let v6468 : BitVec 1 := Scalar.cmpi .eq v6467 c0_i32_2711
  let c128_i32_2713 : BitVec 32 := 128#32
  let v6471 : BitVec 32 := Scalar.muli v6466 c128_i32_2713
  let c1_i32_2714 : BitVec 32 := 1#32
  let v6472 : BitVec 32 := Scalar.subi v6466 c1_i32_2714
  let c128_i32_2715 : BitVec 32 := 128#32
  let v6473 : BitVec 32 := Scalar.muli v6472 c128_i32_2715
  let v6474 : BitVec 32 := Scalar.select v6468 v6471 v6473
  v6474
def k0_mult277 : BitVec 32 :=
  let c0_i32_2482 : BitVec 32 := 0#32
  let c32_i32_2733 : BitVec 32 := 32#32
  let v6515 : BitVec 32 := Scalar.muli c0_i32_2482 c32_i32_2733
  let c10_i32_2734 : BitVec 32 := 10#32
  let v6516 : BitVec 32 := Scalar.addi v6515 c10_i32_2734
  let c128_i32_2737 : BitVec 32 := 128#32
  let v6519 : BitVec 32 := Scalar.muli v6516 c128_i32_2737
  v6519
def k0_mult278 : BitVec 32 :=
  let c0_i32_2482 : BitVec 32 := 0#32
  let c32_i32_2733 : BitVec 32 := 32#32
  let v6515 : BitVec 32 := Scalar.muli c0_i32_2482 c32_i32_2733
  let c10_i32_2734 : BitVec 32 := 10#32
  let v6516 : BitVec 32 := Scalar.addi v6515 c10_i32_2734
  let c8_i32_2735 : BitVec 32 := 8#32
  let v6517 : BitVec 32 := Scalar.remsi v6516 c8_i32_2735
  let c0_i32_2736 : BitVec 32 := 0#32
  let v6518 : BitVec 1 := Scalar.cmpi .eq v6517 c0_i32_2736
  let c128_i32_2738 : BitVec 32 := 128#32
  let v6521 : BitVec 32 := Scalar.muli v6516 c128_i32_2738
  let c1_i32_2739 : BitVec 32 := 1#32
  let v6522 : BitVec 32 := Scalar.subi v6516 c1_i32_2739
  let c128_i32_2740 : BitVec 32 := 128#32
  let v6523 : BitVec 32 := Scalar.muli v6522 c128_i32_2740
  let v6524 : BitVec 32 := Scalar.select v6518 v6521 v6523
  v6524
def k0_mult279 : BitVec 32 :=
  let c0_i32_2482 : BitVec 32 := 0#32
  let c32_i32_2758 : BitVec 32 := 32#32
  let v6565 : BitVec 32 := Scalar.muli c0_i32_2482 c32_i32_2758
  let c11_i32_2759 : BitVec 32 := 11#32
  let v6566 : BitVec 32 := Scalar.addi v6565 c11_i32_2759
  let c128_i32_2762 : BitVec 32 := 128#32
  let v6569 : BitVec 32 := Scalar.muli v6566 c128_i32_2762
  v6569
def k0_mult280 : BitVec 32 :=
  let c0_i32_2482 : BitVec 32 := 0#32
  let c32_i32_2758 : BitVec 32 := 32#32
  let v6565 : BitVec 32 := Scalar.muli c0_i32_2482 c32_i32_2758
  let c11_i32_2759 : BitVec 32 := 11#32
  let v6566 : BitVec 32 := Scalar.addi v6565 c11_i32_2759
  let c8_i32_2760 : BitVec 32 := 8#32
  let v6567 : BitVec 32 := Scalar.remsi v6566 c8_i32_2760
  let c0_i32_2761 : BitVec 32 := 0#32
  let v6568 : BitVec 1 := Scalar.cmpi .eq v6567 c0_i32_2761
  let c128_i32_2763 : BitVec 32 := 128#32
  let v6571 : BitVec 32 := Scalar.muli v6566 c128_i32_2763
  let c1_i32_2764 : BitVec 32 := 1#32
  let v6572 : BitVec 32 := Scalar.subi v6566 c1_i32_2764
  let c128_i32_2765 : BitVec 32 := 128#32
  let v6573 : BitVec 32 := Scalar.muli v6572 c128_i32_2765
  let v6574 : BitVec 32 := Scalar.select v6568 v6571 v6573
  v6574
def k0_mult281 : BitVec 32 :=
  let c0_i32_2482 : BitVec 32 := 0#32
  let c32_i32_2783 : BitVec 32 := 32#32
  let v6615 : BitVec 32 := Scalar.muli c0_i32_2482 c32_i32_2783
  let c12_i32_2784 : BitVec 32 := 12#32
  let v6616 : BitVec 32 := Scalar.addi v6615 c12_i32_2784
  let c128_i32_2787 : BitVec 32 := 128#32
  let v6619 : BitVec 32 := Scalar.muli v6616 c128_i32_2787
  v6619
def k0_mult282 : BitVec 32 :=
  let c0_i32_2482 : BitVec 32 := 0#32
  let c32_i32_2783 : BitVec 32 := 32#32
  let v6615 : BitVec 32 := Scalar.muli c0_i32_2482 c32_i32_2783
  let c12_i32_2784 : BitVec 32 := 12#32
  let v6616 : BitVec 32 := Scalar.addi v6615 c12_i32_2784
  let c8_i32_2785 : BitVec 32 := 8#32
  let v6617 : BitVec 32 := Scalar.remsi v6616 c8_i32_2785
  let c0_i32_2786 : BitVec 32 := 0#32
  let v6618 : BitVec 1 := Scalar.cmpi .eq v6617 c0_i32_2786
  let c128_i32_2788 : BitVec 32 := 128#32
  let v6621 : BitVec 32 := Scalar.muli v6616 c128_i32_2788
  let c1_i32_2789 : BitVec 32 := 1#32
  let v6622 : BitVec 32 := Scalar.subi v6616 c1_i32_2789
  let c128_i32_2790 : BitVec 32 := 128#32
  let v6623 : BitVec 32 := Scalar.muli v6622 c128_i32_2790
  let v6624 : BitVec 32 := Scalar.select v6618 v6621 v6623
  v6624
def k0_mult283 : BitVec 32 :=
  let c0_i32_2482 : BitVec 32 := 0#32
  let c32_i32_2808 : BitVec 32 := 32#32
  let v6665 : BitVec 32 := Scalar.muli c0_i32_2482 c32_i32_2808
  let c13_i32_2809 : BitVec 32 := 13#32
  let v6666 : BitVec 32 := Scalar.addi v6665 c13_i32_2809
  let c128_i32_2812 : BitVec 32 := 128#32
  let v6669 : BitVec 32 := Scalar.muli v6666 c128_i32_2812
  v6669
def k0_mult284 : BitVec 32 :=
  let c0_i32_2482 : BitVec 32 := 0#32
  let c32_i32_2808 : BitVec 32 := 32#32
  let v6665 : BitVec 32 := Scalar.muli c0_i32_2482 c32_i32_2808
  let c13_i32_2809 : BitVec 32 := 13#32
  let v6666 : BitVec 32 := Scalar.addi v6665 c13_i32_2809
  let c8_i32_2810 : BitVec 32 := 8#32
  let v6667 : BitVec 32 := Scalar.remsi v6666 c8_i32_2810
  let c0_i32_2811 : BitVec 32 := 0#32
  let v6668 : BitVec 1 := Scalar.cmpi .eq v6667 c0_i32_2811
  let c128_i32_2813 : BitVec 32 := 128#32
  let v6671 : BitVec 32 := Scalar.muli v6666 c128_i32_2813
  let c1_i32_2814 : BitVec 32 := 1#32
  let v6672 : BitVec 32 := Scalar.subi v6666 c1_i32_2814
  let c128_i32_2815 : BitVec 32 := 128#32
  let v6673 : BitVec 32 := Scalar.muli v6672 c128_i32_2815
  let v6674 : BitVec 32 := Scalar.select v6668 v6671 v6673
  v6674
def k0_mult285 : BitVec 32 :=
  let c0_i32_2482 : BitVec 32 := 0#32
  let c32_i32_2833 : BitVec 32 := 32#32
  let v6715 : BitVec 32 := Scalar.muli c0_i32_2482 c32_i32_2833
  let c14_i32_2834 : BitVec 32 := 14#32
  let v6716 : BitVec 32 := Scalar.addi v6715 c14_i32_2834
  let c128_i32_2837 : BitVec 32 := 128#32
  let v6719 : BitVec 32 := Scalar.muli v6716 c128_i32_2837
  v6719
def k0_mult286 : BitVec 32 :=
  let c0_i32_2482 : BitVec 32 := 0#32
  let c32_i32_2833 : BitVec 32 := 32#32
  let v6715 : BitVec 32 := Scalar.muli c0_i32_2482 c32_i32_2833
  let c14_i32_2834 : BitVec 32 := 14#32
  let v6716 : BitVec 32 := Scalar.addi v6715 c14_i32_2834
  let c8_i32_2835 : BitVec 32 := 8#32
  let v6717 : BitVec 32 := Scalar.remsi v6716 c8_i32_2835
  let c0_i32_2836 : BitVec 32 := 0#32
  let v6718 : BitVec 1 := Scalar.cmpi .eq v6717 c0_i32_2836
  let c128_i32_2838 : BitVec 32 := 128#32
  let v6721 : BitVec 32 := Scalar.muli v6716 c128_i32_2838
  let c1_i32_2839 : BitVec 32 := 1#32
  let v6722 : BitVec 32 := Scalar.subi v6716 c1_i32_2839
  let c128_i32_2840 : BitVec 32 := 128#32
  let v6723 : BitVec 32 := Scalar.muli v6722 c128_i32_2840
  let v6724 : BitVec 32 := Scalar.select v6718 v6721 v6723
  v6724
def k0_mult287 : BitVec 32 :=
  let c0_i32_2482 : BitVec 32 := 0#32
  let c32_i32_2858 : BitVec 32 := 32#32
  let v6765 : BitVec 32 := Scalar.muli c0_i32_2482 c32_i32_2858
  let c15_i32_2859 : BitVec 32 := 15#32
  let v6766 : BitVec 32 := Scalar.addi v6765 c15_i32_2859
  let c128_i32_2862 : BitVec 32 := 128#32
  let v6769 : BitVec 32 := Scalar.muli v6766 c128_i32_2862
  v6769
def k0_mult288 : BitVec 32 :=
  let c0_i32_2482 : BitVec 32 := 0#32
  let c32_i32_2858 : BitVec 32 := 32#32
  let v6765 : BitVec 32 := Scalar.muli c0_i32_2482 c32_i32_2858
  let c15_i32_2859 : BitVec 32 := 15#32
  let v6766 : BitVec 32 := Scalar.addi v6765 c15_i32_2859
  let c8_i32_2860 : BitVec 32 := 8#32
  let v6767 : BitVec 32 := Scalar.remsi v6766 c8_i32_2860
  let c0_i32_2861 : BitVec 32 := 0#32
  let v6768 : BitVec 1 := Scalar.cmpi .eq v6767 c0_i32_2861
  let c128_i32_2863 : BitVec 32 := 128#32
  let v6771 : BitVec 32 := Scalar.muli v6766 c128_i32_2863
  let c1_i32_2864 : BitVec 32 := 1#32
  let v6772 : BitVec 32 := Scalar.subi v6766 c1_i32_2864
  let c128_i32_2865 : BitVec 32 := 128#32
  let v6773 : BitVec 32 := Scalar.muli v6772 c128_i32_2865
  let v6774 : BitVec 32 := Scalar.select v6768 v6771 v6773
  v6774
def k0_mult289 : BitVec 32 :=
  let c0_i32_2482 : BitVec 32 := 0#32
  let c32_i32_2883 : BitVec 32 := 32#32
  let v6815 : BitVec 32 := Scalar.muli c0_i32_2482 c32_i32_2883
  let c16_i32_2884 : BitVec 32 := 16#32
  let v6816 : BitVec 32 := Scalar.addi v6815 c16_i32_2884
  let c128_i32_2887 : BitVec 32 := 128#32
  let v6819 : BitVec 32 := Scalar.muli v6816 c128_i32_2887
  v6819
def k0_mult290 : BitVec 32 :=
  let c0_i32_2482 : BitVec 32 := 0#32
  let c32_i32_2883 : BitVec 32 := 32#32
  let v6815 : BitVec 32 := Scalar.muli c0_i32_2482 c32_i32_2883
  let c16_i32_2884 : BitVec 32 := 16#32
  let v6816 : BitVec 32 := Scalar.addi v6815 c16_i32_2884
  let c8_i32_2885 : BitVec 32 := 8#32
  let v6817 : BitVec 32 := Scalar.remsi v6816 c8_i32_2885
  let c0_i32_2886 : BitVec 32 := 0#32
  let v6818 : BitVec 1 := Scalar.cmpi .eq v6817 c0_i32_2886
  let c128_i32_2888 : BitVec 32 := 128#32
  let v6821 : BitVec 32 := Scalar.muli v6816 c128_i32_2888
  let c1_i32_2889 : BitVec 32 := 1#32
  let v6822 : BitVec 32 := Scalar.subi v6816 c1_i32_2889
  let c128_i32_2890 : BitVec 32 := 128#32
  let v6823 : BitVec 32 := Scalar.muli v6822 c128_i32_2890
  let v6824 : BitVec 32 := Scalar.select v6818 v6821 v6823
  v6824
def k0_mult291 : BitVec 32 :=
  let c0_i32_2482 : BitVec 32 := 0#32
  let c32_i32_2908 : BitVec 32 := 32#32
  let v6865 : BitVec 32 := Scalar.muli c0_i32_2482 c32_i32_2908
  let c17_i32_2909 : BitVec 32 := 17#32
  let v6866 : BitVec 32 := Scalar.addi v6865 c17_i32_2909
  let c128_i32_2912 : BitVec 32 := 128#32
  let v6869 : BitVec 32 := Scalar.muli v6866 c128_i32_2912
  v6869
def k0_mult292 : BitVec 32 :=
  let c0_i32_2482 : BitVec 32 := 0#32
  let c32_i32_2908 : BitVec 32 := 32#32
  let v6865 : BitVec 32 := Scalar.muli c0_i32_2482 c32_i32_2908
  let c17_i32_2909 : BitVec 32 := 17#32
  let v6866 : BitVec 32 := Scalar.addi v6865 c17_i32_2909
  let c8_i32_2910 : BitVec 32 := 8#32
  let v6867 : BitVec 32 := Scalar.remsi v6866 c8_i32_2910
  let c0_i32_2911 : BitVec 32 := 0#32
  let v6868 : BitVec 1 := Scalar.cmpi .eq v6867 c0_i32_2911
  let c128_i32_2913 : BitVec 32 := 128#32
  let v6871 : BitVec 32 := Scalar.muli v6866 c128_i32_2913
  let c1_i32_2914 : BitVec 32 := 1#32
  let v6872 : BitVec 32 := Scalar.subi v6866 c1_i32_2914
  let c128_i32_2915 : BitVec 32 := 128#32
  let v6873 : BitVec 32 := Scalar.muli v6872 c128_i32_2915
  let v6874 : BitVec 32 := Scalar.select v6868 v6871 v6873
  v6874
def k0_mult293 : BitVec 32 :=
  let c0_i32_2482 : BitVec 32 := 0#32
  let c32_i32_2933 : BitVec 32 := 32#32
  let v6915 : BitVec 32 := Scalar.muli c0_i32_2482 c32_i32_2933
  let c18_i32_2934 : BitVec 32 := 18#32
  let v6916 : BitVec 32 := Scalar.addi v6915 c18_i32_2934
  let c128_i32_2937 : BitVec 32 := 128#32
  let v6919 : BitVec 32 := Scalar.muli v6916 c128_i32_2937
  v6919
def k0_mult294 : BitVec 32 :=
  let c0_i32_2482 : BitVec 32 := 0#32
  let c32_i32_2933 : BitVec 32 := 32#32
  let v6915 : BitVec 32 := Scalar.muli c0_i32_2482 c32_i32_2933
  let c18_i32_2934 : BitVec 32 := 18#32
  let v6916 : BitVec 32 := Scalar.addi v6915 c18_i32_2934
  let c8_i32_2935 : BitVec 32 := 8#32
  let v6917 : BitVec 32 := Scalar.remsi v6916 c8_i32_2935
  let c0_i32_2936 : BitVec 32 := 0#32
  let v6918 : BitVec 1 := Scalar.cmpi .eq v6917 c0_i32_2936
  let c128_i32_2938 : BitVec 32 := 128#32
  let v6921 : BitVec 32 := Scalar.muli v6916 c128_i32_2938
  let c1_i32_2939 : BitVec 32 := 1#32
  let v6922 : BitVec 32 := Scalar.subi v6916 c1_i32_2939
  let c128_i32_2940 : BitVec 32 := 128#32
  let v6923 : BitVec 32 := Scalar.muli v6922 c128_i32_2940
  let v6924 : BitVec 32 := Scalar.select v6918 v6921 v6923
  v6924
def k0_mult295 : BitVec 32 :=
  let c0_i32_2482 : BitVec 32 := 0#32
  let c32_i32_2958 : BitVec 32 := 32#32
  let v6965 : BitVec 32 := Scalar.muli c0_i32_2482 c32_i32_2958
  let c19_i32_2959 : BitVec 32 := 19#32
  let v6966 : BitVec 32 := Scalar.addi v6965 c19_i32_2959
  let c128_i32_2962 : BitVec 32 := 128#32
  let v6969 : BitVec 32 := Scalar.muli v6966 c128_i32_2962
  v6969
def k0_mult296 : BitVec 32 :=
  let c0_i32_2482 : BitVec 32 := 0#32
  let c32_i32_2958 : BitVec 32 := 32#32
  let v6965 : BitVec 32 := Scalar.muli c0_i32_2482 c32_i32_2958
  let c19_i32_2959 : BitVec 32 := 19#32
  let v6966 : BitVec 32 := Scalar.addi v6965 c19_i32_2959
  let c8_i32_2960 : BitVec 32 := 8#32
  let v6967 : BitVec 32 := Scalar.remsi v6966 c8_i32_2960
  let c0_i32_2961 : BitVec 32 := 0#32
  let v6968 : BitVec 1 := Scalar.cmpi .eq v6967 c0_i32_2961
  let c128_i32_2963 : BitVec 32 := 128#32
  let v6971 : BitVec 32 := Scalar.muli v6966 c128_i32_2963
  let c1_i32_2964 : BitVec 32 := 1#32
  let v6972 : BitVec 32 := Scalar.subi v6966 c1_i32_2964
  let c128_i32_2965 : BitVec 32 := 128#32
  let v6973 : BitVec 32 := Scalar.muli v6972 c128_i32_2965
  let v6974 : BitVec 32 := Scalar.select v6968 v6971 v6973
  v6974
def k0_mult297 : BitVec 32 :=
  let c0_i32_2482 : BitVec 32 := 0#32
  let c32_i32_2983 : BitVec 32 := 32#32
  let v7015 : BitVec 32 := Scalar.muli c0_i32_2482 c32_i32_2983
  let c20_i32_2984 : BitVec 32 := 20#32
  let v7016 : BitVec 32 := Scalar.addi v7015 c20_i32_2984
  let c128_i32_2987 : BitVec 32 := 128#32
  let v7019 : BitVec 32 := Scalar.muli v7016 c128_i32_2987
  v7019
def k0_mult298 : BitVec 32 :=
  let c0_i32_2482 : BitVec 32 := 0#32
  let c32_i32_2983 : BitVec 32 := 32#32
  let v7015 : BitVec 32 := Scalar.muli c0_i32_2482 c32_i32_2983
  let c20_i32_2984 : BitVec 32 := 20#32
  let v7016 : BitVec 32 := Scalar.addi v7015 c20_i32_2984
  let c8_i32_2985 : BitVec 32 := 8#32
  let v7017 : BitVec 32 := Scalar.remsi v7016 c8_i32_2985
  let c0_i32_2986 : BitVec 32 := 0#32
  let v7018 : BitVec 1 := Scalar.cmpi .eq v7017 c0_i32_2986
  let c128_i32_2988 : BitVec 32 := 128#32
  let v7021 : BitVec 32 := Scalar.muli v7016 c128_i32_2988
  let c1_i32_2989 : BitVec 32 := 1#32
  let v7022 : BitVec 32 := Scalar.subi v7016 c1_i32_2989
  let c128_i32_2990 : BitVec 32 := 128#32
  let v7023 : BitVec 32 := Scalar.muli v7022 c128_i32_2990
  let v7024 : BitVec 32 := Scalar.select v7018 v7021 v7023
  v7024
def k0_mult299 : BitVec 32 :=
  let c0_i32_2482 : BitVec 32 := 0#32
  let c32_i32_3008 : BitVec 32 := 32#32
  let v7065 : BitVec 32 := Scalar.muli c0_i32_2482 c32_i32_3008
  let c21_i32_3009 : BitVec 32 := 21#32
  let v7066 : BitVec 32 := Scalar.addi v7065 c21_i32_3009
  let c128_i32_3012 : BitVec 32 := 128#32
  let v7069 : BitVec 32 := Scalar.muli v7066 c128_i32_3012
  v7069
def k0_mult300 : BitVec 32 :=
  let c0_i32_2482 : BitVec 32 := 0#32
  let c32_i32_3008 : BitVec 32 := 32#32
  let v7065 : BitVec 32 := Scalar.muli c0_i32_2482 c32_i32_3008
  let c21_i32_3009 : BitVec 32 := 21#32
  let v7066 : BitVec 32 := Scalar.addi v7065 c21_i32_3009
  let c8_i32_3010 : BitVec 32 := 8#32
  let v7067 : BitVec 32 := Scalar.remsi v7066 c8_i32_3010
  let c0_i32_3011 : BitVec 32 := 0#32
  let v7068 : BitVec 1 := Scalar.cmpi .eq v7067 c0_i32_3011
  let c128_i32_3013 : BitVec 32 := 128#32
  let v7071 : BitVec 32 := Scalar.muli v7066 c128_i32_3013
  let c1_i32_3014 : BitVec 32 := 1#32
  let v7072 : BitVec 32 := Scalar.subi v7066 c1_i32_3014
  let c128_i32_3015 : BitVec 32 := 128#32
  let v7073 : BitVec 32 := Scalar.muli v7072 c128_i32_3015
  let v7074 : BitVec 32 := Scalar.select v7068 v7071 v7073
  v7074
def k0_mult301 : BitVec 32 :=
  let c0_i32_2482 : BitVec 32 := 0#32
  let c32_i32_3033 : BitVec 32 := 32#32
  let v7115 : BitVec 32 := Scalar.muli c0_i32_2482 c32_i32_3033
  let c22_i32_3034 : BitVec 32 := 22#32
  let v7116 : BitVec 32 := Scalar.addi v7115 c22_i32_3034
  let c128_i32_3037 : BitVec 32 := 128#32
  let v7119 : BitVec 32 := Scalar.muli v7116 c128_i32_3037
  v7119
def k0_mult302 : BitVec 32 :=
  let c0_i32_2482 : BitVec 32 := 0#32
  let c32_i32_3033 : BitVec 32 := 32#32
  let v7115 : BitVec 32 := Scalar.muli c0_i32_2482 c32_i32_3033
  let c22_i32_3034 : BitVec 32 := 22#32
  let v7116 : BitVec 32 := Scalar.addi v7115 c22_i32_3034
  let c8_i32_3035 : BitVec 32 := 8#32
  let v7117 : BitVec 32 := Scalar.remsi v7116 c8_i32_3035
  let c0_i32_3036 : BitVec 32 := 0#32
  let v7118 : BitVec 1 := Scalar.cmpi .eq v7117 c0_i32_3036
  let c128_i32_3038 : BitVec 32 := 128#32
  let v7121 : BitVec 32 := Scalar.muli v7116 c128_i32_3038
  let c1_i32_3039 : BitVec 32 := 1#32
  let v7122 : BitVec 32 := Scalar.subi v7116 c1_i32_3039
  let c128_i32_3040 : BitVec 32 := 128#32
  let v7123 : BitVec 32 := Scalar.muli v7122 c128_i32_3040
  let v7124 : BitVec 32 := Scalar.select v7118 v7121 v7123
  v7124
def k0_mult303 : BitVec 32 :=
  let c0_i32_2482 : BitVec 32 := 0#32
  let c32_i32_3058 : BitVec 32 := 32#32
  let v7165 : BitVec 32 := Scalar.muli c0_i32_2482 c32_i32_3058
  let c23_i32_3059 : BitVec 32 := 23#32
  let v7166 : BitVec 32 := Scalar.addi v7165 c23_i32_3059
  let c128_i32_3062 : BitVec 32 := 128#32
  let v7169 : BitVec 32 := Scalar.muli v7166 c128_i32_3062
  v7169
def k0_mult304 : BitVec 32 :=
  let c0_i32_2482 : BitVec 32 := 0#32
  let c32_i32_3058 : BitVec 32 := 32#32
  let v7165 : BitVec 32 := Scalar.muli c0_i32_2482 c32_i32_3058
  let c23_i32_3059 : BitVec 32 := 23#32
  let v7166 : BitVec 32 := Scalar.addi v7165 c23_i32_3059
  let c8_i32_3060 : BitVec 32 := 8#32
  let v7167 : BitVec 32 := Scalar.remsi v7166 c8_i32_3060
  let c0_i32_3061 : BitVec 32 := 0#32
  let v7168 : BitVec 1 := Scalar.cmpi .eq v7167 c0_i32_3061
  let c128_i32_3063 : BitVec 32 := 128#32
  let v7171 : BitVec 32 := Scalar.muli v7166 c128_i32_3063
  let c1_i32_3064 : BitVec 32 := 1#32
  let v7172 : BitVec 32 := Scalar.subi v7166 c1_i32_3064
  let c128_i32_3065 : BitVec 32 := 128#32
  let v7173 : BitVec 32 := Scalar.muli v7172 c128_i32_3065
  let v7174 : BitVec 32 := Scalar.select v7168 v7171 v7173
  v7174
def k0_mult305 : BitVec 32 :=
  let c0_i32_2482 : BitVec 32 := 0#32
  let c32_i32_3083 : BitVec 32 := 32#32
  let v7215 : BitVec 32 := Scalar.muli c0_i32_2482 c32_i32_3083
  let c24_i32_3084 : BitVec 32 := 24#32
  let v7216 : BitVec 32 := Scalar.addi v7215 c24_i32_3084
  let c128_i32_3087 : BitVec 32 := 128#32
  let v7219 : BitVec 32 := Scalar.muli v7216 c128_i32_3087
  v7219
def k0_mult306 : BitVec 32 :=
  let c0_i32_2482 : BitVec 32 := 0#32
  let c32_i32_3083 : BitVec 32 := 32#32
  let v7215 : BitVec 32 := Scalar.muli c0_i32_2482 c32_i32_3083
  let c24_i32_3084 : BitVec 32 := 24#32
  let v7216 : BitVec 32 := Scalar.addi v7215 c24_i32_3084
  let c8_i32_3085 : BitVec 32 := 8#32
  let v7217 : BitVec 32 := Scalar.remsi v7216 c8_i32_3085
  let c0_i32_3086 : BitVec 32 := 0#32
  let v7218 : BitVec 1 := Scalar.cmpi .eq v7217 c0_i32_3086
  let c128_i32_3088 : BitVec 32 := 128#32
  let v7221 : BitVec 32 := Scalar.muli v7216 c128_i32_3088
  let c1_i32_3089 : BitVec 32 := 1#32
  let v7222 : BitVec 32 := Scalar.subi v7216 c1_i32_3089
  let c128_i32_3090 : BitVec 32 := 128#32
  let v7223 : BitVec 32 := Scalar.muli v7222 c128_i32_3090
  let v7224 : BitVec 32 := Scalar.select v7218 v7221 v7223
  v7224
def k0_mult307 : BitVec 32 :=
  let c0_i32_2482 : BitVec 32 := 0#32
  let c32_i32_3108 : BitVec 32 := 32#32
  let v7265 : BitVec 32 := Scalar.muli c0_i32_2482 c32_i32_3108
  let c25_i32_3109 : BitVec 32 := 25#32
  let v7266 : BitVec 32 := Scalar.addi v7265 c25_i32_3109
  let c128_i32_3112 : BitVec 32 := 128#32
  let v7269 : BitVec 32 := Scalar.muli v7266 c128_i32_3112
  v7269
def k0_mult308 : BitVec 32 :=
  let c0_i32_2482 : BitVec 32 := 0#32
  let c32_i32_3108 : BitVec 32 := 32#32
  let v7265 : BitVec 32 := Scalar.muli c0_i32_2482 c32_i32_3108
  let c25_i32_3109 : BitVec 32 := 25#32
  let v7266 : BitVec 32 := Scalar.addi v7265 c25_i32_3109
  let c8_i32_3110 : BitVec 32 := 8#32
  let v7267 : BitVec 32 := Scalar.remsi v7266 c8_i32_3110
  let c0_i32_3111 : BitVec 32 := 0#32
  let v7268 : BitVec 1 := Scalar.cmpi .eq v7267 c0_i32_3111
  let c128_i32_3113 : BitVec 32 := 128#32
  let v7271 : BitVec 32 := Scalar.muli v7266 c128_i32_3113
  let c1_i32_3114 : BitVec 32 := 1#32
  let v7272 : BitVec 32 := Scalar.subi v7266 c1_i32_3114
  let c128_i32_3115 : BitVec 32 := 128#32
  let v7273 : BitVec 32 := Scalar.muli v7272 c128_i32_3115
  let v7274 : BitVec 32 := Scalar.select v7268 v7271 v7273
  v7274
def k0_mult309 : BitVec 32 :=
  let c0_i32_2482 : BitVec 32 := 0#32
  let c32_i32_3133 : BitVec 32 := 32#32
  let v7315 : BitVec 32 := Scalar.muli c0_i32_2482 c32_i32_3133
  let c26_i32_3134 : BitVec 32 := 26#32
  let v7316 : BitVec 32 := Scalar.addi v7315 c26_i32_3134
  let c128_i32_3137 : BitVec 32 := 128#32
  let v7319 : BitVec 32 := Scalar.muli v7316 c128_i32_3137
  v7319
def k0_mult310 : BitVec 32 :=
  let c0_i32_2482 : BitVec 32 := 0#32
  let c32_i32_3133 : BitVec 32 := 32#32
  let v7315 : BitVec 32 := Scalar.muli c0_i32_2482 c32_i32_3133
  let c26_i32_3134 : BitVec 32 := 26#32
  let v7316 : BitVec 32 := Scalar.addi v7315 c26_i32_3134
  let c8_i32_3135 : BitVec 32 := 8#32
  let v7317 : BitVec 32 := Scalar.remsi v7316 c8_i32_3135
  let c0_i32_3136 : BitVec 32 := 0#32
  let v7318 : BitVec 1 := Scalar.cmpi .eq v7317 c0_i32_3136
  let c128_i32_3138 : BitVec 32 := 128#32
  let v7321 : BitVec 32 := Scalar.muli v7316 c128_i32_3138
  let c1_i32_3139 : BitVec 32 := 1#32
  let v7322 : BitVec 32 := Scalar.subi v7316 c1_i32_3139
  let c128_i32_3140 : BitVec 32 := 128#32
  let v7323 : BitVec 32 := Scalar.muli v7322 c128_i32_3140
  let v7324 : BitVec 32 := Scalar.select v7318 v7321 v7323
  v7324
def k0_mult311 : BitVec 32 :=
  let c0_i32_2482 : BitVec 32 := 0#32
  let c32_i32_3158 : BitVec 32 := 32#32
  let v7365 : BitVec 32 := Scalar.muli c0_i32_2482 c32_i32_3158
  let c27_i32_3159 : BitVec 32 := 27#32
  let v7366 : BitVec 32 := Scalar.addi v7365 c27_i32_3159
  let c128_i32_3162 : BitVec 32 := 128#32
  let v7369 : BitVec 32 := Scalar.muli v7366 c128_i32_3162
  v7369
def k0_mult312 : BitVec 32 :=
  let c0_i32_2482 : BitVec 32 := 0#32
  let c32_i32_3158 : BitVec 32 := 32#32
  let v7365 : BitVec 32 := Scalar.muli c0_i32_2482 c32_i32_3158
  let c27_i32_3159 : BitVec 32 := 27#32
  let v7366 : BitVec 32 := Scalar.addi v7365 c27_i32_3159
  let c8_i32_3160 : BitVec 32 := 8#32
  let v7367 : BitVec 32 := Scalar.remsi v7366 c8_i32_3160
  let c0_i32_3161 : BitVec 32 := 0#32
  let v7368 : BitVec 1 := Scalar.cmpi .eq v7367 c0_i32_3161
  let c128_i32_3163 : BitVec 32 := 128#32
  let v7371 : BitVec 32 := Scalar.muli v7366 c128_i32_3163
  let c1_i32_3164 : BitVec 32 := 1#32
  let v7372 : BitVec 32 := Scalar.subi v7366 c1_i32_3164
  let c128_i32_3165 : BitVec 32 := 128#32
  let v7373 : BitVec 32 := Scalar.muli v7372 c128_i32_3165
  let v7374 : BitVec 32 := Scalar.select v7368 v7371 v7373
  v7374
def k0_mult313 : BitVec 32 :=
  let c0_i32_2482 : BitVec 32 := 0#32
  let c32_i32_3183 : BitVec 32 := 32#32
  let v7415 : BitVec 32 := Scalar.muli c0_i32_2482 c32_i32_3183
  let c28_i32_3184 : BitVec 32 := 28#32
  let v7416 : BitVec 32 := Scalar.addi v7415 c28_i32_3184
  let c128_i32_3187 : BitVec 32 := 128#32
  let v7419 : BitVec 32 := Scalar.muli v7416 c128_i32_3187
  v7419
def k0_mult314 : BitVec 32 :=
  let c0_i32_2482 : BitVec 32 := 0#32
  let c32_i32_3183 : BitVec 32 := 32#32
  let v7415 : BitVec 32 := Scalar.muli c0_i32_2482 c32_i32_3183
  let c28_i32_3184 : BitVec 32 := 28#32
  let v7416 : BitVec 32 := Scalar.addi v7415 c28_i32_3184
  let c8_i32_3185 : BitVec 32 := 8#32
  let v7417 : BitVec 32 := Scalar.remsi v7416 c8_i32_3185
  let c0_i32_3186 : BitVec 32 := 0#32
  let v7418 : BitVec 1 := Scalar.cmpi .eq v7417 c0_i32_3186
  let c128_i32_3188 : BitVec 32 := 128#32
  let v7421 : BitVec 32 := Scalar.muli v7416 c128_i32_3188
  let c1_i32_3189 : BitVec 32 := 1#32
  let v7422 : BitVec 32 := Scalar.subi v7416 c1_i32_3189
  let c128_i32_3190 : BitVec 32 := 128#32
  let v7423 : BitVec 32 := Scalar.muli v7422 c128_i32_3190
  let v7424 : BitVec 32 := Scalar.select v7418 v7421 v7423
  v7424
def k0_mult315 : BitVec 32 :=
  let c0_i32_2482 : BitVec 32 := 0#32
  let c32_i32_3208 : BitVec 32 := 32#32
  let v7465 : BitVec 32 := Scalar.muli c0_i32_2482 c32_i32_3208
  let c29_i32_3209 : BitVec 32 := 29#32
  let v7466 : BitVec 32 := Scalar.addi v7465 c29_i32_3209
  let c128_i32_3212 : BitVec 32 := 128#32
  let v7469 : BitVec 32 := Scalar.muli v7466 c128_i32_3212
  v7469
def k0_mult316 : BitVec 32 :=
  let c0_i32_2482 : BitVec 32 := 0#32
  let c32_i32_3208 : BitVec 32 := 32#32
  let v7465 : BitVec 32 := Scalar.muli c0_i32_2482 c32_i32_3208
  let c29_i32_3209 : BitVec 32 := 29#32
  let v7466 : BitVec 32 := Scalar.addi v7465 c29_i32_3209
  let c8_i32_3210 : BitVec 32 := 8#32
  let v7467 : BitVec 32 := Scalar.remsi v7466 c8_i32_3210
  let c0_i32_3211 : BitVec 32 := 0#32
  let v7468 : BitVec 1 := Scalar.cmpi .eq v7467 c0_i32_3211
  let c128_i32_3213 : BitVec 32 := 128#32
  let v7471 : BitVec 32 := Scalar.muli v7466 c128_i32_3213
  let c1_i32_3214 : BitVec 32 := 1#32
  let v7472 : BitVec 32 := Scalar.subi v7466 c1_i32_3214
  let c128_i32_3215 : BitVec 32 := 128#32
  let v7473 : BitVec 32 := Scalar.muli v7472 c128_i32_3215
  let v7474 : BitVec 32 := Scalar.select v7468 v7471 v7473
  v7474
def k0_mult317 : BitVec 32 :=
  let c0_i32_2482 : BitVec 32 := 0#32
  let c32_i32_3233 : BitVec 32 := 32#32
  let v7515 : BitVec 32 := Scalar.muli c0_i32_2482 c32_i32_3233
  let c30_i32_3234 : BitVec 32 := 30#32
  let v7516 : BitVec 32 := Scalar.addi v7515 c30_i32_3234
  let c128_i32_3237 : BitVec 32 := 128#32
  let v7519 : BitVec 32 := Scalar.muli v7516 c128_i32_3237
  v7519
def k0_mult318 : BitVec 32 :=
  let c0_i32_2482 : BitVec 32 := 0#32
  let c32_i32_3233 : BitVec 32 := 32#32
  let v7515 : BitVec 32 := Scalar.muli c0_i32_2482 c32_i32_3233
  let c30_i32_3234 : BitVec 32 := 30#32
  let v7516 : BitVec 32 := Scalar.addi v7515 c30_i32_3234
  let c8_i32_3235 : BitVec 32 := 8#32
  let v7517 : BitVec 32 := Scalar.remsi v7516 c8_i32_3235
  let c0_i32_3236 : BitVec 32 := 0#32
  let v7518 : BitVec 1 := Scalar.cmpi .eq v7517 c0_i32_3236
  let c128_i32_3238 : BitVec 32 := 128#32
  let v7521 : BitVec 32 := Scalar.muli v7516 c128_i32_3238
  let c1_i32_3239 : BitVec 32 := 1#32
  let v7522 : BitVec 32 := Scalar.subi v7516 c1_i32_3239
  let c128_i32_3240 : BitVec 32 := 128#32
  let v7523 : BitVec 32 := Scalar.muli v7522 c128_i32_3240
  let v7524 : BitVec 32 := Scalar.select v7518 v7521 v7523
  v7524
def k0_mult319 : BitVec 32 :=
  let c0_i32_2482 : BitVec 32 := 0#32
  let c32_i32_3258 : BitVec 32 := 32#32
  let v7565 : BitVec 32 := Scalar.muli c0_i32_2482 c32_i32_3258
  let c31_i32_3259 : BitVec 32 := 31#32
  let v7566 : BitVec 32 := Scalar.addi v7565 c31_i32_3259
  let c128_i32_3262 : BitVec 32 := 128#32
  let v7569 : BitVec 32 := Scalar.muli v7566 c128_i32_3262
  v7569
def k0_mult320 : BitVec 32 :=
  let c0_i32_2482 : BitVec 32 := 0#32
  let c32_i32_3258 : BitVec 32 := 32#32
  let v7565 : BitVec 32 := Scalar.muli c0_i32_2482 c32_i32_3258
  let c31_i32_3259 : BitVec 32 := 31#32
  let v7566 : BitVec 32 := Scalar.addi v7565 c31_i32_3259
  let c8_i32_3260 : BitVec 32 := 8#32
  let v7567 : BitVec 32 := Scalar.remsi v7566 c8_i32_3260
  let c0_i32_3261 : BitVec 32 := 0#32
  let v7568 : BitVec 1 := Scalar.cmpi .eq v7567 c0_i32_3261
  let c128_i32_3263 : BitVec 32 := 128#32
  let v7571 : BitVec 32 := Scalar.muli v7566 c128_i32_3263
  let c1_i32_3264 : BitVec 32 := 1#32
  let v7572 : BitVec 32 := Scalar.subi v7566 c1_i32_3264
  let c128_i32_3265 : BitVec 32 := 128#32
  let v7573 : BitVec 32 := Scalar.muli v7572 c128_i32_3265
  let v7574 : BitVec 32 := Scalar.select v7568 v7571 v7573
  v7574
def k0_off18 (c0_i32_3286 : BitVec 32) : Fin 2 → Nat :=
  let c0_i32_3284 : BitVec 32 := 0#32
  let c32_i32_3285 : BitVec 32 := 32#32
  let v7615 : BitVec 32 := Scalar.muli c0_i32_3284 c32_i32_3285
  let v7616 : BitVec 32 := Scalar.addi v7615 c0_i32_3286
  let c0_i32_3290 : BitVec 32 := 0#32
  let v7620 : BitVec 1 := Scalar.cmpi .sgt v7616 c0_i32_3290
  let v7621 : BitVec 32 := Scalar.extui v7620
  let c0_i32_3291 : BitVec 32 := 0#32
  let v7622 : BitVec 1 := Scalar.cmpi .slt v7616 c0_i32_3291
  let v7623 : BitVec 32 := Scalar.extui v7622
  let v7624 : BitVec 32 := Scalar.subi v7621 v7623
  let c2_i32_3289 : BitVec 32 := 2#32
  let c0_i32_3292 : BitVec 32 := 0#32
  let v7625 : BitVec 1 := Scalar.cmpi .sgt c2_i32_3289 c0_i32_3292
  let v7626 : BitVec 32 := Scalar.extui v7625
  let c0_i32_3293 : BitVec 32 := 0#32
  let v7627 : BitVec 1 := Scalar.cmpi .slt c2_i32_3289 c0_i32_3293
  let v7628 : BitVec 32 := Scalar.extui v7627
  let v7629 : BitVec 32 := Scalar.subi v7626 v7628
  let v7630 : BitVec 1 := Scalar.cmpi .ne v7624 v7629
  let v7631 : BitVec 32 := Scalar.remsi v7616 c2_i32_3289
  let c0_i32_3294 : BitVec 32 := 0#32
  let v7632 : BitVec 1 := Scalar.cmpi .ne v7631 c0_i32_3294
  let v7633 : BitVec 1 := Scalar.andi v7630 v7632
  let v7619 : BitVec 32 := Scalar.divsi v7616 c2_i32_3289
  let c1_i32_3295 : BitVec 32 := 1#32
  let v7634 : BitVec 32 := Scalar.subi v7619 c1_i32_3295
  let v7635 : BitVec 32 := Scalar.select v7633 v7634 v7619
  let c4_i32_3296 : BitVec 32 := 4#32
  let c0_i32_3297 : BitVec 32 := 0#32
  let v7636 : BitVec 1 := Scalar.cmpi .eq c4_i32_3296 c0_i32_3297
  let c1_i32_3298 : BitVec 32 := 1#32
  let v7637 : BitVec 32 := Scalar.select v7636 c1_i32_3298 c4_i32_3296
  let v7638 : BitVec 32 := Scalar.remsi v7635 v7637
  let c0_i32_3300 : BitVec 32 := 0#32
  let v7640 : BitVec 1 := Scalar.cmpi .slt v7638 c0_i32_3300
  let c0_i32_3301 : BitVec 32 := 0#32
  let v7641 : BitVec 1 := Scalar.cmpi .slt v7637 c0_i32_3301
  let v7642 : BitVec 1 := Scalar.xori v7640 v7641
  let c0_i32_3299 : BitVec 32 := 0#32
  let v7639 : BitVec 1 := Scalar.cmpi .ne v7638 c0_i32_3299
  let v7643 : BitVec 1 := Scalar.andi v7642 v7639
  let v7644 : BitVec 32 := Scalar.addi v7638 v7637
  let v7645 : BitVec 32 := Scalar.select v7643 v7644 v7638
  let c1024_i32_3302 : BitVec 32 := 1024#32
  let v7646 : BitVec 32 := Scalar.muli v7645 c1024_i32_3302
  let c0_i32_3304 : BitVec 32 := 0#32
  let v7648 : BitVec 1 := Scalar.cmpi .sgt v7635 c0_i32_3304
  let v7649 : BitVec 32 := Scalar.extui v7648
  let c0_i32_3305 : BitVec 32 := 0#32
  let v7650 : BitVec 1 := Scalar.cmpi .slt v7635 c0_i32_3305
  let v7651 : BitVec 32 := Scalar.extui v7650
  let v7652 : BitVec 32 := Scalar.subi v7649 v7651
  let c4_i32_3303 : BitVec 32 := 4#32
  let c0_i32_3306 : BitVec 32 := 0#32
  let v7653 : BitVec 1 := Scalar.cmpi .sgt c4_i32_3303 c0_i32_3306
  let v7654 : BitVec 32 := Scalar.extui v7653
  let c0_i32_3307 : BitVec 32 := 0#32
  let v7655 : BitVec 1 := Scalar.cmpi .slt c4_i32_3303 c0_i32_3307
  let v7656 : BitVec 32 := Scalar.extui v7655
  let v7657 : BitVec 32 := Scalar.subi v7654 v7656
  let v7658 : BitVec 1 := Scalar.cmpi .ne v7652 v7657
  let v7659 : BitVec 32 := Scalar.remsi v7635 c4_i32_3303
  let c0_i32_3308 : BitVec 32 := 0#32
  let v7660 : BitVec 1 := Scalar.cmpi .ne v7659 c0_i32_3308
  let v7661 : BitVec 1 := Scalar.andi v7658 v7660
  let v7647 : BitVec 32 := Scalar.divsi v7635 c4_i32_3303
  let c1_i32_3309 : BitVec 32 := 1#32
  let v7662 : BitVec 32 := Scalar.subi v7647 c1_i32_3309
  let v7663 : BitVec 32 := Scalar.select v7661 v7662 v7647
  let v7664 : BitVec 32 := Scalar.addi v7646 v7663
  let c2_i32_3287 : BitVec 32 := 2#32
  let v7617 : BitVec 32 := Scalar.remsi v7616 c2_i32_3287
  let c512_i32 : BitVec 32 := 512#32
  let v7665 : BitVec 32 := Scalar.muli v7617 c512_i32
  let v7666 : BitVec 32 := Scalar.addi v7664 v7665
  let v7667 : Index := Scalar.indexCast v7666
  let c0_3310 : Index := 0#32
  ![v7667.toNat, 0]
def k0_off19 (c0_i32_3286 : BitVec 32) : Fin 2 → Nat :=
  let c0_i32_3284 : BitVec 32 := 0#32
  let c32_i32_3285 : BitVec 32 := 32#32
  let v7615 : BitVec 32 := Scalar.muli c0_i32_3284 c32_i32_3285
  let v7616 : BitVec 32 := Scalar.addi v7615 c0_i32_3286
  let c0_i32_3290 : BitVec 32 := 0#32
  let v7620 : BitVec 1 := Scalar.cmpi .sgt v7616 c0_i32_3290
  let v7621 : BitVec 32 := Scalar.extui v7620
  let c0_i32_3291 : BitVec 32 := 0#32
  let v7622 : BitVec 1 := Scalar.cmpi .slt v7616 c0_i32_3291
  let v7623 : BitVec 32 := Scalar.extui v7622
  let v7624 : BitVec 32 := Scalar.subi v7621 v7623
  let c2_i32_3289 : BitVec 32 := 2#32
  let c0_i32_3292 : BitVec 32 := 0#32
  let v7625 : BitVec 1 := Scalar.cmpi .sgt c2_i32_3289 c0_i32_3292
  let v7626 : BitVec 32 := Scalar.extui v7625
  let c0_i32_3293 : BitVec 32 := 0#32
  let v7627 : BitVec 1 := Scalar.cmpi .slt c2_i32_3289 c0_i32_3293
  let v7628 : BitVec 32 := Scalar.extui v7627
  let v7629 : BitVec 32 := Scalar.subi v7626 v7628
  let v7630 : BitVec 1 := Scalar.cmpi .ne v7624 v7629
  let v7631 : BitVec 32 := Scalar.remsi v7616 c2_i32_3289
  let c0_i32_3294 : BitVec 32 := 0#32
  let v7632 : BitVec 1 := Scalar.cmpi .ne v7631 c0_i32_3294
  let v7633 : BitVec 1 := Scalar.andi v7630 v7632
  let v7619 : BitVec 32 := Scalar.divsi v7616 c2_i32_3289
  let c1_i32_3295 : BitVec 32 := 1#32
  let v7634 : BitVec 32 := Scalar.subi v7619 c1_i32_3295
  let v7635 : BitVec 32 := Scalar.select v7633 v7634 v7619
  let c4_i32_3296 : BitVec 32 := 4#32
  let c0_i32_3297 : BitVec 32 := 0#32
  let v7636 : BitVec 1 := Scalar.cmpi .eq c4_i32_3296 c0_i32_3297
  let c1_i32_3298 : BitVec 32 := 1#32
  let v7637 : BitVec 32 := Scalar.select v7636 c1_i32_3298 c4_i32_3296
  let v7638 : BitVec 32 := Scalar.remsi v7635 v7637
  let c0_i32_3300 : BitVec 32 := 0#32
  let v7640 : BitVec 1 := Scalar.cmpi .slt v7638 c0_i32_3300
  let c0_i32_3301 : BitVec 32 := 0#32
  let v7641 : BitVec 1 := Scalar.cmpi .slt v7637 c0_i32_3301
  let v7642 : BitVec 1 := Scalar.xori v7640 v7641
  let c0_i32_3299 : BitVec 32 := 0#32
  let v7639 : BitVec 1 := Scalar.cmpi .ne v7638 c0_i32_3299
  let v7643 : BitVec 1 := Scalar.andi v7642 v7639
  let v7644 : BitVec 32 := Scalar.addi v7638 v7637
  let v7645 : BitVec 32 := Scalar.select v7643 v7644 v7638
  let c1024_i32_3302 : BitVec 32 := 1024#32
  let v7646 : BitVec 32 := Scalar.muli v7645 c1024_i32_3302
  let c0_i32_3304 : BitVec 32 := 0#32
  let v7648 : BitVec 1 := Scalar.cmpi .sgt v7635 c0_i32_3304
  let v7649 : BitVec 32 := Scalar.extui v7648
  let c0_i32_3305 : BitVec 32 := 0#32
  let v7650 : BitVec 1 := Scalar.cmpi .slt v7635 c0_i32_3305
  let v7651 : BitVec 32 := Scalar.extui v7650
  let v7652 : BitVec 32 := Scalar.subi v7649 v7651
  let c4_i32_3303 : BitVec 32 := 4#32
  let c0_i32_3306 : BitVec 32 := 0#32
  let v7653 : BitVec 1 := Scalar.cmpi .sgt c4_i32_3303 c0_i32_3306
  let v7654 : BitVec 32 := Scalar.extui v7653
  let c0_i32_3307 : BitVec 32 := 0#32
  let v7655 : BitVec 1 := Scalar.cmpi .slt c4_i32_3303 c0_i32_3307
  let v7656 : BitVec 32 := Scalar.extui v7655
  let v7657 : BitVec 32 := Scalar.subi v7654 v7656
  let v7658 : BitVec 1 := Scalar.cmpi .ne v7652 v7657
  let v7659 : BitVec 32 := Scalar.remsi v7635 c4_i32_3303
  let c0_i32_3308 : BitVec 32 := 0#32
  let v7660 : BitVec 1 := Scalar.cmpi .ne v7659 c0_i32_3308
  let v7661 : BitVec 1 := Scalar.andi v7658 v7660
  let v7647 : BitVec 32 := Scalar.divsi v7635 c4_i32_3303
  let c1_i32_3309 : BitVec 32 := 1#32
  let v7662 : BitVec 32 := Scalar.subi v7647 c1_i32_3309
  let v7663 : BitVec 32 := Scalar.select v7661 v7662 v7647
  let v7664 : BitVec 32 := Scalar.addi v7646 v7663
  let v7670 : Index := Scalar.indexCast v7664
  let c0_3311 : Index := 0#32
  ![v7670.toNat, 0]
@[reducible] def k0_t1_loop : Scf.Loop 32 :=
  let c0_i32_4629 : BitVec 32 := 0#32
  let c4_i32_4630 : BitVec 32 := 4#32
  let v10655 : BitVec 32 := Scalar.addi c0_i32_4629 c4_i32_4630
  let c1_i32_4631 : BitVec 32 := 1#32
  ⟨c0_i32_4629, v10655, c1_i32_4631⟩
def k0_mult321 (k0_t1 : Fin k0_t1_loop.trips) : BitVec 32 :=
  let c0_i32_4646 : BitVec 32 := 0#32
  let c0_i32_4629 : BitVec 32 := 0#32
  let c1_i32_4631 : BitVec 32 := 1#32
  let arg28 : BitVec 32 := Scf.iv c0_i32_4629 c1_i32_4631 k0_t1
  let c256_i32_4645 : BitVec 32 := 256#32
  let v10659 : BitVec 32 := Scalar.muli arg28 c256_i32_4645
  let v10660 : BitVec 32 := Scalar.addi c0_i32_4646 v10659
  v10660
def k0_off20 (k0_t1 : Fin k0_t1_loop.trips) : Fin 2 → Nat :=
  let c0_i32_4646 : BitVec 32 := 0#32
  let c0_i32_4629 : BitVec 32 := 0#32
  let c1_i32_4631 : BitVec 32 := 1#32
  let arg28 : BitVec 32 := Scf.iv c0_i32_4629 c1_i32_4631 k0_t1
  let c256_i32_4645 : BitVec 32 := 256#32
  let v10659 : BitVec 32 := Scalar.muli arg28 c256_i32_4645
  let v10660 : BitVec 32 := Scalar.addi c0_i32_4646 v10659
  let v10661 : BitVec 32 := v10660
  let v10662 : Index := Scalar.indexCast v10661
  let c0_4647 : Index := 0#32
  ![v10662.toNat, 0]
def k0_off21 (k0_t1 : Fin k0_t1_loop.trips) : Fin 3 → Nat :=
  let c0_4658 : Index := 0#32
  let c0_i32_4657 : BitVec 32 := 0#32
  let c0_i32_4629 : BitVec 32 := 0#32
  let c1_i32_4631 : BitVec 32 := 1#32
  let arg28 : BitVec 32 := Scf.iv c0_i32_4629 c1_i32_4631 k0_t1
  let c1024_i32_4656 : BitVec 32 := 1024#32
  let v10699 : BitVec 32 := Scalar.muli arg28 c1024_i32_4656
  let v10700 : BitVec 32 := Scalar.addi c0_i32_4657 v10699
  let v10701 : Index := Scalar.indexCast v10700
  let c0_4659 : Index := 0#32
  ![0, v10701.toNat, 0]
@[reducible] def k0_t2_loop : Scf.Loop 32 :=
  let c0_i32_4633 : BitVec 32 := 0#32
  let c4_i32_4634 : BitVec 32 := 4#32
  let v10656 : BitVec 32 := Scalar.addi c0_i32_4633 c4_i32_4634
  let c1_i32_4635 : BitVec 32 := 1#32
  ⟨c0_i32_4633, v10656, c1_i32_4635⟩
def k0_mult322 (k0_t2 : Fin k0_t2_loop.trips) : BitVec 32 :=
  let c1024_i32_4646 : BitVec 32 := 1024#32
  let c0_i32_4633 : BitVec 32 := 0#32
  let c1_i32_4635 : BitVec 32 := 1#32
  let arg28 : BitVec 32 := Scf.iv c0_i32_4633 c1_i32_4635 k0_t2
  let c256_i32_4645 : BitVec 32 := 256#32
  let v10659 : BitVec 32 := Scalar.muli arg28 c256_i32_4645
  let v10660 : BitVec 32 := Scalar.addi c1024_i32_4646 v10659
  v10660
def k0_off22 (k0_t2 : Fin k0_t2_loop.trips) : Fin 2 → Nat :=
  let c1024_i32_4646 : BitVec 32 := 1024#32
  let c0_i32_4633 : BitVec 32 := 0#32
  let c1_i32_4635 : BitVec 32 := 1#32
  let arg28 : BitVec 32 := Scf.iv c0_i32_4633 c1_i32_4635 k0_t2
  let c256_i32_4645 : BitVec 32 := 256#32
  let v10659 : BitVec 32 := Scalar.muli arg28 c256_i32_4645
  let v10660 : BitVec 32 := Scalar.addi c1024_i32_4646 v10659
  let v10661 : BitVec 32 := v10660
  let v10662 : Index := Scalar.indexCast v10661
  let c0_4647 : Index := 0#32
  ![v10662.toNat, 0]
def k0_off23 (k0_t2 : Fin k0_t2_loop.trips) : Fin 3 → Nat :=
  let c0_4658 : Index := 0#32
  let c1_i32_4657 : BitVec 32 := 1#32
  let c0_i32_4633 : BitVec 32 := 0#32
  let c1_i32_4635 : BitVec 32 := 1#32
  let arg28 : BitVec 32 := Scf.iv c0_i32_4633 c1_i32_4635 k0_t2
  let c1024_i32_4656 : BitVec 32 := 1024#32
  let v10699 : BitVec 32 := Scalar.muli arg28 c1024_i32_4656
  let v10700 : BitVec 32 := Scalar.addi c1_i32_4657 v10699
  let v10701 : Index := Scalar.indexCast v10700
  let c0_4659 : Index := 0#32
  ![0, v10701.toNat, 0]
@[reducible] def k0_t3_loop : Scf.Loop 32 :=
  let c0_i32_4637 : BitVec 32 := 0#32
  let c4_i32_4638 : BitVec 32 := 4#32
  let v10657 : BitVec 32 := Scalar.addi c0_i32_4637 c4_i32_4638
  let c1_i32_4639 : BitVec 32 := 1#32
  ⟨c0_i32_4637, v10657, c1_i32_4639⟩
def k0_mult323 (k0_t3 : Fin k0_t3_loop.trips) : BitVec 32 :=
  let c2048_i32_4646 : BitVec 32 := 2048#32
  let c0_i32_4637 : BitVec 32 := 0#32
  let c1_i32_4639 : BitVec 32 := 1#32
  let arg28 : BitVec 32 := Scf.iv c0_i32_4637 c1_i32_4639 k0_t3
  let c256_i32_4645 : BitVec 32 := 256#32
  let v10659 : BitVec 32 := Scalar.muli arg28 c256_i32_4645
  let v10660 : BitVec 32 := Scalar.addi c2048_i32_4646 v10659
  v10660
def k0_off24 (k0_t3 : Fin k0_t3_loop.trips) : Fin 2 → Nat :=
  let c2048_i32_4646 : BitVec 32 := 2048#32
  let c0_i32_4637 : BitVec 32 := 0#32
  let c1_i32_4639 : BitVec 32 := 1#32
  let arg28 : BitVec 32 := Scf.iv c0_i32_4637 c1_i32_4639 k0_t3
  let c256_i32_4645 : BitVec 32 := 256#32
  let v10659 : BitVec 32 := Scalar.muli arg28 c256_i32_4645
  let v10660 : BitVec 32 := Scalar.addi c2048_i32_4646 v10659
  let v10661 : BitVec 32 := v10660
  let v10662 : Index := Scalar.indexCast v10661
  let c0_4647 : Index := 0#32
  ![v10662.toNat, 0]
def k0_off25 (k0_t3 : Fin k0_t3_loop.trips) : Fin 3 → Nat :=
  let c0_4658 : Index := 0#32
  let c2_i32_4657 : BitVec 32 := 2#32
  let c0_i32_4637 : BitVec 32 := 0#32
  let c1_i32_4639 : BitVec 32 := 1#32
  let arg28 : BitVec 32 := Scf.iv c0_i32_4637 c1_i32_4639 k0_t3
  let c1024_i32_4656 : BitVec 32 := 1024#32
  let v10699 : BitVec 32 := Scalar.muli arg28 c1024_i32_4656
  let v10700 : BitVec 32 := Scalar.addi c2_i32_4657 v10699
  let v10701 : Index := Scalar.indexCast v10700
  let c0_4659 : Index := 0#32
  ![0, v10701.toNat, 0]
@[reducible] def k0_t4_loop : Scf.Loop 32 :=
  let c0_i32_4641 : BitVec 32 := 0#32
  let c4_i32_4642 : BitVec 32 := 4#32
  let v10658 : BitVec 32 := Scalar.addi c0_i32_4641 c4_i32_4642
  let c1_i32_4643 : BitVec 32 := 1#32
  ⟨c0_i32_4641, v10658, c1_i32_4643⟩
def k0_mult324 (k0_t4 : Fin k0_t4_loop.trips) : BitVec 32 :=
  let c3072_i32_4646 : BitVec 32 := 3072#32
  let c0_i32_4641 : BitVec 32 := 0#32
  let c1_i32_4643 : BitVec 32 := 1#32
  let arg28 : BitVec 32 := Scf.iv c0_i32_4641 c1_i32_4643 k0_t4
  let c256_i32_4645 : BitVec 32 := 256#32
  let v10659 : BitVec 32 := Scalar.muli arg28 c256_i32_4645
  let v10660 : BitVec 32 := Scalar.addi c3072_i32_4646 v10659
  v10660
def k0_off26 (k0_t4 : Fin k0_t4_loop.trips) : Fin 2 → Nat :=
  let c3072_i32_4646 : BitVec 32 := 3072#32
  let c0_i32_4641 : BitVec 32 := 0#32
  let c1_i32_4643 : BitVec 32 := 1#32
  let arg28 : BitVec 32 := Scf.iv c0_i32_4641 c1_i32_4643 k0_t4
  let c256_i32_4645 : BitVec 32 := 256#32
  let v10659 : BitVec 32 := Scalar.muli arg28 c256_i32_4645
  let v10660 : BitVec 32 := Scalar.addi c3072_i32_4646 v10659
  let v10661 : BitVec 32 := v10660
  let v10662 : Index := Scalar.indexCast v10661
  let c0_4647 : Index := 0#32
  ![v10662.toNat, 0]
def k0_off27 (k0_t4 : Fin k0_t4_loop.trips) : Fin 3 → Nat :=
  let c0_4658 : Index := 0#32
  let c3_i32_4657 : BitVec 32 := 3#32
  let c0_i32_4641 : BitVec 32 := 0#32
  let c1_i32_4643 : BitVec 32 := 1#32
  let arg28 : BitVec 32 := Scf.iv c0_i32_4641 c1_i32_4643 k0_t4
  let c1024_i32_4656 : BitVec 32 := 1024#32
  let v10699 : BitVec 32 := Scalar.muli arg28 c1024_i32_4656
  let v10700 : BitVec 32 := Scalar.addi c3_i32_4657 v10699
  let v10701 : Index := Scalar.indexCast v10700
  let c0_4659 : Index := 0#32
  ![0, v10701.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S4x4096x14336 : Shape := ⟨3, ![4, 4096, 14336]⟩
abbrev S128 : Shape := ⟨1, ![128]⟩
abbrev S4x4096x2048 : Shape := ⟨3, ![4, 4096, 2048]⟩
abbrev S4x4096x16x128 : Shape := ⟨4, ![4, 4096, 16, 128]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4x4096x16 : Shape := ⟨3, ![4, 4096, 16]⟩
abbrev S4x4096x16x1 : Shape := ⟨4, ![4, 4096, 16, 1]⟩
abbrev S1x1x1x128 : Shape := ⟨4, ![1, 1, 1, 128]⟩
abbrev S4x4096x16x64 : Shape := ⟨4, ![4, 4096, 16, 64]⟩
abbrev S1x4096x1x64 : Shape := ⟨4, ![1, 4096, 1, 64]⟩
abbrev S4x16x4096x4096 : Shape := ⟨4, ![4, 16, 4096, 4096]⟩
abbrev S1x4096 : Shape := ⟨2, ![1, 4096]⟩
abbrev S4096x4096 : Shape := ⟨2, ![4096, 4096]⟩
abbrev S1x1x4096x4096 : Shape := ⟨4, ![1, 1, 4096, 4096]⟩
abbrev S4x16x4096 : Shape := ⟨3, ![4, 16, 4096]⟩
abbrev S4x16x4096x1 : Shape := ⟨4, ![4, 16, 4096, 1]⟩
abbrev S4x16x4096x128 : Shape := ⟨4, ![4, 16, 4096, 128]⟩

abbrev nBuf : Space → Nat
  | .hbm => 242
  | .vmem => 0
  | .smem => 0
  | _ => 0

abbrev hbmTy0_0 (i : Nat) : BufTy := match i % 128 with
  | 0 => ⟨S4x4096x14336, .bf16⟩
  | 1 => ⟨S128, .f32⟩
  | 2 => ⟨S128, .f32⟩
  | 3 => ⟨S4x4096x14336, .f32⟩
  | 4 => ⟨S4x4096x2048, .f32⟩
  | 5 => ⟨S4x4096x16x128, .f32⟩
  | 6 => ⟨S4x4096x2048, .f32⟩
  | 7 => ⟨S4x4096x16x128, .f32⟩
  | 8 => ⟨S4x4096x2048, .f32⟩
  | 9 => ⟨S4x4096x16x128, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S_, .f32⟩
  | 18 => ⟨S64, .f32⟩
  | 19 => ⟨S64, .f32⟩
  | 20 => ⟨S_, .f32⟩
  | 21 => ⟨S64, .f32⟩
  | 22 => ⟨S64, .f32⟩
  | 23 => ⟨S_, .f32⟩
  | 24 => ⟨S64, .f32⟩
  | 25 => ⟨S64, .f32⟩
  | 26 => ⟨S4096, .f32⟩
  | 27 => ⟨S4096x1, .f32⟩
  | 28 => ⟨S1x64, .f32⟩
  | 29 => ⟨S4096x64, .f32⟩
  | 30 => ⟨S4096x64, .f32⟩
  | 31 => ⟨S4096x64, .f32⟩
  | 32 => ⟨S4096x64, .f32⟩
  | 33 => ⟨S4096x64, .f32⟩
  | 34 => ⟨S4x4096x16x128, .f32⟩
  | 35 => ⟨S_, .f32⟩
  | 36 => ⟨S4x4096x16, .f32⟩
  | 37 => ⟨S4x4096x16x1, .f32⟩
  | 38 => ⟨S_, .f32⟩
  | 39 => ⟨S4x4096x16x1, .f32⟩
  | 40 => ⟨S4x4096x16x1, .f32⟩
  | 41 => ⟨S_, .f32⟩
  | 42 => ⟨S4x4096x16x1, .f32⟩
  | 43 => ⟨S4x4096x16x1, .f32⟩
  | 44 => ⟨S4x4096x16x1, .f32⟩
  | 45 => ⟨S4x4096x16x128, .f32⟩
  | 46 => ⟨S4x4096x16x128, .f32⟩
  | 47 => ⟨S1x1x1x128, .f32⟩
  | 48 => ⟨S4x4096x16x128, .f32⟩
  | 49 => ⟨S4x4096x16x128, .f32⟩
  | 50 => ⟨S4x4096x16x64, .f32⟩
  | 51 => ⟨S4x4096x16x64, .f32⟩
  | 52 => ⟨S1x4096x1x64, .f32⟩
  | 53 => ⟨S1x4096x1x64, .f32⟩
  | 54 => ⟨S4x4096x16x64, .f32⟩
  | 55 => ⟨S4x4096x16x64, .f32⟩
  | 56 => ⟨S4x4096x16x64, .f32⟩
  | 57 => ⟨S4x4096x16x64, .f32⟩
  | 58 => ⟨S4x4096x16x64, .f32⟩
  | 59 => ⟨S4x4096x16x64, .f32⟩
  | 60 => ⟨S4x4096x16x64, .f32⟩
  | 61 => ⟨S4x4096x16x64, .f32⟩
  | 62 => ⟨S4x4096x16x64, .f32⟩
  | 63 => ⟨S4x4096x16x64, .f32⟩
  | 64 => ⟨S4x4096x16x128, .f32⟩
  | 65 => ⟨S4x4096x16x128, .f32⟩
  | 66 => ⟨S_, .f32⟩
  | 67 => ⟨S4x4096x16, .f32⟩
  | 68 => ⟨S4x4096x16x1, .f32⟩
  | 69 => ⟨S_, .f32⟩
  | 70 => ⟨S4x4096x16x1, .f32⟩
  | 71 => ⟨S4x4096x16x1, .f32⟩
  | 72 => ⟨S_, .f32⟩
  | 73 => ⟨S4x4096x16x1, .f32⟩
  | 74 => ⟨S4x4096x16x1, .f32⟩
  | 75 => ⟨S4x4096x16x1, .f32⟩
  | 76 => ⟨S4x4096x16x128, .f32⟩
  | 77 => ⟨S4x4096x16x128, .f32⟩
  | 78 => ⟨S1x1x1x128, .f32⟩
  | 79 => ⟨S4x4096x16x128, .f32⟩
  | 80 => ⟨S4x4096x16x128, .f32⟩
  | 81 => ⟨S4x4096x16x64, .f32⟩
  | 82 => ⟨S4x4096x16x64, .f32⟩
  | 83 => ⟨S1x4096x1x64, .f32⟩
  | 84 => ⟨S1x4096x1x64, .f32⟩
  | 85 => ⟨S4x4096x16x64, .f32⟩
  | 86 => ⟨S4x4096x16x64, .f32⟩
  | 87 => ⟨S4x4096x16x64, .f32⟩
  | 88 => ⟨S4x4096x16x64, .f32⟩
  | 89 => ⟨S4x4096x16x64, .f32⟩
  | 90 => ⟨S4x4096x16x64, .f32⟩
  | 91 => ⟨S4x4096x16x64, .f32⟩
  | 92 => ⟨S4x4096x16x64, .f32⟩
  | 93 => ⟨S4x4096x16x64, .f32⟩
  | 94 => ⟨S4x4096x16x64, .f32⟩
  | 95 => ⟨S4x4096x16x128, .f32⟩
  | 96 => ⟨S4x16x4096x4096, .f32⟩
  | 97 => ⟨S_, .f32⟩
  | 98 => ⟨S4x16x4096x4096, .f32⟩
  | 99 => ⟨S4x16x4096x4096, .f32⟩
  | 100 => ⟨S4096, .i32⟩
  | 101 => ⟨S4096x1, .i32⟩
  | 102 => ⟨S4096, .i32⟩
  | 103 => ⟨S1x4096, .i32⟩
  | 104 => ⟨S4096x4096, .i32⟩
  | 105 => ⟨S4096x4096, .i32⟩
  | 106 => ⟨S4096x4096, .i32⟩
  | 107 => ⟨S_, .i32⟩
  | 108 => ⟨S4096x4096, .i32⟩
  | 109 => ⟨S4096x4096, .i1⟩
  | 110 => ⟨S_, .i32⟩
  | 111 => ⟨S4096x4096, .i32⟩
  | 112 => ⟨S4096x4096, .i1⟩
  | 113 => ⟨S4096x4096, .i1⟩
  | 114 => ⟨S_, .i32⟩
  | 115 => ⟨S4096x4096, .i32⟩
  | 116 => ⟨S4096x4096, .i32⟩
  | 117 => ⟨S_, .i32⟩
  | 118 => ⟨S4096x4096, .i32⟩
  | 119 => ⟨S4096x4096, .i1⟩
  | 120 => ⟨S4096x4096, .i1⟩
  | 121 => ⟨S1x1x4096x4096, .i1⟩
  | 122 => ⟨S4x16x4096x4096, .i1⟩
  | 123 => ⟨S_, .f32⟩
  | 124 => ⟨S4x16x4096x4096, .f32⟩
  | 125 => ⟨S4x16x4096x4096, .f32⟩
  | 126 => ⟨S_, .f32⟩
  | 127 => ⟨S4x16x4096, .f32⟩
  | _ => ⟨S4x4096x14336, .bf16⟩

abbrev hbmTy0_1 (i : Nat) : BufTy := match i % 128 with
  | 0 => ⟨S4x16x4096x1, .f32⟩
  | 1 => ⟨S4x16x4096x4096, .f32⟩
  | 2 => ⟨S4x16x4096x4096, .f32⟩
  | 3 => ⟨S4x16x4096x4096, .f32⟩
  | 4 => ⟨S_, .f32⟩
  | 5 => ⟨S4x16x4096, .f32⟩
  | 6 => ⟨S4x16x4096x128, .f32⟩
  | 7 => ⟨S4x16x4096x4096, .f32⟩
  | 8 => ⟨S_, .f32⟩
  | 9 => ⟨S4x16x4096x4096, .f32⟩
  | 10 => ⟨S4x16x4096x4096, .f32⟩
  | 11 => ⟨S4096, .i32⟩
  | 12 => ⟨S4096x1, .i32⟩
  | 13 => ⟨S4096, .i32⟩
  | 14 => ⟨S1x4096, .i32⟩
  | 15 => ⟨S4096x4096, .i32⟩
  | 16 => ⟨S4096x4096, .i32⟩
  | 17 => ⟨S4096x4096, .i32⟩
  | 18 => ⟨S_, .i32⟩
  | 19 => ⟨S4096x4096, .i32⟩
  | 20 => ⟨S4096x4096, .i1⟩
  | 21 => ⟨S_, .i32⟩
  | 22 => ⟨S4096x4096, .i32⟩
  | 23 => ⟨S4096x4096, .i1⟩
  | 24 => ⟨S4096x4096, .i1⟩
  | 25 => ⟨S_, .i32⟩
  | 26 => ⟨S4096x4096, .i32⟩
  | 27 => ⟨S4096x4096, .i32⟩
  | 28 => ⟨S_, .i32⟩
  | 29 => ⟨S4096x4096, .i32⟩
  | 30 => ⟨S4096x4096, .i1⟩
  | 31 => ⟨S4096x4096, .i1⟩
  | 32 => ⟨S1x1x4096x4096, .i1⟩
  | 33 => ⟨S4x16x4096x4096, .i1⟩
  | 34 => ⟨S_, .f32⟩
  | 35 => ⟨S4x16x4096x4096, .f32⟩
  | 36 => ⟨S4x16x4096x4096, .f32⟩
  | 37 => ⟨S_, .f32⟩
  | 38 => ⟨S4x16x4096, .f32⟩
  | 39 => ⟨S4x16x4096x1, .f32⟩
  | 40 => ⟨S4x16x4096x4096, .f32⟩
  | 41 => ⟨S4x16x4096x4096, .f32⟩
  | 42 => ⟨S4x16x4096x4096, .f32⟩
  | 43 => ⟨S_, .f32⟩
  | 44 => ⟨S4x16x4096, .f32⟩
  | 45 => ⟨S4x16x4096x128, .f32⟩
  | 46 => ⟨S4x16x4096x4096, .f32⟩
  | 47 => ⟨S_, .f32⟩
  | 48 => ⟨S4x16x4096x4096, .f32⟩
  | 49 => ⟨S4x16x4096x4096, .f32⟩
  | 50 => ⟨S4096, .i32⟩
  | 51 => ⟨S4096x1, .i32⟩
  | 52 => ⟨S4096, .i32⟩
  | 53 => ⟨S1x4096, .i32⟩
  | 54 => ⟨S4096x4096, .i32⟩
  | 55 => ⟨S4096x4096, .i32⟩
  | 56 => ⟨S4096x4096, .i32⟩
  | 57 => ⟨S_, .i32⟩
  | 58 => ⟨S4096x4096, .i32⟩
  | 59 => ⟨S4096x4096, .i1⟩
  | 60 => ⟨S_, .i32⟩
  | 61 => ⟨S4096x4096, .i32⟩
  | 62 => ⟨S4096x4096, .i1⟩
  | 63 => ⟨S4096x4096, .i1⟩
  | 64 => ⟨S_, .i32⟩
  | 65 => ⟨S4096x4096, .i32⟩
  | 66 => ⟨S4096x4096, .i32⟩
  | 67 => ⟨S_, .i32⟩
  | 68 => ⟨S4096x4096, .i32⟩
  | 69 => ⟨S4096x4096, .i1⟩
  | 70 => ⟨S4096x4096, .i1⟩
  | 71 => ⟨S1x1x4096x4096, .i1⟩
  | 72 => ⟨S4x16x4096x4096, .i1⟩
  | 73 => ⟨S_, .f32⟩
  | 74 => ⟨S4x16x4096x4096, .f32⟩
  | 75 => ⟨S4x16x4096x4096, .f32⟩
  | 76 => ⟨S_, .f32⟩
  | 77 => ⟨S4x16x4096, .f32⟩
  | 78 => ⟨S4x16x4096x1, .f32⟩
  | 79 => ⟨S4x16x4096x4096, .f32⟩
  | 80 => ⟨S4x16x4096x4096, .f32⟩
  | 81 => ⟨S4x16x4096x4096, .f32⟩
  | 82 => ⟨S_, .f32⟩
  | 83 => ⟨S4x16x4096, .f32⟩
  | 84 => ⟨S4x16x4096x128, .f32⟩
  | 85 => ⟨S4x16x4096, .f32⟩
  | 86 => ⟨S4x16x4096, .f32⟩
  | 87 => ⟨S4x16x4096, .f32⟩
  | 88 => ⟨S4x16x4096, .f32⟩
  | 89 => ⟨S4x16x4096, .f32⟩
  | 90 => ⟨S4x16x4096, .f32⟩
  | 91 => ⟨S4x16x4096, .f32⟩
  | 92 => ⟨S4x16x4096, .f32⟩
  | 93 => ⟨S4x16x4096x1, .f32⟩
  | 94 => ⟨S4x16x4096x128, .f32⟩
  | 95 => ⟨S4x16x4096x128, .f32⟩
  | 96 => ⟨S4x16x4096, .f32⟩
  | 97 => ⟨S4x16x4096x1, .f32⟩
  | 98 => ⟨S4x16x4096x128, .f32⟩
  | 99 => ⟨S4x16x4096x128, .f32⟩
  | 100 => ⟨S4x16x4096x128, .f32⟩
  | 101 => ⟨S4x16x4096, .f32⟩
  | 102 => ⟨S4x16x4096, .f32⟩
  | 103 => ⟨S4x16x4096x1, .f32⟩
  | 104 => ⟨S4x16x4096x128, .f32⟩
  | 105 => ⟨S4x16x4096x128, .f32⟩
  | 106 => ⟨S4x16x4096x128, .f32⟩
  | 107 => ⟨S4x16x4096, .f32⟩
  | 108 => ⟨S4x16x4096, .f32⟩
  | 109 => ⟨S4x16x4096x1, .f32⟩
  | 110 => ⟨S4x16x4096x128, .f32⟩
  | 111 => ⟨S4x16x4096x128, .f32⟩
  | 112 => ⟨S4x4096x16x128, .f32⟩
  | 113 => ⟨S4x4096x2048, .f32⟩
  | _ => ⟨S4x4096x14336, .bf16⟩

abbrev hbmTy (i : Nat) : BufTy := match i / 128 with
  | 0 => hbmTy0_0 i
  | 1 => hbmTy0_1 i
  | _ => ⟨S4x4096x14336, .bf16⟩

abbrev bufTy : (tb : Table) → Fin (tcTables nBuf tb) → BufTy
  | .hbm, ⟨i, _⟩ => hbmTy i
  | _, _ => ⟨S4x4096x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_7 : Ref sig .tc := ⟨.hbm, 66, rfl⟩
abbrev main_v55 : Ref sig .tc := ⟨.hbm, 67, rfl⟩
abbrev main_v56 : Ref sig .tc := ⟨.hbm, 68, rfl⟩
abbrev main_cst_8 : Ref sig .tc := ⟨.hbm, 69, rfl⟩
abbrev main_v57 : Ref sig .tc := ⟨.hbm, 70, rfl⟩
abbrev main_v58 : Ref sig .tc := ⟨.hbm, 71, rfl⟩
abbrev main_cst_9 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_cst_10 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_c : Ref sig .tc := ⟨.hbm, 107, rfl⟩
abbrev main_v92 : Ref sig .tc := ⟨.hbm, 108, rfl⟩
abbrev main_v93 : Ref sig .tc := ⟨.hbm, 109, rfl⟩
abbrev main_c_11 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_c_12 : Ref sig .tc := ⟨.hbm, 114, rfl⟩
abbrev main_v97 : Ref sig .tc := ⟨.hbm, 115, rfl⟩
abbrev main_v98 : Ref sig .tc := ⟨.hbm, 116, rfl⟩
abbrev main_c_13 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_cst_14 : Ref sig .tc := ⟨.hbm, 123, rfl⟩
abbrev main_v104 : Ref sig .tc := ⟨.hbm, 124, rfl⟩
abbrev main_v105 : Ref sig .tc := ⟨.hbm, 125, rfl⟩
abbrev main_cst_15 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_cst_16 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_cst_17 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_c_18 : Ref sig .tc := ⟨.hbm, 146, rfl⟩
abbrev main_v123 : Ref sig .tc := ⟨.hbm, 147, rfl⟩
abbrev main_v124 : Ref sig .tc := ⟨.hbm, 148, rfl⟩
abbrev main_c_19 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_c_20 : Ref sig .tc := ⟨.hbm, 153, rfl⟩
abbrev main_v128 : Ref sig .tc := ⟨.hbm, 154, rfl⟩
abbrev main_v129 : Ref sig .tc := ⟨.hbm, 155, rfl⟩
abbrev main_c_21 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_cst_22 : Ref sig .tc := ⟨.hbm, 162, rfl⟩
abbrev main_v135 : Ref sig .tc := ⟨.hbm, 163, rfl⟩
abbrev main_v136 : Ref sig .tc := ⟨.hbm, 164, rfl⟩
abbrev main_cst_23 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_cst_24 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_cst_25 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_c_26 : Ref sig .tc := ⟨.hbm, 185, rfl⟩
abbrev main_v154 : Ref sig .tc := ⟨.hbm, 186, rfl⟩
abbrev main_v155 : Ref sig .tc := ⟨.hbm, 187, rfl⟩
abbrev main_c_27 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_c_28 : Ref sig .tc := ⟨.hbm, 192, rfl⟩
abbrev main_v159 : Ref sig .tc := ⟨.hbm, 193, rfl⟩
abbrev main_v160 : Ref sig .tc := ⟨.hbm, 194, rfl⟩
abbrev main_c_29 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_cst_30 : Ref sig .tc := ⟨.hbm, 201, rfl⟩
abbrev main_v166 : Ref sig .tc := ⟨.hbm, 202, rfl⟩
abbrev main_v167 : Ref sig .tc := ⟨.hbm, 203, rfl⟩
abbrev main_cst_31 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_cst_32 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩

abbrev nD : Nat := 1
abbrev τ : Topo := Topo.v7x

variable {F : FTy → Type} [FloatOps F]
-- ==== Kernel2.lean ====
abbrev S4x4096x2048 : Shape := ⟨3, ![4, 4096, 2048]⟩
abbrev S2x2048 : Shape := ⟨2, ![2, 2048]⟩
abbrev S2x2048x14336 : Shape := ⟨3, ![2, 2048, 14336]⟩
abbrev S16384x2048 : Shape := ⟨2, ![16384, 2048]⟩
abbrev S1x2048 : Shape := ⟨2, ![1, 2048]⟩
abbrev S2048 : Shape := ⟨1, ![2048]⟩
abbrev S16384x14336 : Shape := ⟨2, ![16384, 14336]⟩
abbrev S1024x2048 : Shape := ⟨2, ![1024, 2048]⟩
abbrev S1x2048x1024 : Shape := ⟨3, ![1, 2048, 1024]⟩
abbrev S1024x1024 : Shape := ⟨2, ![1024, 1024]⟩
abbrev S128x2048 : Shape := ⟨2, ![128, 2048]⟩
abbrev S128 : Shape := ⟨1, ![128]⟩
abbrev S128x1 : Shape := ⟨2, ![128, 1]⟩
abbrev S2048x1024 : Shape := ⟨2, ![2048, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2x2048x14336, .f32⟩
  | .hbm, ⟨3, _⟩ => ⟨S16384x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S2x2048x14336, .bf16⟩
  | .hbm, ⟨8, _⟩ => ⟨S16384x14336, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 14], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_7 : BitVec 32 := 0#32
  let c8_i32 : BitVec 32 := 8#32
  let v9 : BitVec 32 := Scalar.addi c0_i32_7 c8_i32
  let c1_i32 : BitVec 32 := 1#32
  ⟨c0_i32_7, v9, c1_i32⟩
def k0_mult1 (k0_t1 : Fin k0_t1_loop.trips) : BitVec 32 :=
  let c0_i32_7 : BitVec 32 := 0#32
  let c1_i32 : BitVec 32 := 1#32
  let arg7 : BitVec 32 := Scf.iv c0_i32_7 c1_i32 k0_t1
  let c128_i32 : BitVec 32 := 128#32
  let v10 : BitVec 32 := Scalar.muli arg7 c128_i32
  v10
def k0_off1 (k0_t1 : Fin k0_t1_loop.trips) : Fin 2 → Nat :=
  let c0_i32_7 : BitVec 32 := 0#32
  let c1_i32 : BitVec 32 := 1#32
  let arg7 : BitVec 32 := Scf.iv c0_i32_7 c1_i32 k0_t1
  let c128_i32 : BitVec 32 := 128#32
  let v10 : BitVec 32 := Scalar.muli arg7 c128_i32
  let v11 : BitVec 32 := v10
  let v12 : Index := Scalar.indexCast v11
  let c0_9 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4x4096x2048 : Shape := ⟨3, ![4, 4096, 2048]⟩
abbrev S2x2048 : Shape := ⟨2, ![2, 2048]⟩
abbrev S2x2048x14336 : Shape := ⟨3, ![2, 2048, 14336]⟩
abbrev S1x2048 : Shape := ⟨2, ![1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x2048x14336 : Shape := ⟨3, ![1, 2048, 14336]⟩
abbrev S2048x14336 : Shape := ⟨2, ![2048, 14336]⟩
abbrev S4x4096x14336 : Shape := ⟨3, ![4, 4096, 14336]⟩
abbrev S16384x14336 : Shape := ⟨2, ![16384, 14336]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2x2048x14336, .f32⟩
  | .hbm, ⟨3, _⟩ => ⟨S1x2048, .f32⟩
  | .hbm, ⟨4, _⟩ => ⟨S2048, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S1x2048x14336, .f32⟩
  | .hbm, ⟨22, _⟩ => ⟨S2048x14336, .f32⟩
  | .hbm, ⟨23, _⟩ => ⟨S4x4096x14336, .f32⟩
  | .hbm, ⟨24, _⟩ => ⟨S4x4096x14336, .bf16⟩
  | .hbm, ⟨25, _⟩ => ⟨S16384x14336, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel3.lean ====
abbrev S4x4096x2048 : Shape := ⟨3, ![4, 4096, 2048]⟩
abbrev S4x4096x14336 : Shape := ⟨3, ![4, 4096, 14336]⟩
abbrev S2x2048 : Shape := ⟨2, ![2, 2048]⟩
abbrev S2x2048x2048 : Shape := ⟨3, ![2, 2048, 2048]⟩
abbrev S2x4096x2048 : Shape := ⟨3, ![2, 4096, 2048]⟩
abbrev S16384x2048 : Shape := ⟨2, ![16384, 2048]⟩
abbrev S16384x14336 : Shape := ⟨2, ![16384, 14336]⟩
abbrev S1x2048 : Shape := ⟨2, ![1, 2048]⟩
abbrev S2048 : Shape := ⟨1, ![2048]⟩
abbrev S256x2048 : Shape := ⟨2, ![256, 2048]⟩
abbrev S1x2048x2048 : Shape := ⟨3, ![1, 2048, 2048]⟩
abbrev S1x4096x2048 : Shape := ⟨3, ![1, 4096, 2048]⟩
abbrev S256x4096 : Shape := ⟨2, ![256, 4096]⟩
abbrev S2048x2048 : Shape := ⟨2, ![2048, 2048]⟩
abbrev S16x2048 : Shape := ⟨2, ![16, 2048]⟩
abbrev S16 : Shape := ⟨1, ![16]⟩
abbrev S16x1 : Shape := ⟨2, ![16, 1]⟩
abbrev S4096x2048 : Shape := ⟨2, ![4096, 2048]⟩

abbrev nBuf : Space → Nat
  | .hbm => 21
  | .vmem => 18
  | .smem => 0
  | _ => 0

abbrev bufTy : (tb : Table) → Fin (tcTables nBuf tb) → BufTy
  | .hbm, ⟨0, _⟩ => ⟨S4x4096x2048, .f32⟩
  | .hbm, ⟨1, _⟩ => ⟨S4x4096x14336, .bf16⟩
  | .hbm, ⟨2, _⟩ => ⟨S4x4096x2048, .bf16⟩
  | .hbm, ⟨3, _⟩ => ⟨S4x4096x2048, .f32⟩
  | .hbm, ⟨4, _⟩ => ⟨S2x2048, .f32⟩
  | .hbm, ⟨5, _⟩ => ⟨S2x2048, .f32⟩
  | .hbm, ⟨6, _⟩ => ⟨S2x2048x2048, .f32⟩
  | .hbm, ⟨7, _⟩ => ⟨S2x4096x2048, .f32⟩
  | .hbm, ⟨8, _⟩ => ⟨S2x2048x2048, .bf16⟩
  | .hbm, ⟨9, _⟩ => ⟨S2x4096x2048, .bf16⟩
  | .hbm, ⟨10, _⟩ => ⟨S16384x2048, .f32⟩
  | .hbm, ⟨11, _⟩ => ⟨S16384x14336, .bf16⟩
  | .hbm, ⟨12, _⟩ => ⟨S16384x2048, .bf16⟩
  | .hbm, ⟨13, _⟩ => ⟨S16384x2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x2048x2048, .bf16⟩
  | .local _ .vmem, ⟨13, _⟩ => ⟨S1x4096x2048, .bf16⟩
  | .local _ .vmem, ⟨14, _⟩ => ⟨S256x2048, .f32⟩
  | .local _ .vmem, ⟨15, _⟩ => ⟨S256x2048, .f32⟩
  | .local _ .vmem, ⟨16, _⟩ => ⟨S256x4096, .bf16⟩
  | .local _ .vmem, ⟨17, _⟩ => ⟨S256x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S4x4096x2048 : Shape := ⟨3, ![4, 4096, 2048]⟩
abbrev S4x4096x14336 : Shape := ⟨3, ![4, 4096, 14336]⟩
abbrev S2x2048 : Shape := ⟨2, ![2, 2048]⟩
abbrev S2x2048x2048 : Shape := ⟨3, ![2, 2048, 2048]⟩
abbrev S2x4096x2048 : Shape := ⟨3, ![2, 4096, 2048]⟩
abbrev S1x2048 : Shape := ⟨2, ![1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x2048x2048 : Shape := ⟨3, ![1, 2048, 2048]⟩
abbrev S2048x2048 : Shape := ⟨2, ![2048, 2048]⟩
abbrev S4x4096x4096 : Shape := ⟨3, ![4, 4096, 4096]⟩
abbrev S1x4096x2048 : Shape := ⟨3, ![1, 4096, 2048]⟩
abbrev S4096x2048 : Shape := ⟨2, ![4096, 2048]⟩
abbrev S16384x2048 : Shape := ⟨2, ![16384, 2048]⟩

abbrev nBuf : Space → Nat
  | .hbm => 77
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x14336, .bf16⟩
  | .hbm, ⟨2, _⟩ => ⟨S4x4096x2048, .bf16⟩
  | .hbm, ⟨3, _⟩ => ⟨S4x4096x2048, .f32⟩
  | .hbm, ⟨4, _⟩ => ⟨S2x2048, .f32⟩
  | .hbm, ⟨5, _⟩ => ⟨S2x2048, .f32⟩
  | .hbm, ⟨6, _⟩ => ⟨S2x2048x2048, .f32⟩
  | .hbm, ⟨7, _⟩ => ⟨S2x4096x2048, .f32⟩
  | .hbm, ⟨8, _⟩ => ⟨S4x4096x14336, .f32⟩
  | .hbm, ⟨9, _⟩ => ⟨S4x4096x2048, .f32⟩
  | .hbm, ⟨10, _⟩ => ⟨S4x4096x2048, .f32⟩
  | .hbm, ⟨11, _⟩ => ⟨S1x2048, .f32⟩
  | .hbm, ⟨12, _⟩ => ⟨S2048, .f32⟩
  | .hbm, ⟨13, _⟩ => ⟨S4x4096x2048, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x2048, .f32⟩
  | .hbm, ⟨25, _⟩ => ⟨S4x4096x2048, .f32⟩
  | .hbm, ⟨26, _⟩ => ⟨S1x1x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S_, .f32⟩
  | .hbm, ⟨32, _⟩ => ⟨S4x4096x2048, .f32⟩
  | .hbm, ⟨33, _⟩ => ⟨S4x4096x2048, .f32⟩
  | .hbm, ⟨34, _⟩ => ⟨S_, .f32⟩
  | .hbm, ⟨35, _⟩ => ⟨S4x4096x2048, .f32⟩
  | .hbm, ⟨36, _⟩ => ⟨S4x4096x2048, .f32⟩
  | .hbm, ⟨37, _⟩ => ⟨S4x4096x2048, .f32⟩
  | .hbm, ⟨38, _⟩ => ⟨S4x4096x2048, .f32⟩
  | .hbm, ⟨39, _⟩ => ⟨S4x4096x2048, .f32⟩
  | .hbm, ⟨40, _⟩ => ⟨S1x2048x2048, .f32⟩
  | .hbm, ⟨41, _⟩ => ⟨S2048x2048, .f32⟩
  | .hbm, ⟨42, _⟩ => ⟨S4x4096x2048, .f32⟩
  | .hbm, ⟨43, _⟩ => ⟨S1x2048, .f32⟩
  | .hbm, ⟨44, _⟩ => ⟨S2048, .f32⟩
  | .hbm, ⟨45, _⟩ => ⟨S4x4096x2048, .f32⟩
  | .hbm, ⟨46, _⟩ => ⟨S_, .f32⟩
  | .hbm, ⟨47, _⟩ => ⟨S4x4096, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S_, .f32⟩
  | .hbm, ⟨53, _⟩ => ⟨S4x4096x1, .f32⟩
  | .hbm, ⟨54, _⟩ => ⟨S4x4096x1, .f32⟩
  | .hbm, ⟨55, _⟩ => ⟨S4x4096x1, .f32⟩
  | .hbm, ⟨56, _⟩ => ⟨S4x4096x2048, .f32⟩
  | .hbm, ⟨57, _⟩ => ⟨S4x4096x2048, .f32⟩
  | .hbm, ⟨58, _⟩ => ⟨S1x1x2048, .f32⟩
  | .hbm, ⟨59, _⟩ => ⟨S4x4096x2048, .f32⟩
  | .hbm, ⟨60, _⟩ => ⟨S4x4096x2048, .f32⟩
  | .hbm, ⟨61, _⟩ => ⟨S4x4096x2048, .f32⟩
  | .hbm, ⟨62, _⟩ => ⟨S4x4096x2048, .f32⟩
  | .hbm, ⟨63, _⟩ => ⟨S_, .f32⟩
  | .hbm, ⟨64, _⟩ => ⟨S4x4096x2048, .f32⟩
  | .hbm, ⟨65, _⟩ => ⟨S4x4096x2048, .f32⟩
  | .hbm, ⟨66, _⟩ => ⟨S_, .f32⟩
  | .hbm, ⟨67, _⟩ => ⟨S4x4096x2048, .f32⟩
  | .hbm, ⟨68, _⟩ => ⟨S4x4096x2048, .f32⟩
  | .hbm, ⟨69, _⟩ => ⟨S4x4096x2048, .f32⟩
  | .hbm, ⟨70, _⟩ => ⟨S4x4096x2048, .f32⟩
  | .hbm, ⟨71, _⟩ => ⟨S4x4096x4096, .f32⟩
  | .hbm, ⟨72, _⟩ => ⟨S1x4096x2048, .f32⟩
  | .hbm, ⟨73, _⟩ => ⟨S4096x2048, .f32⟩
  | .hbm, ⟨74, _⟩ => ⟨S4x4096x2048, .f32⟩
  | .hbm, ⟨75, _⟩ => ⟨S4x4096x2048, .f32⟩
  | .hbm, ⟨76, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_2 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩

abbrev nD : Nat := 1
abbrev τ : Topo := Topo.v7x

variable {F : FTy → Type} [FloatOps F]
-- ==== Kernel4.lean ====
abbrev S4x4096x2048 : Shape := ⟨3, ![4, 4096, 2048]⟩
abbrev S2x2048x14336 : Shape := ⟨3, ![2, 2048, 14336]⟩
abbrev S16384x2048 : Shape := ⟨2, ![16384, 2048]⟩
abbrev S16384x14336 : Shape := ⟨2, ![16384, 14336]⟩
abbrev S2048x2048 : Shape := ⟨2, ![2048, 2048]⟩
abbrev S1x2048x1024 : Shape := ⟨3, ![1, 2048, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4x4096x2048, .bf16⟩
  | .hbm, ⟨1, _⟩ => ⟨S2x2048x14336, .f32⟩
  | .hbm, ⟨2, _⟩ => ⟨S16384x2048, .bf16⟩
  | .hbm, ⟨3, _⟩ => ⟨S2x2048x14336, .bf16⟩
  | .hbm, ⟨4, _⟩ => ⟨S16384x14336, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S2048x1024, .bf16⟩
  | .local _ .vmem, ⟨5, _⟩ => ⟨S2048x1024, .bf16⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4x4096x2048 : Shape := ⟨3, ![4, 4096, 2048]⟩
abbrev S2x2048x14336 : Shape := ⟨3, ![2, 2048, 14336]⟩
abbrev S1x2048x14336 : Shape := ⟨3, ![1, 2048, 14336]⟩
abbrev S2048x14336 : Shape := ⟨2, ![2048, 14336]⟩
abbrev S4x4096x14336 : Shape := ⟨3, ![4, 4096, 14336]⟩
abbrev S16384x14336 : Shape := ⟨2, ![16384, 14336]⟩

abbrev nBuf : Space → Nat
  | .hbm => 8
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S2x2048x14336, .f32⟩
  | .hbm, ⟨2, _⟩ => ⟨S4x4096x2048, .f32⟩
  | .hbm, ⟨3, _⟩ => ⟨S1x2048x14336, .f32⟩
  | .hbm, ⟨4, _⟩ => ⟨S2048x14336, .f32⟩
  | .hbm, ⟨5, _⟩ => ⟨S4x4096x14336, .f32⟩
  | .hbm, ⟨6, _⟩ => ⟨S4x4096x14336, .bf16⟩
  | .hbm, ⟨7, _⟩ => ⟨S16384x14336, .bf16⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Proof.Att.State.lean ====
/-
  The memory of the attention kernel's body, and the two rules its run is walked with.

  The body reads and writes twenty-six buffers by loads and stores of rectangles. `Mem` gives each buffer its
  contents; `St` owns them all. A run is followed by a TARGET memory `G` and a set `D` of the elements that already
  hold the target's value: a load of elements in `D` reads the target, a store of the target's values adds its
  rectangle to `D` (`ok_load`, `ok_store`). What an element outside `D` holds is never named.
-/
module

public import proofs.«01_k».proof.Proof.Gen.KernelIdeal.Frame
public import Idealize.ShloMosaic.Lib.Tactic

@[expose] public section

noncomputable section

namespace Cert.Proof.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the frame kit's. -/
local notation "𝕄" => MT nD τ sig Unit (Elt F) ℕ (UR sig nD τ) ℕ

abbrev 𝒱₀ : Variants := Variants.none

/-- The buffers the body works on: its nine inputs, its result, and its scratch — the prepared queries, keys and
    values, the prepared rows in token order and in residue order, and each branch's sums, masses and maxima. -/
inductive Slot where
  | q | k | v | cos | sin | gq | gk | bias | perm | out
  | qs | ks | vs | t0 | q4 | k4 | v4
  | ob0 | ob1 | ob2 | lb0 | lb1 | lb2 | mb0 | mb1 | mb2
  deriving DecidableEq

instance : Fintype Slot where
  elems := [Slot.q, .k, .v, .cos, .sin, .gq, .gk, .bias, .perm, .out, .qs, .ks, .vs, .t0, .q4, .k4, .v4,
    .ob0, .ob1, .ob2, .lb0, .lb1, .lb2, .mb0, .mb1, .mb2].toFinset
  complete b := by cases b <;> decide

/-- A buffer's shape. -/
@[reducible] def shp : Slot → Shape
  | .q | .k | .v | .out | .qs => S1x4096x128
  | .gq | .gk => S1x128
  | .bias => S4x128x256
  | .perm => S128x128
  | .ks => S2x4096x128
  | .vs => S1x4096x256
  | .cos | .sin | .t0 | .q4 | .k4 | .v4 | .ob0 | .ob1 | .ob2 | .lb0 | .lb1 | .lb2 | .mb0 | .mb1 | .mb2 => S4096x128

/-- A buffer's element type. -/
@[reducible] def ety : Slot → EltTy
  | .q | .k | .v | .perm | .qs | .ks | .vs => .bf16
  | .cos | .sin | .gq | .gk | .bias | .out | .t0 | .q4 | .k4 | .v4
  | .ob0 | .ob1 | .ob2 | .lb0 | .lb1 | .lb2 | .mb0 | .mb1 | .mb2 => .f32

/-- Contents for every buffer. -/
abbrev Mem (F : FTy → Type) := (b : Slot) → (shp b).Idx → Elt F (ety b)

/-- A set of elements of the buffers. -/
abbrev Part := (b : Slot) → (shp b).Idx → Prop

/-- The memory agrees with the target `G` on the elements in `D`. -/
def Inv (G : Mem F) (D : Part) (σ : Mem F) : Prop := ∀ b x, D b x → σ b x = G b x

section Rules

variable (c : Dev nD) (A : (b : Slot) → Memref sig .tc .vmem (shp b) (ety b))

/-- All the buffers, owned whole, at the memory `σ`. -/
def St (σ : Mem F) : sProp 𝕄 := bigSep Finset.univ fun b => owns (c : Thread nD τ) (A b) fullShare (σ b)

/-- From any memory that agrees with `G` on `D` the program runs to `Q`. -/
def Ok (E : Set ℕ) (Q : PUnit.{1} → sProp 𝕄) (G : Mem F) (D : Part) (p : Prog (TpuEff nD τ sig (Elt F) Λ₀ .tc) PUnit) : Prop :=
  ∀ σ : Mem F, Inv G D σ → (St c A σ : sProp 𝕄) ⊢ wp frame (wpE (defs₀ (F := F)) 𝒱₀ c none) E p Q

variable {c A}

/-- One buffer taken out of the memory, to be given back at other contents. -/
theorem St_at (b : Slot) (σ : Mem F) : (St c A σ : sProp 𝕄)
    ⊢ iprop(owns (c : Thread nD τ) (A b) fullShare (σ b)
        ∗ ∀ X, owns (c : Thread nD τ) (A b) fullShare X -∗ St c A (Function.update σ b X)) := by
  have hu (X : (shp b).Idx → Elt F (ety b)) : (St c A (Function.update σ b X) : sProp 𝕄)
      = iprop(owns (c : Thread nD τ) (A b) fullShare X
          ∗ bigSep (Finset.univ.erase b) fun b' => owns (c : Thread nD τ) (A b') fullShare (σ b')) := by
    unfold St
    rw [bigSep_univ_at _ b, Function.update_self]
    congr 1
    refine bigSep_congr fun i hi => ?_
    rw [Function.update_of_ne (Finset.ne_of_mem_erase hi)]
  unfold St
  rw [bigSep_univ_at _ b]
  iintro ⟨Hb, HR⟩
  isplitl [Hb]
  · iexact Hb
  iintro %X HX
  have h := (BIBase.Entails.of_eq (hu X).symm)
  unfold St at h
  iapply h
  isplitl [HX]
  · iexact HX
  iexact HR

/-- A load, whatever it reads. -/
theorem ok_read {E : Set ℕ} {Q : PUnit.{1} → sProp 𝕄} {G : Mem F} {D : Part} {b : Slot} {r : LoadRect (shp b)} {hl : (A b).view.LoadsAt r}
    {k : (r.shape.Idx → Elt F (ety b)) → Prog (TpuEff nD τ sig (Elt F) Λ₀ .tc) PUnit}
    (h : ∀ σ : Mem F, Inv G D σ → (St c A σ : sProp 𝕄) ⊢ wp frame (wpE (defs₀ (F := F)) 𝒱₀ c none) E (k fun x => σ b (r.idx x)) Q) :
    Ok c A E Q G D (.op (.load (A b) r hl) k) := fun σ hσ => by
  refine (St_at (F := F) b σ).trans ?_
  have hb := h σ hσ
  iintro ⟨H, HR⟩
  unfold owns
  icases H with ⟨%f, %hf, Hf⟩
  iapply (wp_load 𝒱₀ (c : Thread nD τ) none E (m := A b) (r := r) (hl := hl) (k := k) (q := fullShare) (f := f) ((A b).view.setOn_subset_set _)) $$ Hf
  iintro Hf
  have e : (A b).view.readAt (Elt F) r f = fun x => σ b (r.idx x) := by
    funext x; rw [← hf]; rfl
  rw [e]
  iapply hb
  have hs : σ = Function.update σ b (σ b) := (Function.update_eq_self b σ).symm
  conv_rhs => rw [hs]
  iapply HR
  iexists f
  isplitr
  · ipureintro; exact hf
  iexact Hf

/-- A load of elements that hold the target's values reads the target. -/
theorem ok_load {E : Set ℕ} {Q : PUnit.{1} → sProp 𝕄} {G : Mem F} {D : Part} {b : Slot} {r : LoadRect (shp b)} {hl : (A b).view.LoadsAt r}
    {k : (r.shape.Idx → Elt F (ety b)) → Prog (TpuEff nD τ sig (Elt F) Λ₀ .tc) PUnit}
    (hr : ∀ x, D b (r.idx x)) (h : Ok c A E Q G D (k fun x => G b (r.idx x))) :
    Ok c A E Q G D (.op (.load (A b) r hl) k) := ok_read fun σ hσ => by
  rw [show (fun x => σ b (r.idx x)) = fun x => G b (r.idx x) from funext fun x => hσ b _ (hr x)]
  exact h σ hσ

/-- A load whose value is not used. -/
theorem ok_skip {E : Set ℕ} {Q : PUnit.{1} → sProp 𝕄} {G : Mem F} {D : Part} {b : Slot} {r : LoadRect (shp b)} {hl : (A b).view.LoadsAt r}
    {k : (r.shape.Idx → Elt F (ety b)) → Prog (TpuEff nD τ sig (Elt F) Λ₀ .tc) PUnit}
    (h : ∀ v, Ok c A E Q G D (k v)) : Ok c A E Q G D (.op (.load (A b) r hl) k) :=
  ok_read fun σ hσ => h _ σ hσ

/-- `D` with a rectangle of one buffer. -/
def Part.add (D : Part) (b : Slot) (r : Rect (shp b)) : Part :=
  Function.update D b fun y => D b y ∨ ∃ x, r.emb x = y

/-- A store of the target's values. -/
theorem ok_store {E : Set ℕ} {Q : PUnit.{1} → sProp 𝕄} {G : Mem F} {D : Part} {b : Slot} {r : Rect (shp b)} {w : r.shape.Idx → Elt F (ety b)}
    {hx : ((A b).access r).Stores Finset.univ} {hm : (Finset.univ : Finset r.shape.Idx) = Finset.univ ∨ ∀ a, r.stride a = 1}
    {k : PUnit.{1} → Prog (TpuEff nD τ sig (Elt F) Λ₀ .tc) PUnit}
    (hw : ∀ x, w x = G b (r.emb x)) (h : Ok c A E Q G (Part.add D b r) (k ⟨⟩)) :
    Ok c A E Q G D (.op (.store (A b) r w Finset.univ hx hm) k) := fun σ hσ => by
  refine (St_at (F := F) b σ).trans ?_
  iintro ⟨H, HR⟩
  unfold owns
  icases H with ⟨%f, %hf, Hf⟩
  iapply (wp_store 𝒱₀ (c : Thread nD τ) none E (m := A b) (r := r) (w := w) (hx := hx) (hm := hm) (k := k) (f := f)
    ((A b).view.set_slice_subset r)) $$ Hf
  iintro Hf
  have hb := h (Function.update σ b ((A b).view.read (Elt F) (((A b).access r).write (Elt F) f w Finset.univ))) (by
    intro b' x hy
    by_cases e : b' = b
    · subst e
      rw [Function.update_self]
      rw [Part.add, Function.update_self] at hy
      by_cases hc : ∃ y, r.emb y = x
      · obtain ⟨y, rfl⟩ := hc
        exact (View.read_slice_write_emb (v := (A b').view) r f w (Finset.mem_univ y)).trans (hw y)
      · have hx' := hy.resolve_right hc
        refine (View.read_slice_write_of_not_mem (v := (A b').view) r f w _ fun h => hc ?_).trans ((congrFun hf x).trans (hσ b' x hx'))
        obtain ⟨y, -, rfl⟩ := Finset.mem_map.mp h
        exact ⟨y, rfl⟩
    · rw [Function.update_of_ne e]
      rw [Part.add, Function.update_of_ne e] at hy
      exact hσ b' x hy)
  iapply hb
  iapply HR
  iexists _
  isplitr
  · ipureintro; rfl
  iexact Hf

/-- The elements known may be fewer, and the target another that agrees with it on them. -/
theorem Ok.mono {E : Set ℕ} {Q : PUnit.{1} → sProp 𝕄} {G G' : Mem F} {D D' : Part} {p : Prog (TpuEff nD τ sig (Elt F) Λ₀ .tc) PUnit}
    (hD : ∀ b x, D' b x → D b x ∧ G' b x = G b x) (h : Ok c A E Q G' D' p) : Ok c A E Q G D p :=
  fun σ hσ => h σ fun b x hx => (hσ b x (hD b x hx).1).trans (hD b x hx).2.symm

end Rules

end Cert.Proof.Att
-- ==== Proof.Att.Target.lean ====
/-
  What the attention kernel's body leaves in its buffers, as functions of its nine inputs.

  Each buffer is written block by block; a block's contents are named here by the operations the body applies to
  the blocks it loads (`prep`, `scores`, `acc`, `merge`), and a whole buffer by the block and the place in it of each
  of its elements (`tiles2`, `M4`, …). `target` collects them. `Done n` is the set of elements written after the
  numbers `n` of blocks.
-/
module

public import proofs.«01_k».proof.Proof.Att.State

@[expose] public section

noncomputable section

namespace Cert.Proof.Att

open Cert.KernelIdeal Cert.KernelIdeal.Gen
open Idealize.ShloMosaic

variable {F : FTy → Type} [FloatOps F]

/-! ### Indices and blocks -/

/-- The rank-two index at two natural numbers, each taken within its axis. -/
def at2 {n m : ℕ} [NeZero n] [NeZero m] (i j : ℕ) : (⟨2, ![n, m]⟩ : Shape).Idx := fun d => match d with
  | ⟨0, _⟩ => Fin.ofNat n i
  | ⟨1, _⟩ => Fin.ofNat m j

/-- The rank-three index at three natural numbers, each taken within its axis. -/
def at3 {p n m : ℕ} [NeZero p] [NeZero n] [NeZero m] (k i j : ℕ) : (⟨3, ![p, n, m]⟩ : Shape).Idx := fun d => match d with
  | ⟨0, _⟩ => Fin.ofNat p k
  | ⟨1, _⟩ => Fin.ofNat n i
  | ⟨2, _⟩ => Fin.ofNat m j

theorem at2_0 {n m : ℕ} [NeZero n] [NeZero m] (i j : ℕ) : (at2 (n := n) (m := m) i j 0).val = i % n := rfl
theorem at2_1 {n m : ℕ} [NeZero n] [NeZero m] (i j : ℕ) : (at2 (n := n) (m := m) i j 1).val = j % m := rfl
theorem at3_0 {p n m : ℕ} [NeZero p] [NeZero n] [NeZero m] (k i j : ℕ) : (at3 (p := p) (n := n) (m := m) k i j 0).val = k % p := rfl
theorem at3_1 {p n m : ℕ} [NeZero p] [NeZero n] [NeZero m] (k i j : ℕ) : (at3 (p := p) (n := n) (m := m) k i j 1).val = i % n := rfl
theorem at3_2 {p n m : ℕ} [NeZero p] [NeZero n] [NeZero m] (k i j : ℕ) : (at3 (p := p) (n := n) (m := m) k i j 2).val = j % m := rfl

theorem eq_at2 {n m : ℕ} [NeZero n] [NeZero m] {y : (⟨2, ![n, m]⟩ : Shape).Idx} {i j : ℕ} (hi : (y 0).val = i) (hj : (y 1).val = j) :
    y = at2 i j := by
  funext d
  match d with
  | ⟨0, _⟩ => exact Fin.ext (hi.trans (Nat.mod_eq_of_lt (hi ▸ (y 0).isLt)).symm)
  | ⟨1, _⟩ => exact Fin.ext (hj.trans (Nat.mod_eq_of_lt (hj ▸ (y 1).isLt)).symm)

theorem eq_at3 {p n m : ℕ} [NeZero p] [NeZero n] [NeZero m] {y : (⟨3, ![p, n, m]⟩ : Shape).Idx} {k i j : ℕ}
    (hk : (y 0).val = k) (hi : (y 1).val = i) (hj : (y 2).val = j) : y = at3 k i j := by
  funext d
  match d with
  | ⟨0, _⟩ => exact Fin.ext (hk.trans (Nat.mod_eq_of_lt (hk ▸ (y 0).isLt)).symm)
  | ⟨1, _⟩ => exact Fin.ext (hi.trans (Nat.mod_eq_of_lt (hi ▸ (y 1).isLt)).symm)
  | ⟨2, _⟩ => exact Fin.ext (hj.trans (Nat.mod_eq_of_lt (hj ▸ (y 2).isLt)).symm)

/-- Every `s`-th row of a table from row `o` on. -/
def slab2 {α : Type} {N m : ℕ} [NeZero N] [NeZero m] (f : (⟨2, ![N, m]⟩ : Shape).Idx → α) (o s : ℕ) {n w : ℕ} :
    (⟨2, ![n, w]⟩ : Shape).Idx → α := fun x => f (at2 (o + s * (x 0).val) (x 1).val)

/-- The rows of page `p` of a table from row `o` on. -/
def slab3 {α : Type} {P N m : ℕ} [NeZero P] [NeZero N] [NeZero m] (f : (⟨3, ![P, N, m]⟩ : Shape).Idx → α) (p o : ℕ) {n w : ℕ} :
    (⟨3, ![1, n, w]⟩ : Shape).Idx → α := fun x => f (at3 p (o + (x 1).val) (x 2).val)

/-- A table of blocks of `n` rows each. -/
def tiles2 {α : Type} (n : ℕ) [NeZero n] (f : ℕ → (⟨2, ![n, 128]⟩ : Shape).Idx → α) : S4096x128.Idx → α :=
  fun y => f ((y 0).val / n) (at2 ((y 0).val % n) (y 1).val)

/-- A table's rows in residue order: row `1024 r + u` is row `4 u + r`. -/
def M4 {α : Type} (f : S4096x128.Idx → α) : S4096x128.Idx → α :=
  fun y => f (at2 (4 * ((y 0).val % 1024) + (y 0).val / 1024) (y 1).val)

/-! ### Loads and stores of rectangles, by their offsets -/

section Rects

variable {α : Type}

theorem rd2 {N m n w : ℕ} [NeZero N] [NeZero m] {off st : Fin 2 → ℕ} (o s : ℕ) (h : off = ![o, 0]) (hs : st = ![s, 1]) {inb}
    (f : (⟨2, ![N, m]⟩ : Shape).Idx → α) :
    (fun x => f ((⟨off, ![n, w], st, inb⟩ : LoadRect ⟨2, ![N, m]⟩).idx x)) = slab2 f o s := by
  subst h hs
  funext x
  refine congrArg f (eq_at2 ?_ ?_)
  · simp
  · simp

theorem rd3 {P N m n w : ℕ} [NeZero P] [NeZero N] [NeZero m] {off st : Fin 3 → ℕ} (p o : ℕ) (h : off = ![p, o, 0]) (hs : st = ![1, 1, 1]) {inb}
    (f : (⟨3, ![P, N, m]⟩ : Shape).Idx → α) :
    (fun x => f ((⟨off, ![1, n, w], st, inb⟩ : LoadRect ⟨3, ![P, N, m]⟩).idx x)) = slab3 f p o := by
  subst h hs
  funext x
  have h0 : (x 0).val = 0 := Nat.lt_one_iff.mp (x 0).isLt
  refine congrArg f (eq_at3 ?_ ?_ ?_)
  · rw [LoadRect.idx_apply]; simpa using h0
  · simp
  · simp

theorem emb2 {N m n w : ℕ} [NeZero N] [NeZero m] {off st : Fin 2 → ℕ} (o s : ℕ) (h : off = ![o, 0]) (hs : st = ![s, 1]) {inb hp}
    (x : (⟨2, ![n, w]⟩ : Shape).Idx) :
    (⟨⟨off, ![n, w], st, inb⟩, hp⟩ : Rect ⟨2, ![N, m]⟩).emb x = at2 (o + s * (x 0).val) (x 1).val := by
  subst h hs
  refine eq_at2 ?_ ?_
  · rw [Rect.emb_apply]; simp
  · rw [Rect.emb_apply]; simp

theorem emb3 {P N m n w : ℕ} [NeZero P] [NeZero N] [NeZero m] {off st : Fin 3 → ℕ} (p o s l : ℕ) (h : off = ![p, o, l]) (hs : st = ![1, s, 1]) {inb hp}
    (x : (⟨3, ![1, n, w]⟩ : Shape).Idx) :
    (⟨⟨off, ![1, n, w], st, inb⟩, hp⟩ : Rect ⟨3, ![P, N, m]⟩).emb x = at3 p (o + s * (x 1).val) (l + (x 2).val) := by
  subst h hs
  have h0 : (x 0).val = 0 := Nat.lt_one_iff.mp (x 0).isLt
  refine eq_at3 ?_ ?_ ?_
  · rw [Rect.emb_apply]; simpa using h0
  · rw [Rect.emb_apply]; simp
  · rw [Rect.emb_apply]; simp

theorem mem2 {N m n : ℕ} {off st : Fin 2 → ℕ} (o s : ℕ) (h : off = ![o, 0]) (hs : st = ![s, 1]) {inb hp}
    (y : (⟨2, ![N, m]⟩ : Shape).Idx) (k : ℕ) (hk : k < n) (hy : o + s * k = (y 0).val) :
    ∃ x, (⟨⟨off, ![n, m], st, inb⟩, hp⟩ : Rect ⟨2, ![N, m]⟩).emb x = y := by
  subst h hs
  refine ⟨fun d => match d with | ⟨0, _⟩ => ⟨k, hk⟩ | ⟨1, _⟩ => y 1, funext fun d => Fin.ext ?_⟩
  rw [Rect.emb_apply]
  match d with
  | ⟨0, _⟩ => simpa using hy
  | ⟨1, _⟩ => simp

theorem mem3 {P N m n w : ℕ} {off st : Fin 3 → ℕ} (p o s l : ℕ) (h : off = ![p, o, l]) (hs : st = ![1, s, 1]) {inb hp}
    (y : (⟨3, ![P, N, m]⟩ : Shape).Idx) (k j : ℕ) (hk : k < n) (hj : j < w) (h0 : p = (y 0).val) (h1 : o + s * k = (y 1).val) (h2 : l + j = (y 2).val) :
    ∃ x, (⟨⟨off, ![1, n, w], st, inb⟩, hp⟩ : Rect ⟨3, ![P, N, m]⟩).emb x = y := by
  subst h hs
  refine ⟨fun d => match d with | ⟨0, _⟩ => ⟨0, Nat.one_pos⟩ | ⟨1, _⟩ => ⟨k, hk⟩ | ⟨2, _⟩ => ⟨j, hj⟩, funext fun d => Fin.ext ?_⟩
  rw [Rect.emb_apply]
  match d with
  | ⟨0, _⟩ => simpa using h0
  | ⟨1, _⟩ => simpa using h1
  | ⟨2, _⟩ => simpa using h2

theorem tiles2_at {n : ℕ} [NeZero n] (f : ℕ → (⟨2, ![n, 128]⟩ : Shape).Idx → α) (c : ℕ) (x : (⟨2, ![n, 128]⟩ : Shape).Idx)
    (h : n * c + n ≤ 4096) : tiles2 n f (at2 (n * c + 1 * (x 0).val) (x 1).val) = f c x := by
  have hx : (x 0).val < n := (x 0).isLt
  have hn : 0 < n := Nat.pos_of_ne_zero (NeZero.ne n)
  have e : (n * c + 1 * (x 0).val) % 4096 = n * c + (x 0).val := by rw [Nat.one_mul]; exact Nat.mod_eq_of_lt (by omega)
  unfold tiles2
  rw [at2_0, at2_1, e, Nat.mul_add_div hn, Nat.div_eq_of_lt hx, Nat.mul_add_mod, Nat.mod_eq_of_lt hx, Nat.add_zero]
  exact congrArg (f c) (eq_at2 rfl (Nat.mod_eq_of_lt (x 1).isLt).symm).symm

end Rects

/-! ### What the body computes of a block -/

/-- A norm's gain, scaled. -/
def gain (w : BitVec 32) (g : Vec F S1x128 .f32) : FVec F S1x128 .f32 :=
  mulf (shapeCast S1x128 g shapeCasts_S1x128_S1x128) (broadcast S1x128 (Scalar.ofBits .f32 w))

/-- A block of queries or keys normed and turned by the positions' angles. -/
def prep (g : FVec F S1x128 .f32) (x : Vec F S1x256x128 .bf16) (perm : Vec F S128x128 .bf16) (cs sn : Vec F S256x128 .f32) :
    FVec F S256x128 .f32 :=
  have raw : FVec F S256x128 .bf16 := shapeCast S256x128 x shapeCasts_S1x256x128_S256x128
  have y : FVec F S256x128 .f32 := extf .f32 raw bitsLt_bf16_f32
  have rot : FVec F S256x128 .f32 := matmul dot_S256x128_S128x128_S256x128_1_0_0_1_n_n none raw
    (shapeCast S128x128 perm shapeCasts_S128x128_S128x128) (constant S256x128 .f32 0x00000000#32)
  have ss : FVec F S256 .f32 := multiReduction .add [1] S256 (mulf y y) 0x00000000#32 reduces_S256x128_S256 (.inl rfl) rfl
  have ms : FVec F S256x1 .f32 := divf (shapeCast S256x1 ss shapeCasts_S256_S256x1) (broadcast S256x1 (Scalar.ofBits .f32 0x43000000#32))
  have inv : FVec F S256x1 .f32 := rsqrt (addf ms (broadcast S256x1 (Scalar.ofBits .f32 0x358637BD#32)))
  have a : FVec F S256x128 .f32 := mulf (mulf y (broadcastTo S256x128 g broadcasts_S1x128_S256x128)) (shapeCast S256x128 cs shapeCasts_S256x128_S256x128)
  have b : FVec F S256x128 .f32 := mulf
    (mulf rot (broadcastTo S256x128 (dynamicRotate 1 (64#32) none g rotates_S1x128_d1) broadcasts_S1x128_S256x128))
    (shapeCast S256x128 sn shapeCasts_S256x128_S256x128)
  mulf (addf a b) (broadcastTo S256x128 inv broadcasts_S256x1_S256x128)

/-- A block of queries against its keys, with the block's mask. -/
def scores (q : FVec F S128x128 .bf16) (k : FVec F S256x128 .bf16) (b : Vec F S1x128x256 .f32) : FVec F S128x256 .f32 :=
  addf (matmul dot_S128x128_S256x128_S128x256_1_1_0_0_n_n none q k (constant S128x256 .f32 0x00000000#32))
    (shapeCast S128x256 b shapeCasts_S1x128x256_S128x256)

/-- The greatest score of each row. -/
def rowMax (s : FVec F S128x256 .f32) : FVec F S128x1 .f32 :=
  shapeCast S128x1 (multiReduction .maximumf [1] S128 s 0xFF800000#32 reduces_S128x256_S128 (.inl rfl) rfl) shapeCasts_S128_S128x1

/-- The weighted sums of the values, and of the ones that stand beside them. -/
def acc (s : FVec F S128x256 .f32) (v : FVec F S256x256 .bf16) : FVec F S128x256 .f32 :=
  matmul dot_S128x256_S256x256_S128x256_1_0_0_1_n_n none
    (truncf .bf16 (exp (subf s (broadcastTo S128x256 (rowMax s) broadcasts_S128x1_S128x256))) bitsLt_bf16_f32) v
    (constant S128x256 .f32 0x00000000#32)

/-- The sums. -/
def accV (s : FVec F S128x256 .f32) (v : FVec F S256x256 .bf16) : FVec F S128x128 .f32 :=
  extractStridedSlice S128x128 ![0, 0] (acc s v) slices_S128x256_o0_0_S128x128

/-- The masses. -/
def accL (s : FVec F S128x256 .f32) (v : FVec F S256x256 .bf16) : FVec F S128x128 .f32 :=
  extractStridedSlice S128x128 ![0, 128] (acc s v) slices_S128x256_o0_128_S128x128

/-- The maxima, along the rows. -/
def accM (s : FVec F S128x256 .f32) : FVec F S128x128 .f32 :=
  broadcastTo S128x128 (shapeCast S128x1 (rowMax s) shapeCasts_S128x1_S128x1) broadcasts_S128x1_S128x128

/-- Values beside ones. -/
def withOnes (v : FVec F S256x128 .bf16) : FVec F S256x256 .bf16 :=
  concatenate S256x256 1 [⟨S256x128, v⟩, ⟨S256x128, broadcast S256x128 (Scalar.ofBits .bf16 0x3F80#16)⟩]
    concatenates_S256x128_S256x128_S256x256_d1

/-- Four runs of queries as one block. -/
def four (a b c d : Vec F S1x32x128 .bf16) : FVec F S128x128 .bf16 :=
  concatenate S128x128 0 [⟨S32x128, shapeCast S32x128 a shapeCasts_S1x32x128_S32x128⟩, ⟨S32x128, shapeCast S32x128 b shapeCasts_S1x32x128_S32x128⟩,
    ⟨S32x128, shapeCast S32x128 c shapeCasts_S1x32x128_S32x128⟩, ⟨S32x128, shapeCast S32x128 d shapeCasts_S1x32x128_S32x128⟩]
    concatenates_S32x128_S32x128_S32x128_S32x128_S128x128_d0

/-- The three branches' sums over their masses, each weighted by its maximum. -/
def merge (m0 m1 m2 o0 l0 o1 l1 o2 l2 : Vec F S256x128 .f32) : FVec F S256x128 .f32 :=
  have m : FVec F S256x128 .f32 := maximumf (maximumf m0 m1) m2
  have w0 : FVec F S256x128 .f32 := exp (subf m0 m)
  have w1 : FVec F S256x128 .f32 := exp (subf m1 m)
  have w2 : FVec F S256x128 .f32 := exp (subf m2 m)
  divf (addf (addf (mulf w0 o0) (mulf w1 o1)) (mulf w2 o2)) (addf (addf (mulf w0 l0) (mulf w1 l1)) (mulf w2 l2))

/-! ### The buffers -/

section Buffers

variable (I : Mem F)

/-- The prepared queries, in token order. -/
def TQ : S4096x128.Idx → Elt F .f32 := tiles2 256 fun c =>
  prep (gain 0x3DB504F3#32 (I .gq)) (slab3 (I .q) 0 (256 * c)) (I .perm) (slab2 (I .cos) (256 * c) 1) (slab2 (I .sin) (256 * c) 1)

/-- The prepared keys, in token order. -/
def TK : S4096x128.Idx → Elt F .f32 := tiles2 256 fun c =>
  prep (gain 0x3F800000#32 (I .gk)) (slab3 (I .k) 0 (256 * c)) (I .perm) (slab2 (I .cos) (256 * c) 1) (slab2 (I .sin) (256 * c) 1)

/-- The values, in token order. -/
def TV : S4096x128.Idx → Elt F .f32 := tiles2 256 fun c =>
  (extf .f32 (shapeCast S256x128 (slab3 (I .v) 0 (256 * c) : Vec F S1x256x128 .bf16) shapeCasts_S1x256x128_S256x128 : FVec F S256x128 .bf16) bitsLt_bf16_f32 : FVec F S256x128 .f32)

/-- Rounding to the narrow format. -/
def toBf (x : Elt F .f32) : Elt F .bf16 := FloatOps.truncf .bf16 bitsLt_bf16_f32 x

def one16 : Elt F .bf16 := Scalar.ofBits .bf16 0x3F80#16

/-- The queries in residue order. -/
def QS : S1x4096x128.Idx → Elt F .bf16 := fun y => toBf (M4 (TQ I) (at2 (y 1).val (y 2).val))

/-- The keys in token order and in residue order. -/
def KS : S2x4096x128.Idx → Elt F .bf16 := fun y =>
  if (y 0).val = 0 then toBf (TK I (at2 (y 1).val (y 2).val)) else toBf (M4 (TK I) (at2 (y 1).val (y 2).val))

/-- The values in residue order, beside ones. -/
def VS : S1x4096x256.Idx → Elt F .bf16 := fun y =>
  if (y 2).val < 128 then toBf (M4 (TV I) (at2 (y 1).val (y 2).val)) else one16

/-- The keys' block of query block `c` among blocks of which each residue class has `nb`: the block before it, or
    its own where it is the first. -/
def kblk (nb c : ℕ) : ℕ := if c % nb = 0 then c else c - 1

/-- Every token: block `c`'s scores and values. -/
def s0 (c : ℕ) : FVec F S128x256 .f32 :=
  scores (four (slab3 (QS I) 0 (32 * c)) (slab3 (QS I) 0 (1024 + 32 * c)) (slab3 (QS I) 0 (2048 + 32 * c)) (slab3 (QS I) 0 (3072 + 32 * c)))
    (shapeCast S256x128 (slab3 (KS I) 0 (128 * kblk 32 c) : Vec F S1x256x128 .bf16) shapeCasts_S1x256x128_S256x128)
    (slab3 (I .bias) (if c % 32 = 0 then 0 else 1) 0)
def v0 (c : ℕ) : FVec F S256x256 .bf16 :=
  withOnes (shapeCast S256x128 (slab3 (I .v) 0 (128 * kblk 32 c) : Vec F S1x256x128 .bf16) shapeCasts_S1x256x128_S256x128)

/-- Every fourth token: block `c`'s scores and values. -/
def s1 (c : ℕ) : FVec F S128x256 .f32 :=
  scores (shapeCast S128x128 (slab3 (QS I) 0 (128 * c) : Vec F S1x128x128 .bf16) shapeCasts_S1x128x128_S128x128)
    (shapeCast S256x128 (slab3 (KS I) 1 (128 * kblk 8 c) : Vec F S1x256x128 .bf16) shapeCasts_S1x256x128_S256x128)
    (slab3 (I .bias) (if c % 8 = 0 then 2 else 3) 0)
def v1 (c : ℕ) : FVec F S256x256 .bf16 :=
  shapeCast S256x256 (slab3 (VS I) 0 (128 * kblk 8 c) : Vec F S1x256x256 .bf16) shapeCasts_S1x256x256_S256x256

/-- Where block `c`'s residue class begins, among every sixteenth token, in residue order. -/
def base (c : ℕ) : ℕ := c / 2 % 4 * 1024 + c / 2 / 4

/-- Every sixteenth token: block `c`'s scores and values. -/
def s2 (c : ℕ) : FVec F S128x256 .f32 :=
  scores (truncf .bf16 (slab2 (M4 (TQ I)) (base c + 512 * (c % 2)) 4 : FVec F S128x128 .f32) bitsLt_bf16_f32)
    (truncf .bf16 (slab2 (M4 (TK I)) (base c) 4 : FVec F S256x128 .f32) bitsLt_bf16_f32)
    (slab3 (I .bias) (if c % 2 = 0 then 2 else 3) 0)
def v2 (c : ℕ) : FVec F S256x256 .bf16 :=
  withOnes (truncf .bf16 (slab2 (M4 (TV I)) (base c) 4 : FVec F S256x128 .f32) bitsLt_bf16_f32)

/-- A table of the first branch's blocks, whose rows are kept in residue order. -/
def tilesA {α : Type} (f : ℕ → S128x128.Idx → α) : S4096x128.Idx → α :=
  fun y => f ((y 0).val % 1024 / 32) (at2 (32 * ((y 0).val / 1024) + (y 0).val % 32) (y 1).val)

/-- A table of the third branch's blocks, whose rows are kept in residue order. -/
def tilesC {α : Type} (f : ℕ → S128x128.Idx → α) : S4096x128.Idx → α :=
  fun y => f (2 * (4 * ((y 0).val % 4) + (y 0).val / 1024) + (y 0).val % 1024 / 512) (at2 ((y 0).val % 512 / 4) (y 1).val)

def OB0 : S4096x128.Idx → Elt F .f32 := tilesA fun c => accV (s0 I c) (v0 I c)
def LB0 : S4096x128.Idx → Elt F .f32 := tilesA fun c => accL (s0 I c) (v0 I c)
def MB0 : S4096x128.Idx → Elt F .f32 := tilesA fun c => accM (s0 I c)
def OB1 : S4096x128.Idx → Elt F .f32 := tiles2 128 fun c => accV (s1 I c) (v1 I c)
def LB1 : S4096x128.Idx → Elt F .f32 := tiles2 128 fun c => accL (s1 I c) (v1 I c)
def MB1 : S4096x128.Idx → Elt F .f32 := tiles2 128 fun c => accM (s1 I c)
def OB2 : S4096x128.Idx → Elt F .f32 := tilesC fun c => accV (s2 I c) (v2 I c)
def LB2 : S4096x128.Idx → Elt F .f32 := tilesC fun c => accL (s2 I c) (v2 I c)
def MB2 : S4096x128.Idx → Elt F .f32 := tilesC fun c => accM (s2 I c)

/-- The rows of the result from row `o` of the residue order on. -/
def MG (o : ℕ) : FVec F S256x128 .f32 :=
  merge (slab2 (MB0 I) o 1) (slab2 (MB1 I) o 1) (slab2 (MB2 I) o 1) (slab2 (OB0 I) o 1) (slab2 (LB0 I) o 1)
    (slab2 (OB1 I) o 1) (slab2 (LB1 I) o 1) (slab2 (OB2 I) o 1) (slab2 (LB2 I) o 1)

/-- The result: token `t`'s row is row `1024 (t % 4) + t / 4` of the residue order. -/
def OUT : S1x4096x128.Idx → Elt F .f32 := fun y =>
  MG I (1024 * ((y 1).val % 4) + 256 * ((y 1).val / 1024)) (at2 ((y 1).val / 4 % 256) (y 2).val)

/-- The target, the buffer of the rows in token order holding `T`. -/
def target (T : S4096x128.Idx → Elt F .f32) : Mem F
  | .q => I .q | .k => I .k | .v => I .v | .cos => I .cos | .sin => I .sin
  | .gq => I .gq | .gk => I .gk | .bias => I .bias | .perm => I .perm
  | .out => OUT I | .qs => QS I | .ks => KS I | .vs => VS I | .t0 => T
  | .q4 => M4 (TQ I) | .k4 => M4 (TK I) | .v4 => M4 (TV I)
  | .ob0 => OB0 I | .ob1 => OB1 I | .ob2 => OB2 I | .lb0 => LB0 I | .lb1 => LB1 I | .lb2 => LB2 I
  | .mb0 => MB0 I | .mb1 => MB1 I | .mb2 => MB2 I

end Buffers

/-- How many blocks of each kind are written: the ones; rows in token order; queries in residue order; keys in token
    order and in residue order; values in residue order; the branches' blocks (the first branch's by runs); the
    result's. -/
structure Ctr where
  w : ℕ := 0
  t : ℕ := 0
  q : ℕ := 0
  k0 : ℕ := 0
  k1 : ℕ := 0
  v : ℕ := 0
  b0 : ℕ := 0
  b1 : ℕ := 0
  b2 : ℕ := 0
  o : ℕ := 0

/-- The elements then written. -/
def Done (n : Ctr) : Part := fun b => match b with
  | .q | .k | .v | .cos | .sin | .gq | .gk | .bias | .perm => fun _ => True
  | .out => fun y => 4 * ((y 1).val % 4) + (y 1).val / 1024 < n.o
  | .qs => fun y => (y 1).val < 256 * n.q
  | .ks => fun y => if (y 0).val = 0 then (y 1).val < 256 * n.k0 else (y 1).val < 256 * n.k1
  | .vs => fun y => if (y 2).val < 128 then (y 1).val < 256 * n.v else 0 < n.w
  | .t0 => fun y => (y 0).val < 256 * n.t
  | .q4 => fun y => (y 0).val < 256 * n.q
  | .k4 => fun y => (y 0).val < 256 * n.k1
  | .v4 => fun y => (y 0).val < 256 * n.v
  | .ob0 | .lb0 | .mb0 => fun y => 4 * ((y 0).val % 1024 / 32) + (y 0).val / 1024 < n.b0
  | .ob1 | .lb1 | .mb1 => fun y => (y 0).val < 128 * n.b1
  | .ob2 | .lb2 | .mb2 => fun y => 2 * (4 * ((y 0).val % 4) + (y 0).val / 1024) + (y 0).val % 1024 / 512 < n.b2

end Cert.Proof.Att
-- ==== Proof.Att.Blocks.lean ====
/-
  One rule for each kind of block of the attention kernel's body: from a memory that holds the target's values where
  the blocks before have written, the block's loads and stores lead to one that holds them on its rows too.
-/
module

public import proofs.«01_k».proof.Proof.Att.Target
public import Idealize.ShloMosaic.Lib.Pointwise

@[expose] public section

set_option maxRecDepth 8192

noncomputable section

namespace Cert.Proof.Att

open Cert.KernelIdeal Cert.KernelIdeal.Gen
open Idealize.ShloMosaic
open Idealize.ShloMosaic.TcCoe
open Idealize.SL Idealize.SL.RA Idealize.SL.BI
open scoped Idealize.SL.BI
open Idealize.SL.Sem

variable {F : FTy → Type} [FloatOps F]

/-- The resource algebra: the frame kit's. -/
local notation "𝕄" => MT nD τ sig Unit (Elt F) ℕ (UR sig nD τ) ℕ

/-- The programs of the body. -/
abbrev Pg (F : FTy → Type) [FloatOps F] := Prog (TpuEff nD τ sig (Elt F) Λ₀ .tc) PUnit

variable {c : Dev nD} {A : (b : Slot) → Memref sig .tc .vmem (shp b) (ety b)}

/-- A store of the target's values, the elements known after it named. -/
theorem store_to {E : Set ℕ} {Q : PUnit.{1} → sProp 𝕄} {G : Mem F} {D : Part} (D' : Part) {b : Slot} {r : Rect (shp b)} {w : r.shape.Idx → Elt F (ety b)}
    {hx : ((A b).access r).Stores Finset.univ} {hm : (Finset.univ : Finset r.shape.Idx) = Finset.univ ∨ ∀ a, r.stride a = 1}
    {k : PUnit.{1} → Pg F}
    (hw : ∀ x, w x = G b (r.emb x)) (hD : ∀ y, D' b y → D b y ∨ ∃ x, r.emb x = y) (hE : ∀ b', b' ≠ b → ∀ y, D' b' y → D b' y)
    (h : Ok c A E Q G D' (k ⟨⟩)) : Ok c A E Q G D (.op (.store (A b) r w Finset.univ hx hm) k) := by
  refine ok_store hw (Ok.mono (fun b' y hy => ⟨?_, rfl⟩) h)
  by_cases e : b' = b
  · subst e; rw [Part.add, Function.update_self]; exact hD y hy
  · rw [Part.add, Function.update_of_ne e]; exact hE b' e y hy

variable {E : Set ℕ} {I : Mem F}

/-- Unit strides. -/
theorem ones2 : (fun _ => 1 : Fin 2 → ℕ) = ![1, 1] := by decide
theorem ones3 : (fun _ => 1 : Fin 3 → ℕ) = ![1, 1, 1] := by decide

theorem slab2_whole {α : Type} {N m : ℕ} [NeZero N] [NeZero m] (f : (⟨2, ![N, m]⟩ : Shape).Idx → α) : slab2 f 0 1 = f := by
  funext x
  exact congrArg f (eq_at2 (by simp) rfl).symm

/-- A load of elements that hold the target's values, the value it reads named. -/
theorem load_eq {Q : PUnit.{1} → sProp 𝕄} {G : Mem F} {D : Part} {b : Slot} {r : LoadRect (shp b)} {hl : (A b).view.LoadsAt r}
    {k : (r.shape.Idx → Elt F (ety b)) → Pg F} (v : r.shape.Idx → Elt F (ety b)) (hv : (fun x => G b (r.idx x)) = v)
    (hr : ∀ x, D b (r.idx x)) (h : Ok c A E Q G D (k v)) :
    Ok c A E Q G D (.op (.load (A b) r hl) k) := ok_load hr (hv ▸ h)

/-- The next block of rows in token order. -/
theorem rows_t0 {n : ℕ} {z : Ctr} (hz : z.t = n) {off} (h : off = ![256 * n, 0]) {inb} (y : S4096x128.Idx)
    (hy : Done { z with t := n + 1 } .t0 y) : Done z .t0 y ∨ ∃ x, (Rect.unit (s := S4096x128) off S256x128.size inb).emb x = y := by
  subst hz
  by_cases hc : (y 0).val < 256 * z.t
  · exact .inl hc
  · have hy' : (y 0).val < 256 * (z.t + 1) := hy
    exact .inr (mem2 (256 * z.t) 1 h ones2 y ((y 0).val - 256 * z.t) (by omega) (by omega))

/-! ### Reading the casts -/

theorem cast_up {α : Type} {n m : ℕ} [NeZero n] [NeZero m] (f : (⟨2, ![n, m]⟩ : Shape).Idx → α) (h : (⟨2, ![n, m]⟩ : Shape).ShapeCasts ⟨3, ![1, n, m]⟩)
    (x : (⟨3, ![1, n, m]⟩ : Shape).Idx) : shapeCast ⟨3, ![1, n, m]⟩ f h x = f (at2 (x 1).val (x 2).val) :=
  (shapeCast_addUnit_apply ![n, m] f h x).trans (congrArg f (eq_at2 rfl rfl))

theorem cast_down {α : Type} {n m : ℕ} [NeZero n] [NeZero m] (f : (⟨3, ![1, n, m]⟩ : Shape).Idx → α) (h : (⟨3, ![1, n, m]⟩ : Shape).ShapeCasts ⟨2, ![n, m]⟩)
    (x : (⟨2, ![n, m]⟩ : Shape).Idx) : shapeCast ⟨2, ![n, m]⟩ f h x = f (at3 0 (x 0).val (x 1).val) :=
  (shapeCast_dropUnit_apply ![n, m] f h x).trans (congrArg f (eq_at3 rfl rfl rfl))

theorem M4_at {α : Type} (f : S4096x128.Idx → α) {r i : ℕ} (hr : r < 4) (hi : i < 4) (x : S256x128.Idx) :
    M4 f (at2 (1024 * r + 256 * i + 1 * (x 0).val) (x 1).val) = slab2 f (r + 1024 * i) 4 x := by
  have hx : (x 0).val < 256 := (x 0).isLt
  have hx1 : (x 1).val < 128 := (x 1).isLt
  unfold M4 slab2
  rw [at2_0, at2_1, Nat.mod_eq_of_lt hx1]
  congr 2
  omega

/-! ### The rows in token order -/

theorem prepQ {Q : PUnit.{1} → sProp 𝕄} (n : ℕ) (hn : n < 16) {z : Ctr} (hz : z.t = n) {i1 l1 i2 l2 i3 l3 i4 l4 i5 l5 i6 x1 x2}
    {K : PUnit.{1} → Pg F} (h : Ok c A E Q (target I (TQ I)) (Done { z with t := n + 1 }) (K ⟨⟩)) :
    Ok c A E Q (target I (TQ I)) (Done z)
      (.op (.load (A .q) (Rect.unit (s := S1x4096x128) (k0_off1 (BitVec.ofNat 32 n)) S1x256x128.size i1).toLoadRect l1) fun x =>
       .op (.load (A .perm) (Rect.unit (s := S128x128) ![0, 0] S128x128.size i2).toLoadRect l2) fun pm =>
       .op (.load (A .cos) (Rect.unit (s := S4096x128) (k0_off2 (BitVec.ofNat 32 n)) S256x128.size i3).toLoadRect l3) fun cs =>
       .op (.load (A .sin) (Rect.unit (s := S4096x128) (k0_off2 (BitVec.ofNat 32 n)) S256x128.size i4).toLoadRect l4) fun sn =>
       .op (.load (A .t0) (Rect.unit (s := S4096x128) (k0_off2 (BitVec.ofNat 32 n)) S256x128.size i5).toLoadRect l5) fun _ =>
       .op (.store (A .t0) (Rect.unit (s := S4096x128) (k0_off2 (BitVec.ofNat 32 n)) S256x128.size i6)
          (shapeCast S256x128 (prep (gain 0x3DB504F3#32 (I .gq)) x pm cs sn) shapeCasts_S256x128_S256x128) Finset.univ x1 x2) K) := by
  have h1 : k0_off1 (BitVec.ofNat 32 n) = ![0, 256 * n, 0] := k0_off1_eq ⟨n, hn⟩
  have h2 : k0_off2 (BitVec.ofNat 32 n) = ![256 * n, 0] := k0_off2_eq ⟨n, hn⟩
  refine load_eq (b := .q) _ (rd3 0 (256 * n) h1 ones3 (I .q)) (fun _ => trivial) ?_
  refine load_eq (b := .perm) _ ((rd2 0 1 rfl ones2 (I .perm)).trans (slab2_whole _)) (fun _ => trivial) ?_
  refine load_eq (b := .cos) _ (rd2 (256 * n) 1 h2 ones2 (I .cos)) (fun _ => trivial) ?_
  refine load_eq (b := .sin) _ (rd2 (256 * n) 1 h2 ones2 (I .sin)) (fun _ => trivial) ?_
  refine ok_skip (b := .t0) fun _ => ?_
  refine store_to (b := .t0) _ (fun x => ?_) (fun y hy => ?_) (fun b' hb y hy => ?_) h
  · rw [shapeCast_id]
    exact ((congrArg (TQ I) (emb2 (256 * n) 1 h2 ones2 x)).trans (tiles2_at _ n x (by omega))).symm
  · exact rows_t0 hz h2 y hy
  · cases b' <;> first | exact hy | exact absurd rfl hb

theorem prepK {Q : PUnit.{1} → sProp 𝕄} (n : ℕ) (hn : n < 16) {z : Ctr} (hz : z.t = n) (hk : z.k0 = n)
    {i1 l1 i2 l2 i3 l3 i4 l4 i5 l5 i6 x1 x2 i7 l7 i8 y1 y2} {K : PUnit.{1} → Pg F}
    (h : Ok c A E Q (target I (TK I)) (Done { z with t := n + 1, k0 := n + 1 }) (K ⟨⟩)) :
    Ok c A E Q (target I (TK I)) (Done z)
      (.op (.load (A .k) (Rect.unit (s := S1x4096x128) (k0_off1 (BitVec.ofNat 32 n)) S1x256x128.size i1).toLoadRect l1) fun x =>
       .op (.load (A .perm) (Rect.unit (s := S128x128) ![0, 0] S128x128.size i2).toLoadRect l2) fun pm =>
       .op (.load (A .cos) (Rect.unit (s := S4096x128) (k0_off2 (BitVec.ofNat 32 n)) S256x128.size i3).toLoadRect l3) fun cs =>
       .op (.load (A .sin) (Rect.unit (s := S4096x128) (k0_off2 (BitVec.ofNat 32 n)) S256x128.size i4).toLoadRect l4) fun sn =>
       .op (.load (A .t0) (Rect.unit (s := S4096x128) (k0_off2 (BitVec.ofNat 32 n)) S256x128.size i5).toLoadRect l5) fun _ =>
       .op (.store (A .t0) (Rect.unit (s := S4096x128) (k0_off2 (BitVec.ofNat 32 n)) S256x128.size i6)
          (shapeCast S256x128 (prep (gain 0x3F800000#32 (I .gk)) x pm cs sn) shapeCasts_S256x128_S256x128) Finset.univ x1 x2) fun _ =>
       .op (.load (A .ks) (Rect.unit (s := S2x4096x128) (k0_off6 (BitVec.ofNat 32 n)) S1x256x128.size i7).toLoadRect l7) fun _ =>
       .op (.store (A .ks) (Rect.unit (s := S2x4096x128) (k0_off6 (BitVec.ofNat 32 n)) S1x256x128.size i8)
          (shapeCast S1x256x128 (truncf .bf16 (prep (gain 0x3F800000#32 (I .gk)) x pm cs sn) bitsLt_bf16_f32 : FVec F S256x128 .bf16)
            shapeCasts_S256x128_S1x256x128) Finset.univ y1 y2) K) := by
  have h1 : k0_off1 (BitVec.ofNat 32 n) = ![0, 256 * n, 0] := k0_off1_eq ⟨n, hn⟩
  have h2 : k0_off2 (BitVec.ofNat 32 n) = ![256 * n, 0] := k0_off2_eq ⟨n, hn⟩
  have h6 : k0_off6 (BitVec.ofNat 32 n) = ![0, 256 * n, 0] := k0_off6_eq ⟨n, hn⟩
  refine load_eq (b := .k) _ (rd3 0 (256 * n) h1 ones3 (I .k)) (fun _ => trivial) ?_
  refine load_eq (b := .perm) _ ((rd2 0 1 rfl ones2 (I .perm)).trans (slab2_whole _)) (fun _ => trivial) ?_
  refine load_eq (b := .cos) _ (rd2 (256 * n) 1 h2 ones2 (I .cos)) (fun _ => trivial) ?_
  refine load_eq (b := .sin) _ (rd2 (256 * n) 1 h2 ones2 (I .sin)) (fun _ => trivial) ?_
  refine ok_skip (b := .t0) fun _ => ?_
  refine store_to (b := .t0) (Done { z with t := n + 1 }) (fun x => ?_) (fun y hy => ?_) (fun b' hb y hy => ?_) ?_
  · rw [shapeCast_id]
    exact ((congrArg (TK I) (emb2 (256 * n) 1 h2 ones2 x)).trans (tiles2_at _ n x (by omega))).symm
  · exact rows_t0 hz h2 y hy
  · cases b' <;> first | exact hy | exact absurd rfl hb
  refine ok_skip (b := .ks) fun _ => ?_
  refine store_to (b := .ks) _ (fun x => ?_) (fun y hy => ?_) (fun b' hb y hy => ?_) h
  · have hx : (x 1).val < 256 := (x 1).isLt
    have hx2 : (x 2).val < 128 := (x 2).isLt
    refine (cast_up _ _ x).trans ?_
    refine Eq.trans ?_ (congrArg (KS I) (emb3 0 (256 * n) 1 0 h6 ones3 x)).symm
    unfold KS
    rw [at3_0, at3_1, at3_2, if_pos rfl]
    refine congrArg toBf ?_
    refine (tiles2_at _ n (at2 (x 1).val (x 2).val) (by omega)).symm.trans (congrArg (TK I) ?_)
    rw [at2_0, at2_1, Nat.mod_eq_of_lt hx, Nat.mod_eq_of_lt hx2, Nat.mod_eq_of_lt (by omega), Nat.mod_eq_of_lt (by omega), Nat.zero_add]
  · subst hz
    have hy' : if (y 0).val = 0 then (y 1).val < 256 * (z.t + 1) else (y 1).val < 256 * z.k1 := hy
    show (if (y 0).val = 0 then (y 1).val < 256 * z.k0 else (y 1).val < 256 * z.k1) ∨ _
    by_cases h0 : (y 0).val = 0
    · rw [if_pos h0] at hy' ⊢
      rw [hk]
      by_cases hc : (y 1).val < 256 * z.t
      · exact .inl hc
      · exact .inr (mem3 0 (256 * z.t) 1 0 h6 ones3 y ((y 1).val - 256 * z.t) (y 2).val (by omega) (y 2).isLt h0.symm (by omega) (by omega))
    · rw [if_neg h0] at hy' ⊢
      exact .inl hy'
  · cases b' <;> first | exact hy | exact absurd rfl hb

theorem prepV {Q : PUnit.{1} → sProp 𝕄} (n : ℕ) (hn : n < 16) {z : Ctr} (hz : z.t = n) {i1 l1 i5 l5 i6 x1 x2}
    {K : PUnit.{1} → Pg F} (h : Ok c A E Q (target I (TV I)) (Done { z with t := n + 1 }) (K ⟨⟩)) :
    Ok c A E Q (target I (TV I)) (Done z)
      (.op (.load (A .v) (Rect.unit (s := S1x4096x128) (k0_off1 (BitVec.ofNat 32 n)) S1x256x128.size i1).toLoadRect l1) fun x =>
       .op (.load (A .t0) (Rect.unit (s := S4096x128) (k0_off2 (BitVec.ofNat 32 n)) S256x128.size i5).toLoadRect l5) fun _ =>
       .op (.store (A .t0) (Rect.unit (s := S4096x128) (k0_off2 (BitVec.ofNat 32 n)) S256x128.size i6)
          (shapeCast S256x128 (extf .f32 (shapeCast S256x128 x shapeCasts_S1x256x128_S256x128 : FVec F S256x128 .bf16) bitsLt_bf16_f32 : FVec F S256x128 .f32)
            shapeCasts_S256x128_S256x128) Finset.univ x1 x2) K) := by
  have h1 : k0_off1 (BitVec.ofNat 32 n) = ![0, 256 * n, 0] := k0_off1_eq ⟨n, hn⟩
  have h2 : k0_off2 (BitVec.ofNat 32 n) = ![256 * n, 0] := k0_off2_eq ⟨n, hn⟩
  refine load_eq (b := .v) _ (rd3 0 (256 * n) h1 ones3 (I .v)) (fun _ => trivial) ?_
  refine ok_skip (b := .t0) fun _ => ?_
  refine store_to (b := .t0) _ (fun x => ?_) (fun y hy => ?_) (fun b' hb y hy => ?_) h
  · rw [shapeCast_id]
    exact ((congrArg (TV I) (emb2 (256 * n) 1 h2 ones2 x)).trans (tiles2_at _ n x (by omega))).symm
  · exact rows_t0 hz h2 y hy
  · cases b' <;> first | exact hy | exact absurd rfl hb

/-! ### The rows in residue order -/

/-- The next block of rows, the buffer's first `256 m` being known. -/
theorem rows_256 {m : ℕ} {off} (h : off = ![256 * m, 0]) {inb} (y : S4096x128.Idx) (hy : (y 0).val < 256 * (m + 1)) :
    (y 0).val < 256 * m ∨ ∃ x, (Rect.unit (s := S4096x128) off S256x128.size inb).emb x = y := by
  by_cases hc : (y 0).val < 256 * m
  · exact .inl hc
  · exact .inr (mem2 (256 * m) 1 h ones2 y ((y 0).val - 256 * m) (by omega) (by omega))

theorem bf_at {T : S4096x128.Idx → Elt F .f32} {r i : ℕ} (hr : r < 4) (hi : i < 4) {h} (x : S1x256x128.Idx) {p q : ℕ}
    (hp : p = 1024 * r + 256 * i + 1 * (x 1).val) (hq : q = (x 2).val) :
    shapeCast S1x256x128 (truncf .bf16 (slab2 T (r + 1024 * i) 4 : FVec F S256x128 .f32) bitsLt_bf16_f32 : FVec F S256x128 .bf16) h x
      = toBf (M4 T (at2 p q)) := by
  have hx : (x 1).val < 256 := (x 1).isLt
  have hx2 : (x 2).val < 128 := (x 2).isLt
  subst hp hq
  refine (cast_up _ _ x).trans (congrArg toBf ?_)
  refine (M4_at T hr hi (at2 (x 1).val (x 2).val)).symm.trans (congrArg (M4 T) ?_)
  rw [at2_0, at2_1, Nat.mod_eq_of_lt hx, Nat.mod_eq_of_lt hx2]

section Residue

variable (r i : ℕ) (hr : r < 4) (hi : i < 4)
include hr hi

theorem off3' : k0_off3 (BitVec.ofNat 32 r) (BitVec.ofNat 32 i) = ![r + 1024 * i, 0] := k0_off3_eq ⟨r, hr⟩ ⟨i, hi⟩
theorem off4' : k0_off4 (BitVec.ofNat 32 (1024 * r)) (BitVec.ofNat 32 i) = ![1024 * r + 256 * i, 0] := k0_off4_eq ⟨r, hr⟩ ⟨i, hi⟩
theorem off5' : k0_off5 (BitVec.ofNat 32 (1024 * r)) (BitVec.ofNat 32 i) = ![0, 1024 * r + 256 * i, 0] := k0_off5_eq ⟨r, hr⟩ ⟨i, hi⟩
theorem off7' : k0_off7 (BitVec.ofNat 32 (1024 * r)) (BitVec.ofNat 32 i) = ![1, 1024 * r + 256 * i, 0] := k0_off7_eq ⟨r, hr⟩ ⟨i, hi⟩
theorem off8' : k0_off8 (BitVec.ofNat 32 (1024 * r)) (BitVec.ofNat 32 i) = ![0, 1024 * r + 256 * i, 0] := k0_off8_eq ⟨r, hr⟩ ⟨i, hi⟩

theorem resQ {Q : PUnit.{1} → sProp 𝕄} {z : Ctr} (ht : z.t = 16) (hz : z.q = 4 * r + i) {i1 l1 i2 l2 i3 x1 x2 i4 l4 i5 y1 y2}
    {K : PUnit.{1} → Pg F} (h : Ok c A E Q (target I (TQ I)) (Done { z with q := 4 * r + i + 1 }) (K ⟨⟩)) :
    Ok c A E Q (target I (TQ I)) (Done z)
      (.op (.load (A .t0) (⟨k0_off3 (BitVec.ofNat 32 r) (BitVec.ofNat 32 i), S256x128.size, ![4, 1], i1⟩ : LoadRect S4096x128) l1) fun x =>
       .op (.load (A .q4) (Rect.unit (s := S4096x128) (k0_off4 (BitVec.ofNat 32 (1024 * r)) (BitVec.ofNat 32 i)) S256x128.size i2).toLoadRect l2) fun _ =>
       .op (.store (A .q4) (Rect.unit (s := S4096x128) (k0_off4 (BitVec.ofNat 32 (1024 * r)) (BitVec.ofNat 32 i)) S256x128.size i3)
          (shapeCast S256x128 x shapeCasts_S256x128_S256x128) Finset.univ x1 x2) fun _ =>
       .op (.load (A .qs) (Rect.unit (s := S1x4096x128) (k0_off5 (BitVec.ofNat 32 (1024 * r)) (BitVec.ofNat 32 i)) S1x256x128.size i4).toLoadRect l4) fun _ =>
       .op (.store (A .qs) (Rect.unit (s := S1x4096x128) (k0_off5 (BitVec.ofNat 32 (1024 * r)) (BitVec.ofNat 32 i)) S1x256x128.size i5)
          (shapeCast S1x256x128 (truncf .bf16 (x : FVec F S256x128 .f32) bitsLt_bf16_f32 : FVec F S256x128 .bf16) shapeCasts_S256x128_S1x256x128) Finset.univ y1 y2) K) := by
  have h4 := off4' r i hr hi
  have h5 := off5' r i hr hi
  refine load_eq (b := .t0) _ (rd2 (r + 1024 * i) 4 (off3' r i hr hi) rfl (TQ I)) (fun x => ?_) ?_
  · show (_ : ℕ) < 256 * z.t
    rw [ht]; exact Fin.isLt _
  refine ok_skip (b := .q4) fun _ => ?_
  -- the two buffers share a count: between the stores the rows in residue order alone are known one block further
  refine ok_store (b := .q4) (fun x => ?_) ?_
  · rw [shapeCast_id]
    exact ((congrArg (M4 (TQ I)) (emb2 _ 1 h4 ones2 x)).trans (M4_at _ hr hi x)).symm
  refine ok_skip (b := .qs) fun _ => ?_
  refine store_to (b := .qs) _ (fun x => ?_) (fun y hy => ?_) (fun b' hb y hy => ?_) h
  · have hx : (x 1).val < 256 := (x 1).isLt
    have hx2 : (x 2).val < 128 := (x 2).isLt
    refine (bf_at hr hi x ?_ ?_).trans (congrArg (QS I) (emb3 0 _ 1 0 h5 ones3 x)).symm
    · exact Nat.mod_eq_of_lt (by omega)
    · rw [at3_2]; omega
  · have hy' : (y 1).val < 256 * (4 * r + i + 1) := hy
    have e : Part.add (Done z) .q4 (Rect.unit (s := S4096x128) (k0_off4 (BitVec.ofNat 32 (1024 * r)) (BitVec.ofNat 32 i)) S256x128.size i3) .qs y
      = ((y 1).val < 256 * z.q) := by rw [Part.add, Function.update_of_ne (by decide)]; rfl
    rw [e, hz]
    by_cases hc : (y 1).val < 256 * (4 * r + i)
    · exact .inl hc
    · have h0 : (y 0).val = 0 := Nat.lt_one_iff.mp (y 0).isLt
      exact .inr (mem3 0 _ 1 0 h5 ones3 y ((y 1).val - 256 * (4 * r + i)) (y 2).val (by omega) (y 2).isLt h0.symm (by omega) (by omega))
  · by_cases e : b' = .q4
    · subst e
      rw [Part.add, Function.update_self]
      show (y 0).val < 256 * z.q ∨ _
      rw [hz]
      exact rows_256 (h4.trans (by congr 1; omega)) y hy
    · rw [Part.add, Function.update_of_ne e]
      cases b' <;> first | exact hy | exact absurd rfl hb | exact absurd rfl e

theorem resK {Q : PUnit.{1} → sProp 𝕄} {z : Ctr} (ht : z.t = 16) (hz : z.k1 = 4 * r + i) {i1 l1 i2 l2 i3 x1 x2 i4 l4 i5 y1 y2}
    {K : PUnit.{1} → Pg F} (h : Ok c A E Q (target I (TK I)) (Done { z with k1 := 4 * r + i + 1 }) (K ⟨⟩)) :
    Ok c A E Q (target I (TK I)) (Done z)
      (.op (.load (A .t0) (⟨k0_off3 (BitVec.ofNat 32 r) (BitVec.ofNat 32 i), S256x128.size, ![4, 1], i1⟩ : LoadRect S4096x128) l1) fun x =>
       .op (.load (A .k4) (Rect.unit (s := S4096x128) (k0_off4 (BitVec.ofNat 32 (1024 * r)) (BitVec.ofNat 32 i)) S256x128.size i2).toLoadRect l2) fun _ =>
       .op (.store (A .k4) (Rect.unit (s := S4096x128) (k0_off4 (BitVec.ofNat 32 (1024 * r)) (BitVec.ofNat 32 i)) S256x128.size i3)
          (shapeCast S256x128 x shapeCasts_S256x128_S256x128) Finset.univ x1 x2) fun _ =>
       .op (.load (A .ks) (Rect.unit (s := S2x4096x128) (k0_off7 (BitVec.ofNat 32 (1024 * r)) (BitVec.ofNat 32 i)) S1x256x128.size i4).toLoadRect l4) fun _ =>
       .op (.store (A .ks) (Rect.unit (s := S2x4096x128) (k0_off7 (BitVec.ofNat 32 (1024 * r)) (BitVec.ofNat 32 i)) S1x256x128.size i5)
          (shapeCast S1x256x128 (truncf .bf16 (x : FVec F S256x128 .f32) bitsLt_bf16_f32 : FVec F S256x128 .bf16) shapeCasts_S256x128_S1x256x128) Finset.univ y1 y2) K) := by
  have h4 := off4' r i hr hi
  have h7 := off7' r i hr hi
  refine load_eq (b := .t0) _ (rd2 (r + 1024 * i) 4 (off3' r i hr hi) rfl (TK I)) (fun x => ?_) ?_
  · show (_ : ℕ) < 256 * z.t
    rw [ht]; exact Fin.isLt _
  refine ok_skip (b := .k4) fun _ => ?_
  -- the two buffers share a count: between the stores the rows in residue order alone are known one block further
  refine ok_store (b := .k4) (fun x => ?_) ?_
  · rw [shapeCast_id]
    exact ((congrArg (M4 (TK I)) (emb2 _ 1 h4 ones2 x)).trans (M4_at _ hr hi x)).symm
  refine ok_skip (b := .ks) fun _ => ?_
  refine store_to (b := .ks) _ (fun x => ?_) (fun y hy => ?_) (fun b' hb y hy => ?_) h
  · have hx : (x 1).val < 256 := (x 1).isLt
    have hx2 : (x 2).val < 128 := (x 2).isLt
    refine Eq.trans ?_ (congrArg (KS I) (emb3 1 _ 1 0 h7 ones3 x)).symm
    unfold KS
    rw [at3_0, if_neg (by decide)]
    refine bf_at hr hi x ?_ ?_
    · exact Nat.mod_eq_of_lt (by omega)
    · rw [at3_2]; omega
  · have hy' : if (y 0).val = 0 then (y 1).val < 256 * z.k0 else (y 1).val < 256 * (4 * r + i + 1) := hy
    have e : Part.add (Done z) .k4 (Rect.unit (s := S4096x128) (k0_off4 (BitVec.ofNat 32 (1024 * r)) (BitVec.ofNat 32 i)) S256x128.size i3) .ks y
      = (if (y 0).val = 0 then (y 1).val < 256 * z.k0 else (y 1).val < 256 * z.k1) := by rw [Part.add, Function.update_of_ne (by decide)]; rfl
    rw [e, hz]
    by_cases h0 : (y 0).val = 0
    · rw [if_pos h0] at hy' ⊢
      exact .inl hy'
    rw [if_neg h0] at hy' ⊢
    by_cases hc : (y 1).val < 256 * (4 * r + i)
    · exact .inl hc
    · have h1 : (y 0).val < 2 := (y 0).isLt
      exact .inr (mem3 1 _ 1 0 h7 ones3 y ((y 1).val - 256 * (4 * r + i)) (y 2).val (by omega) (y 2).isLt (by omega) (by omega) (by omega))
  · by_cases e : b' = .k4
    · subst e
      rw [Part.add, Function.update_self]
      show (y 0).val < 256 * z.k1 ∨ _
      rw [hz]
      exact rows_256 (h4.trans (by congr 1; omega)) y hy
    · rw [Part.add, Function.update_of_ne e]
      cases b' <;> first | exact hy | exact absurd rfl hb | exact absurd rfl e

theorem resV {Q : PUnit.{1} → sProp 𝕄} {z : Ctr} (ht : z.t = 16) (hz : z.v = 4 * r + i) {i1 l1 i2 l2 i3 x1 x2 i4 l4 i5 y1 y2}
    {K : PUnit.{1} → Pg F} (h : Ok c A E Q (target I (TV I)) (Done { z with v := 4 * r + i + 1 }) (K ⟨⟩)) :
    Ok c A E Q (target I (TV I)) (Done z)
      (.op (.load (A .t0) (⟨k0_off3 (BitVec.ofNat 32 r) (BitVec.ofNat 32 i), S256x128.size, ![4, 1], i1⟩ : LoadRect S4096x128) l1) fun x =>
       .op (.load (A .v4) (Rect.unit (s := S4096x128) (k0_off4 (BitVec.ofNat 32 (1024 * r)) (BitVec.ofNat 32 i)) S256x128.size i2).toLoadRect l2) fun _ =>
       .op (.store (A .v4) (Rect.unit (s := S4096x128) (k0_off4 (BitVec.ofNat 32 (1024 * r)) (BitVec.ofNat 32 i)) S256x128.size i3)
          (shapeCast S256x128 x shapeCasts_S256x128_S256x128) Finset.univ x1 x2) fun _ =>
       .op (.load (A .vs) (Rect.unit (s := S1x4096x256) (k0_off8 (BitVec.ofNat 32 (1024 * r)) (BitVec.ofNat 32 i)) S1x256x128.size i4).toLoadRect l4) fun _ =>
       .op (.store (A .vs) (Rect.unit (s := S1x4096x256) (k0_off8 (BitVec.ofNat 32 (1024 * r)) (BitVec.ofNat 32 i)) S1x256x128.size i5)
          (shapeCast S1x256x128 (truncf .bf16 (x : FVec F S256x128 .f32) bitsLt_bf16_f32 : FVec F S256x128 .bf16) shapeCasts_S256x128_S1x256x128) Finset.univ y1 y2) K) := by
  have h4 := off4' r i hr hi
  have h8 := off8' r i hr hi
  refine load_eq (b := .t0) _ (rd2 (r + 1024 * i) 4 (off3' r i hr hi) rfl (TV I)) (fun x => ?_) ?_
  · show (_ : ℕ) < 256 * z.t
    rw [ht]; exact Fin.isLt _
  refine ok_skip (b := .v4) fun _ => ?_
  -- the two buffers share a count: between the stores the rows in residue order alone are known one block further
  refine ok_store (b := .v4) (fun x => ?_) ?_
  · rw [shapeCast_id]
    exact ((congrArg (M4 (TV I)) (emb2 _ 1 h4 ones2 x)).trans (M4_at _ hr hi x)).symm
  refine ok_skip (b := .vs) fun _ => ?_
  refine store_to (b := .vs) _ (fun x => ?_) (fun y hy => ?_) (fun b' hb y hy => ?_) h
  · have hx : (x 1).val < 256 := (x 1).isLt
    have hx2 : (x 2).val < 128 := (x 2).isLt
    refine Eq.trans ?_ (congrArg (VS I) (emb3 0 _ 1 0 h8 ones3 x)).symm
    unfold VS
    rw [at3_2, if_pos (by omega)]
    refine bf_at hr hi x ?_ ?_
    · exact Nat.mod_eq_of_lt (by omega)
    · omega
  · have hy' : if (y 2).val < 128 then (y 1).val < 256 * (4 * r + i + 1) else 0 < z.w := hy
    have e : Part.add (Done z) .v4 (Rect.unit (s := S4096x128) (k0_off4 (BitVec.ofNat 32 (1024 * r)) (BitVec.ofNat 32 i)) S256x128.size i3) .vs y
      = (if (y 2).val < 128 then (y 1).val < 256 * z.v else 0 < z.w) := by rw [Part.add, Function.update_of_ne (by decide)]; rfl
    rw [e, hz]
    by_cases h2 : (y 2).val < 128
    case neg =>
      rw [if_neg h2] at hy' ⊢
      exact .inl hy'
    rw [if_pos h2] at hy' ⊢
    by_cases hc : (y 1).val < 256 * (4 * r + i)
    · exact .inl hc
    · have h0 : (y 0).val = 0 := Nat.lt_one_iff.mp (y 0).isLt
      exact .inr (mem3 0 _ 1 0 h8 ones3 y ((y 1).val - 256 * (4 * r + i)) (y 2).val (by omega) h2 h0.symm (by omega) (by omega))
  · by_cases e : b' = .v4
    · subst e
      rw [Part.add, Function.update_self]
      show (y 0).val < 256 * z.v ∨ _
      rw [hz]
      exact rows_256 (h4.trans (by congr 1; omega)) y hy
    · rw [Part.add, Function.update_of_ne e]
      cases b' <;> first | exact hy | exact absurd rfl hb | exact absurd rfl e

end Residue

end Cert.Proof.Att
-- ==== Proof.Att.Branches.lean ====
/-
  The rules for the blocks of the three branches, for the ones beside the values, and for the result's rows.
-/
module

public import proofs.«01_k».proof.Proof.Att.Blocks

@[expose] public section

set_option maxRecDepth 8192

noncomputable section

namespace Cert.Proof.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the frame kit's. -/
local notation "𝕄" => MT nD τ sig Unit (Elt F) ℕ (UR sig nD τ) ℕ

variable {c : Dev nD} {A : (b : Slot) → Memref sig .tc .vmem (shp b) (ety b)} {E : Set ℕ} {I : Mem F}

/-! ### Offsets -/

section Offsets

variable (n : ℕ) (hn : n < 32)
include hn

theorem off10' : k0_off10 (BitVec.ofNat 32 n) = ![0, 128 * kblk 32 n, 0] :=
  (by decide +kernel : ∀ n : Fin 32, k0_off10 (BitVec.ofNat 32 n.val) = ![0, 128 * kblk 32 n.val, 0]) ⟨n, hn⟩
theorem off11' : k0_off11 (BitVec.ofNat 32 n) = ![0, 128 * kblk 32 n, 0] :=
  (by decide +kernel : ∀ n : Fin 32, k0_off11 (BitVec.ofNat 32 n.val) = ![0, 128 * kblk 32 n.val, 0]) ⟨n, hn⟩
theorem off12a : k0_off12 (BitVec.ofNat 32 n) 32#32 0#32 = ![if n % 32 = 0 then 0 else 1, 0, 0] :=
  (by decide +kernel : ∀ n : Fin 32, k0_off12 (BitVec.ofNat 32 n.val) 32#32 0#32 = ![if n.val % 32 = 0 then 0 else 1, 0, 0]) ⟨n, hn⟩
theorem off12b : k0_off12 (BitVec.ofNat 32 n) 8#32 2#32 = ![if n % 8 = 0 then 2 else 3, 0, 0] :=
  (by decide +kernel : ∀ n : Fin 32, k0_off12 (BitVec.ofNat 32 n.val) 8#32 2#32 = ![if n.val % 8 = 0 then 2 else 3, 0, 0]) ⟨n, hn⟩
theorem off12c : k0_off12 (BitVec.ofNat 32 n) 2#32 2#32 = ![if n % 2 = 0 then 2 else 3, 0, 0] :=
  (by decide +kernel : ∀ n : Fin 32, k0_off12 (BitVec.ofNat 32 n.val) 2#32 2#32 = ![if n.val % 2 = 0 then 2 else 3, 0, 0]) ⟨n, hn⟩
theorem off14' : k0_off14 (BitVec.ofNat 32 n) = ![0, 128 * n, 0] :=
  (by decide +kernel : ∀ n : Fin 32, k0_off14 (BitVec.ofNat 32 n.val) = ![0, 128 * n.val, 0]) ⟨n, hn⟩
theorem off15' : k0_off15 (BitVec.ofNat 32 n) = ![1, 128 * kblk 8 n, 0] :=
  (by decide +kernel : ∀ n : Fin 32, k0_off15 (BitVec.ofNat 32 n.val) = ![1, 128 * kblk 8 n.val, 0]) ⟨n, hn⟩
theorem off16' : k0_off16 (BitVec.ofNat 32 n) = ![0, 128 * kblk 8 n, 0] :=
  (by decide +kernel : ∀ n : Fin 32, k0_off16 (BitVec.ofNat 32 n.val) = ![0, 128 * kblk 8 n.val, 0]) ⟨n, hn⟩
theorem off17' : k0_off17 (BitVec.ofNat 32 n) = ![128 * n, 0] :=
  (by decide +kernel : ∀ n : Fin 32, k0_off17 (BitVec.ofNat 32 n.val) = ![128 * n.val, 0]) ⟨n, hn⟩
theorem off18' : k0_off18 (BitVec.ofNat 32 n) = ![base n + 512 * (n % 2), 0] :=
  (by decide +kernel : ∀ n : Fin 32, k0_off18 (BitVec.ofNat 32 n.val) = ![base n.val + 512 * (n.val % 2), 0]) ⟨n, hn⟩
theorem off19' : k0_off19 (BitVec.ofNat 32 n) = ![base n, 0] :=
  (by decide +kernel : ∀ n : Fin 32, k0_off19 (BitVec.ofNat 32 n.val) = ![base n.val, 0]) ⟨n, hn⟩

end Offsets

theorem off9' (r n : ℕ) (hr : r < 4) (hn : n < 32) : k0_off9 (BitVec.ofNat 32 (1024 * r)) (BitVec.ofNat 32 n) = ![0, 1024 * r + 32 * n, 0] :=
  k0_off9_eq ⟨r, hr⟩ ⟨n, hn⟩
theorem off13' (r n : ℕ) (hr : r < 4) (hn : n < 32) : k0_off13 (BitVec.ofNat 32 (1024 * r)) (BitVec.ofNat 32 n) = ![1024 * r + 32 * n, 0] :=
  k0_off13_eq ⟨r, hr⟩ ⟨n, hn⟩

/-! ### What is known where -/

/-- The prepared rows are all known. -/
structure Full (z : Ctr) : Prop where
  w : z.w = 1
  q : z.q = 16
  k0 : z.k0 = 16
  k1 : z.k1 = 16
  v : z.v = 16

theorem Full.qs {z : Ctr} (h : Full z) (y : S1x4096x128.Idx) : Done z .qs y := by
  show (y 1).val < 256 * z.q
  rw [h.q]; exact (y 1).isLt
theorem Full.ks {z : Ctr} (h : Full z) (y : S2x4096x128.Idx) : Done z .ks y := by
  show if (y 0).val = 0 then (y 1).val < 256 * z.k0 else (y 1).val < 256 * z.k1
  rw [h.k0, h.k1]
  split <;> exact (y 1).isLt
theorem Full.vs {z : Ctr} (h : Full z) (y : S1x4096x256.Idx) : Done z .vs y := by
  show if (y 2).val < 128 then (y 1).val < 256 * z.v else 0 < z.w
  rw [h.v, h.w]
  split
  · exact (y 1).isLt
  · exact Nat.one_pos
theorem Full.q4 {z : Ctr} (h : Full z) (y : S4096x128.Idx) : Done z .q4 y := by
  show (y 0).val < 256 * z.q
  rw [h.q]; exact (y 0).isLt
theorem Full.k4 {z : Ctr} (h : Full z) (y : S4096x128.Idx) : Done z .k4 y := by
  show (y 0).val < 256 * z.k1
  rw [h.k1]; exact (y 0).isLt
theorem Full.v4 {z : Ctr} (h : Full z) (y : S4096x128.Idx) : Done z .v4 y := by
  show (y 0).val < 256 * z.v
  rw [h.v]; exact (y 0).isLt

/-- The sums known as after `zo`, the masses as after `zl`, the rest as after `z`. -/
def mid (z zo zl : Ctr) : Part := fun b => match b with
  | .ob0 => Done zo .ob0 | .ob1 => Done zo .ob1 | .ob2 => Done zo .ob2
  | .lb0 => Done zl .lb0 | .lb1 => Done zl .lb1 | .lb2 => Done zl .lb2
  | b => Done z b

/-! ### The ones beside the values -/

theorem onesRule {Q : PUnit.{1} → sProp 𝕄} {T} {z : Ctr} (hv : z.v = 0) {i1 l1 i2 x1 x2}
    {K : PUnit.{1} → Pg F} (h : Ok c A E Q (target I T) (Done { z with w := 1 }) (K ⟨⟩)) :
    Ok c A E Q (target I T) (Done z)
      (.op (.load (A .vs) (Rect.unit (s := S1x4096x256) ![0, 0, 128] S1x4096x128.size i1).toLoadRect l1) fun _ =>
       .op (.store (A .vs) (Rect.unit (s := S1x4096x256) ![0, 0, 128] S1x4096x128.size i2)
          (shapeCast S1x4096x128 (broadcast S4096x128 (Scalar.ofBits .bf16 0x3F80#16 : F .bf16)) shapeCasts_S4096x128_S1x4096x128) Finset.univ x1 x2) K) := by
  refine ok_skip (b := .vs) fun _ => ?_
  refine store_to (b := .vs) _ (fun x => ?_) (fun y hy => ?_) (fun b' hb y hy => ?_) h
  · have hx2 : (x 2).val < 128 := (x 2).isLt
    refine Eq.trans ?_ (congrArg (VS I) (emb3 0 0 1 128 rfl ones3 x)).symm
    unfold VS
    rw [at3_2, if_neg (by omega)]
    rfl
  · have hy' : if (y 2).val < 128 then (y 1).val < 256 * z.v else 0 < 1 := hy
    show (if (y 2).val < 128 then (y 1).val < 256 * z.v else 0 < z.w) ∨ _
    have h0 : (y 0).val = 0 := Nat.lt_one_iff.mp (y 0).isLt
    have h2 : (y 2).val < 256 := (y 2).isLt
    by_cases hc : (y 2).val < 128
    · rw [if_pos hc] at hy' ⊢
      exact .inl hy'
    · exact .inr (mem3 0 0 1 128 rfl ones3 y (y 1).val ((y 2).val - 128) (y 1).isLt (by omega) h0.symm (by omega) (by omega))
  · cases b' <;> first | exact hy | exact absurd rfl hb

/-! ### Every token -/

theorem tilesA_at {α : Type} (f : ℕ → S128x128.Idx → α) {r n : ℕ} (hr : r < 4) (hn : n < 32) {h} (x : S32x128.Idx) :
    tilesA f (at2 (1024 * r + 32 * n + 1 * (x 0).val) (x 1).val) = extractStridedSlice S32x128 ![32 * r, 0] (f n) h x := by
  have hx : (x 0).val < 32 := (x 0).isLt
  have hx1 : (x 1).val < 128 := (x 1).isLt
  unfold tilesA
  rw [at2_0, at2_1]
  have e : (1024 * r + 32 * n + 1 * (x 0).val) % 4096 % 1024 / 32 = n := by omega
  rw [e]
  refine (congrArg (f n) (eq_at2 ?_ ?_)).symm
  · show 32 * r + (x 0).val = _
    omega
  · show 0 + (x 1).val = _
    omega

theorem runRows {r n : ℕ} (hr : r < 4) (hn : n < 32) {off} (h : off = ![1024 * r + 32 * n, 0]) {inb} (y : S4096x128.Idx) {m : ℕ} (hm : m = 4 * n + r)
    (hy : 4 * ((y 0).val % 1024 / 32) + (y 0).val / 1024 < 4 * n + r + 1) :
    4 * ((y 0).val % 1024 / 32) + (y 0).val / 1024 < m ∨ ∃ x, (Rect.unit (s := S4096x128) off S32x128.size inb).emb x = y := by
  have hy0 : (y 0).val < 4096 := (y 0).isLt
  subst hm
  by_cases hc : 4 * ((y 0).val % 1024 / 32) + (y 0).val / 1024 < 4 * n + r
  · exact .inl hc
  · exact .inr (mem2 _ 1 h ones2 y ((y 0).val % 32) (by omega) (by omega))

theorem run0 {Q : PUnit.{1} → sProp 𝕄} {T} (r n : ℕ) (hr : r < 4) (hn : n < 32) {z : Ctr} (hz : z.b0 = 4 * n + r)
    {i1 l1 i2 h2 x1 x2 i3 l3 i4 h4 y1 y2 i5 l5 i6 h6 w1 w2}
    {K : PUnit.{1} → Pg F} (h : Ok c A E Q (target I T) (Done { z with b0 := 4 * n + r + 1 }) (K ⟨⟩)) :
    Ok c A E Q (target I T) (Done z)
      (.op (.load (A .ob0) (Rect.unit (s := S4096x128) (k0_off13 (BitVec.ofNat 32 (1024 * r)) (BitVec.ofNat 32 n)) S32x128.size i1).toLoadRect l1) fun _ =>
       .op (.store (A .ob0) (Rect.unit (s := S4096x128) (k0_off13 (BitVec.ofNat 32 (1024 * r)) (BitVec.ofNat 32 n)) S32x128.size i2)
          (shapeCast S32x128 (extractStridedSlice S32x128 ![32 * r, 0] (accV (s0 I n) (v0 I n)) h2) shapeCasts_S32x128_S32x128) Finset.univ x1 x2) fun _ =>
       .op (.load (A .lb0) (Rect.unit (s := S4096x128) (k0_off13 (BitVec.ofNat 32 (1024 * r)) (BitVec.ofNat 32 n)) S32x128.size i3).toLoadRect l3) fun _ =>
       .op (.store (A .lb0) (Rect.unit (s := S4096x128) (k0_off13 (BitVec.ofNat 32 (1024 * r)) (BitVec.ofNat 32 n)) S32x128.size i4)
          (shapeCast S32x128 (extractStridedSlice S32x128 ![32 * r, 0] (accL (s0 I n) (v0 I n)) h4) shapeCasts_S32x128_S32x128) Finset.univ y1 y2) fun _ =>
       .op (.load (A .mb0) (Rect.unit (s := S4096x128) (k0_off13 (BitVec.ofNat 32 (1024 * r)) (BitVec.ofNat 32 n)) S32x128.size i5).toLoadRect l5) fun _ =>
       .op (.store (A .mb0) (Rect.unit (s := S4096x128) (k0_off13 (BitVec.ofNat 32 (1024 * r)) (BitVec.ofNat 32 n)) S32x128.size i6)
          (shapeCast S32x128 (extractStridedSlice S32x128 ![32 * r, 0] (accM (s0 I n)) h6) shapeCasts_S32x128_S32x128) Finset.univ w1 w2) K) := by
  have e := off13' r n hr hn
  refine ok_skip (b := .ob0) fun _ => ?_
  refine store_to (b := .ob0) (mid z { z with b0 := 4 * n + r + 1 } z) (fun x => ?_) (fun y hy => runRows hr hn e y hz hy) (fun b' hb y hy => ?_) ?_
  · rw [shapeCast_id]
    exact ((congrArg (OB0 I) (emb2 _ 1 e ones2 x)).trans (tilesA_at _ hr hn x)).symm
  · cases b' <;> first | exact hy | exact absurd rfl hb
  refine ok_skip (b := .lb0) fun _ => ?_
  refine store_to (b := .lb0) (mid z { z with b0 := 4 * n + r + 1 } { z with b0 := 4 * n + r + 1 }) (fun x => ?_)
    (fun y hy => runRows hr hn e y hz hy) (fun b' hb y hy => ?_) ?_
  · rw [shapeCast_id]
    exact ((congrArg (LB0 I) (emb2 _ 1 e ones2 x)).trans (tilesA_at _ hr hn x)).symm
  · cases b' <;> first | exact hy | exact absurd rfl hb
  refine ok_skip (b := .mb0) fun _ => ?_
  refine store_to (b := .mb0) _ (fun x => ?_) (fun y hy => runRows hr hn e y hz hy) (fun b' hb y hy => ?_) h
  · rw [shapeCast_id]
    exact ((congrArg (MB0 I) (emb2 _ 1 e ones2 x)).trans (tilesA_at _ hr hn x)).symm
  · cases b' <;> first | exact hy | exact absurd rfl hb

/-- A block: its loads, then the four residues' runs of rows. -/
theorem block0 {Q : PUnit.{1} → sProp 𝕄} {T} (n : ℕ) (hn : n < 32) {z : Ctr} (hf : Full z) (hz : z.b0 = 4 * n)
    {i1 l1 i2 l2 i3 l3 i4 l4 i5 l5 i6 l6 i7 l7 o0i o0l o0j o0h o0x o0m l0i l0l l0j l0h l0x l0m m0i m0l m0j m0h m0x m0m o1i o1l o1j o1h o1x o1m l1i l1l l1j l1h l1x l1m m1i m1l m1j m1h m1x m1m o2i o2l o2j o2h o2x o2m l2i l2l l2j l2h l2x l2m m2i m2l m2j m2h m2x m2m o3i o3l o3j o3h o3x o3m l3i l3l l3j l3h l3x l3m m3i m3l m3j m3h m3x m3m}
    {K : PUnit.{1} → Pg F} (h : Ok c A E Q (target I T) (Done { z with b0 := 4 * n + 4 }) (K ⟨⟩)) :
    Ok c A E Q (target I T) (Done z)
      (.op (.load (A .qs) (Rect.unit (s := S1x4096x128) (k0_off9 0#32 (BitVec.ofNat 32 n)) S1x32x128.size i1).toLoadRect l1) fun q0 =>
       .op (.load (A .qs) (Rect.unit (s := S1x4096x128) (k0_off9 1024#32 (BitVec.ofNat 32 n)) S1x32x128.size i2).toLoadRect l2) fun q1 =>
       .op (.load (A .qs) (Rect.unit (s := S1x4096x128) (k0_off9 2048#32 (BitVec.ofNat 32 n)) S1x32x128.size i3).toLoadRect l3) fun q2 =>
       .op (.load (A .qs) (Rect.unit (s := S1x4096x128) (k0_off9 3072#32 (BitVec.ofNat 32 n)) S1x32x128.size i4).toLoadRect l4) fun q3 =>
       .op (.load (A .ks) (Rect.unit (s := S2x4096x128) (k0_off10 (BitVec.ofNat 32 n)) S1x256x128.size i5).toLoadRect l5) fun k =>
       .op (.load (A .v) (Rect.unit (s := S1x4096x128) (k0_off11 (BitVec.ofNat 32 n)) S1x256x128.size i6).toLoadRect l6) fun v =>
       .op (.load (A .bias) (Rect.unit (s := S4x128x256) (k0_off12 (BitVec.ofNat 32 n) 32#32 0#32) S1x128x256.size i7).toLoadRect l7) fun b =>
       .op (.load (A .ob0) (Rect.unit (s := S4096x128) (k0_off13 0#32 (BitVec.ofNat 32 n)) S32x128.size o0i).toLoadRect o0l) fun _ =>
       .op (.store (A .ob0) (Rect.unit (s := S4096x128) (k0_off13 0#32 (BitVec.ofNat 32 n)) S32x128.size o0j)
          (shapeCast S32x128 (extractStridedSlice S32x128 ![0, 0] (accV (scores (four q0 q1 q2 q3) (shapeCast S256x128 k shapeCasts_S1x256x128_S256x128) b) (withOnes (shapeCast S256x128 v shapeCasts_S1x256x128_S256x128))) o0h) shapeCasts_S32x128_S32x128) Finset.univ o0x o0m) fun _ =>
       .op (.load (A .lb0) (Rect.unit (s := S4096x128) (k0_off13 0#32 (BitVec.ofNat 32 n)) S32x128.size l0i).toLoadRect l0l) fun _ =>
       .op (.store (A .lb0) (Rect.unit (s := S4096x128) (k0_off13 0#32 (BitVec.ofNat 32 n)) S32x128.size l0j)
          (shapeCast S32x128 (extractStridedSlice S32x128 ![0, 0] (accL (scores (four q0 q1 q2 q3) (shapeCast S256x128 k shapeCasts_S1x256x128_S256x128) b) (withOnes (shapeCast S256x128 v shapeCasts_S1x256x128_S256x128))) l0h) shapeCasts_S32x128_S32x128) Finset.univ l0x l0m) fun _ =>
       .op (.load (A .mb0) (Rect.unit (s := S4096x128) (k0_off13 0#32 (BitVec.ofNat 32 n)) S32x128.size m0i).toLoadRect m0l) fun _ =>
       .op (.store (A .mb0) (Rect.unit (s := S4096x128) (k0_off13 0#32 (BitVec.ofNat 32 n)) S32x128.size m0j)
          (shapeCast S32x128 (extractStridedSlice S32x128 ![0, 0] (accM (scores (four q0 q1 q2 q3) (shapeCast S256x128 k shapeCasts_S1x256x128_S256x128) b)) m0h) shapeCasts_S32x128_S32x128) Finset.univ m0x m0m) fun _ =>
       .op (.load (A .ob0) (Rect.unit (s := S4096x128) (k0_off13 1024#32 (BitVec.ofNat 32 n)) S32x128.size o1i).toLoadRect o1l) fun _ =>
       .op (.store (A .ob0) (Rect.unit (s := S4096x128) (k0_off13 1024#32 (BitVec.ofNat 32 n)) S32x128.size o1j)
          (shapeCast S32x128 (extractStridedSlice S32x128 ![32, 0] (accV (scores (four q0 q1 q2 q3) (shapeCast S256x128 k shapeCasts_S1x256x128_S256x128) b) (withOnes (shapeCast S256x128 v shapeCasts_S1x256x128_S256x128))) o1h) shapeCasts_S32x128_S32x128) Finset.univ o1x o1m) fun _ =>
       .op (.load (A .lb0) (Rect.unit (s := S4096x128) (k0_off13 1024#32 (BitVec.ofNat 32 n)) S32x128.size l1i).toLoadRect l1l) fun _ =>
       .op (.store (A .lb0) (Rect.unit (s := S4096x128) (k0_off13 1024#32 (BitVec.ofNat 32 n)) S32x128.size l1j)
          (shapeCast S32x128 (extractStridedSlice S32x128 ![32, 0] (accL (scores (four q0 q1 q2 q3) (shapeCast S256x128 k shapeCasts_S1x256x128_S256x128) b) (withOnes (shapeCast S256x128 v shapeCasts_S1x256x128_S256x128))) l1h) shapeCasts_S32x128_S32x128) Finset.univ l1x l1m) fun _ =>
       .op (.load (A .mb0) (Rect.unit (s := S4096x128) (k0_off13 1024#32 (BitVec.ofNat 32 n)) S32x128.size m1i).toLoadRect m1l) fun _ =>
       .op (.store (A .mb0) (Rect.unit (s := S4096x128) (k0_off13 1024#32 (BitVec.ofNat 32 n)) S32x128.size m1j)
          (shapeCast S32x128 (extractStridedSlice S32x128 ![32, 0] (accM (scores (four q0 q1 q2 q3) (shapeCast S256x128 k shapeCasts_S1x256x128_S256x128) b)) m1h) shapeCasts_S32x128_S32x128) Finset.univ m1x m1m) fun _ =>
       .op (.load (A .ob0) (Rect.unit (s := S4096x128) (k0_off13 2048#32 (BitVec.ofNat 32 n)) S32x128.size o2i).toLoadRect o2l) fun _ =>
       .op (.store (A .ob0) (Rect.unit (s := S4096x128) (k0_off13 2048#32 (BitVec.ofNat 32 n)) S32x128.size o2j)
          (shapeCast S32x128 (extractStridedSlice S32x128 ![64, 0] (accV (scores (four q0 q1 q2 q3) (shapeCast S256x128 k shapeCasts_S1x256x128_S256x128) b) (withOnes (shapeCast S256x128 v shapeCasts_S1x256x128_S256x128))) o2h) shapeCasts_S32x128_S32x128) Finset.univ o2x o2m) fun _ =>
       .op (.load (A .lb0) (Rect.unit (s := S4096x128) (k0_off13 2048#32 (BitVec.ofNat 32 n)) S32x128.size l2i).toLoadRect l2l) fun _ =>
       .op (.store (A .lb0) (Rect.unit (s := S4096x128) (k0_off13 2048#32 (BitVec.ofNat 32 n)) S32x128.size l2j)
          (shapeCast S32x128 (extractStridedSlice S32x128 ![64, 0] (accL (scores (four q0 q1 q2 q3) (shapeCast S256x128 k shapeCasts_S1x256x128_S256x128) b) (withOnes (shapeCast S256x128 v shapeCasts_S1x256x128_S256x128))) l2h) shapeCasts_S32x128_S32x128) Finset.univ l2x l2m) fun _ =>
       .op (.load (A .mb0) (Rect.unit (s := S4096x128) (k0_off13 2048#32 (BitVec.ofNat 32 n)) S32x128.size m2i).toLoadRect m2l) fun _ =>
       .op (.store (A .mb0) (Rect.unit (s := S4096x128) (k0_off13 2048#32 (BitVec.ofNat 32 n)) S32x128.size m2j)
          (shapeCast S32x128 (extractStridedSlice S32x128 ![64, 0] (accM (scores (four q0 q1 q2 q3) (shapeCast S256x128 k shapeCasts_S1x256x128_S256x128) b)) m2h) shapeCasts_S32x128_S32x128) Finset.univ m2x m2m) fun _ =>
       .op (.load (A .ob0) (Rect.unit (s := S4096x128) (k0_off13 3072#32 (BitVec.ofNat 32 n)) S32x128.size o3i).toLoadRect o3l) fun _ =>
       .op (.store (A .ob0) (Rect.unit (s := S4096x128) (k0_off13 3072#32 (BitVec.ofNat 32 n)) S32x128.size o3j)
          (shapeCast S32x128 (extractStridedSlice S32x128 ![96, 0] (accV (scores (four q0 q1 q2 q3) (shapeCast S256x128 k shapeCasts_S1x256x128_S256x128) b) (withOnes (shapeCast S256x128 v shapeCasts_S1x256x128_S256x128))) o3h) shapeCasts_S32x128_S32x128) Finset.univ o3x o3m) fun _ =>
       .op (.load (A .lb0) (Rect.unit (s := S4096x128) (k0_off13 3072#32 (BitVec.ofNat 32 n)) S32x128.size l3i).toLoadRect l3l) fun _ =>
       .op (.store (A .lb0) (Rect.unit (s := S4096x128) (k0_off13 3072#32 (BitVec.ofNat 32 n)) S32x128.size l3j)
          (shapeCast S32x128 (extractStridedSlice S32x128 ![96, 0] (accL (scores (four q0 q1 q2 q3) (shapeCast S256x128 k shapeCasts_S1x256x128_S256x128) b) (withOnes (shapeCast S256x128 v shapeCasts_S1x256x128_S256x128))) l3h) shapeCasts_S32x128_S32x128) Finset.univ l3x l3m) fun _ =>
       .op (.load (A .mb0) (Rect.unit (s := S4096x128) (k0_off13 3072#32 (BitVec.ofNat 32 n)) S32x128.size m3i).toLoadRect m3l) fun _ =>
       .op (.store (A .mb0) (Rect.unit (s := S4096x128) (k0_off13 3072#32 (BitVec.ofNat 32 n)) S32x128.size m3j)
          (shapeCast S32x128 (extractStridedSlice S32x128 ![96, 0] (accM (scores (four q0 q1 q2 q3) (shapeCast S256x128 k shapeCasts_S1x256x128_S256x128) b)) m3h) shapeCasts_S32x128_S32x128) Finset.univ m3x m3m) K) := by
  refine load_eq (b := .qs) _ (rd3 0 (32 * n) ((off9' 0 n (by decide) hn).trans (by simp)) ones3 (QS I)) (fun x => hf.qs _) ?_
  refine load_eq (b := .qs) _ (rd3 0 (1024 + 32 * n) (off9' 1 n (by decide) hn) ones3 (QS I)) (fun x => hf.qs _) ?_
  refine load_eq (b := .qs) _ (rd3 0 (2048 + 32 * n) (off9' 2 n (by decide) hn) ones3 (QS I)) (fun x => hf.qs _) ?_
  refine load_eq (b := .qs) _ (rd3 0 (3072 + 32 * n) (off9' 3 n (by decide) hn) ones3 (QS I)) (fun x => hf.qs _) ?_
  refine load_eq (b := .ks) _ (rd3 0 (128 * kblk 32 n) (off10' n hn) ones3 (KS I)) (fun x => hf.ks _) ?_
  refine load_eq (b := .v) _ (rd3 0 (128 * kblk 32 n) (off11' n hn) ones3 (I .v)) (fun x => trivial) ?_
  refine load_eq (b := .bias) _ (rd3 _ 0 (off12a n hn) ones3 (I .bias)) (fun x => trivial) ?_
  refine run0 0 n (by decide) hn hz ?_
  refine run0 1 n (by decide) hn rfl ?_
  refine run0 2 n (by decide) hn rfl ?_
  refine run0 3 n (by decide) hn rfl ?_
  exact h

/-! ### Every fourth token -/

theorem rows_128 {m n : ℕ} (hm : m = n) {off} (h : off = ![128 * n, 0]) {inb} (y : S4096x128.Idx) (hy : (y 0).val < 128 * (n + 1)) :
    (y 0).val < 128 * m ∨ ∃ x, (Rect.unit (s := S4096x128) off S128x128.size inb).emb x = y := by
  subst hm
  by_cases hc : (y 0).val < 128 * m
  · exact .inl hc
  · exact .inr (mem2 (128 * m) 1 h ones2 y ((y 0).val - 128 * m) (by omega) (by omega))

theorem block1 {Q : PUnit.{1} → sProp 𝕄} {T} (n : ℕ) (hn : n < 32) {z : Ctr} (hf : Full z) (hz : z.b1 = n)
    {j1 k1 j2 k2 j3 k3 j4 k4 i1 l1 i2 x1 x2 i3 l3 i4 y1 y2 i5 l5 i6 w1 w2}
    {K : PUnit.{1} → Pg F} (h : Ok c A E Q (target I T) (Done { z with b1 := n + 1 }) (K ⟨⟩)) :
    Ok c A E Q (target I T) (Done z)
      (.op (.load (A .qs) (Rect.unit (s := S1x4096x128) (k0_off14 (BitVec.ofNat 32 n)) S1x128x128.size j1).toLoadRect k1) fun q =>
       .op (.load (A .ks) (Rect.unit (s := S2x4096x128) (k0_off15 (BitVec.ofNat 32 n)) S1x256x128.size j2).toLoadRect k2) fun k =>
       .op (.load (A .vs) (Rect.unit (s := S1x4096x256) (k0_off16 (BitVec.ofNat 32 n)) S1x256x256.size j3).toLoadRect k3) fun v =>
       .op (.load (A .bias) (Rect.unit (s := S4x128x256) (k0_off12 (BitVec.ofNat 32 n) 8#32 2#32) S1x128x256.size j4).toLoadRect k4) fun b =>
       .op (.load (A .ob1) (Rect.unit (s := S4096x128) (k0_off17 (BitVec.ofNat 32 n)) S128x128.size i1).toLoadRect l1) fun _ =>
       .op (.store (A .ob1) (Rect.unit (s := S4096x128) (k0_off17 (BitVec.ofNat 32 n)) S128x128.size i2)
          (shapeCast S128x128 (accV (scores (shapeCast S128x128 q shapeCasts_S1x128x128_S128x128) (shapeCast S256x128 k shapeCasts_S1x256x128_S256x128) b)
            (shapeCast S256x256 v shapeCasts_S1x256x256_S256x256)) shapeCasts_S128x128_S128x128) Finset.univ x1 x2) fun _ =>
       .op (.load (A .lb1) (Rect.unit (s := S4096x128) (k0_off17 (BitVec.ofNat 32 n)) S128x128.size i3).toLoadRect l3) fun _ =>
       .op (.store (A .lb1) (Rect.unit (s := S4096x128) (k0_off17 (BitVec.ofNat 32 n)) S128x128.size i4)
          (shapeCast S128x128 (accL (scores (shapeCast S128x128 q shapeCasts_S1x128x128_S128x128) (shapeCast S256x128 k shapeCasts_S1x256x128_S256x128) b)
            (shapeCast S256x256 v shapeCasts_S1x256x256_S256x256)) shapeCasts_S128x128_S128x128) Finset.univ y1 y2) fun _ =>
       .op (.load (A .mb1) (Rect.unit (s := S4096x128) (k0_off17 (BitVec.ofNat 32 n)) S128x128.size i5).toLoadRect l5) fun _ =>
       .op (.store (A .mb1) (Rect.unit (s := S4096x128) (k0_off17 (BitVec.ofNat 32 n)) S128x128.size i6)
          (shapeCast S128x128 (accM (scores (shapeCast S128x128 q shapeCasts_S1x128x128_S128x128) (shapeCast S256x128 k shapeCasts_S1x256x128_S256x128) b))
            shapeCasts_S128x128_S128x128) Finset.univ w1 w2) K) := by
  have e := off17' n hn
  refine load_eq (b := .qs) _ (rd3 0 (128 * n) (off14' n hn) ones3 (QS I)) (fun x => hf.qs _) ?_
  refine load_eq (b := .ks) _ (rd3 1 (128 * kblk 8 n) (off15' n hn) ones3 (KS I)) (fun x => hf.ks _) ?_
  refine load_eq (b := .vs) _ (rd3 0 (128 * kblk 8 n) (off16' n hn) ones3 (VS I)) (fun x => hf.vs _) ?_
  refine load_eq (b := .bias) _ (rd3 _ 0 (off12b n hn) ones3 (I .bias)) (fun x => trivial) ?_
  refine ok_skip (b := .ob1) fun _ => ?_
  refine store_to (b := .ob1) (mid z { z with b1 := n + 1 } z) (fun x => ?_) (fun y hy => rows_128 hz e y hy) (fun b' hb y hy => ?_) ?_
  · rw [shapeCast_id]
    exact ((congrArg (OB1 I) (emb2 _ 1 e ones2 x)).trans (tiles2_at _ n x (by omega))).symm
  · cases b' <;> first | exact hy | exact absurd rfl hb
  refine ok_skip (b := .lb1) fun _ => ?_
  refine store_to (b := .lb1) (mid z { z with b1 := n + 1 } { z with b1 := n + 1 }) (fun x => ?_) (fun y hy => rows_128 hz e y hy) (fun b' hb y hy => ?_) ?_
  · rw [shapeCast_id]
    exact ((congrArg (LB1 I) (emb2 _ 1 e ones2 x)).trans (tiles2_at _ n x (by omega))).symm
  · cases b' <;> first | exact hy | exact absurd rfl hb
  refine ok_skip (b := .mb1) fun _ => ?_
  refine store_to (b := .mb1) _ (fun x => ?_) (fun y hy => rows_128 hz e y hy) (fun b' hb y hy => ?_) h
  · rw [shapeCast_id]
    exact ((congrArg (MB1 I) (emb2 _ 1 e ones2 x)).trans (tiles2_at _ n x (by omega))).symm
  · cases b' <;> first | exact hy | exact absurd rfl hb

/-! ### Every sixteenth token -/

/-- The place of a row of a block, taken apart. -/
theorem place {n a : ℕ} (hn : n < 32) (ha : a < 128) :
    base n + 512 * (n % 2) + 4 * a < 4096 ∧ (base n + 512 * (n % 2) + 4 * a) / 1024 = n / 2 % 4
      ∧ (base n + 512 * (n % 2) + 4 * a) % 4 = n / 2 / 4 ∧ (base n + 512 * (n % 2) + 4 * a) % 1024 / 512 = n % 2
      ∧ (base n + 512 * (n % 2) + 4 * a) % 512 / 4 = a := by
  unfold base
  have h1 : n / 2 / 4 < 4 := by omega
  have h2 : n / 2 % 4 < 4 := by omega
  have h3 : n % 2 < 2 := by omega
  generalize n / 2 / 4 = p at *
  generalize n / 2 % 4 = r at *
  generalize n % 2 = s at *
  have e : r * 1024 + p + 512 * s + 4 * a = 1024 * r + (512 * s + (4 * a + p)) := by omega
  have l : 4 * a + p < 512 := by omega
  rw [e]
  refine ⟨by omega, by omega, by omega, ?_, ?_⟩
  · have : (1024 * r + (512 * s + (4 * a + p))) % 1024 = 512 * s + (4 * a + p) := by omega
    rw [this]; omega
  · have : (1024 * r + (512 * s + (4 * a + p))) % 512 = 4 * a + p := by omega
    rw [this]; omega

/-- The block of a row, and its place in the block. -/
theorem unplace {y : ℕ} (hy : y < 4096) {n : ℕ} (h : 2 * (4 * (y % 4) + y / 1024) + y % 1024 / 512 = n) :
    base n + 512 * (n % 2) + 4 * (y % 512 / 4) = y := by
  have h1 : n % 2 = y % 1024 / 512 := by omega
  have h2 : n / 2 = 4 * (y % 4) + y / 1024 := by omega
  unfold base
  rw [h1, h2]
  have h3 : (4 * (y % 4) + y / 1024) % 4 = y / 1024 := by omega
  have h4 : (4 * (y % 4) + y / 1024) / 4 = y % 4 := by omega
  rw [h3, h4]
  have h5 : y % 1024 = 512 * (y % 1024 / 512) + y % 512 := by omega
  have h6 : y = 1024 * (y / 1024) + y % 1024 := by omega
  omega

theorem tilesC_at {α : Type} (f : ℕ → S128x128.Idx → α) {n : ℕ} (hn : n < 32) (x : S128x128.Idx) :
    tilesC f (at2 (base n + 512 * (n % 2) + 4 * (x 0).val) (x 1).val) = f n x := by
  have hx : (x 0).val < 128 := (x 0).isLt
  have hx1 : (x 1).val < 128 := (x 1).isLt
  obtain ⟨p0, p1, p2, p3, p4⟩ := place hn hx
  unfold tilesC
  rw [at2_0, at2_1, Nat.mod_eq_of_lt p0, p1, p2, p3]
  have e : 2 * (4 * (n / 2 / 4) + n / 2 % 4) + n % 2 = n := by omega
  rw [e]
  refine (congrArg (f n) (eq_at2 ?_ ?_)).symm
  · rw [p4]
  · omega

theorem rowsC {m n : ℕ} (hn : n < 32) (hm : m = n) {off} (h : off = ![base n + 512 * (n % 2), 0]) {inb hp} (y : S4096x128.Idx)
    (hy : 2 * (4 * ((y 0).val % 4) + (y 0).val / 1024) + (y 0).val % 1024 / 512 < n + 1) :
    2 * (4 * ((y 0).val % 4) + (y 0).val / 1024) + (y 0).val % 1024 / 512 < m
      ∨ ∃ x, (⟨⟨off, S128x128.size, ![4, 1], inb⟩, hp⟩ : Rect S4096x128).emb x = y := by
  have hy0 : (y 0).val < 4096 := (y 0).isLt
  subst hm
  by_cases hc : 2 * (4 * ((y 0).val % 4) + (y 0).val / 1024) + (y 0).val % 1024 / 512 < m
  · exact .inl hc
  · exact .inr (mem2 _ 4 h rfl y ((y 0).val % 512 / 4) (by omega) (unplace hy0 (by omega)))

theorem block2 {Q : PUnit.{1} → sProp 𝕄} {T} (n : ℕ) (hn : n < 32) {z : Ctr} (hf : Full z) (hz : z.b2 = n)
    {j1 k1 j2 k2 j3 k3 j4 k4 i1 l1 i2 p2 x1 x2 i3 l3 i4 p4 y1 y2 i5 l5 i6 p6 w1 w2}
    {K : PUnit.{1} → Pg F} (h : Ok c A E Q (target I T) (Done { z with b2 := n + 1 }) (K ⟨⟩)) :
    Ok c A E Q (target I T) (Done z)
      (.op (.load (A .q4) (⟨k0_off18 (BitVec.ofNat 32 n), S128x128.size, ![4, 1], j1⟩ : LoadRect S4096x128) k1) fun (q : Vec F S128x128 .f32) =>
       .op (.load (A .k4) (⟨k0_off19 (BitVec.ofNat 32 n), S256x128.size, ![4, 1], j2⟩ : LoadRect S4096x128) k2) fun (k : Vec F S256x128 .f32) =>
       .op (.load (A .v4) (⟨k0_off19 (BitVec.ofNat 32 n), S256x128.size, ![4, 1], j3⟩ : LoadRect S4096x128) k3) fun (v : Vec F S256x128 .f32) =>
       .op (.load (A .bias) (Rect.unit (s := S4x128x256) (k0_off12 (BitVec.ofNat 32 n) 2#32 2#32) S1x128x256.size j4).toLoadRect k4) fun b =>
       .op (.load (A .ob2) (⟨k0_off18 (BitVec.ofNat 32 n), S128x128.size, ![4, 1], i1⟩ : LoadRect S4096x128) l1) fun _ =>
       .op (.store (A .ob2) ⟨(⟨k0_off18 (BitVec.ofNat 32 n), S128x128.size, ![4, 1], i2⟩ : LoadRect S4096x128), p2⟩
          (shapeCast S128x128 (accV (scores (truncf .bf16 q bitsLt_bf16_f32) (truncf .bf16 k bitsLt_bf16_f32) b)
            (withOnes (truncf .bf16 v bitsLt_bf16_f32))) shapeCasts_S128x128_S128x128) Finset.univ x1 x2) fun _ =>
       .op (.load (A .lb2) (⟨k0_off18 (BitVec.ofNat 32 n), S128x128.size, ![4, 1], i3⟩ : LoadRect S4096x128) l3) fun _ =>
       .op (.store (A .lb2) ⟨(⟨k0_off18 (BitVec.ofNat 32 n), S128x128.size, ![4, 1], i4⟩ : LoadRect S4096x128), p4⟩
          (shapeCast S128x128 (accL (scores (truncf .bf16 q bitsLt_bf16_f32) (truncf .bf16 k bitsLt_bf16_f32) b)
            (withOnes (truncf .bf16 v bitsLt_bf16_f32))) shapeCasts_S128x128_S128x128) Finset.univ y1 y2) fun _ =>
       .op (.load (A .mb2) (⟨k0_off18 (BitVec.ofNat 32 n), S128x128.size, ![4, 1], i5⟩ : LoadRect S4096x128) l5) fun _ =>
       .op (.store (A .mb2) ⟨(⟨k0_off18 (BitVec.ofNat 32 n), S128x128.size, ![4, 1], i6⟩ : LoadRect S4096x128), p6⟩
          (shapeCast S128x128 (accM (scores (truncf .bf16 q bitsLt_bf16_f32) (truncf .bf16 k bitsLt_bf16_f32) b))
            shapeCasts_S128x128_S128x128) Finset.univ w1 w2) K) := by
  have e := off18' n hn
  refine load_eq (b := .q4) _ (rd2 _ 4 (off18' n hn) rfl (M4 (TQ I))) (fun x => hf.q4 _) ?_
  refine load_eq (b := .k4) _ (rd2 _ 4 (off19' n hn) rfl (M4 (TK I))) (fun x => hf.k4 _) ?_
  refine load_eq (b := .v4) _ (rd2 _ 4 (off19' n hn) rfl (M4 (TV I))) (fun x => hf.v4 _) ?_
  refine load_eq (b := .bias) _ (rd3 _ 0 (off12c n hn) ones3 (I .bias)) (fun x => trivial) ?_
  refine ok_skip (b := .ob2) fun _ => ?_
  refine store_to (b := .ob2) (mid z { z with b2 := n + 1 } z) (fun x => ?_) (fun y hy => rowsC hn hz e y hy) (fun b' hb y hy => ?_) ?_
  · rw [shapeCast_id]
    exact ((congrArg (OB2 I) (emb2 _ 4 e rfl x)).trans (tilesC_at _ hn x)).symm
  · cases b' <;> first | exact hy | exact absurd rfl hb
  refine ok_skip (b := .lb2) fun _ => ?_
  refine store_to (b := .lb2) (mid z { z with b2 := n + 1 } { z with b2 := n + 1 }) (fun x => ?_) (fun y hy => rowsC hn hz e y hy) (fun b' hb y hy => ?_) ?_
  · rw [shapeCast_id]
    exact ((congrArg (LB2 I) (emb2 _ 4 e rfl x)).trans (tilesC_at _ hn x)).symm
  · cases b' <;> first | exact hy | exact absurd rfl hb
  refine ok_skip (b := .mb2) fun _ => ?_
  refine store_to (b := .mb2) _ (fun x => ?_) (fun y hy => rowsC hn hz e y hy) (fun b' hb y hy => ?_) h
  · rw [shapeCast_id]
    exact ((congrArg (MB2 I) (emb2 _ 4 e rfl x)).trans (tilesC_at _ hn x)).symm
  · cases b' <;> first | exact hy | exact absurd rfl hb

end Cert.Proof.Att
-- ==== Proof.Att.Finish.lean ====
/-
  The rules for the result's rows: the three branches put together, the loop over a residue's blocks.
-/
module

public import proofs.«01_k».proof.Proof.Att.Branches

@[expose] public section

set_option maxRecDepth 65536

noncomputable section

namespace Cert.Proof.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the frame kit's. -/
local notation "𝕄" => MT nD τ sig Unit (Elt F) ℕ (UR sig nD τ) ℕ

variable {c : Dev nD} {A : (b : Slot) → Memref sig .tc .vmem (shp b) (ety b)} {E : Set ℕ} {I : Mem F}

/-- What a body leaves: a memory that agrees with `G` on `D`. -/
def Fin' (c : Dev nD) (A : (b : Slot) → Memref sig .tc .vmem (shp b) (ety b)) (G : Mem F) (D : Part) : sProp 𝕄 :=
  iprop(∃ σ : Mem F, ⌜Inv G D σ⌝ ∗ St c A σ)

theorem ok_ret {Q : PUnit.{1} → sProp 𝕄} {G : Mem F} {D : Part} (h : ∀ σ : Mem F, Inv G D σ → (St c A σ : sProp 𝕄) ⊢ Q ⟨⟩) :
    Ok c A E Q G D (.ret ⟨⟩) := fun σ hσ => by
  have h' := h σ hσ
  rw [wp_ret]
  iintro H
  imodintro
  iapply h'
  iexact H

theorem ok_done {G : Mem F} {D : Part} : Ok c A E (fun _ => (Fin' c A G D : sProp 𝕄)) G D (.ret ⟨⟩) :=
  ok_ret fun σ hσ => by
    unfold Fin'
    iintro H
    iexists σ
    isplitr
    · ipureintro; exact hσ
    iexact H

/-- The same, known under another name. -/
theorem ok_ctr {Q : PUnit.{1} → sProp 𝕄} {G : Mem F} {z z' : Ctr} {p : Pg F} (hz : z = z') (h : Ok c A E Q G (Done z') p) :
    Ok c A E Q G (Done z) p := hz ▸ h

/-- A value returned to the rest of the program. -/
theorem ok_value {Q : PUnit.{1} → sProp 𝕄} {G : Mem F} {D : Part} {α : Type} {a : α} {k : α → Pg F} (h : Ok c A E Q G D (k a)) :
    Ok c A E Q G D (Prog.ret a >>= k) := h

/-- A first case, after which both go on alike. -/
theorem ok_cases {Q : PUnit.{1} → sProp 𝕄} {G : Mem F} {D D' : Part} {P : Prop} [Decidable P] {α : Type}
    {p : P → Prog (TpuEff nD τ sig (Elt F) Λ₀ .tc) α} {p' : Prog (TpuEff nD τ sig (Elt F) Λ₀ .tc) α} {k : α → Pg F}
    (h1 : ∀ h : P, Ok c A E Q G D' (p' >>= k) → Ok c A E Q G D (p h >>= k)) (h2 : ¬ P → D = D') (h : Ok c A E Q G D' (p' >>= k)) :
    Ok c A E Q G D (dite P p (fun _ => p') >>= k) := by
  by_cases hP : P
  · rw [dif_pos hP]; exact h1 hP h
  · rw [dif_neg hP, h2 hP]; exact h

theorem ok_assoc {Q : PUnit.{1} → sProp 𝕄} {G : Mem F} {D : Part} {α β : Type} {p : Prog (TpuEff nD τ sig (Elt F) Λ₀ .tc) α}
    {k1 : α → Prog (TpuEff nD τ sig (Elt F) Λ₀ .tc) β} {k2 : β → Pg F} (h : Ok c A E Q G D (p >>= fun x => k1 x >>= k2)) :
    Ok c A E Q G D ((p >>= k1) >>= k2) := by
  rw [Prog.bind_assoc]; exact h

/-- A loop, the trip `k` taking what is known from `D k` to `D (k + 1)`. -/
theorem ok_for {Q : PUnit.{1} → sProp 𝕄} {G : Mem F} (D : ℕ → Part) {l : Scf.Loop 32} {hok : l.OK} {body : Fin l.trips → PUnit.{1} → Pg F}
    {kk : PUnit.{1} → Pg F} (hb : ∀ k : Fin l.trips, Ok c A E (fun _ => (Fin' c A G (D (k.val + 1)) : sProp 𝕄)) G (D k.val) (body k ⟨⟩))
    (h : Ok c A E Q G (D l.trips) (kk ⟨⟩)) : Ok c A E Q G (D 0) (Scf.Loop.for l hok ⟨⟩ body >>= kk) := fun σ hσ => by
  have hl := Scf.wp_for_bind frame (wpE (defs₀ (F := F)) 𝒱₀ c none) E l.lb l.ub l.st hok (⟨⟩ : PUnit.{1}) body
    (fun k _ => (Fin' c A G (D k) : sProp 𝕄)) (fun k acc => by
      unfold Fin'
      iintro ⟨%τ, %hτ, H⟩
      have := hb k τ hτ
      unfold Fin' at this
      iapply this
      iexact H) (kk := kk) (Q := Q)
  iintro H
  iapply hl $$ [H]
  · unfold Fin'
    iexists σ
    isplitr
    · ipureintro; exact hσ
    iexact H
  iintro %acc HF
  unfold Fin'
  icases HF with ⟨%τ, %hτ, H⟩
  have := h τ hτ
  iapply this
  iexact H

/-- One block of the result's rows. -/
theorem mergeRows {Q : PUnit.{1} → sProp 𝕄} {T} (r i : ℕ) (hr : r < 4) (hi : i < 4) {z : Ctr} (h0 : z.b0 = 128) (h1 : z.b1 = 32) (h2 : z.b2 = 32)
    (hz : z.o = 4 * r + i) {o o' : _} (ho : o = ![1024 * r + 256 * i, 0]) (ho' : o' = ![0, 1024 * i + r, 0])
    {a1 p1 a2 p2 a3 p3 a4 p4 a5 p5 a6 p6 a7 p7 a8 p8 a9 p9 aa pa ab pb x1 x2} {K : PUnit.{1} → Pg F}
    (h : Ok c A E Q (target I T) (Done { z with o := 4 * r + i + 1 }) (K ⟨⟩)) :
    Ok c A E Q (target I T) (Done z)
      (.op (.load (A .mb0) (Rect.unit (s := S4096x128) o S256x128.size a1).toLoadRect p1) fun m0 =>
       .op (.load (A .mb1) (Rect.unit (s := S4096x128) o S256x128.size a2).toLoadRect p2) fun m1 =>
       .op (.load (A .mb2) (Rect.unit (s := S4096x128) o S256x128.size a3).toLoadRect p3) fun m2 =>
       .op (.load (A .ob0) (Rect.unit (s := S4096x128) o S256x128.size a4).toLoadRect p4) fun o0 =>
       .op (.load (A .lb0) (Rect.unit (s := S4096x128) o S256x128.size a5).toLoadRect p5) fun l0 =>
       .op (.load (A .ob1) (Rect.unit (s := S4096x128) o S256x128.size a6).toLoadRect p6) fun o1 =>
       .op (.load (A .lb1) (Rect.unit (s := S4096x128) o S256x128.size a7).toLoadRect p7) fun l1 =>
       .op (.load (A .ob2) (Rect.unit (s := S4096x128) o S256x128.size a8).toLoadRect p8) fun o2 =>
       .op (.load (A .lb2) (Rect.unit (s := S4096x128) o S256x128.size a9).toLoadRect p9) fun l2 =>
       .op (.load (A .out) (⟨o', S1x256x128.size, ![1, 4, 1], aa⟩ : LoadRect S1x4096x128) pa) fun _ =>
       .op (.store (A .out) ⟨(⟨o', S1x256x128.size, ![1, 4, 1], ab⟩ : LoadRect S1x4096x128), pb⟩
          (shapeCast S1x256x128 (merge m0 m1 m2 o0 l0 o1 l1 o2 l2) shapeCasts_S256x128_S1x256x128) Finset.univ x1 x2) K) := by
  have k0 (y : S4096x128.Idx) : 4 * ((y 0).val % 1024 / 32) + (y 0).val / 1024 < z.b0 := by
    have : (y 0).val < 4096 := (y 0).isLt
    omega
  have k1 (y : S4096x128.Idx) : (y 0).val < 128 * z.b1 := by
    have : (y 0).val < 4096 := (y 0).isLt
    omega
  have k2 (y : S4096x128.Idx) : 2 * (4 * ((y 0).val % 4) + (y 0).val / 1024) + (y 0).val % 1024 / 512 < z.b2 := by
    have : (y 0).val < 4096 := (y 0).isLt
    omega
  refine load_eq (b := .mb0) _ (rd2 _ 1 ho ones2 (MB0 I)) (fun x => k0 _) ?_
  refine load_eq (b := .mb1) _ (rd2 _ 1 ho ones2 (MB1 I)) (fun x => k1 _) ?_
  refine load_eq (b := .mb2) _ (rd2 _ 1 ho ones2 (MB2 I)) (fun x => k2 _) ?_
  refine load_eq (b := .ob0) _ (rd2 _ 1 ho ones2 (OB0 I)) (fun x => k0 _) ?_
  refine load_eq (b := .lb0) _ (rd2 _ 1 ho ones2 (LB0 I)) (fun x => k0 _) ?_
  refine load_eq (b := .ob1) _ (rd2 _ 1 ho ones2 (OB1 I)) (fun x => k1 _) ?_
  refine load_eq (b := .lb1) _ (rd2 _ 1 ho ones2 (LB1 I)) (fun x => k1 _) ?_
  refine load_eq (b := .ob2) _ (rd2 _ 1 ho ones2 (OB2 I)) (fun x => k2 _) ?_
  refine load_eq (b := .lb2) _ (rd2 _ 1 ho ones2 (LB2 I)) (fun x => k2 _) ?_
  refine ok_skip (b := .out) fun _ => ?_
  refine store_to (b := .out) _ (fun x => ?_) (fun y hy => ?_) (fun b' hb y hy => ?_) h
  · refine (cast_up _ _ x).trans (Eq.trans ?_ (congrArg (OUT I) (emb3 0 (1024 * i + r) 4 0 ho' rfl x)).symm)
    have hx : (x 1).val < 256 := (x 1).isLt
    unfold OUT
    rw [at3_1, at3_2]
    have e : (1024 * i + r + 4 * (x 1).val) % 4096 = 1024 * i + r + 4 * (x 1).val := by omega
    rw [e]
    have e1 : (1024 * i + r + 4 * (x 1).val) % 4 = r := by omega
    have e2 : (1024 * i + r + 4 * (x 1).val) / 1024 = i := by omega
    have e3 : (1024 * i + r + 4 * (x 1).val) / 4 % 256 = (x 1).val := by omega
    rw [e1, e2, e3]
    have hx2 : (x 2).val < 128 := (x 2).isLt
    have e4 : (0 + (x 2).val) % 128 = (x 2).val := by omega
    rw [e4]
    rfl
  · have hy' : 4 * ((y 1).val % 4) + (y 1).val / 1024 < 4 * r + i + 1 := hy
    show 4 * ((y 1).val % 4) + (y 1).val / 1024 < z.o ∨ _
    have y0 : (y 0).val = 0 := Nat.lt_one_iff.mp (y 0).isLt
    have y1 : (y 1).val < 4096 := (y 1).isLt
    have y2 : (y 2).val < 128 := (y 2).isLt
    by_cases hc : 4 * ((y 1).val % 4) + (y 1).val / 1024 < z.o
    · exact .inl hc
    · have er : (y 1).val % 4 = r := by omega
      have ei : (y 1).val / 1024 = i := by omega
      have e4 : (y 1).val / 4 = 256 * ((y 1).val / 1024) + (y 1).val / 4 % 256 := by omega
      exact .inr (mem3 0 _ 4 0 ho' rfl y ((y 1).val / 4 % 256) (y 2).val (by omega) y2 y0.symm (by omega) (by omega))
  · cases b' <;> first | exact hy | exact absurd rfl hb

end Cert.Proof.Att
-- ==== Proof.Att.Walk.lean ====
/-
  The body's walk: each block by its rule, in the program's order.
-/
module

public import proofs.«01_k».proof.Proof.Att.Finish

@[expose] public section

set_option maxRecDepth 65536

noncomputable section

namespace Cert.Proof.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the frame kit's. -/
local notation "𝕄" => MT nD τ sig Unit (Elt F) ℕ (UR sig nD τ) ℕ

variable {c : Dev nD} {A : (b : Slot) → Memref sig .tc .vmem (shp b) (ety b)} {E : Set ℕ} {I : Mem F}

theorem toK (z : Ctr) (b : Slot) (x : (shp b).Idx) (h : Done { z with t := 0 } b x) : Done z b x ∧ target I (TK I) b x = target I (TQ I) b x := by
  cases b <;> first | exact ⟨h, rfl⟩ | exact absurd h (Nat.not_lt_zero _)

theorem toV (z : Ctr) (b : Slot) (x : (shp b).Idx) (h : Done { z with t := 0 } b x) : Done z b x ∧ target I (TV I) b x = target I (TK I) b x := by
  cases b <;> first | exact ⟨h, rfl⟩ | exact absurd h (Nat.not_lt_zero _)

/-- What is known once the branches are done, `o` of the sixteen blocks of the result's rows being put together. -/
def last (o : ℕ) : Ctr := { w := 1, t := 16, q := 16, k0 := 16, k1 := 16, v := 16, b0 := 128, b1 := 32, b2 := 32, o := o }

theorem rows0 (k : Fin k0_t1_loop.trips) : k0_off20 k = ![1024 * 0 + 256 * k.val, 0] :=
  (k0_off20_eq k).trans (by simp only [Nat.mul_zero, Nat.zero_add])
theorem outs0 (k : Fin k0_t1_loop.trips) : k0_off21 k = ![0, 1024 * k.val + 0, 0] := k0_off21_eq k
theorem rows1 (k : Fin k0_t2_loop.trips) : k0_off22 k = ![1024 * 1 + 256 * k.val, 0] :=
  (k0_off22_eq k).trans (by simp only [Nat.add_comm])
theorem outs1 (k : Fin k0_t2_loop.trips) : k0_off23 k = ![0, 1024 * k.val + 1, 0] := k0_off23_eq k
theorem rows2 (k : Fin k0_t3_loop.trips) : k0_off24 k = ![1024 * 2 + 256 * k.val, 0] :=
  (k0_off24_eq k).trans (by simp only [Nat.add_comm])
theorem outs2 (k : Fin k0_t3_loop.trips) : k0_off25 k = ![0, 1024 * k.val + 2, 0] := k0_off25_eq k
theorem rows3 (k : Fin k0_t4_loop.trips) : k0_off26 k = ![1024 * 3 + 256 * k.val, 0] :=
  (k0_off26_eq k).trans (by simp only [Nat.add_comm])
theorem outs3 (k : Fin k0_t4_loop.trips) : k0_off27 k = ![0, 1024 * k.val + 3, 0] := k0_off27_eq k
theorem trip0 (k : Fin k0_t1_loop.trips) : k.val < 4 := lt_of_lt_of_eq k.isLt (by decide +kernel)
theorem trip1 (k : Fin k0_t2_loop.trips) : k.val < 4 := lt_of_lt_of_eq k.isLt (by decide +kernel)
theorem trip2 (k : Fin k0_t3_loop.trips) : k.val < 4 := lt_of_lt_of_eq k.isLt (by decide +kernel)
theorem trip3 (k : Fin k0_t4_loop.trips) : k.val < 4 := lt_of_lt_of_eq k.isLt (by decide +kernel)

set_option maxHeartbeats 4000000 in
/-- From the ones in place (put there at the first point) the body leaves every buffer at its target. -/
theorem walk (i : grid0.Coords) (hA : ∀ b, (A b).IsWhole) (w : ℕ) (hw : ¬ Scalar.cmpi .ne (Scalar.extui (Scalar.andi (Scalar.cmpi .eq (BitVec.ofNat 32 (i 0).val) 0#32) (Scalar.cmpi .eq (BitVec.ofNat 32 (i 1).val) 0#32)) : BitVec 32) 0#32 = 1#1 → w = 1) :
    Ok c A E (fun _ => (Fin' c A (target I (TV I)) (Done (last 16)) : sProp 𝕄)) (target I (TQ I)) (Done { w := w })
    (cc0_dilated_attention i (A .q) (hA .q) (A .k) (hA .k) (A .v) (hA .v) (A .cos) (hA .cos) (A .sin) (hA .sin) (A .gq) (hA .gq) (A .gk) (hA .gk) (A .bias) (hA .bias) (A .perm) (hA .perm) (A .out) (hA .out) (A .qs) (hA .qs) (A .ks) (hA .ks) (A .vs) (hA .vs) (A .t0) (hA .t0) (A .q4) (hA .q4) (A .k4) (hA .k4) (A .v4) (hA .v4) (A .ob0) (hA .ob0) (A .ob1) (hA .ob1) (A .ob2) (hA .ob2) (A .lb0) (hA .lb0) (A .lb1) (hA .lb1) (A .lb2) (hA .lb2) (A .mb0) (hA .mb0) (A .mb1) (hA .mb1) (A .mb2) (hA .mb2)) := by
  unfold cc0_dilated_attention k0_part273 k0_part5
  refine ok_assoc ?_
  refine ok_cases (F := F) (D' := Done { w := 1 }) (fun h hK => onesRule rfl hK) (fun h => by rw [hw h]) ?_
  refine load_eq (b := .gq) _ ((rd2 0 1 rfl ones2 (I .gq)).trans (slab2_whole _)) (fun _ => trivial) ?_
  refine prepQ 0 (by decide) rfl ?_
  refine prepQ 1 (by decide) rfl ?_
  refine prepQ 2 (by decide) rfl ?_
  refine prepQ 3 (by decide) rfl ?_
  refine prepQ 4 (by decide) rfl ?_
  refine prepQ 5 (by decide) rfl ?_
  refine prepQ 6 (by decide) rfl ?_
  refine prepQ 7 (by decide) rfl ?_
  refine prepQ 8 (by decide) rfl ?_
  refine prepQ 9 (by decide) rfl ?_
  refine prepQ 10 (by decide) rfl ?_
  refine prepQ 11 (by decide) rfl ?_
  refine prepQ 12 (by decide) rfl ?_
  refine prepQ 13 (by decide) rfl ?_
  refine prepQ 14 (by decide) rfl ?_
  refine prepQ 15 (by decide) rfl ?_
  refine resQ 0 0 (by decide) (by decide) rfl rfl ?_
  refine resQ 0 1 (by decide) (by decide) rfl rfl ?_
  refine resQ 0 2 (by decide) (by decide) rfl rfl ?_
  refine resQ 0 3 (by decide) (by decide) rfl rfl ?_
  refine resQ 1 0 (by decide) (by decide) rfl rfl ?_
  refine resQ 1 1 (by decide) (by decide) rfl rfl ?_
  refine resQ 1 2 (by decide) (by decide) rfl rfl ?_
  refine resQ 1 3 (by decide) (by decide) rfl rfl ?_
  refine resQ 2 0 (by decide) (by decide) rfl rfl ?_
  refine resQ 2 1 (by decide) (by decide) rfl rfl ?_
  refine resQ 2 2 (by decide) (by decide) rfl rfl ?_
  refine resQ 2 3 (by decide) (by decide) rfl rfl ?_
  refine resQ 3 0 (by decide) (by decide) rfl rfl ?_
  refine resQ 3 1 (by decide) (by decide) rfl rfl ?_
  refine resQ 3 2 (by decide) (by decide) rfl rfl ?_
  refine resQ 3 3 (by decide) (by decide) rfl rfl ?_
  refine Ok.mono (toK _) ?_
  refine load_eq (b := .gk) _ ((rd2 0 1 rfl ones2 (I .gk)).trans (slab2_whole _)) (fun _ => trivial) ?_
  refine prepK 0 (by decide) rfl rfl ?_
  refine prepK 1 (by decide) rfl rfl ?_
  refine prepK 2 (by decide) rfl rfl ?_
  refine prepK 3 (by decide) rfl rfl ?_
  refine prepK 4 (by decide) rfl rfl ?_
  refine prepK 5 (by decide) rfl rfl ?_
  refine prepK 6 (by decide) rfl rfl ?_
  refine prepK 7 (by decide) rfl rfl ?_
  refine prepK 8 (by decide) rfl rfl ?_
  refine prepK 9 (by decide) rfl rfl ?_
  refine prepK 10 (by decide) rfl rfl ?_
  refine prepK 11 (by decide) rfl rfl ?_
  refine prepK 12 (by decide) rfl rfl ?_
  refine prepK 13 (by decide) rfl rfl ?_
  refine prepK 14 (by decide) rfl rfl ?_
  refine prepK 15 (by decide) rfl rfl ?_
  refine resK 0 0 (by decide) (by decide) rfl rfl ?_
  refine resK 0 1 (by decide) (by decide) rfl rfl ?_
  refine resK 0 2 (by decide) (by decide) rfl rfl ?_
  refine resK 0 3 (by decide) (by decide) rfl rfl ?_
  refine resK 1 0 (by decide) (by decide) rfl rfl ?_
  refine resK 1 1 (by decide) (by decide) rfl rfl ?_
  refine resK 1 2 (by decide) (by decide) rfl rfl ?_
  refine resK 1 3 (by decide) (by decide) rfl rfl ?_
  refine resK 2 0 (by decide) (by decide) rfl rfl ?_
  refine resK 2 1 (by decide) (by decide) rfl rfl ?_
  refine resK 2 2 (by decide) (by decide) rfl rfl ?_
  refine resK 2 3 (by decide) (by decide) rfl rfl ?_
  refine resK 3 0 (by decide) (by decide) rfl rfl ?_
  refine resK 3 1 (by decide) (by decide) rfl rfl ?_
  refine resK 3 2 (by decide) (by decide) rfl rfl ?_
  refine resK 3 3 (by decide) (by decide) rfl rfl ?_
  refine Ok.mono (toV _) ?_
  refine prepV 0 (by decide) rfl ?_
  refine prepV 1 (by decide) rfl ?_
  refine prepV 2 (by decide) rfl ?_
  refine prepV 3 (by decide) rfl ?_
  refine prepV 4 (by decide) rfl ?_
  refine prepV 5 (by decide) rfl ?_
  refine prepV 6 (by decide) rfl ?_
  refine prepV 7 (by decide) rfl ?_
  refine prepV 8 (by decide) rfl ?_
  refine prepV 9 (by decide) rfl ?_
  refine prepV 10 (by decide) rfl ?_
  refine prepV 11 (by decide) rfl ?_
  refine prepV 12 (by decide) rfl ?_
  refine prepV 13 (by decide) rfl ?_
  refine prepV 14 (by decide) rfl ?_
  refine prepV 15 (by decide) rfl ?_
  refine resV 0 0 (by decide) (by decide) rfl rfl ?_
  refine resV 0 1 (by decide) (by decide) rfl rfl ?_
  refine resV 0 2 (by decide) (by decide) rfl rfl ?_
  refine resV 0 3 (by decide) (by decide) rfl rfl ?_
  refine resV 1 0 (by decide) (by decide) rfl rfl ?_
  refine resV 1 1 (by decide) (by decide) rfl rfl ?_
  refine resV 1 2 (by decide) (by decide) rfl rfl ?_
  refine resV 1 3 (by decide) (by decide) rfl rfl ?_
  refine resV 2 0 (by decide) (by decide) rfl rfl ?_
  refine resV 2 1 (by decide) (by decide) rfl rfl ?_
  refine resV 2 2 (by decide) (by decide) rfl rfl ?_
  refine resV 2 3 (by decide) (by decide) rfl rfl ?_
  refine resV 3 0 (by decide) (by decide) rfl rfl ?_
  refine resV 3 1 (by decide) (by decide) rfl rfl ?_
  refine resV 3 2 (by decide) (by decide) rfl rfl ?_
  refine resV 3 3 (by decide) (by decide) rfl rfl ?_
  refine block0 0 (by decide) ⟨rfl, rfl, rfl, rfl, rfl⟩ rfl ?_
  refine block0 1 (by decide) ⟨rfl, rfl, rfl, rfl, rfl⟩ rfl ?_
  refine block0 2 (by decide) ⟨rfl, rfl, rfl, rfl, rfl⟩ rfl ?_
  refine block0 3 (by decide) ⟨rfl, rfl, rfl, rfl, rfl⟩ rfl ?_
  refine block0 4 (by decide) ⟨rfl, rfl, rfl, rfl, rfl⟩ rfl ?_
  refine block0 5 (by decide) ⟨rfl, rfl, rfl, rfl, rfl⟩ rfl ?_
  refine block0 6 (by decide) ⟨rfl, rfl, rfl, rfl, rfl⟩ rfl ?_
  refine block0 7 (by decide) ⟨rfl, rfl, rfl, rfl, rfl⟩ rfl ?_
  refine block0 8 (by decide) ⟨rfl, rfl, rfl, rfl, rfl⟩ rfl ?_
  refine block0 9 (by decide) ⟨rfl, rfl, rfl, rfl, rfl⟩ rfl ?_
  refine block0 10 (by decide) ⟨rfl, rfl, rfl, rfl, rfl⟩ rfl ?_
  refine block0 11 (by decide) ⟨rfl, rfl, rfl, rfl, rfl⟩ rfl ?_
  refine block0 12 (by decide) ⟨rfl, rfl, rfl, rfl, rfl⟩ rfl ?_
  refine block0 13 (by decide) ⟨rfl, rfl, rfl, rfl, rfl⟩ rfl ?_
  refine block0 14 (by decide) ⟨rfl, rfl, rfl, rfl, rfl⟩ rfl ?_
  refine block0 15 (by decide) ⟨rfl, rfl, rfl, rfl, rfl⟩ rfl ?_
  refine block0 16 (by decide) ⟨rfl, rfl, rfl, rfl, rfl⟩ rfl ?_
  refine block0 17 (by decide) ⟨rfl, rfl, rfl, rfl, rfl⟩ rfl ?_
  refine block0 18 (by decide) ⟨rfl, rfl, rfl, rfl, rfl⟩ rfl ?_
  refine block0 19 (by decide) ⟨rfl, rfl, rfl, rfl, rfl⟩ rfl ?_
  refine block0 20 (by decide) ⟨rfl, rfl, rfl, rfl, rfl⟩ rfl ?_
  refine block0 21 (by decide) ⟨rfl, rfl, rfl, rfl, rfl⟩ rfl ?_
  refine block0 22 (by decide) ⟨rfl, rfl, rfl, rfl, rfl⟩ rfl ?_
  refine block0 23 (by decide) ⟨rfl, rfl, rfl, rfl, rfl⟩ rfl ?_
  refine block0 24 (by decide) ⟨rfl, rfl, rfl, rfl, rfl⟩ rfl ?_
  refine block0 25 (by decide) ⟨rfl, rfl, rfl, rfl, rfl⟩ rfl ?_
  refine block0 26 (by decide) ⟨rfl, rfl, rfl, rfl, rfl⟩ rfl ?_
  refine block0 27 (by decide) ⟨rfl, rfl, rfl, rfl, rfl⟩ rfl ?_
  refine block0 28 (by decide) ⟨rfl, rfl, rfl, rfl, rfl⟩ rfl ?_
  refine block0 29 (by decide) ⟨rfl, rfl, rfl, rfl, rfl⟩ rfl ?_
  refine block0 30 (by decide) ⟨rfl, rfl, rfl, rfl, rfl⟩ rfl ?_
  refine block0 31 (by decide) ⟨rfl, rfl, rfl, rfl, rfl⟩ rfl ?_
  refine block1 0 (by decide) ⟨rfl, rfl, rfl, rfl, rfl⟩ rfl ?_
  refine block1 1 (by decide) ⟨rfl, rfl, rfl, rfl, rfl⟩ rfl ?_
  refine block1 2 (by decide) ⟨rfl, rfl, rfl, rfl, rfl⟩ rfl ?_
  refine block1 3 (by decide) ⟨rfl, rfl, rfl, rfl, rfl⟩ rfl ?_
  refine block1 4 (by decide) ⟨rfl, rfl, rfl, rfl, rfl⟩ rfl ?_
  refine block1 5 (by decide) ⟨rfl, rfl, rfl, rfl, rfl⟩ rfl ?_
  refine block1 6 (by decide) ⟨rfl, rfl, rfl, rfl, rfl⟩ rfl ?_
  refine block1 7 (by decide) ⟨rfl, rfl, rfl, rfl, rfl⟩ rfl ?_
  refine block1 8 (by decide) ⟨rfl, rfl, rfl, rfl, rfl⟩ rfl ?_
  refine block1 9 (by decide) ⟨rfl, rfl, rfl, rfl, rfl⟩ rfl ?_
  refine block1 10 (by decide) ⟨rfl, rfl, rfl, rfl, rfl⟩ rfl ?_
  refine block1 11 (by decide) ⟨rfl, rfl, rfl, rfl, rfl⟩ rfl ?_
  refine block1 12 (by decide) ⟨rfl, rfl, rfl, rfl, rfl⟩ rfl ?_
  refine block1 13 (by decide) ⟨rfl, rfl, rfl, rfl, rfl⟩ rfl ?_
  refine block1 14 (by decide) ⟨rfl, rfl, rfl, rfl, rfl⟩ rfl ?_
  refine block1 15 (by decide) ⟨rfl, rfl, rfl, rfl, rfl⟩ rfl ?_
  refine block1 16 (by decide) ⟨rfl, rfl, rfl, rfl, rfl⟩ rfl ?_
  refine block1 17 (by decide) ⟨rfl, rfl, rfl, rfl, rfl⟩ rfl ?_
  refine block1 18 (by decide) ⟨rfl, rfl, rfl, rfl, rfl⟩ rfl ?_
  refine block1 19 (by decide) ⟨rfl, rfl, rfl, rfl, rfl⟩ rfl ?_
  refine block1 20 (by decide) ⟨rfl, rfl, rfl, rfl, rfl⟩ rfl ?_
  refine block1 21 (by decide) ⟨rfl, rfl, rfl, rfl, rfl⟩ rfl ?_
  refine block1 22 (by decide) ⟨rfl, rfl, rfl, rfl, rfl⟩ rfl ?_
  refine block1 23 (by decide) ⟨rfl, rfl, rfl, rfl, rfl⟩ rfl ?_
  refine block1 24 (by decide) ⟨rfl, rfl, rfl, rfl, rfl⟩ rfl ?_
  refine block1 25 (by decide) ⟨rfl, rfl, rfl, rfl, rfl⟩ rfl ?_
  refine block1 26 (by decide) ⟨rfl, rfl, rfl, rfl, rfl⟩ rfl ?_
  refine block1 27 (by decide) ⟨rfl, rfl, rfl, rfl, rfl⟩ rfl ?_
  refine block1 28 (by decide) ⟨rfl, rfl, rfl, rfl, rfl⟩ rfl ?_
  refine block1 29 (by decide) ⟨rfl, rfl, rfl, rfl, rfl⟩ rfl ?_
  refine block1 30 (by decide) ⟨rfl, rfl, rfl, rfl, rfl⟩ rfl ?_
  refine block1 31 (by decide) ⟨rfl, rfl, rfl, rfl, rfl⟩ rfl ?_
  refine block2 0 (by decide) ⟨rfl, rfl, rfl, rfl, rfl⟩ rfl ?_
  refine block2 1 (by decide) ⟨rfl, rfl, rfl, rfl, rfl⟩ rfl ?_
  refine block2 2 (by decide) ⟨rfl, rfl, rfl, rfl, rfl⟩ rfl ?_
  refine block2 3 (by decide) ⟨rfl, rfl, rfl, rfl, rfl⟩ rfl ?_
  refine block2 4 (by decide) ⟨rfl, rfl, rfl, rfl, rfl⟩ rfl ?_
  refine block2 5 (by decide) ⟨rfl, rfl, rfl, rfl, rfl⟩ rfl ?_
  refine block2 6 (by decide) ⟨rfl, rfl, rfl, rfl, rfl⟩ rfl ?_
  refine block2 7 (by decide) ⟨rfl, rfl, rfl, rfl, rfl⟩ rfl ?_
  refine block2 8 (by decide) ⟨rfl, rfl, rfl, rfl, rfl⟩ rfl ?_
  refine block2 9 (by decide) ⟨rfl, rfl, rfl, rfl, rfl⟩ rfl ?_
  refine block2 10 (by decide) ⟨rfl, rfl, rfl, rfl, rfl⟩ rfl ?_
  refine block2 11 (by decide) ⟨rfl, rfl, rfl, rfl, rfl⟩ rfl ?_
  refine block2 12 (by decide) ⟨rfl, rfl, rfl, rfl, rfl⟩ rfl ?_
  refine block2 13 (by decide) ⟨rfl, rfl, rfl, rfl, rfl⟩ rfl ?_
  refine block2 14 (by decide) ⟨rfl, rfl, rfl, rfl, rfl⟩ rfl ?_
  refine block2 15 (by decide) ⟨rfl, rfl, rfl, rfl, rfl⟩ rfl ?_
  refine block2 16 (by decide) ⟨rfl, rfl, rfl, rfl, rfl⟩ rfl ?_
  refine block2 17 (by decide) ⟨rfl, rfl, rfl, rfl, rfl⟩ rfl ?_
  refine block2 18 (by decide) ⟨rfl, rfl, rfl, rfl, rfl⟩ rfl ?_
  refine block2 19 (by decide) ⟨rfl, rfl, rfl, rfl, rfl⟩ rfl ?_
  refine block2 20 (by decide) ⟨rfl, rfl, rfl, rfl, rfl⟩ rfl ?_
  refine block2 21 (by decide) ⟨rfl, rfl, rfl, rfl, rfl⟩ rfl ?_
  refine block2 22 (by decide) ⟨rfl, rfl, rfl, rfl, rfl⟩ rfl ?_
  refine block2 23 (by decide) ⟨rfl, rfl, rfl, rfl, rfl⟩ rfl ?_
  refine block2 24 (by decide) ⟨rfl, rfl, rfl, rfl, rfl⟩ rfl ?_
  refine block2 25 (by decide) ⟨rfl, rfl, rfl, rfl, rfl⟩ rfl ?_
  refine block2 26 (by decide) ⟨rfl, rfl, rfl, rfl, rfl⟩ rfl ?_
  refine block2 27 (by decide) ⟨rfl, rfl, rfl, rfl, rfl⟩ rfl ?_
  refine block2 28 (by decide) ⟨rfl, rfl, rfl, rfl, rfl⟩ rfl ?_
  refine block2 29 (by decide) ⟨rfl, rfl, rfl, rfl, rfl⟩ rfl ?_
  refine block2 30 (by decide) ⟨rfl, rfl, rfl, rfl, rfl⟩ rfl ?_
  refine block2 31 (by decide) ⟨rfl, rfl, rfl, rfl, rfl⟩ rfl ?_
  refine ok_ctr (z' := last 0) rfl ?_
  repeat first | refine ok_value ?_ | refine ok_assoc ?_
  refine ok_for (F := F) (l := k0_t1_loop) (fun k => Done (last (4 * 0 + k))) (fun k => ?_) ?_
  · exact mergeRows (F := F) 0 k.val (by decide) (trip0 k) rfl rfl rfl rfl (rows0 k) (outs0 k) ok_done
  repeat first | refine ok_value ?_ | refine ok_assoc ?_
  refine ok_for (F := F) (l := k0_t2_loop) (fun k => Done (last (4 * 1 + k))) (fun k => ?_) ?_
  · exact mergeRows (F := F) 1 k.val (by decide) (trip1 k) rfl rfl rfl rfl (rows1 k) (outs1 k) ok_done
  repeat first | refine ok_value ?_ | refine ok_assoc ?_
  refine ok_for (F := F) (l := k0_t3_loop) (fun k => Done (last (4 * 2 + k))) (fun k => ?_) ?_
  · exact mergeRows (F := F) 2 k.val (by decide) (trip2 k) rfl rfl rfl rfl (rows2 k) (outs2 k) ok_done
  repeat first | refine ok_value ?_ | refine ok_assoc ?_
  refine ok_for (F := F) (l := k0_t4_loop) (fun k => Done (last (4 * 3 + k))) (fun k => ?_) ?_
  · exact mergeRows (F := F) 3 k.val (by decide) (trip3 k) rfl rfl rfl rfl (rows3 k) (outs3 k) ok_done
  exact ok_done

end Cert.Proof.Att
-- ==== Proof.Att.Run.lean ====
/-
  The kernel's run: the body's walk at every grid point, the ones beside the values carried from the first point on,
  and what the pipeline leaves in the result's array.
-/
module

public import proofs.«01_k».proof.Proof.Att.Walk
public import proofs.«01_k».proof.Proof.Gen.KernelIdeal.Frame

@[expose] public section

set_option maxRecDepth 16384

noncomputable section

namespace Cert.Proof.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The resource algebra: the frame kit's. -/
local notation "𝕄" => MT nD τ sig Unit (Elt F) ℕ (UR sig nD τ) ℕ

variable (m : (ℓ : Loc nD τ sig) → Buf (Elt F) ℓ) (ρ : Dev nD → PrngReg)

/-- The buffers the body is given at a point. -/
def mems (t : Fin cfg0.N) : (b : Slot) → Memref sig .tc .vmem (shp b) (ety b)
  | .q => win0_0.stage (cfg0.slots t 0)
  | .k => win0_1.stage (cfg0.slots t 1)
  | .v => win0_2.stage (cfg0.slots t 2)
  | .cos => win0_3.stage (cfg0.slots t 3)
  | .sin => win0_4.stage (cfg0.slots t 4)
  | .gq => win0_5.stage (cfg0.slots t 5)
  | .gk => win0_6.stage (cfg0.slots t 6)
  | .bias => win0_7.stage (cfg0.slots t 7)
  | .perm => win0_8.stage (cfg0.slots t 8)
  | .out => win0_9.stage (cfg0.slots t 9)
  | .qs => Memref.whole cc0_scratch0
  | .ks => Memref.whole cc0_scratch1
  | .vs => Memref.whole cc0_scratch2
  | .t0 => Memref.whole cc0_scratch3
  | .q4 => Memref.whole cc0_scratch4
  | .k4 => Memref.whole cc0_scratch5
  | .v4 => Memref.whole cc0_scratch6
  | .ob0 => Memref.whole cc0_scratch7
  | .ob1 => Memref.whole cc0_scratch8
  | .ob2 => Memref.whole cc0_scratch9
  | .lb0 => Memref.whole cc0_scratch10
  | .lb1 => Memref.whole cc0_scratch11
  | .lb2 => Memref.whole cc0_scratch12
  | .mb0 => Memref.whole cc0_scratch13
  | .mb1 => Memref.whole cc0_scratch14
  | .mb2 => Memref.whole cc0_scratch15

theorem mems_whole (t : Fin cfg0.N) (b : Slot) : (mems t b).IsWhole := by
  cases b
  · exact hstage0_0 ((cfg0.slots t 0).cast nbuf0_0)
  · exact hstage0_1 ((cfg0.slots t 1).cast nbuf0_1)
  · exact hstage0_2 ((cfg0.slots t 2).cast nbuf0_2)
  · exact hstage0_3 ((cfg0.slots t 3).cast nbuf0_3)
  · exact hstage0_4 ((cfg0.slots t 4).cast nbuf0_4)
  · exact hstage0_5 ((cfg0.slots t 5).cast nbuf0_5)
  · exact hstage0_6 ((cfg0.slots t 6).cast nbuf0_6)
  · exact hstage0_7 ((cfg0.slots t 7).cast nbuf0_7)
  · exact hstage0_8 ((cfg0.slots t 8).cast nbuf0_8)
  · exact hstage0_9 ((cfg0.slots t 9).cast nbuf0_9)
  all_goals exact Memref.isWhole_whole _

/-- The operands' blocks at a point, with anything in the other buffers. -/
def blks (c : Dev nD) (t : Fin cfg0.N) : Mem F
  | .q => iblk m c 0 t
  | .k => iblk m c 1 t
  | .v => iblk m c 2 t
  | .cos => iblk m c 3 t
  | .sin => iblk m c 4 t
  | .gq => iblk m c 5 t
  | .gk => iblk m c 6 t
  | .bias => iblk m c 7 t
  | .perm => iblk m c 8 t
  | .qs | .ks | .vs => fun _ => Scalar.ofBits .bf16 0x0000#16
  | .out | .t0 | .q4 | .k4 | .v4 | .ob0 | .ob1 | .ob2 | .lb0 | .lb1 | .lb2 | .mb0 | .mb1 | .mb2 => fun _ => Scalar.ofBits .f32 0x00000000#32

/-- The memory at a point: the operands' blocks, the result's buffer at `d`, the rest as in `σ`. -/
def start (c : Dev nD) (t : Fin cfg0.N) (d : S1x4096x128.Idx → Elt F .f32) (σ : Mem F) : Mem F
  | .q => iblk m c 0 t
  | .k => iblk m c 1 t
  | .v => iblk m c 2 t
  | .cos => iblk m c 3 t
  | .sin => iblk m c 4 t
  | .gq => iblk m c 5 t
  | .gk => iblk m c 6 t
  | .bias => iblk m c 7 t
  | .perm => iblk m c 8 t
  | .out => d
  | .qs => σ .qs
  | .ks => σ .ks
  | .vs => σ .vs
  | .t0 => σ .t0
  | .q4 => σ .q4
  | .k4 => σ .k4
  | .v4 => σ .v4
  | .ob0 => σ .ob0
  | .ob1 => σ .ob1
  | .ob2 => σ .ob2
  | .lb0 => σ .lb0
  | .lb1 => σ .lb1
  | .lb2 => σ .lb2
  | .mb0 => σ .mb0
  | .mb1 => σ .mb1
  | .mb2 => σ .mb2

theorem St_eq (c : Dev nD) (A : (b : Slot) → Memref sig .tc .vmem (shp b) (ety b)) (σ : Mem F) : (St c A σ : sProp 𝕄)
    = iprop(owns (c : Thread nD τ) (A .q) fullShare (σ .q) ∗ owns (c : Thread nD τ) (A .k) fullShare (σ .k) ∗ owns (c : Thread nD τ) (A .v) fullShare (σ .v) ∗ owns (c : Thread nD τ) (A .cos) fullShare (σ .cos) ∗ owns (c : Thread nD τ) (A .sin) fullShare (σ .sin) ∗ owns (c : Thread nD τ) (A .gq) fullShare (σ .gq) ∗ owns (c : Thread nD τ) (A .gk) fullShare (σ .gk) ∗ owns (c : Thread nD τ) (A .bias) fullShare (σ .bias) ∗ owns (c : Thread nD τ) (A .perm) fullShare (σ .perm) ∗ owns (c : Thread nD τ) (A .out) fullShare (σ .out) ∗ owns (c : Thread nD τ) (A .qs) fullShare (σ .qs) ∗ owns (c : Thread nD τ) (A .ks) fullShare (σ .ks) ∗ owns (c : Thread nD τ) (A .vs) fullShare (σ .vs) ∗ owns (c : Thread nD τ) (A .t0) fullShare (σ .t0) ∗ owns (c : Thread nD τ) (A .q4) fullShare (σ .q4) ∗ owns (c : Thread nD τ) (A .k4) fullShare (σ .k4) ∗ owns (c : Thread nD τ) (A .v4) fullShare (σ .v4) ∗ owns (c : Thread nD τ) (A .ob0) fullShare (σ .ob0) ∗ owns (c : Thread nD τ) (A .ob1) fullShare (σ .ob1) ∗ owns (c : Thread nD τ) (A .ob2) fullShare (σ .ob2) ∗ owns (c : Thread nD τ) (A .lb0) fullShare (σ .lb0) ∗ owns (c : Thread nD τ) (A .lb1) fullShare (σ .lb1) ∗ owns (c : Thread nD τ) (A .lb2) fullShare (σ .lb2) ∗ owns (c : Thread nD τ) (A .mb0) fullShare (σ .mb0) ∗ owns (c : Thread nD τ) (A .mb1) fullShare (σ .mb1) ∗ owns (c : Thread nD τ) (A .mb2) fullShare (σ .mb2)) :=
  bigSep_univ_eq_bigSepL [Slot.q, Slot.k, Slot.v, Slot.cos, Slot.sin, Slot.gq, Slot.gk, Slot.bias, Slot.perm, Slot.out, Slot.qs, Slot.ks, Slot.vs, Slot.t0, Slot.q4, Slot.k4, Slot.v4, Slot.ob0, Slot.ob1, Slot.ob2, Slot.lb0, Slot.lb1, Slot.lb2, Slot.mb0, Slot.mb1, Slot.mb2] (by decide) (by decide) _

/-- The scratch buffers between points: after the first the ones are beside the values. -/
def Scr (c : Dev nD) (w : ℕ) : sProp 𝕄 :=
  iprop((∃ σ : Mem F, ⌜w = 1 → ∀ y : S1x4096x256.Idx, ¬ (y 2).val < 128 → σ .vs y = one16⌝ ∗ owns (c : Thread nD τ) (Memref.whole cc0_scratch0) fullShare (σ .qs) ∗ owns (c : Thread nD τ) (Memref.whole cc0_scratch1) fullShare (σ .ks) ∗ owns (c : Thread nD τ) (Memref.whole cc0_scratch2) fullShare (σ .vs) ∗ owns (c : Thread nD τ) (Memref.whole cc0_scratch3) fullShare (σ .t0) ∗ owns (c : Thread nD τ) (Memref.whole cc0_scratch4) fullShare (σ .q4) ∗ owns (c : Thread nD τ) (Memref.whole cc0_scratch5) fullShare (σ .k4) ∗ owns (c : Thread nD τ) (Memref.whole cc0_scratch6) fullShare (σ .v4) ∗ owns (c : Thread nD τ) (Memref.whole cc0_scratch7) fullShare (σ .ob0) ∗ owns (c : Thread nD τ) (Memref.whole cc0_scratch8) fullShare (σ .ob1) ∗ owns (c : Thread nD τ) (Memref.whole cc0_scratch9) fullShare (σ .ob2) ∗ owns (c : Thread nD τ) (Memref.whole cc0_scratch10) fullShare (σ .lb0) ∗ owns (c : Thread nD τ) (Memref.whole cc0_scratch11) fullShare (σ .lb1) ∗ owns (c : Thread nD τ) (Memref.whole cc0_scratch12) fullShare (σ .lb2) ∗ owns (c : Thread nD τ) (Memref.whole cc0_scratch13) fullShare (σ .mb0) ∗ owns (c : Thread nD τ) (Memref.whole cc0_scratch14) fullShare (σ .mb1) ∗ owns (c : Thread nD τ) (Memref.whole cc0_scratch15) fullShare (σ .mb2)) ∗ ∃ r, prngReg c r)

/-- The arrays as the region finds them; after the body each operand's buffer at its block and the result's at the
    attention of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => OUT (blks m c t)
  Φ n := Scr c (if n.val = 0 then 0 else 1)
  q w := Pipeline.shareOf spec0 w
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = OUT (blks m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

theorem start_inv (c : Dev nD) (t : Fin cfg0.N) (d) (σ : Mem F) (w : ℕ) (hw : w = 0 ∨ w = 1)
    (hσ : w = 1 → ∀ y : S1x4096x256.Idx, ¬ (y 2).val < 128 → σ .vs y = one16) :
    Inv (target (blks m c t) (TQ (blks m c t))) (Done { w := w }) (start m c t d σ) := fun b x hx => by
  cases b
  case q => rfl
  case k => rfl
  case v => rfl
  case cos => rfl
  case sin => rfl
  case gq => rfl
  case gk => rfl
  case bias => rfl
  case perm => rfl
  case ks =>
    have hx' : if (x 0).val = 0 then (x 1).val < 256 * 0 else (x 1).val < 256 * 0 := hx
    split at hx' <;> omega
  case vs =>
    have hx' : if (x 2).val < 128 then (x 1).val < 256 * 0 else 0 < w := hx
    split at hx'
    · omega
    · rename_i h
      refine (hσ (by omega) x h).trans ?_
      show _ = VS (blks m c t) x
      unfold VS
      rw [if_neg h]
  all_goals exact absurd hx (Nat.not_lt_zero _)

/-- The point's number tells the first point from the others. -/
theorem first_point (t : Fin cfg0.N) (h : ¬ Scalar.cmpi .ne (Scalar.extui (Scalar.andi (Scalar.cmpi .eq (BitVec.ofNat 32 (grid0.coords t 0).val) 0#32) (Scalar.cmpi .eq (BitVec.ofNat 32 (grid0.coords t 1).val) 0#32)) : BitVec 32) 0#32 = 1#1) :
    (if t.castSucc.val = 0 then 0 else 1) = 1 :=
  (by decide +kernel : ∀ t : Fin cfg0.N, ¬ Scalar.cmpi .ne (Scalar.extui (Scalar.andi (Scalar.cmpi .eq (BitVec.ofNat 32 (grid0.coords t 0).val) 0#32) (Scalar.cmpi .eq (BitVec.ofNat 32 (grid0.coords t 1).val) 0#32)) : BitVec 32) 0#32 = 1#1 →
    (if t.castSucc.val = 0 then 0 else 1) = 1) t h

/-- What the body leaves: the operands' blocks, the attention of the blocks, the ones beside the values. -/
theorem finish (c : Dev nD) (t : Fin cfg0.N) (σ : Mem F) (h : Inv (target (blks m c t) (TV (blks m c t))) (Done (last 16)) σ) :
    σ .q = iblk m c 0 t ∧ σ .k = iblk m c 1 t ∧ σ .v = iblk m c 2 t ∧ σ .cos = iblk m c 3 t ∧ σ .sin = iblk m c 4 t ∧ σ .gq = iblk m c 5 t ∧ σ .gk = iblk m c 6 t ∧ σ .bias = iblk m c 7 t ∧ σ .perm = iblk m c 8 t ∧ σ .out = OUT (blks m c t)
      ∧ ∀ y : S1x4096x256.Idx, ¬ (y 2).val < 128 → σ .vs y = one16 := by
  refine ⟨funext fun x => h .q x trivial, funext fun x => h .k x trivial, funext fun x => h .v x trivial, funext fun x => h .cos x trivial, funext fun x => h .sin x trivial, funext fun x => h .gq x trivial, funext fun x => h .gk x trivial, funext fun x => h .bias x trivial, funext fun x => h .perm x trivial, funext fun x => h .out x ?_, fun y hy => (h .vs y ?_).trans ?_⟩
  · show 4 * ((x 1).val % 4) + (x 1).val / 1024 < 16
    have := (x 1).isLt
    have : (x 1).val < 4096 := (x 1).isLt
    omega
  · show if (y 2).val < 128 then _ else 0 < 1
    rw [if_neg hy]; exact Nat.one_pos
  · show VS (blks m c t) y = one16
    unfold VS
    rw [if_neg hy]

set_option maxHeartbeats 1000000 in
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6, before0_7, before0_8]
  rw [show (dats m 0 c).Φ t.succ = Scr c 1 from rfl, show (dats m 0 c).Φ t.castSucc = Scr c (if t.castSucc.val = 0 then 0 else 1) from rfl,
    show (dats m 0 c).owesAt () t.succ = (dats m 0 c).owesAt () t.castSucc from rfl, after0_0, after0_1, after0_2, after0_3, after0_4, after0_5, after0_6, after0_7, after0_8, after0_9]
  generalize hw : (if t.castSucc.val = 0 then 0 else 1) = w
  have hw' : w = 0 ∨ w = 1 := by rw [← hw]; split <;> simp
  unfold Scr
  iintro ⟨⟨⟨%σ, %hσ, S0, S1, S2, S3, S4, S5, S6, S7, S8, S9, S10, S11, S12, S13, S14, S15⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hi := start_inv m c t ((dats m 0 c).before 9 t d9) σ w hw' hσ
  have hwalk := walk (F := F) (c := c) (A := mems t) (E := Set.univ) (I := blks m c t) (grid0.coords t) (mems_whole t) w
    (fun h => hw.symm.trans (first_point t h)) (start m c t ((dats m 0 c).before 9 t d9) σ) hi
  rw [St_eq] at hwalk
  unfold Fin' at hwalk
  simp only [St_eq] at hwalk
  iapply wp_wand_r
  isplitl [H0 H1 H2 H3 H4 H5 H6 H7 H8 H9 S0 S1 S2 S3 S4 S5 S6 S7 S8 S9 S10 S11 S12 S13 S14 S15]
  · iapply hwalk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    iexact S15
  · iintro %_ ⟨%σ', %hI, H0, H1, H2, H3, H4, H5, H6, H7, H8, H9, S0, S1, S2, S3, S4, S5, S6, S7, S8, S9, S10, S11, S12, S13, S14, S15⟩
    obtain ⟨e0, e1, e2, e3, e4, e5, e6, e7, e8, e9, hv⟩ := finish m c t σ' hI
    rw [e0, e1, e2, e3, e4, e5, e6, e7, e8, e9]
    isplitl [Hp S0 S1 S2 S3 S4 S5 S6 S7 S8 S9 S10 S11 S12 S13 S14 S15]
    · isplitl [S0 S1 S2 S3 S4 S5 S6 S7 S8 S9 S10 S11 S12 S13 S14 S15]
      · iexists σ'
        isplitr; · ipureintro; exact fun _ => hv
        isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        isplitl [S10]; · iexact S10
        isplitl [S11]; · iexact S11
        isplitl [S12]; · iexact S12
        isplitl [S13]; · iexact S13
        isplitl [S14]; · iexact S14
        iexact S15
      · iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem scr_in (c : Dev nD) : (ΦA spec0 c : sProp 𝕄) ⊢ (dats m 0 c).Φ 0 := by
  rw [show (dats m 0 c).Φ 0 = Scr c 0 from rfl]
  unfold Pipeline.ΦA Scr
  rw [scopedRest0_eq]
  simp only [owns_whole]
  iintro ⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩, ⟨%f10, S10⟩, ⟨%f11, S11⟩, ⟨%f12, S12⟩, ⟨%f13, S13⟩, ⟨%f14, S14⟩, ⟨%f15, S15⟩⟩, Hp⟩
  isplitl [S0 S1 S2 S3 S4 S5 S6 S7 S8 S9 S10 S11 S12 S13 S14 S15]
  · iexists (fun b => match b with
      | .qs => f0
      | .ks => f1
      | .vs => f2
      | .t0 => f3
      | .q4 => f4
      | .k4 => f5
      | .v4 => f6
      | .ob0 => f7
      | .ob1 => f8
      | .ob2 => f9
      | .lb0 => f10
      | .lb1 => f11
      | .lb2 => f12
      | .mb0 => f13
      | .mb1 => f14
      | .mb2 => f15
      | .q => blks m c ⟨0, by decide⟩ .q
      | .k => blks m c ⟨0, by decide⟩ .k
      | .v => blks m c ⟨0, by decide⟩ .v
      | .cos => blks m c ⟨0, by decide⟩ .cos
      | .sin => blks m c ⟨0, by decide⟩ .sin
      | .gq => blks m c ⟨0, by decide⟩ .gq
      | .gk => blks m c ⟨0, by decide⟩ .gk
      | .bias => blks m c ⟨0, by decide⟩ .bias
      | .perm => blks m c ⟨0, by decide⟩ .perm
      | .out => blks m c ⟨0, by decide⟩ .out)
    isplitr; · ipureintro; exact fun h => absurd h (by decide)
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    iexact S15
  · iexact Hp

theorem scr_out (c : Dev nD) : ((dats m 0 c).Φ (Fin.last cfg0.N) : sProp 𝕄) ⊢ ΦA spec0 c := by
  rw [show (dats m 0 c).Φ (Fin.last cfg0.N) = Scr c 1 from rfl]
  unfold Pipeline.ΦA Scr
  rw [scopedRest0_eq]
  simp only [owns_whole]
  iintro ⟨⟨%σ, -, S0, S1, S2, S3, S4, S5, S6, S7, S8, S9, S10, S11, S12, S13, S14, S15⟩, Hp⟩
  isplitl [S0 S1 S2 S3 S4 S5 S6 S7 S8 S9 S10 S11 S12 S13 S14 S15]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    isplitl [S11]; · iexists _; iexact S11
    isplitl [S12]; · iexists _; iexact S12
    isplitl [S13]; · iexists _; iexact S13
    isplitl [S14]; · iexists _; iexact S14
    iexists _; iexact S15
  · iexact Hp

set_option backward.isDefEq.respectTransparency.types false in
/-- From any memory with the counters at zero the kernel ends, each array of the pipeline at what its points leave. -/
theorem run_main : θ_run defs (onTc (τ := τ) (main (F := F))) (s₀ m ρ)
    (fun r => Pipeline.FramePost cfgs (dats m) 0 (V m) r ∧ r.2.sem = fun _ => 0) :=
  Pipeline.θ_run_frame_track_shared cfgs (dats m) (0 : Fin 1) launch₀0 defs₀ 𝒱₀ m ρ main
    (hbody := fun c => (body_obligation m c).loose) (hq := fun _ _ _ => rfl) (howed := fun _ _ => rfl) (V := V m)
    (hmain := hmain m 𝒱₀) (hA := fun _ _ => rfl) (hin := scr_in m) (hout := scr_out m) (Q' := _)

end Cert.Proof.Att
-- ==== Proof.Att.Frames.lean ====
/-
  The frames: the kernel's from its run, the reference's from its own run.
-/
module

public import proofs.«01_k».proof.Proof.Att.Run
public import proofs.«01_k».proof.Defs
public import proofs.«01_k».proof.Proof.Gen.ReferenceIdeal.Run

@[expose] public section

noncomputable section

namespace Cert.Proof.Att

open Cert.KernelIdeal Cert.KernelIdeal.Gen
open Idealize.ShloMosaic Idealize.ShloMosaic.TcCoe
open Idealize.SL Idealize.SL.Sem

/-- The kernel ends with its arguments as launched and the counters at zero, at any instance of the floats. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main (F := F) m ρ)

theorem frame_kernelIdeal : Cert.quiescent_KernelIdeal := fun m ρ _ => frame (F := Ideal) m ρ

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof.Att

end
-- ==== Proof.Proj.Pay.lean ====
/-
  What the two payloads of the projection kernel compute at the extended reals, entry by entry:
  the store of a band of normed rows, and the store of one block of the product.
-/
module

public import proofs.«01_k».proof.Proof.Gen.Kernel2Ideal.Skeleton
public import Idealize.ShloMosaic.Lib.MatmulPlain
public import Idealize.ShloMosaic.Lib.Pipeline.Value
public import Idealize.ShloMosaic.PureOps.Ideal.Laws

@[expose] public section

noncomputable section

namespace Cert.Proof.Proj

open Cert.Kernel2Ideal Cert.Kernel2Ideal.Gen
open Idealize.ShloMosaic Idealize.ShloMosaic.ValueIdx

/-- The norm of one row entry: the entry, times the inverse root of the row's mean square, times the gain. -/
def normed (xs : Fin 2048 → EReal) (x g : EReal) : EReal :=
  x * Ideal.rsqrt (Ideal.div (∑ k : Fin 2048, xs k * xs k) (FloatOps.ofBits (F := Ideal) .f32 0x45000000#32)
    + FloatOps.ofBits (F := Ideal) .f32 0x358637BD#32) * g

theorem pay1_apply (x : Vec Ideal S128x2048 .f32) (g : Vec Ideal S1x2048 .f32) (r : Fin 128) (c : Fin 2048) :
    k0_pay1 (F := Ideal) x g (ix2 r c) = normed (fun k => x (ix2 r k)) (x (ix2 r c)) (g (ix2 (0 : Fin 1) c)) := by
  unfold k0_pay1
  dsimp only
  simp only [shapeCast_self]
  have e1 : ∀ v : FVec Ideal S128x1 .f32, broadcastTo S128x2048 v broadcasts_S128x1_S128x2048 (ix2 r c) = v (ix2 r (0 : Fin 1)) := fun v =>
    broadcastTo_apply v broadcasts_S128x1_S128x2048 (ix2 r c) (ix2 r (0 : Fin 1)) (fun a => match a with
      | ⟨0, _⟩ => rfl
      | ⟨1, _⟩ => rfl)
  have e2 : ∀ v : FVec Ideal S1x2048 .f32, broadcastTo S128x2048 v broadcasts_S1x2048_S128x2048 (ix2 r c) = v (ix2 (0 : Fin 1) c) := fun v =>
    broadcastTo_apply v broadcasts_S1x2048_S128x2048 (ix2 r c) (ix2 (0 : Fin 1) c) (fun a => match a with
      | ⟨0, _⟩ => rfl
      | ⟨1, _⟩ => rfl)
  have e3 : ∀ v : FVec Ideal S128 .f32, shapeCast S128x1 v shapeCasts_S128_S128x1 (ix2 r (0 : Fin 1)) = v (fun a => match a with | ⟨0, _⟩ => r) := fun v =>
    shapeCast_apply v shapeCasts_S128_S128x1 (ix2 r (0 : Fin 1)) (fun a => match a with | ⟨0, _⟩ => r)
      (by rewrite [Shape.rowMajor_val_two, Shape.rowMajor_val_one]; show r.val = r.val * 1 + 0; omega)
  have e4 : multiReduction (F := Ideal) (φ := .f32) .add [1] S128 (mulf x x : FVec Ideal S128x2048 .f32) 0x00000000#32 reduces_S128x2048_S128 (.inl rfl) rfl (fun a => match a with | ⟨0, _⟩ => r)
      = ∑ k : Fin 2048, x (ix2 r k) * x (ix2 r k) := by
    refine (Ideal.multiReduction_add_single (mulf x x : FVec Ideal S128x2048 .f32) 0x00000000#32 reduces_S128x2048_S128 (.inl rfl) rfl (fun a => match a with | ⟨0, _⟩ => r)).trans ?_
    refine Finset.sum_congr rfl fun k _ => ?_
    have hk : reduces_S128x2048_S128.lift (fun a => match a with | ⟨0, _⟩ => r) k = ix2 r k := funext fun a => match a with
      | ⟨0, _⟩ => rfl
      | ⟨1, _⟩ => rfl
    show x _ * x _ = _
    rw [hk]
    rfl
  show x (ix2 r c) * broadcastTo S128x2048 _ broadcasts_S128x1_S128x2048 (ix2 r c)
    * broadcastTo S128x2048 g broadcasts_S1x2048_S128x2048 (ix2 r c) = _
  rw [e1, e2]
  unfold normed
  refine congrArg (fun z => x (ix2 r c) * Ideal.rsqrt (Ideal.div z (FloatOps.ofBits (F := Ideal) .f32 0x45000000#32)
    + FloatOps.ofBits (F := Ideal) .f32 0x358637BD#32) * g (ix2 (0 : Fin 1) c)) ?_
  exact (e3 _).trans e4

theorem pay2_apply (h : Vec Ideal S1024x2048 .bf16) (w : Vec Ideal S1x2048x1024 .bf16) (r : Fin 1024) (c : Fin 1024) :
    k0_pay2 (F := Ideal) h w (ix2 r c) = ∑ k : Fin 2048, h (ix2 r k) * w (ix3 (0 : Fin 1) k c) := by
  unfold k0_pay2
  have hd : dot_S1024x2048_S2048x1024_S1024x1024_1_0_0_1_n_n = DotDims.plain 1024 2048 1024 := rfl
  show FloatOps.matmul (F := Ideal) (φ₁ := .bf16) (φ₂ := .bf16) dot_S1024x2048_S2048x1024_S1024x1024_1_0_0_1_n_n none h (shapeCast (α := Elt Ideal .bf16) S2048x1024 w shapeCasts_S1x2048x1024_S2048x1024) (constant (F := Ideal) S1024x1024 .f32 0x00000000#32) (ix2 r c) = _
  rw [hd, Ideal.matmul_plain_apply]
  have h0 : constant (F := Ideal) S1024x1024 .f32 0x00000000#32 (ix2 r c) = 0 := Ideal.ofBits_zero_f32
  rw [h0, zero_add]
  refine Finset.sum_congr rfl fun k _ => ?_
  have e := shapeCast_dropUnit_apply ![2048, 1024] w shapeCasts_S1x2048x1024_S2048x1024 (ix2 k c)
  refine congrArg (h (ix2 r k) * ·) (e.trans (congrArg w (funext fun a => ?_)))
  match a with
  | ⟨0, _⟩ => rfl
  | ⟨1, _⟩ => rfl
  | ⟨2, _⟩ => rfl

end Cert.Proof.Proj

end
-- ==== Proof.Proj.Pieces.lean ====
/-
  What one grid point of the projection kernel leaves in its scratch and in its output block, as functions of the
  blocks it is handed: the scratch is the row block normed band by band, the output one block of the product.
-/
module

public import proofs.«01_k».proof.Proof.Gen.Kernel2Ideal.Frame
public import proofs.«01_k».proof.Proof.Proj.Pay

@[expose] public section

set_option maxRecDepth 16384

noncomputable section

namespace Cert.Proof.Proj

open Cert.Kernel2Ideal Cert.Kernel2Ideal.Gen
open Idealize.ShloMosaic Idealize.ShloMosaic.TcCoe Idealize.ShloMosaic.ValueIdx
open Idealize.SL.Sem

variable {F : FTy → Type} [FloatOps F]

/-- Band `k` of a row block: its 128 rows from `128·k`. -/
def band (x : Vec F S1024x2048 .f32) (k : ℕ) : Vec F S128x2048 .f32 := fun p =>
  x (ix2 (⟨(128 * k + (p 0).val) % 1024, Nat.mod_lt _ (by decide)⟩ : Fin 1024) (⟨(p 1).val, (p 1).isLt⟩ : Fin 2048))

/-- The row block normed, each row in its band. -/
def rowsOf (x : Vec F S1024x2048 .f32) (g : Vec F S1x2048 .f32) : Vec F S1024x2048 .bf16 := fun y =>
  k0_pay1 (band x ((y 0).val / 128)) g
    (ix2 (⟨(y 0).val % 128, Nat.mod_lt _ (by decide)⟩ : Fin 128) (⟨(y 1).val, (y 1).isLt⟩ : Fin 2048))

section

variable (c : Dev nD) (i : grid0.Coords)
  (arg2 : Memref sig .tc .vmem S1024x2048 .f32) (harg2 : arg2.IsWhole)
  (arg3 : Memref sig .tc .vmem S1x2048 .f32) (harg3 : arg3.IsWhole)
  (arg4 : Memref sig .tc .vmem S1x2048x1024 .bf16) (harg4 : arg4.IsWhole)
  (arg5 : Memref sig .tc .vmem S1024x1024 .bf16) (harg5 : arg5.IsWhole)
  (arg6 : Memref sig .tc .vmem S1024x2048 .bf16) (harg6 : arg6.IsWhole)

theorem off_row (k : Fin k0_t1_loop.trips) : k0_off1 k 0 = 128 * k.val := by rw [k0_off1_eq]; rfl

theorem off_col (k : Fin k0_t1_loop.trips) : k0_off1 k 1 = 0 := by rw [k0_off1_eq]; rfl

/-- The load of a band reads it. -/
theorem read_band (x0 : Vec F S1024x2048 .f32) (k : Fin k0_t1_loop.trips)
    (inb : ∀ a, (k0_off1 k) a + S128x2048.size a ≤ S1024x2048.size a) :
    arg2.view.readAt (Elt F) (Rect.unit (s := S1024x2048) (k0_off1 k) S128x2048.size inb).toLoadRect (harg2.unread x0)
      = band x0 k.val := by
  have hk : k.val < 8 := Nat.lt_of_lt_of_le k.isLt k0_t1_abs.2.1
  rw [View.readAt_eq_ld, harg2.read_unread]
  funext p
  have h0 : (p 0).val < 128 := (p 0).isLt
  refine congrArg x0 (funext fun a => Fin.ext ?_)
  match a with
  | ⟨0, _⟩ =>
    show k0_off1 k 0 + 1 * (p 0).val = (128 * k.val + (p 0).val) % 1024
    have := off_row k
    omega
  | ⟨1, _⟩ =>
    show k0_off1 k 1 + 1 * (p 1).val = (p 1).val
    have := off_col k
    omega

/-- The load of the gains reads them. -/
theorem read_gain (x1 : Vec F S1x2048 .f32) :
    arg3.view.readAt (Elt F) (Rect.unit (s := S1x2048) ![0, 0] S1x2048.size inb_S1x2048_S1x2048_0_0).toLoadRect (harg3.unread x1)
      = x1 := by
  rw [View.readAt_eq_ld, harg3.read_unread]
  funext p
  refine congrArg x1 (funext fun a => Fin.ext ?_)
  match a with
  | ⟨0, _⟩ => show 0 + 1 * (p 0).val = (p 0).val; omega
  | ⟨1, _⟩ => show 0 + 1 * (p 1).val = (p 1).val; omega

/-- The load of the weights reads them. -/
theorem read_weight (x2 : Vec F S1x2048x1024 .bf16) :
    arg4.view.readAt (Elt F) (Rect.unit (s := S1x2048x1024) ![0, 0, 0] S1x2048x1024.size inb_S1x2048x1024_S1x2048x1024_0_0_0).toLoadRect
      (harg4.unread x2) = x2 := by
  rw [View.readAt_eq_ld, harg4.read_unread]
  funext p
  refine congrArg x2 (funext fun a => Fin.ext ?_)
  match a with
  | ⟨0, _⟩ => show 0 + 1 * (p 0).val = (p 0).val; omega
  | ⟨1, _⟩ => show 0 + 1 * (p 1).val = (p 1).val; omega
  | ⟨2, _⟩ => show 0 + 1 * (p 2).val = (p 2).val; omega

/-- One trip stores one piece: its band, normed. -/
theorem trip_pieces (𝒱 : Variants) (bd : Option 𝒱.V) (h1 : k0_cond1 i = 1#1) (x0 : Vec F S1024x2048 .f32)
    (x1 : Vec F S1x2048 .f32) (k : Fin k0_t1_loop.trips) :
    tripL_k0_t1 (F := F) 𝒱 c bd i arg2 harg2 arg3 harg3 arg4 harg4 arg5 harg5 arg6 harg6 h1 (harg2.unread x0) (harg3.unread x1) k
      = [⟨Rect.unit (s := S1024x2048) (k0_off1 k) S128x2048.size (k0_off1_inb i k h1), k0_pay1 (band x0 k.val) x1⟩] := by
  have key : tripL_k0_t1 (F := F) 𝒱 c bd i arg2 harg2 arg3 harg3 arg4 harg4 arg5 harg5 arg6 harg6 h1 (harg2.unread x0) (harg3.unread x1) k
      = [⟨Rect.unit (s := S1024x2048) (k0_off1 k) S128x2048.size (k0_off1_inb i k h1),
          k0_pay1 (arg2.view.readAt (Elt F) (Rect.unit (s := S1024x2048) (k0_off1 k) S128x2048.size (k0_off1_inb i k h1)).toLoadRect (harg2.unread x0))
            (arg3.view.readAt (Elt F) (Rect.unit (s := S1x2048) ![0, 0] S1x2048.size inb_S1x2048_S1x2048_0_0).toLoadRect (harg3.unread x1))⟩] := by
    unfold tripL_k0_t1 trip_k0_t1
    rfl
  rw [key, read_band, read_gain]

/-- The first `k` trips leave the rows below `128·k` normed. -/
theorem canon_pb (𝒱 : Variants) (bd : Option 𝒱.V) (h1 : k0_cond1 i = 1#1) (x0 : Vec F S1024x2048 .f32)
    (x1 : Vec F S1x2048 .f32) : ∀ k : ℕ, k ≤ k0_t1_loop.trips → ∀ y : S1024x2048.Idx, (y 0).val < 128 * k →
    View.canon (pb_k0_t1 (F := F) 𝒱 c bd i arg2 harg2 arg3 harg3 arg4 harg4 arg5 harg5 arg6 harg6 h1 (harg2.unread x0) (harg3.unread x1) k) y
      = rowsOf x0 x1 y
  | 0, _, y, h => by omega
  | k + 1, hk, y, h => by
    have hk' : k < k0_t1_loop.trips := hk
    have hk8 : k < 8 := Nat.lt_of_lt_of_le hk' k0_t1_abs.2.1
    have hy1 : (y 1).val < 2048 := (y 1).isLt
    have e := pb_k0_t1_succ (F := F) 𝒱 c bd i arg2 harg2 arg3 harg3 arg4 harg4 arg5 harg5 arg6 harg6 h1 (harg2.unread x0) (harg3.unread x1) ⟨k, hk'⟩
    rw [trip_pieces] at e
    refine (congrArg (fun L => View.canon L y) e).trans ?_
    by_cases hy : 128 * k ≤ (y 0).val
    · have hx : (Rect.unit (s := S1024x2048) (k0_off1 ⟨k, hk'⟩) S128x2048.size (k0_off1_inb i ⟨k, hk'⟩ h1)).emb
          (ix2 (⟨(y 0).val % 128, Nat.mod_lt _ (by decide)⟩ : Fin 128) (⟨(y 1).val, (y 1).isLt⟩ : Fin 2048)) = y := by
        funext a
        apply Fin.ext
        match a with
        | ⟨0, _⟩ =>
          show k0_off1 ⟨k, hk'⟩ 0 + 1 * ((y 0).val % 128) = (y 0).val
          have e0 : k0_off1 ⟨k, hk'⟩ 0 = 128 * k := off_row ⟨k, hk'⟩
          omega
        | ⟨1, _⟩ =>
          show k0_off1 ⟨k, hk'⟩ 1 + 1 * (y 1).val = (y 1).val
          have e1 := off_col ⟨k, hk'⟩
          omega
      have hd : (y 0).val / 128 = k := by omega
      have e1 := View.canon_cons_emb (Rect.unit (s := S1024x2048) (k0_off1 ⟨k, hk'⟩) S128x2048.size (k0_off1_inb i ⟨k, hk'⟩ h1))
        (k0_pay1 (band x0 k) x1)
        (pb_k0_t1 (F := F) 𝒱 c bd i arg2 harg2 arg3 harg3 arg4 harg4 arg5 harg5 arg6 harg6 h1 (harg2.unread x0) (harg3.unread x1) k)
        (ix2 (⟨(y 0).val % 128, Nat.mod_lt _ (by decide)⟩ : Fin 128) (⟨(y 1).val, (y 1).isLt⟩ : Fin 2048))
      rw [hx] at e1
      refine e1.trans ?_
      unfold rowsOf
      rw [hd]
    · refine (View.canon_cons_of_not_mem _ _ ?_).trans (canon_pb 𝒱 bd h1 x0 x1 k (Nat.le_of_lt hk') y (by omega))
      show y ∉ (Rect.unit (s := S1024x2048) (k0_off1 ⟨k, hk'⟩) S128x2048.size (k0_off1_inb i ⟨k, hk'⟩ h1)).set
      rw [Rect.mem_set_unit]
      intro hall
      have h0 := (hall 0).1
      have e0 : k0_off1 ⟨k, hk'⟩ 0 = 128 * k := off_row ⟨k, hk'⟩
      omega

theorem canon_loop (𝒱 : Variants) (bd : Option 𝒱.V) (h1 : k0_cond1 i = 1#1) (x0 : Vec F S1024x2048 .f32)
    (x1 : Vec F S1x2048 .f32) :
    View.canon (pb_k0_t1 (F := F) 𝒱 c bd i arg2 harg2 arg3 harg3 arg4 harg4 arg5 harg5 arg6 harg6 h1 (harg2.unread x0) (harg3.unread x1)
      (Scf.trips k0_t1_loop.lb k0_t1_loop.ub k0_t1_loop.st)) = rowsOf x0 x1 := by
  funext y
  have h8 : Scf.trips k0_t1_loop.lb k0_t1_loop.ub k0_t1_loop.st = 8 := by decide
  have hy : (y 0).val < 1024 := (y 0).isLt
  exact canon_pb c i arg2 harg2 arg3 harg3 arg4 harg4 arg5 harg5 arg6 harg6 𝒱 bd h1 x0 x1 _ (le_refl _) y (by show (y 0).val < 128 * Scf.trips k0_t1_loop.lb k0_t1_loop.ub k0_t1_loop.st; rw [h8]; omega)

/-- A filling point leaves the row block normed in the scratch, -/
theorem scratch_A (hc0 : cond0_0 i) (x0 : Vec F S1024x2048 .f32) (x1 : Vec F S1x2048 .f32) (x2 : Vec F S1x2048x1024 .bf16) :
    sout0_A_0 c i arg2 harg2 arg3 harg3 arg4 harg4 arg5 harg5 arg6 harg6 hc0 x0 x1 x2 = rowsOf x0 x1 := by
  unfold sout0_A_0
  rw [View.read_writes_junk_eq_canon]
  exact canon_loop c i arg2 harg2 arg3 harg3 arg4 harg4 arg5 harg5 arg6 harg6 Variants.none none hc0 x0 x1

/-- A write of the whole block is what it reads back as. -/
theorem canon_block (w : Vec F S1024x1024 .bf16) (L : List (View.Piece (Elt F) S1024x1024 .bf16)) :
    View.canon (⟨Rect.unit (s := S1024x1024) ![0, 0] S1024x1024.size inb_S1024x1024_S1024x1024_0_0, w⟩ :: L) = w := by
  funext y
  have hx : (Rect.unit (s := S1024x1024) ![0, 0] S1024x1024.size inb_S1024x1024_S1024x1024_0_0).emb y = y := by
    funext a
    apply Fin.ext
    match a with
    | ⟨0, _⟩ => show 0 + 1 * (y 0).val = (y 0).val; omega
    | ⟨1, _⟩ => show 0 + 1 * (y 1).val = (y 1).val; omega
  have e := View.canon_cons_emb (Rect.unit (s := S1024x1024) ![0, 0] S1024x1024.size inb_S1024x1024_S1024x1024_0_0) w L y
  rw [hx] at e
  exact e

/-- The load of the whole scratch. -/
theorem idx_scratch (y : S1024x2048.Idx) :
    (Rect.unit (s := S1024x2048) ![0, 0] S1024x2048.size inb_S1024x2048_S1024x2048_0_0).toLoadRect.idx y = y := by
  funext a
  apply Fin.ext
  match a with
  | ⟨0, _⟩ => show 0 + 1 * (y 0).val = (y 0).val; omega
  | ⟨1, _⟩ => show 0 + 1 * (y 1).val = (y 1).val; omega

/-- and the product of those rows with the weights in the output block; -/
theorem out_A (hc0 : cond0_0 i) (x0 : Vec F S1024x2048 .f32) (x1 : Vec F S1x2048 .f32) (x2 : Vec F S1x2048x1024 .bf16) :
    out0_A_3 c i arg2 harg2 arg3 harg3 arg4 harg4 arg5 harg5 arg6 harg6 hc0 x0 x1 x2 = k0_pay2 (rowsOf x0 x1) x2 := by
  have hs : arg6.view.readCov (pb_k0_t1 (F := F) Variants.none c none i arg2 harg2 arg3 harg3 arg4 harg4 arg5 harg5 arg6 harg6 hc0 (harg2.unread x0) (harg3.unread x1)
      (Scf.trips k0_t1_loop.lb k0_t1_loop.ub k0_t1_loop.st)) (Rect.unit (s := S1024x2048) ![0, 0] S1024x2048.size inb_S1024x2048_S1024x2048_0_0).toLoadRect
      = rowsOf x0 x1 := by
    rw [View.readCov_eq_canon', canon_loop]
    funext y
    exact congrArg (rowsOf x0 x1) (idx_scratch y)
  have key : (kernelRun0_A c i arg2 harg2 arg3 harg3 arg4 harg4 arg5 harg5 arg6 harg6 hc0 x0 x1 x2).1
      = [⟨Rect.unit (s := S1024x1024) ![0, 0] S1024x1024.size inb_S1024x1024_S1024x1024_0_0,
          k0_pay2 (arg6.view.readCov (pb_k0_t1 (F := F) Variants.none c none i arg2 harg2 arg3 harg3 arg4 harg4 arg5 harg5 arg6 harg6 hc0 (harg2.unread x0) (harg3.unread x1)
              (Scf.trips k0_t1_loop.lb k0_t1_loop.ub k0_t1_loop.st)) (Rect.unit (s := S1024x2048) ![0, 0] S1024x2048.size inb_S1024x2048_S1024x2048_0_0).toLoadRect)
            (arg4.view.readAt (Elt F) (Rect.unit (s := S1x2048x1024) ![0, 0, 0] S1x2048x1024.size inb_S1x2048x1024_S1x2048x1024_0_0_0).toLoadRect (harg4.unread x2))⟩] := rfl
  unfold out0_A_3
  rw [View.read_writes_junk_eq_canon, key, canon_block, hs, read_weight]

/-- any other point the product with the rows it finds in the scratch. -/
theorem out_B (hc0 : ¬cond0_0 i) (x0 : Vec F S1024x2048 .f32) (x1 : Vec F S1x2048 .f32) (x2 : Vec F S1x2048x1024 .bf16)
    (h : Vec F S1024x2048 .bf16) :
    out0_B_3 c i arg2 harg2 arg3 harg3 arg4 harg4 arg5 harg5 arg6 harg6 hc0 x0 x1 x2 h = k0_pay2 h x2 := by
  have hs : arg6.view.readAt (Elt F) (Rect.unit (s := S1024x2048) ![0, 0] S1024x2048.size inb_S1024x2048_S1024x2048_0_0).toLoadRect (harg6.unread h) = h := by
    rw [View.readAt_eq_ld, harg6.read_unread]
    funext y
    exact congrArg h (idx_scratch y)
  have key : (kernelRun0_B c i arg2 harg2 arg3 harg3 arg4 harg4 arg5 harg5 arg6 harg6 hc0 x0 x1 x2 h).1
      = [⟨Rect.unit (s := S1024x1024) ![0, 0] S1024x1024.size inb_S1024x1024_S1024x1024_0_0,
          k0_pay2 (arg6.view.readAt (Elt F) (Rect.unit (s := S1024x2048) ![0, 0] S1024x2048.size inb_S1024x2048_S1024x2048_0_0).toLoadRect (harg6.unread h))
            (arg4.view.readAt (Elt F) (Rect.unit (s := S1x2048x1024) ![0, 0, 0] S1x2048x1024.size inb_S1x2048x1024_S1x2048x1024_0_0_0).toLoadRect (harg4.unread x2))⟩] := rfl
  unfold out0_B_3
  rw [View.read_writes_junk_eq_canon, key, canon_block, hs, read_weight]

end

end Cert.Proof.Proj

end
-- ==== Proof.Proj.Ref.lean ====
/-
  The projection's reference read at one entry: the sum, over the model's width, of the normed row's entry times the
  weight's.
-/
module

public import proofs.«01_k».proof.Proof.Gen.Reference2Ideal.Read
public import proofs.«01_k».proof.Proof.Proj.Pay

@[expose] public section

noncomputable section

namespace Cert.Proof.Proj

open Cert.Reference2Ideal Cert.Reference2Ideal.Gen Cert.Reference2Ideal.Read
open Idealize.ShloMosaic Idealize.ShloMosaic.ValueIdx

/-- Entry `(R, C)` of the projected rows. -/
def res (x0 : Vec Ideal S4x4096x2048 .f32) (x1 : Vec Ideal S2x2048 .f32) (x2 : Vec Ideal S2x2048x14336 .f32)
    (R : Fin 16384) (C : Fin 14336) : EReal :=
  ∑ k : Fin 2048,
    normed (fun k' => x0 (ix3 (⟨R.val / 4096, by omega⟩ : Fin 4) (⟨R.val % 4096, by omega⟩ : Fin 4096) k'))
      (x0 (ix3 (⟨R.val / 4096, by omega⟩ : Fin 4) (⟨R.val % 4096, by omega⟩ : Fin 4096) k)) (x1 (ix2 (0 : Fin 2) k))
    * x2 (ix3 (0 : Fin 2) k C)

theorem ref_normed (x0 : Vec Ideal S4x4096x2048 .f32) (x1 : Vec Ideal S2x2048 .f32) (a : Fin 4) (b : Fin 4096) (k : Fin 2048) :
    val_main_v14 (F := Ideal) x0 x1 (ix3 a b k)
      = normed (fun k' => x0 (ix3 a b k')) (x0 (ix3 a b k)) (x1 (ix2 (0 : Fin 2) k)) := by
  rw [val_main_v14_apply, val_main_v11_apply, val_main_v10_apply, val_main_v9_apply, val_main_v8_apply, val_main_v6_apply,
    val_main_v4_apply, val_main_v3_apply, val_main_v5_apply, val_main_v7_apply, val_main_v13_apply, val_main_v12_apply,
    val_main_v1_apply, val_main_v0_apply]
  have hg : idx_main_v0 (idx_main_v1 (idx_main_v12 (idx_main_v13 (ix3 a b k)))) = ix2 (0 : Fin 2) k := by
    funext d
    match d with
    | ⟨0, _⟩ => rfl
    | ⟨1, _⟩ => exact Fin.ext (Nat.mod_eq_of_lt k.isLt)
  have hs : val_main_cst (F := Ideal) (Shape.Idx.first h_S_) + ∑ j : Fin 2048, val_main_v2 (F := Ideal) x0 (idx_main_v3 (idx_main_v4 (idx_main_v10 (ix3 a b k))) j)
      = ∑ j : Fin 2048, x0 (ix3 a b j) * x0 (ix3 a b j) := by
    rw [show val_main_cst (F := Ideal) (Shape.Idx.first h_S_) = 0 from Ideal.ofBits_zero_f32, zero_add]
    refine Finset.sum_congr rfl fun j _ => ?_
    have hj : idx_main_v3 (idx_main_v4 (idx_main_v10 (ix3 a b k))) j = ix3 a b j := by
      funext d
      match d with
      | ⟨0, _⟩ => rfl
      | ⟨1, _⟩ => rfl
      | ⟨2, _⟩ => rfl
    rw [hj]
    rfl
  rw [hg, hs]
  rfl

theorem ref_apply (x0 : Vec Ideal S4x4096x2048 .f32) (x1 : Vec Ideal S2x2048 .f32) (x2 : Vec Ideal S2x2048x14336 .f32)
    (R : Fin 16384) (C : Fin 14336) :
    val_main_v19 (F := Ideal) x0 x1 x2 (ix2 R C) = res x0 x1 x2 R C := by
  rw [val_main_v19_apply, val_main_v18_apply]
  refine (val_main_v17_apply x0 x1 x2 _).trans ?_
  unfold res
  refine Finset.sum_congr rfl fun k _ => ?_
  have hR := R.isLt
  have hC := C.isLt
  have hk := k.isLt
  have hl : lidx_main_v17 (idx_main_v19 (ix2 R C)) k
      = ix3 (⟨R.val / 4096, by omega⟩ : Fin 4) (⟨R.val % 4096, by omega⟩ : Fin 4096) k := by
    funext d
    apply Fin.ext
    match d with
    | ⟨0, _⟩ => show (R.val * 14336 + C.val) / 58720256 = R.val / 4096; omega
    | ⟨1, _⟩ => show (R.val * 14336 + C.val) / 14336 % 4096 = R.val % 4096; omega
    | ⟨2, _⟩ => rfl
  have hr : idx_main_v15 (idx_main_v16 (ridx_main_v17 (idx_main_v19 (ix2 R C)) k)) = ix3 (0 : Fin 2) k C := by
    funext d
    apply Fin.ext
    match d with
    | ⟨0, _⟩ => rfl
    | ⟨1, _⟩ => show (k.val * 14336 + (R.val * 14336 + C.val) % 14336) / 14336 % 2048 = k.val; omega
    | ⟨2, _⟩ => show (k.val * 14336 + (R.val * 14336 + C.val) % 14336) % 14336 = C.val; omega
  rw [val_main_v16_apply, val_main_v15_apply, hl, hr, ref_normed]

end Cert.Proof.Proj

end
-- ==== Proof.Proj.Value.lean ====
/-
  The projection's value: the array the kernel leaves is the reference's, entry by entry, on the launch's arrays.
-/
module

public import proofs.«01_k».proof.Proof.Gen.Kernel2Ideal.Value
public import proofs.«01_k».proof.Proof.Proj.Pieces
public import proofs.«01_k».proof.Proof.Proj.Ref

@[expose] public section

noncomputable section

namespace Cert.Proof.Proj

open Cert.Kernel2Ideal Cert.Kernel2Ideal.Gen Cert.Kernel2Ideal.Value
open Idealize.ShloMosaic Idealize.ShloMosaic.TcCoe Idealize.ShloMosaic.ValueIdx
open Idealize.SL.Sem

variable (m : (ℓ : Loc nD τ sig) → Buf (Elt Ideal) ℓ) (c : Dev nD)

/-! ## The arrays the launch finds -/

/-- The launch's arguments. -/
abbrev a0 : Vec Ideal S4x4096x2048 .f32 := m ((c : Thread nD τ).loc main_arg0)
abbrev a1 : Vec Ideal S2x2048 .f32 := m ((c : Thread nD τ).loc main_arg1)
abbrev a2 : Vec Ideal S2x2048x14336 .f32 := m ((c : Thread nD τ).loc main_arg2)

/-- The arrays the windows cut. -/
abbrev w0 : Vec Ideal S16384x2048 .f32 := V m c main_v0
abbrev w1 : Vec Ideal S1x2048 .f32 := V m c main_v3
abbrev w2 : Vec Ideal S2x2048x14336 .bf16 := V m c main_v4

theorem rows_at : w0 m c
    = shapeCast S16384x2048 (a0 m c) shapeCasts_S4x4096x2048_S16384x2048 := by
  unfold_abbrev_sides
  after_results <;> rfl

theorem gains_at : w1 m c
    = shapeCast S1x2048 (shapeCast S2048 (extractStridedSlice S1x2048 ![0, 0] (a1 m c)
        slices_S2x2048_S1x2048_0_0) shapeCasts_S1x2048_S2048) shapeCasts_S2048_S1x2048 := by
  unfold_abbrev_sides
  after_results <;> rfl

theorem weights_at : w2 m c
    = (fun i => a2 m c i : Vec Ideal S2x2048x14336 .bf16) := by
  unfold_abbrev_sides
  after_results <;> rfl

theorem rows_apply (R : Fin 16384) (k : Fin 2048) :
    w0 m c (ix2 R k)
      = a0 m c
          (ix3 (⟨R.val / 4096, by omega⟩ : Fin 4) (⟨R.val % 4096, by omega⟩ : Fin 4096) k) := by
  rw [rows_at]
  refine shapeCast_apply (a0 m c) shapeCasts_S4x4096x2048_S16384x2048 (ix2 R k) _ ?_
  rw [Shape.rowMajor_val_three, Shape.rowMajor_val_two]
  show (R.val / 4096 * 4096 + R.val % 4096) * 2048 + k.val = R.val * 2048 + k.val
  omega

theorem gains_apply (k : Fin 2048) :
    w1 m c (ix2 (0 : Fin 1) k)
      = (a1 m c) (ix2 (0 : Fin 2) k) := by
  rw [gains_at]
  refine (shapeCast_apply _ _ _ (ix1 k) ?_).trans ?_
  · rw [Shape.rowMajor_val_one, Shape.rowMajor_val_two]
    show k.val = 0 * 2048 + k.val
    omega
  refine (shapeCast_apply _ _ _ (ix2 (0 : Fin 1) k) ?_).trans ?_
  · rw [Shape.rowMajor_val_one, Shape.rowMajor_val_two]
    show 0 * 2048 + k.val = k.val
    omega
  refine congrArg (a1 m c) (funext fun a => Fin.ext ?_)
  match a with
  | ⟨0, _⟩ => rfl
  | ⟨1, _⟩ => show 0 + k.val = k.val; omega

theorem weights_apply (k : Fin 2048) (C : Fin 14336) :
    w2 m c (ix3 (0 : Fin 2) k C)
      = (a2 m c) (ix3 (0 : Fin 2) k C) := by
  rw [weights_at]

/-! ## The blocks of a point -/

theorem index_rows : ∀ t : Fin cfg0.N, win0_0.index t (0 : Fin 2) = t.val / 14 ∧ win0_0.index t (1 : Fin 2) = 0 :=
  (by decide +kernel : ∀ t : Fin grid0.N, win0_0.index t (0 : Fin 2) = t.val / 14 ∧ win0_0.index t (1 : Fin 2) = 0)

theorem index_gains : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem index_weights : ∀ t : Fin cfg0.N, win0_2.index t (0 : Fin 3) = 0 ∧ win0_2.index t (1 : Fin 3) = 0
    ∧ win0_2.index t (2 : Fin 3) = t.val % 14 :=
  (by decide +kernel : ∀ t : Fin grid0.N, win0_2.index t (0 : Fin 3) = 0 ∧ win0_2.index t (1 : Fin 3) = 0
    ∧ win0_2.index t (2 : Fin 3) = t.val % 14)

theorem lt_points (t : Fin cfg0.N) : t.val < 224 := lt_of_lt_of_eq t.isLt (show cfg0.N = 224 from N_0)

/-- The block of rows, of gains and of weights at a point. -/
abbrev xb (t : Fin cfg0.N) : Vec Ideal S1024x2048 .f32 := iblk m c 0 t
abbrev gb (t : Fin cfg0.N) : Vec Ideal S1x2048 .f32 := iblk m c 1 t
abbrev wb (t : Fin cfg0.N) : Vec Ideal S1x2048x1024 .bf16 := iblk m c 2 t

theorem xb_apply (t : Fin cfg0.N) (r : Fin 1024) (k : Fin 2048) :
    xb m c t (ix2 r k) = w0 m c
      (ix2 (⟨1024 * (t.val / 14) + r.val, by have := lt_points t; omega⟩ : Fin 16384) k) := by
  obtain ⟨e0, e1⟩ := index_rows t
  refine congrArg (w0 m c) (funext fun a => Fin.ext ?_)
  match a with
  | ⟨0, _⟩ => show win0_0.index t (0 : Fin 2) * 1024 + 1 * r.val = 1024 * (t.val / 14) + r.val; omega
  | ⟨1, _⟩ => show win0_0.index t (1 : Fin 2) * 2048 + 1 * k.val = k.val; omega

theorem gb_apply (t : Fin cfg0.N) (k : Fin 2048) :
    gb m c t (ix2 (0 : Fin 1) k) = w1 m c (ix2 (0 : Fin 1) k) := by
  obtain ⟨e0, e1⟩ := index_gains t
  refine congrArg (w1 m c) (funext fun a => Fin.ext ?_)
  match a with
  | ⟨0, _⟩ => show win0_1.index t (0 : Fin 2) * 1 + 1 * 0 = 0; omega
  | ⟨1, _⟩ => show win0_1.index t (1 : Fin 2) * 2048 + 1 * k.val = k.val; omega

theorem wb_apply (t : Fin cfg0.N) (k : Fin 2048) (q : Fin 1024) :
    wb m c t (ix3 (0 : Fin 1) k q) = w2 m c
      (ix3 (0 : Fin 2) k (⟨1024 * (t.val % 14) + q.val, by omega⟩ : Fin 14336)) := by
  obtain ⟨e0, e1, e2⟩ := index_weights t
  refine congrArg (w2 m c) (funext fun a => Fin.ext ?_)
  match a with
  | ⟨0, _⟩ => show win0_2.index t (0 : Fin 3) * 1 + 1 * 0 = 0; omega
  | ⟨1, _⟩ => show win0_2.index t (1 : Fin 3) * 2048 + 1 * k.val = k.val; omega
  | ⟨2, _⟩ => show win0_2.index t (2 : Fin 3) * 1024 + 1 * q.val = 1024 * (t.val % 14) + q.val; omega

/-- Entry `(r, k)` of a normed row block. -/
theorem rowsOf_apply (x : Vec Ideal S1024x2048 .f32) (g : Vec Ideal S1x2048 .f32) (r : Fin 1024) (k : Fin 2048) :
    rowsOf x g (ix2 r k) = normed (fun k' => x (ix2 r k')) (x (ix2 r k)) (g (ix2 (0 : Fin 1) k)) := by
  have hb : ∀ k' : Fin 2048, band x (r.val / 128) (ix2 (⟨r.val % 128, Nat.mod_lt _ (by decide)⟩ : Fin 128) k') = x (ix2 r k') := by
    intro k'
    refine congrArg x (funext fun a => Fin.ext ?_)
    have hr := r.isLt
    match a with
    | ⟨0, _⟩ => show (128 * (r.val / 128) + r.val % 128) % 1024 = r.val; omega
    | ⟨1, _⟩ => rfl
  refine (pay1_apply (band x (r.val / 128)) g (⟨r.val % 128, Nat.mod_lt _ (by decide)⟩ : Fin 128) k).trans ?_
  rw [hb k, show (fun k' => band x (r.val / 128) (ix2 (⟨r.val % 128, Nat.mod_lt _ (by decide)⟩ : Fin 128) k')) = fun k' => x (ix2 r k')
    from funext hb]

/-- Two indices of a rank-two array, by their coordinates. -/
theorem eq_ix2 {a b : ℕ} (y : (⟨2, ![a, b]⟩ : Shape).Idx) :
    y = ix2 (⟨(y 0).val, (y 0).isLt⟩ : Fin a) (⟨(y 1).val, (y 1).isLt⟩ : Fin b) := by
  funext d
  match d with
  | ⟨0, _⟩ => rfl
  | ⟨1, _⟩ => rfl

/-- Points of one row of the grid read one block of rows and one of gains, so norm them alike. -/
theorem rowsOf_congr (t s : Fin cfg0.N) (h : t.val / 14 = s.val / 14) :
    rowsOf (xb m c t) (gb m c t) = rowsOf (xb m c s) (gb m c s) := by
  funext y
  rw [eq_ix2 y]
  have e : ∀ k : Fin 2048, xb m c t (ix2 (⟨(y 0).val, (y 0).isLt⟩ : Fin 1024) k) = xb m c s (ix2 (⟨(y 0).val, (y 0).isLt⟩ : Fin 1024) k) := by
    intro k
    rw [xb_apply, xb_apply]
    congr 3
    omega
  refine (rowsOf_apply _ _ _ _).trans (Eq.trans ?_ (rowsOf_apply _ _ _ _).symm)
  rw [e, funext e, gb_apply, gb_apply]

/-! ## What a point leaves -/

/-- After a point that norms its rows the scratch holds them. -/
theorem scratch_first (t : Fin cfg0.N) (h0 : t.val % 14 = 0) :
    (outsAt0 m c t.val t.isLt).2 = rowsOf (xb m c t) (gb m c t) :=
  (congrArg Prod.snd (outsAt0_A m c t h0)).trans
    (scratch_A (F := Ideal) c (grid0.coords t) (ms0_0 t) (hs0_0 t) (ms0_1 t) (hs0_1 t) (ms0_2 t) (hs0_2 t) (ms0_3 t) (hs0_3 t)
      scM0_0 (Memref.isWhole_whole _) ((hcond0_0 t).mpr h0) (xb m c t) (gb m c t) (wb m c t))

/-- After any point the scratch holds the point's row block normed. -/
theorem scratch_at : ∀ (n : ℕ) (hn : n < cfg0.N), (outsAt0 m c n hn).2 = rowsOf (xb m c ⟨n, hn⟩) (gb m c ⟨n, hn⟩) := by
  intro n
  induction n with
  | zero => exact fun hn => scratch_first m c ⟨0, hn⟩ rfl
  | succ n ih =>
    intro hn
    by_cases h0 : (n + 1) % 14 = 0
    · exact scratch_first m c ⟨n + 1, hn⟩ h0
    · refine (congrArg Prod.snd (outsAt0_B m c ⟨n + 1, hn⟩ h0)).trans ?_
      refine Eq.trans ?_ ((ih (Nat.lt_of_succ_lt hn)).trans
        (rowsOf_congr m c ⟨n, Nat.lt_of_succ_lt hn⟩ ⟨n + 1, hn⟩ (by show n / 14 = (n + 1) / 14; omega)))
      rfl

/-- After any point the output block holds the product of the normed rows and the weights' block. -/
theorem block_at (t : Fin cfg0.N) : (outsAt0 m c t.val t.isLt).1 = k0_pay2 (rowsOf (xb m c t) (gb m c t)) (wb m c t) := by
  by_cases h0 : t.val % 14 = 0
  · have e1 := congrArg Prod.fst (outsAt0_A m c t h0)
    have e2 := (out_A (F := Ideal) c (grid0.coords t) (ms0_0 t) (hs0_0 t) (ms0_1 t) (hs0_1 t) (ms0_2 t) (hs0_2 t) (ms0_3 t) (hs0_3 t)
        scM0_0 (Memref.isWhole_whole _) ((hcond0_0 t).mpr h0) (xb m c t) (gb m c t) (wb m c t))
    dsimp only at e1
    rw [e1]
    exact e2
  · have hp : t.val - 1 < cfg0.N := Nat.lt_of_le_of_lt (Nat.sub_le _ _) t.isLt
    have e1 := congrArg Prod.fst (outsAt0_B m c t h0)
    have e2 := (out_B (F := Ideal) c (grid0.coords t) (ms0_0 t) (hs0_0 t) (ms0_1 t) (hs0_1 t) (ms0_2 t) (hs0_2 t) (ms0_3 t) (hs0_3 t)
        scM0_0 (Memref.isWhole_whole _) (fun h => h0 ((hcond0_0 t).mp h)) (xb m c t) (gb m c t) (wb m c t)
        (outsAt0 m c (t.val - 1) hp).2)
    have e3 := congrArg (fun h => k0_pay2 h (wb m c t)) ((scratch_at m c (t.val - 1) hp).trans
      (rowsOf_congr m c ⟨t.val - 1, hp⟩ t (by show (t.val - 1) / 14 = t.val / 14; omega)))
    dsimp only at e1
    rw [e1]
    exact e2.trans e3

/-! ## The array -/

/-- The array the launch leaves, entry by entry. -/
theorem array_apply (R : Fin 16384) (C : Fin 14336) :
    (G3 m c : Vec Ideal S16384x14336 .bf16) (ix2 R C)
      = res (a0 m c) (a1 m c) (a2 m c) R C := by
  have hR := R.isLt
  have hC := C.isLt
  have hp : pt3Of (ix2 R C) = 14 * (R.val / 1024) + C.val / 1024 := by
    show 14 * (R.val / 1024 - 0) + 1 * (C.val / 1024 - 0) = _
    omega
  have hlt : pt3Of (ix2 R C) < cfg0.N := by
    rw [hp, show cfg0.N = 224 from N_0]
    omega
  have hl : loc3Of (ix2 R C) = ix2 (⟨R.val % 1024, Nat.mod_lt _ (by decide)⟩ : Fin 1024) (⟨C.val % 1024, Nat.mod_lt _ (by decide)⟩ : Fin 1024) := by
    funext a
    match a with
    | ⟨0, _⟩ => rfl
    | ⟨1, _⟩ => rfl
  unfold G3
  rw [dif_pos hlt, ← outsAt0_sweep m c (pt3Of (ix2 R C)) hlt, hl]
  refine (congrFun (block_at m c ⟨pt3Of (ix2 R C), hlt⟩) _).trans ?_
  rw [pay2_apply]
  unfold res
  refine Finset.sum_congr rfl fun k _ => ?_
  have hx : ∀ k' : Fin 2048, xb m c ⟨pt3Of (ix2 R C), hlt⟩ (ix2 (⟨R.val % 1024, Nat.mod_lt _ (by decide)⟩ : Fin 1024) k')
      = a0 m c
          (ix3 (⟨R.val / 4096, by omega⟩ : Fin 4) (⟨R.val % 4096, by omega⟩ : Fin 4096) k') := by
    intro k'
    refine (xb_apply m c _ _ _).trans (Eq.trans ?_ (rows_apply m c R k'))
    refine congrArg (fun q => w0 m c (ix2 q k')) (Fin.ext ?_)
    show 1024 * (pt3Of (ix2 R C) / 14) + R.val % 1024 = R.val
    omega
  have hw : wb m c ⟨pt3Of (ix2 R C), hlt⟩ (ix3 (0 : Fin 1) k (⟨C.val % 1024, Nat.mod_lt _ (by decide)⟩ : Fin 1024))
      = (a2 m c) (ix3 (0 : Fin 2) k C) := by
    refine (wb_apply m c _ _ _).trans (Eq.trans ?_ (weights_apply m c k C))
    refine congrArg (fun q => w2 m c (ix3 (0 : Fin 2) k q)) (Fin.ext ?_)
    show 1024 * (pt3Of (ix2 R C) % 14) + C.val % 1024 = C.val
    omega
  rw [rowsOf_apply, hx, funext hx, hw, gb_apply, gains_apply]

/-- The kernel's array is the reference's of the same arguments. -/
theorem array_eq : (G3 m c : Vec Ideal S16384x14336 .bf16)
    = Cert.Reference2Ideal.Read.val_main_v19 (F := Ideal) (a0 m c) (a1 m c) (a2 m c) := by
  funext i
  rw [eq_ix2 i]
  exact (array_apply m c _ _).trans (ref_apply _ _ _ _ _).symm

end Cert.Proof.Proj

end
-- ==== Proof.Proj.Claim.lean ====
/-
  The projection's algebraic claim: over the extended reals the kernel and the reference leave one array.
-/
module

public import proofs.«01_k».proof.Defs
public import proofs.«01_k».proof.Proof.Proj.Value

@[expose] public section

noncomputable section

namespace Cert.Proof.Proj

open Idealize.ShloMosaic Idealize.ShloMosaic.TcCoe
open Idealize.SL.Sem

theorem algebraic : Cert.algebraic_Kernel2Ideal_Reference2Ideal := by
  intro m g m' g' _ hargs
  refine ⟨fun c => Cert.Kernel2Ideal.Value.G3 m c, Cert.Kernel2Ideal.Value.run m g, ?_⟩
  refine (θ_run Cert.Reference2Ideal.defs _ _).mono (fun r h c => ⟨(h c).1.trans ?_, (h c).2⟩)
    (Cert.Reference2Ideal.Value.run (F := Ideal) m' g')
  refine (Cert.Reference2Ideal.Read.val_main_v19_eq (F := Ideal) _ _ _).trans ?_
  rw [(hargs c).1, (hargs c).2.1, (hargs c).2.2]
  exact (array_eq m c).symm

end Cert.Proof.Proj

end
-- ==== Proof.Out.Pay.lean ====
/-
  What the payloads of the output kernel compute at the extended reals, entry by entry: a gated band of normed rows,
  the pointwise product and the output product; and the two forms of the gate, equal above minus infinity.
-/
module

public import proofs.«01_k».proof.Proof.Gen.Kernel3Ideal.Skeleton
public import proofs.«01_k».proof.Proof.Proj.Pay

@[expose] public section

noncomputable section

namespace Cert.Proof.Out

open Cert.Kernel3Ideal Cert.Kernel3Ideal.Gen
open Idealize.ShloMosaic Idealize.ShloMosaic.ValueIdx
open Cert.Proof.Proj (normed)

/-! ## The gate -/

/-- The kernel's form of the gate: `h · tanh h + h` at half the entry. -/
def swish (t : EReal) : EReal :=
  FloatOps.ofBits (F := Ideal) .f32 0x3F000000#32 * t * Ideal.tanh (FloatOps.ofBits (F := Ideal) .f32 0x3F000000#32 * t)
    + FloatOps.ofBits (F := Ideal) .f32 0x3F000000#32 * t

/-- The reference's form: the entry times its logistic. -/
def silu (t : EReal) : EReal := t * Ideal.logistic t

theorem half : FloatOps.ofBits (F := Ideal) .f32 0x3F000000#32 = (((1 : ℝ) / 2 : ℝ) : EReal) := by
  show Ideal.ofBits .f32 0x3F000000#32 = _
  have e : (BitVec.extractLsb' 31 1 (0x3F000000#32) == 1#1) = false := by decide
  have e1 : (BitVec.extractLsb' 23 8 (0x3F000000#32)).toNat = 126 := by decide
  have e2 : (BitVec.extractLsb' 0 23 (0x3F000000#32)).toNat = 0 := by decide
  simp only [Ideal.ofBits, Ideal.ieee, e, e1, e2]
  norm_num

theorem real_swish (r : ℝ) : 1 / 2 * r * Real.tanh (1 / 2 * r) + 1 / 2 * r = r * (1 + Real.exp (-r))⁻¹ := by
  have hp := Real.exp_pos (1 / 2 * r)
  have hn := Real.exp_pos (-(1 / 2 * r))
  have hs : Real.exp (1 / 2 * r) + Real.exp (-(1 / 2 * r)) ≠ 0 := by positivity
  have h1 : 1 + Real.exp (-r) ≠ 0 := by positivity
  have he : Real.exp (-r) = Real.exp (-(1 / 2 * r)) * Real.exp (-(1 / 2 * r)) := by
    rw [← Real.exp_add]
    congr 1
    ring
  have hm : Real.exp (1 / 2 * r) * Real.exp (-(1 / 2 * r)) = 1 := by
    rw [← Real.exp_add]
    simp
  rw [Real.tanh_eq_sinh_div_cosh, Real.sinh_eq, Real.cosh_eq]
  rw [he] at h1 ⊢
  generalize Real.exp (1 / 2 * r) = p at *
  generalize Real.exp (-(1 / 2 * r)) = n at *
  field_simp
  linear_combination (2 * r * n) * hm

/-- Above minus infinity the two forms agree. -/
theorem swish_eq (t : EReal) (ht : t ≠ ⊥) : swish t = silu t := by
  unfold swish silu
  rw [half]
  induction t with
  | bot => exact absurd rfl ht
  | top =>
    rw [EReal.coe_mul_top_of_pos (by norm_num), Ideal.tanh_top, Ideal.logistic_top, mul_one]
    rfl
  | coe r =>
    rw [← EReal.coe_mul, Ideal.tanh_coe, Ideal.logistic_coe, ← EReal.coe_mul, ← EReal.coe_mul, ← EReal.coe_add, real_swish]

/-! ## The payloads -/

/-- A gated band of normed rows: entry `(r, c)`. -/
theorem pay36_apply (x : Vec Ideal S16x2048 .f32) (g : Vec Ideal S1x2048 .f32) (t : Vec Ideal S16x2048 .bf16)
    (r : Fin 16) (c : Fin 2048) :
    k0_pay36 (F := Ideal) x g t (ix2 r c)
      = normed (fun k => x (ix2 r k)) (x (ix2 r c)) (g (ix2 (0 : Fin 1) c)) * swish (t (ix2 r c)) := by
  unfold k0_pay36
  dsimp only
  simp only [shapeCast_self]
  have e1 : ∀ v : FVec Ideal S16x1 .f32, broadcastTo S16x2048 v broadcasts_S16x1_S16x2048 (ix2 r c) = v (ix2 r (0 : Fin 1)) := fun v =>
    broadcastTo_apply v broadcasts_S16x1_S16x2048 (ix2 r c) (ix2 r (0 : Fin 1)) (fun a => match a with
      | ⟨0, _⟩ => rfl
      | ⟨1, _⟩ => rfl)
  have e2 : ∀ v : FVec Ideal S1x2048 .f32, broadcastTo S16x2048 v broadcasts_S1x2048_S16x2048 (ix2 r c) = v (ix2 (0 : Fin 1) c) := fun v =>
    broadcastTo_apply v broadcasts_S1x2048_S16x2048 (ix2 r c) (ix2 (0 : Fin 1) c) (fun a => match a with
      | ⟨0, _⟩ => rfl
      | ⟨1, _⟩ => rfl)
  have e3 : ∀ v : FVec Ideal S16 .f32, shapeCast S16x1 v shapeCasts_S16_S16x1 (ix2 r (0 : Fin 1)) = v (fun a => match a with | ⟨0, _⟩ => r) := fun v =>
    shapeCast_apply v shapeCasts_S16_S16x1 (ix2 r (0 : Fin 1)) (fun a => match a with | ⟨0, _⟩ => r)
      (by rewrite [Shape.rowMajor_val_two, Shape.rowMajor_val_one]; show r.val = r.val * 1 + 0; omega)
  have e4 : multiReduction (F := Ideal) (φ := .f32) .add [1] S16 (mulf x x : FVec Ideal S16x2048 .f32) 0x00000000#32 reduces_S16x2048_S16 (.inl rfl) rfl (fun a => match a with | ⟨0, _⟩ => r)
      = ∑ k : Fin 2048, x (ix2 r k) * x (ix2 r k) := by
    refine (Ideal.multiReduction_add_single (mulf x x : FVec Ideal S16x2048 .f32) 0x00000000#32 reduces_S16x2048_S16 (.inl rfl) rfl (fun a => match a with | ⟨0, _⟩ => r)).trans ?_
    refine Finset.sum_congr rfl fun k _ => ?_
    have hk : reduces_S16x2048_S16.lift (fun a => match a with | ⟨0, _⟩ => r) k = ix2 r k := funext fun a => match a with
      | ⟨0, _⟩ => rfl
      | ⟨1, _⟩ => rfl
    show x _ * x _ = _
    rw [hk]
    rfl
  show x (ix2 r c) * broadcastTo S16x2048 _ broadcasts_S16x1_S16x2048 (ix2 r c)
    * broadcastTo S16x2048 g broadcasts_S1x2048_S16x2048 (ix2 r c) * swish (t (ix2 r c)) = _
  rw [e1, e2]
  unfold normed
  refine congrArg (fun z => x (ix2 r c) * Ideal.rsqrt (Ideal.div z (FloatOps.ofBits (F := Ideal) .f32 0x45000000#32)
    + FloatOps.ofBits (F := Ideal) .f32 0x358637BD#32) * g (ix2 (0 : Fin 1) c) * swish (t (ix2 r c))) ?_
  exact (e3 _).trans e4

/-- The bands of the attention are computed as those of the convolution are. -/
theorem pay3_eq {F : FTy → Type} [FloatOps F] (x : Vec F S16x2048 .f32) (g : Vec F S1x2048 .f32) (t : Vec F S16x2048 .bf16) :
    k0_pay3 x g t = k0_pay36 x g t := by
  have e : k0_pay3 x g t = k0_pay36 (shapeCast S16x2048 x shapeCasts_S16x2048_S16x2048) g t := rfl
  rw [e, shapeCast_self]

/-- The pointwise product: entry `(r, q)`. -/
theorem pay2_apply (z : Vec Ideal S256x2048 .bf16) (w : Vec Ideal S1x2048x2048 .bf16) (r : Fin 256) (q : Fin 2048) :
    k0_pay2 (F := Ideal) z w (ix2 r q) = ∑ k : Fin 2048, z (ix2 r k) * w (ix3 (0 : Fin 1) k q) := by
  unfold k0_pay2
  simp only [shapeCast_self]
  have hd : dot_S256x2048_S2048x2048_S256x2048_1_0_0_1_n_n = DotDims.plain 256 2048 2048 := rfl
  show FloatOps.matmul (F := Ideal) (φ₁ := .bf16) (φ₂ := .bf16) dot_S256x2048_S2048x2048_S256x2048_1_0_0_1_n_n none z
    (shapeCast (α := Elt Ideal .bf16) S2048x2048 w shapeCasts_S1x2048x2048_S2048x2048)
    (constant (F := Ideal) S256x2048 .f32 0x00000000#32) (ix2 r q) = _
  rw [hd, Ideal.matmul_plain_apply]
  have h0 : constant (F := Ideal) S256x2048 .f32 0x00000000#32 (ix2 r q) = 0 := Ideal.ofBits_zero_f32
  rw [h0, zero_add]
  refine Finset.sum_congr rfl fun k _ => ?_
  have e := shapeCast_dropUnit_apply ![2048, 2048] w shapeCasts_S1x2048x2048_S2048x2048 (ix2 k q)
  refine congrArg (z (ix2 r k) * ·) (e.trans (congrArg w (funext fun a => ?_)))
  match a with
  | ⟨0, _⟩ => rfl
  | ⟨1, _⟩ => rfl
  | ⟨2, _⟩ => rfl

/-- The output product on the residual: entry `(r, q)`. -/
theorem pay1_apply (x : Vec Ideal S256x2048 .f32) (h : Vec Ideal S256x4096 .bf16) (w : Vec Ideal S1x4096x2048 .bf16)
    (r : Fin 256) (q : Fin 2048) :
    k0_pay1 (F := Ideal) (k0_pay61 x) h (k0_pay62 w) (ix2 r q)
      = x (ix2 r q) + ∑ k : Fin 4096, h (ix2 r k) * w (ix3 (0 : Fin 1) k q) := by
  unfold k0_pay1 k0_pay61 k0_pay62
  simp only [shapeCast_self]
  have hd : dot_S256x4096_S4096x2048_S256x2048_1_0_0_1_n_n = DotDims.plain 256 4096 2048 := rfl
  refine congrArg (x (ix2 r q) + ·) ?_
  show FloatOps.matmul (F := Ideal) (φ₁ := .bf16) (φ₂ := .bf16) dot_S256x4096_S4096x2048_S256x2048_1_0_0_1_n_n none h
    (shapeCast (α := Elt Ideal .bf16) S4096x2048 w shapeCasts_S1x4096x2048_S4096x2048)
    (constant (F := Ideal) S256x2048 .f32 0x00000000#32) (ix2 r q) = _
  rw [hd, Ideal.matmul_plain_apply]
  have h0 : constant (F := Ideal) S256x2048 .f32 0x00000000#32 (ix2 r q) = 0 := Ideal.ofBits_zero_f32
  rw [h0, zero_add]
  refine Finset.sum_congr rfl fun k _ => ?_
  have e := shapeCast_dropUnit_apply ![4096, 2048] w shapeCasts_S1x4096x2048_S4096x2048 (ix2 k q)
  refine congrArg (h (ix2 r k) * ·) (e.trans (congrArg w (funext fun a => ?_)))
  match a with
  | ⟨0, _⟩ => rfl
  | ⟨1, _⟩ => rfl
  | ⟨2, _⟩ => rfl

end Cert.Proof.Out

end
-- ==== Proof.Out.Pieces.lean ====
/-
  What one grid point of the output kernel leaves in its output block, as a function of the blocks it is handed: the
  residual plus the product of the gated rows, the attention's beside the convolution's, with the output weights.
-/
module

public import proofs.«01_k».proof.Proof.Gen.Kernel3Ideal.Frame
public import proofs.«01_k».proof.Proof.Out.Pay

@[expose] public section

set_option maxRecDepth 16384

noncomputable section

namespace Cert.Proof.Out

open Cert.Kernel3Ideal Cert.Kernel3Ideal.Gen
open Idealize.ShloMosaic Idealize.ShloMosaic.TcCoe Idealize.ShloMosaic.ValueIdx
open Idealize.SL.Sem

variable {F : FTy → Type} [FloatOps F]

/-- Band `k` of a row block: its 16 rows from `16·k`. -/
def rows {e : EltTy} (x : Vec F S256x2048 e) (k : ℕ) : Vec F S16x2048 e := fun p =>
  x (ix2 (⟨(16 * k + (p 0).val) % 256, Nat.mod_lt _ (by decide)⟩ : Fin 256) (⟨(p 1).val, (p 1).isLt⟩ : Fin 2048))

/-- The left operand of the output product: the attention's gated rows, then the convolution's. -/
def mix (a y : Vec F S256x2048 .f32) (g og : Vec F S1x2048 .f32) (ga gc : Vec F S256x2048 .bf16) : Vec F S256x4096 .bf16 := fun p =>
  if h : (p 1).val < 2048 then
    k0_pay36 (rows a ((p 0).val / 16)) g (rows ga ((p 0).val / 16))
      (ix2 (⟨(p 0).val % 16, Nat.mod_lt _ (by decide)⟩ : Fin 16) (⟨(p 1).val, h⟩ : Fin 2048))
  else
    k0_pay36 (rows y ((p 0).val / 16)) og (rows gc ((p 0).val / 16))
      (ix2 (⟨(p 0).val % 16, Nat.mod_lt _ (by decide)⟩ : Fin 16) (⟨(p 1).val - 2048, by have h1 : (p 1).val < 4096 := (p 1).isLt; omega⟩ : Fin 2048))

theorem inb_in (i : Fin 16) : ∀ a, (![16 * i.val, 0] : Fin 2 → ℕ) a + S16x2048.size a ≤ S256x2048.size a := by
  intro a
  match a with
  | ⟨0, _⟩ => show 16 * i.val + 16 ≤ 256; omega
  | ⟨1, _⟩ => show 0 + 2048 ≤ 2048; omega

theorem inb_left (i : Fin 16) : ∀ a, (![16 * i.val, 0] : Fin 2 → ℕ) a + S16x2048.size a ≤ S256x4096.size a := by
  intro a
  match a with
  | ⟨0, _⟩ => show 16 * i.val + 16 ≤ 256; omega
  | ⟨1, _⟩ => show 0 + 2048 ≤ 4096; omega

theorem inb_right (i : Fin 16) : ∀ a, (![16 * i.val, 2048] : Fin 2 → ℕ) a + S16x2048.size a ≤ S256x4096.size a := by
  intro a
  match a with
  | ⟨0, _⟩ => show 16 * i.val + 16 ≤ 256; omega
  | ⟨1, _⟩ => show 2048 + 2048 ≤ 4096; omega

/-- The load of a band reads it. -/
theorem ld_band {e : EltTy} (x : Vec F S256x2048 e) (i : Fin 16) :
    View.ld x (Rect.unit (s := S256x2048) ![16 * i.val, 0] S16x2048.size (inb_in i)) = rows x i.val := by
  funext p
  have h0 : (p 0).val < 16 := (p 0).isLt
  refine congrArg x (funext fun a => Fin.ext ?_)
  match a with
  | ⟨0, _⟩ => show 16 * i.val + 1 * (p 0).val = (16 * i.val + (p 0).val) % 256; omega
  | ⟨1, _⟩ => show 0 + 1 * (p 1).val = (p 1).val; omega

/-- The bands' numbers, last first. -/
def bands : List (Fin 16) := [15, 14, 13, 12, 11, 10, 9, 8, 7, 6, 5, 4, 3, 2, 1, 0]

theorem mem_bands : ∀ i : Fin 16, i ∈ bands := by decide

/-- The store of one gated band of the attention, -/
def pieceL (a : Vec F S256x2048 .f32) (g : Vec F S1x2048 .f32) (ga : Vec F S256x2048 .bf16) (i : Fin 16) :
    View.Piece (Elt F) S256x4096 .bf16 :=
  ⟨Rect.unit (s := S256x4096) ![16 * i.val, 0] S16x2048.size (inb_left i),
    k0_pay3 (View.ld a (Rect.unit (s := S256x2048) ![16 * i.val, 0] S16x2048.size (inb_in i)))
      (View.ld g (Rect.unit (s := S1x2048) ![0, 0] S1x2048.size inb_S1x2048_S1x2048_0_0))
      (View.ld ga (Rect.unit (s := S256x2048) ![16 * i.val, 0] S16x2048.size (inb_in i)))⟩

/-- and of the convolution. -/
def pieceR (y : Vec F S256x2048 .f32) (og : Vec F S1x2048 .f32) (gc : Vec F S256x2048 .bf16) (i : Fin 16) :
    View.Piece (Elt F) S256x4096 .bf16 :=
  ⟨Rect.unit (s := S256x4096) ![16 * i.val, 2048] S16x2048.size (inb_right i),
    k0_pay36 (View.ld y (Rect.unit (s := S256x2048) ![16 * i.val, 0] S16x2048.size (inb_in i)))
      (View.ld og (Rect.unit (s := S1x2048) ![0, 0] S1x2048.size inb_S1x2048_S1x2048_0_0))
      (View.ld gc (Rect.unit (s := S256x2048) ![16 * i.val, 0] S16x2048.size (inb_in i)))⟩

/-- All the stores of the left operand, last first. -/
def pieces (a y : Vec F S256x2048 .f32) (g og : Vec F S1x2048 .f32) (ga gc : Vec F S256x2048 .bf16) :
    List (View.Piece (Elt F) S256x4096 .bf16) :=
  bands.map (pieceR y og gc) ++ bands.map (pieceL a g ga)

theorem zero2 : (![0, 0] : Fin 2 → ℕ) = fun _ => 0 := funext fun a => match a with
  | ⟨0, _⟩ => rfl
  | ⟨1, _⟩ => rfl

theorem zero3 : (![0, 0, 0] : Fin 3 → ℕ) = fun _ => 0 := funext fun a => match a with
  | ⟨0, _⟩ => rfl
  | ⟨1, _⟩ => rfl
  | ⟨2, _⟩ => rfl

theorem pieceL_at (a y : Vec F S256x2048 .f32) (g og : Vec F S1x2048 .f32) (ga gc : Vec F S256x2048 .bf16) (i : Fin 16)
    (x : S16x2048.Idx) : (pieceL a g ga i).2 x = mix a y g og ga gc ((pieceL a g ga i).1.emb x) := by
  have h0 : (x 0).val < 16 := (x 0).isLt
  have h1 : (x 1).val < 2048 := (x 1).isLt
  have e0 : ((pieceL a g ga i).1.emb x 0).val = 16 * i.val + (x 0).val := by
    show 16 * i.val + 1 * (x 0).val = _; omega
  have e1 : ((pieceL a g ga i).1.emb x 1).val = (x 1).val := by
    show 0 + 1 * (x 1).val = _; omega
  have ed : ((pieceL a g ga i).1.emb x 0).val / 16 = i.val := by omega
  unfold mix
  rw [dif_pos (show ((pieceL a g ga i).1.emb x 1).val < 2048 by omega), ed]
  show k0_pay3 _ _ _ x = _
  rw [pay3_eq, ld_band, ld_band, View.ld_unit_zero zero2]
  refine congrArg (k0_pay36 (rows a i.val) g (rows ga i.val)) (funext fun d => Fin.ext ?_)
  match d with
  | ⟨0, _⟩ => show (x 0).val = ((pieceL a g ga i).1.emb x 0).val % 16; omega
  | ⟨1, _⟩ => exact e1.symm

theorem pieceR_at (a y : Vec F S256x2048 .f32) (g og : Vec F S1x2048 .f32) (ga gc : Vec F S256x2048 .bf16) (i : Fin 16)
    (x : S16x2048.Idx) : (pieceR y og gc i).2 x = mix a y g og ga gc ((pieceR y og gc i).1.emb x) := by
  have h0 : (x 0).val < 16 := (x 0).isLt
  have h1 : (x 1).val < 2048 := (x 1).isLt
  have e0 : ((pieceR y og gc i).1.emb x 0).val = 16 * i.val + (x 0).val := by
    show 16 * i.val + 1 * (x 0).val = _; omega
  have e1 : ((pieceR y og gc i).1.emb x 1).val = 2048 + (x 1).val := by
    show 2048 + 1 * (x 1).val = _; omega
  have ed : ((pieceR y og gc i).1.emb x 0).val / 16 = i.val := by omega
  unfold mix
  rw [dif_neg (show ¬((pieceR y og gc i).1.emb x 1).val < 2048 by omega), ed]
  show k0_pay36 _ _ _ x = _
  rw [ld_band, ld_band, View.ld_unit_zero zero2]
  refine congrArg (k0_pay36 (rows y i.val) og (rows gc i.val)) (funext fun d => Fin.ext ?_)
  match d with
  | ⟨0, _⟩ => show (x 0).val = ((pieceR y og gc i).1.emb x 0).val % 16; omega
  | ⟨1, _⟩ => show (x 1).val = ((pieceR y og gc i).1.emb x 1).val - 2048; omega

/-- The stores leave the left operand. -/
theorem canon_pieces (a y : Vec F S256x2048 .f32) (g og : Vec F S1x2048 .f32) (ga gc : Vec F S256x2048 .bf16) :
    View.canon (pieces a y g og ga gc) = mix a y g og ga gc := by
  funext p
  have h0 : (p 0).val < 256 := (p 0).isLt
  have h1 : (p 1).val < 4096 := (p 1).isLt
  refine View.canon_apply_of_pieces (mix a y g og ga gc) (pieces a y g og ga gc) ?_ p ?_
  · intro q hq
    rcases List.mem_append.mp hq with hq | hq
    · obtain ⟨i, _, rfl⟩ := List.mem_map.mp hq
      exact pieceR_at a y g og ga gc i
    · obtain ⟨i, _, rfl⟩ := List.mem_map.mp hq
      exact pieceL_at a y g og ga gc i
  · by_cases hc : (p 1).val < 2048
    · refine ⟨pieceL a g ga ⟨(p 0).val / 16, by omega⟩, List.mem_append_right _ (List.mem_map_of_mem (mem_bands _)), ?_⟩
      refine (Rect.mem_set_unit (s := S256x4096) (inb := inb_left ⟨(p 0).val / 16, by omega⟩)).mpr fun d => ?_
      match d with
      | ⟨0, _⟩ =>
        show 16 * ((p 0).val / 16) ≤ (p 0).val ∧ (p 0).val < 16 * ((p 0).val / 16) + 16
        omega
      | ⟨1, _⟩ =>
        show 0 ≤ (p 1).val ∧ (p 1).val < 0 + 2048
        omega
    · refine ⟨pieceR y og gc ⟨(p 0).val / 16, by omega⟩, List.mem_append_left _ (List.mem_map_of_mem (mem_bands _)), ?_⟩
      refine (Rect.mem_set_unit (s := S256x4096) (inb := inb_right ⟨(p 0).val / 16, by omega⟩)).mpr fun d => ?_
      match d with
      | ⟨0, _⟩ =>
        show 16 * ((p 0).val / 16) ≤ (p 0).val ∧ (p 0).val < 16 * ((p 0).val / 16) + 16
        omega
      | ⟨1, _⟩ =>
        show 2048 ≤ (p 1).val ∧ (p 1).val < 2048 + 2048
        omega

section

variable (c : Dev nD) (i : grid0.Coords)
  (arg1 : Memref sig .tc .vmem S256x2048 .f32) (harg1 : arg1.IsWhole)
  (arg2 : Memref sig .tc .vmem S256x2048 .bf16) (harg2 : arg2.IsWhole)
  (arg3 : Memref sig .tc .vmem S256x2048 .bf16) (harg3 : arg3.IsWhole)
  (arg4 : Memref sig .tc .vmem S256x2048 .bf16) (harg4 : arg4.IsWhole)
  (arg5 : Memref sig .tc .vmem S256x2048 .f32) (harg5 : arg5.IsWhole)
  (arg6 : Memref sig .tc .vmem S1x2048 .f32) (harg6 : arg6.IsWhole)
  (arg7 : Memref sig .tc .vmem S1x2048 .f32) (harg7 : arg7.IsWhole)
  (arg8 : Memref sig .tc .vmem S1x2048x2048 .bf16) (harg8 : arg8.IsWhole)
  (arg9 : Memref sig .tc .vmem S1x4096x2048 .bf16) (harg9 : arg9.IsWhole)
  (arg10 : Memref sig .tc .vmem S256x2048 .f32) (harg10 : arg10.IsWhole)
  (arg11 : Memref sig .tc .vmem S256x4096 .bf16) (harg11 : arg11.IsWhole)
  (arg12 : Memref sig .tc .vmem S256x2048 .f32) (harg12 : arg12.IsWhole)
  (x0 : Vec F S256x2048 .f32) (x1 x2 x3 : Vec F S256x2048 .bf16) (x4 : Vec F S256x2048 .f32)
  (x5 x6 : Vec F S1x2048 .f32) (x7 : Vec F S1x2048x2048 .bf16) (x8 : Vec F S1x4096x2048 .bf16)

/-- The pointwise product as the scratch holds it. -/
abbrev scratchY : Vec F S256x2048 .f32 :=
  arg12.view.read (Elt F) (arg12.view.writes (Elt F) arg12.view.junk
    [⟨Rect.unit (s := S256x2048) ![0, 0] S256x2048.size inb_S256x2048_S256x2048_0_0,
      k0_pay2 (View.ld (arg3.view.read (Elt F) (harg3.unread x2)) (Rect.unit (s := S256x2048) ![0, 0] S256x2048.size inb_S256x2048_S256x2048_0_0))
        (View.ld (arg8.view.read (Elt F) (harg8.unread x7)) (Rect.unit (s := S1x2048x2048) ![0, 0, 0] S1x2048x2048.size inb_S1x2048x2048_S1x2048x2048_0_0_0))⟩])

theorem run_pieces :
    (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8).2.1
      = pieces (arg1.view.read (Elt F) (harg1.unread x0)) (scratchY arg3 harg3 arg8 harg8 arg12 x2 x7)
          (arg6.view.read (Elt F) (harg6.unread x5)) (arg7.view.read (Elt F) (harg7.unread x6))
          (arg2.view.read (Elt F) (harg2.unread x1)) (arg4.view.read (Elt F) (harg4.unread x3)) := rfl

theorem run_out :
    (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8).1
      = [⟨Rect.unit (s := S256x2048) ![0, 0] S256x2048.size inb_S256x2048_S256x2048_0_0,
          k0_pay1 (k0_pay61 (View.ld (arg5.view.read (Elt F) (harg5.unread x4)) (Rect.unit (s := S256x2048) ![0, 0] S256x2048.size inb_S256x2048_S256x2048_0_0)))
            (arg11.view.readCov (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8).2.1
              (Rect.unit (s := S256x4096) ![0, 0] S256x4096.size inb_S256x4096_S256x4096_0_0).toLoadRect)
            (k0_pay62 (View.ld (arg9.view.read (Elt F) (harg9.unread x8)) (Rect.unit (s := S1x4096x2048) ![0, 0, 0] S1x4096x2048.size inb_S1x4096x2048_S1x4096x2048_0_0_0)))⟩] := rfl

/-- The output block. -/
theorem out_eq :
    out0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8
      = k0_pay1 (k0_pay61 x4) (mix x0 (k0_pay2 x2 x7) x5 x6 x1 x3) (k0_pay62 x8) := by
  have hy : scratchY arg3 harg3 arg8 harg8 arg12 x2 x7 = k0_pay2 x2 x7 := by
    unfold scratchY
    rw [View.read_writes_junk_eq_canon, View.canon_unit_zero zero2, harg3.read_unread, harg8.read_unread,
      View.ld_unit_zero zero2, View.ld_unit_zero zero3]
  have hs : arg11.view.readCov (pieces x0 (k0_pay2 x2 x7) x5 x6 x1 x3)
      (Rect.unit (s := S256x4096) ![0, 0] S256x4096.size inb_S256x4096_S256x4096_0_0).toLoadRect
      = mix x0 (k0_pay2 x2 x7) x5 x6 x1 x3 := by
    rw [View.readCov_eq_canon', canon_pieces]
    exact View.ld_unit_zero zero2 inb_S256x4096_S256x4096_0_0 (mix x0 (k0_pay2 x2 x7) x5 x6 x1 x3)
  unfold out0_A_9
  rw [View.read_writes_junk_eq_canon, run_out, View.canon_unit_zero zero2, run_pieces, hy, harg1.read_unread, harg2.read_unread,
    harg4.read_unread, harg6.read_unread, harg7.read_unread, hs, harg5.read_unread, harg9.read_unread,
    View.ld_unit_zero zero2, View.ld_unit_zero zero3]

end

end Cert.Proof.Out

end
-- ==== Proof.Out.Ref.lean ====
/-
  The output projection's reference read at one entry: the residual plus the sum, over the mixers' joined width, of the
  gated normed row's entry times the output weight's.
-/
module

public import proofs.«01_k».proof.Proof.Gen.Reference3Ideal.Read
public import proofs.«01_k».proof.Proof.Out.Pay
public import Idealize.ShloMosaic.Lib.IdealHost

@[expose] public section

noncomputable section

namespace Cert.Proof.Out

open Cert.Reference3Ideal Cert.Reference3Ideal.Gen Cert.Reference3Ideal.Read
open Idealize.ShloMosaic Idealize.ShloMosaic.ValueIdx
open Cert.Proof.Proj (normed)

section

variable (x0 : Vec Ideal S4x4096x2048 .f32) (x1 : Vec Ideal S4x4096x14336 .bf16) (x2 : Vec Ideal S4x4096x2048 .bf16)
  (x3 : Vec Ideal S4x4096x2048 .f32) (x4 x5 : Vec Ideal S2x2048 .f32) (x6 : Vec Ideal S2x2048x2048 .f32)
  (x7 : Vec Ideal S2x4096x2048 .f32)

/-- The attention's gate, and the convolution's. -/
def gateAtt (a : Fin 4) (b : Fin 4096) (k : Fin 2048) : EReal := x1 (ix3 a b (⟨6144 + k.val, by omega⟩ : Fin 14336))
def gateConv (a : Fin 4) (b : Fin 4096) (k : Fin 2048) : EReal := x1 (ix3 a b (⟨12288 + k.val, by omega⟩ : Fin 14336))

/-- The pointwise convolution. -/
def pointwise (a : Fin 4) (b : Fin 4096) (e : Fin 2048) : EReal :=
  ∑ j : Fin 2048, x2 (ix3 a b j) * x6 (ix3 (1 : Fin 2) j e)

/-- The attention's gated normed row, and the convolution's. -/
def attRow (a : Fin 4) (b : Fin 4096) (k : Fin 2048) : EReal :=
  normed (fun k' => x0 (ix3 a b k')) (x0 (ix3 a b k)) (x4 (ix2 (1 : Fin 2) k)) * silu (gateAtt x1 a b k)
def convRow (a : Fin 4) (b : Fin 4096) (k : Fin 2048) : EReal :=
  normed (fun k' => pointwise x2 x6 a b k') (pointwise x2 x6 a b k) (x5 (ix2 (1 : Fin 2) k)) * silu (gateConv x1 a b k)

/-- The two side by side. -/
def mixed (a : Fin 4) (b : Fin 4096) (k : Fin 4096) : EReal :=
  if h : k.val < 2048 then attRow x0 x1 x4 a b ⟨k.val, h⟩
  else convRow x1 x2 x5 x6 a b ⟨k.val - 2048, by omega⟩

/-- Entry `(R, C)` of the layer's result. -/
def res (R : Fin 16384) (C : Fin 2048) : EReal :=
  x3 (ix3 (⟨R.val / 4096, by omega⟩ : Fin 4) (⟨R.val % 4096, by omega⟩ : Fin 4096) C)
    + ∑ k : Fin 4096, mixed x0 x1 x2 x4 x5 x6 (⟨R.val / 4096, by omega⟩ : Fin 4) (⟨R.val % 4096, by omega⟩ : Fin 4096) k
        * x7 (ix3 (1 : Fin 2) k C)

theorem one_bits : FloatOps.ofBits (F := Ideal) .f32 0x3F800000#32 = 1 := Ideal.ofBits_one_f32

theorem ref_siluAtt (a : Fin 4) (b : Fin 4096) (k : Fin 2048) :
    val_main_v18 (F := Ideal) x1 (ix3 a b k) = silu (gateAtt x1 a b k) := by
  rw [val_main_v18_apply, val_main_call0_v5_apply, val_main_call0_v4_apply, val_main_call0_cst_0_apply,
    val_main_call0_v3_apply, val_main_call0_v2_apply, val_main_call0_cst_apply, val_main_call0_v1_apply,
    val_main_call0_v0_apply, val_main_v1_apply, val_main_v0_apply, one_bits]
  have hi : idx_main_v1 (ix3 a b k) = ix3 a b (⟨6144 + k.val, by omega⟩ : Fin 14336) := by
    funext d
    match d with
    | ⟨0, _⟩ => rfl
    | ⟨1, _⟩ => rfl
    | ⟨2, _⟩ => rfl
  rw [hi]
  rfl

theorem ref_siluConv (a : Fin 4) (b : Fin 4096) (k : Fin 2048) :
    val_main_v39 (F := Ideal) x1 (ix3 a b k) = silu (gateConv x1 a b k) := by
  rw [val_main_v39_apply, val_main_call1_v5_apply, val_main_call1_v4_apply, val_main_call1_cst_0_apply,
    val_main_call1_v3_apply, val_main_call1_v2_apply, val_main_call1_cst_apply, val_main_call1_v1_apply,
    val_main_call1_v0_apply, val_main_v2_apply, val_main_v0_apply, one_bits]
  have hi : idx_main_v2 (ix3 a b k) = ix3 a b (⟨12288 + k.val, by omega⟩ : Fin 14336) := by
    funext d
    match d with
    | ⟨0, _⟩ => rfl
    | ⟨1, _⟩ => rfl
    | ⟨2, _⟩ => rfl
  rw [hi]
  rfl

theorem ref_attNormed (a : Fin 4) (b : Fin 4096) (k : Fin 2048) :
    val_main_v17 (F := Ideal) x0 x4 (ix3 a b k)
      = normed (fun k' => x0 (ix3 a b k')) (x0 (ix3 a b k)) (x4 (ix2 (1 : Fin 2) k)) := by
  rw [val_main_v17_apply, val_main_v14_apply, val_main_v13_apply, val_main_v12_apply, val_main_v11_apply, val_main_v9_apply,
    val_main_v7_apply, val_main_v6_apply, val_main_v8_apply, val_main_v10_apply, val_main_v16_apply, val_main_v15_apply,
    val_main_v4_apply, val_main_v3_apply]
  have hg : idx_main_v3 (idx_main_v4 (idx_main_v15 (idx_main_v16 (ix3 a b k)))) = ix2 (1 : Fin 2) k := by
    funext d
    match d with
    | ⟨0, _⟩ => rfl
    | ⟨1, _⟩ => exact Fin.ext (Nat.mod_eq_of_lt k.isLt)
  have hs : val_main_cst (F := Ideal) (Shape.Idx.first h_S_) + ∑ j : Fin 2048, val_main_v5 (F := Ideal) x0 (idx_main_v6 (idx_main_v7 (idx_main_v13 (ix3 a b k))) j)
      = ∑ j : Fin 2048, x0 (ix3 a b j) * x0 (ix3 a b j) := by
    rw [show val_main_cst (F := Ideal) (Shape.Idx.first h_S_) = 0 from Ideal.ofBits_zero_f32, zero_add]
    refine Finset.sum_congr rfl fun j _ => ?_
    have hj : idx_main_v6 (idx_main_v7 (idx_main_v13 (ix3 a b k))) j = ix3 a b j := by
      funext d
      match d with
      | ⟨0, _⟩ => rfl
      | ⟨1, _⟩ => rfl
      | ⟨2, _⟩ => rfl
    rw [hj]
    rfl
  rw [hg, hs]
  rfl

theorem ref_pointwise (a : Fin 4) (b : Fin 4096) (e : Fin 2048) :
    val_main_v23 (F := Ideal) x2 x6 (ix3 a b e) = pointwise x2 x6 a b e := by
  refine (val_main_v23_apply x2 x6 _).trans ?_
  unfold pointwise
  refine Finset.sum_congr rfl fun j _ => ?_
  have he := e.isLt
  have hj := j.isLt
  have hl : lidx_main_v23 (ix3 a b e) j = ix3 a b j := by
    funext d
    match d with
    | ⟨0, _⟩ => rfl
    | ⟨1, _⟩ => rfl
    | ⟨2, _⟩ => rfl
  have hr : idx_main_v21 (idx_main_v22 (ridx_main_v23 (ix3 a b e) j)) = ix3 (1 : Fin 2) j e := by
    funext d
    apply Fin.ext
    match d with
    | ⟨0, _⟩ => rfl
    | ⟨1, _⟩ => show (j.val * 2048 + e.val) / 2048 % 2048 = j.val; omega
    | ⟨2, _⟩ => show (j.val * 2048 + e.val) % 2048 = e.val; omega
  rw [val_main_v22_apply, val_main_v21_apply, val_main_v20_apply, hl, hr]
  rfl

theorem ref_convNormed (a : Fin 4) (b : Fin 4096) (k : Fin 2048) :
    val_main_v38 (F := Ideal) x2 x5 x6 (ix3 a b k)
      = normed (fun k' => pointwise x2 x6 a b k') (pointwise x2 x6 a b k) (x5 (ix2 (1 : Fin 2) k)) := by
  rw [val_main_v38_apply, val_main_v35_apply, val_main_v34_apply, val_main_v33_apply, val_main_v32_apply, val_main_v30_apply,
    val_main_v28_apply, val_main_v27_apply, val_main_v29_apply, val_main_v31_apply, val_main_v37_apply, val_main_v36_apply,
    val_main_v25_apply, val_main_v24_apply, ref_pointwise]
  have hg : idx_main_v24 (idx_main_v25 (idx_main_v36 (idx_main_v37 (ix3 a b k)))) = ix2 (1 : Fin 2) k := by
    funext d
    match d with
    | ⟨0, _⟩ => rfl
    | ⟨1, _⟩ => exact Fin.ext (Nat.mod_eq_of_lt k.isLt)
  have hs : val_main_cst_2 (F := Ideal) (Shape.Idx.first h_S_) + ∑ j : Fin 2048, val_main_v26 (F := Ideal) x2 x6 (idx_main_v27 (idx_main_v28 (idx_main_v34 (ix3 a b k))) j)
      = ∑ j : Fin 2048, pointwise x2 x6 a b j * pointwise x2 x6 a b j := by
    rw [show val_main_cst_2 (F := Ideal) (Shape.Idx.first h_S_) = 0 from Ideal.ofBits_zero_f32, zero_add]
    refine Finset.sum_congr rfl fun j _ => ?_
    have hj : idx_main_v27 (idx_main_v28 (idx_main_v34 (ix3 a b k))) j = ix3 a b j := by
      funext d
      match d with
      | ⟨0, _⟩ => rfl
      | ⟨1, _⟩ => rfl
      | ⟨2, _⟩ => rfl
    rw [hj, val_main_v26_apply, ref_pointwise]
    rfl
  rw [hg, hs]
  rfl

theorem ref_mixed (a : Fin 4) (b : Fin 4096) (k : Fin 4096) :
    val_main_v41 (F := Ideal) x0 x1 x2 x4 x5 x6 (ix3 a b k) = mixed x0 x1 x2 x4 x5 x6 a b k := by
  unfold val_main_v41 mixed
  by_cases h : k.val < 2048
  · rw [dif_pos h]
    refine (concatenate_pair_apply_left (s₁ := S4x4096x2048) (s₂ := S4x4096x2048) (2 : Fin S4x4096x4096.rank) _ _ concatenates_S4x4096x2048_S4x4096x2048_S4x4096x4096_d2
      (ix3 a b k) rfl (ix3 a b (⟨k.val, h⟩ : Fin 2048)) (fun d => match d with
        | ⟨0, _⟩ => rfl
        | ⟨1, _⟩ => rfl
        | ⟨2, _⟩ => rfl)).trans ?_
    rw [val_main_v19_apply, ref_attNormed, ref_siluAtt]
    rfl
  · rw [dif_neg h]
    refine (concatenate_pair_apply_right (s₁ := S4x4096x2048) (s₂ := S4x4096x2048) (2 : Fin S4x4096x4096.rank) _ _ concatenates_S4x4096x2048_S4x4096x2048_S4x4096x4096_d2
      (ix3 a b k) rfl rfl (ix3 a b (⟨k.val - 2048, by omega⟩ : Fin 2048)) (fun d hd => match d with
        | ⟨0, _⟩ => rfl
        | ⟨1, _⟩ => rfl
        | ⟨2, _⟩ => absurd rfl hd) ?_).trans ?_
    · show k.val - 2048 + 2048 = k.val
      omega
    rw [val_main_v40_apply, ref_convNormed, ref_siluConv]
    rfl

theorem ref_apply (R : Fin 16384) (C : Fin 2048) :
    val_main_v46 (F := Ideal) x0 x1 x2 x3 x4 x5 x6 x7 (ix2 R C) = res x0 x1 x2 x3 x4 x5 x6 x7 R C := by
  have hR := R.isLt
  have hC := C.isLt
  have hi : idx_main_v46 (ix2 R C) = ix3 (⟨R.val / 4096, by omega⟩ : Fin 4) (⟨R.val % 4096, by omega⟩ : Fin 4096) C := by
    funext d
    apply Fin.ext
    match d with
    | ⟨0, _⟩ => show (R.val * 2048 + C.val) / 8388608 = R.val / 4096; omega
    | ⟨1, _⟩ => show (R.val * 2048 + C.val) / 2048 % 4096 = R.val % 4096; omega
    | ⟨2, _⟩ => show (R.val * 2048 + C.val) % 2048 = C.val; omega
  rw [val_main_v46_apply, val_main_v45_apply, hi]
  unfold res
  refine congrArg (x3 (ix3 (⟨R.val / 4096, by omega⟩ : Fin 4) (⟨R.val % 4096, by omega⟩ : Fin 4096) C) + ·) ?_
  refine (val_main_v44_apply x0 x1 x2 x4 x5 x6 x7 _).trans (Finset.sum_congr rfl fun k _ => ?_)
  have hk := k.isLt
  have hl : ∀ (a : Fin 4) (b : Fin 4096), lidx_main_v44 (ix3 a b C) k = ix3 a b k := by
    intro a b
    funext d
    match d with
    | ⟨0, _⟩ => rfl
    | ⟨1, _⟩ => rfl
    | ⟨2, _⟩ => rfl
  have hr : ∀ (a : Fin 4) (b : Fin 4096), idx_main_v42 (idx_main_v43 (ridx_main_v44 (ix3 a b C) k)) = ix3 (1 : Fin 2) k C := by
    intro a b
    funext d
    apply Fin.ext
    match d with
    | ⟨0, _⟩ => rfl
    | ⟨1, _⟩ => show (k.val * 2048 + C.val) / 2048 % 4096 = k.val; omega
    | ⟨2, _⟩ => show (k.val * 2048 + C.val) % 2048 = C.val; omega
  rw [hl, ref_mixed, val_main_v43_apply, val_main_v42_apply, hr]

end

end Cert.Proof.Out

end
-- ==== Proof.Out.Value.lean ====
/-
  The output projection's value: where no gate is minus infinity the array the kernel leaves is the reference's, entry by
  entry, on the launch's arrays.
-/
module

public import proofs.«01_k».proof.Defs
public import proofs.«01_k».proof.Proof.Gen.Kernel3Ideal.Value
public import proofs.«01_k».proof.Proof.Out.Pieces
public import proofs.«01_k».proof.Proof.Out.Ref

@[expose] public section

noncomputable section

namespace Cert.Proof.Out

open Cert.Kernel3Ideal Cert.Kernel3Ideal.Gen Cert.Kernel3Ideal.Value
open Idealize.ShloMosaic Idealize.ShloMosaic.TcCoe Idealize.ShloMosaic.ValueIdx
open Idealize.SL.Sem
open Cert.Proof.Proj (normed)

/-! ## The left operand of the output product -/

theorem rows_at {e : EltTy} (x : Vec Ideal S256x2048 e) (r : Fin 256) (k : Fin 2048) :
    rows x (r.val / 16) (ix2 (⟨r.val % 16, Nat.mod_lt _ (by decide)⟩ : Fin 16) k) = x (ix2 r k) := by
  have hr := r.isLt
  refine congrArg x (funext fun a => Fin.ext ?_)
  match a with
  | ⟨0, _⟩ => show (16 * (r.val / 16) + r.val % 16) % 256 = r.val; omega
  | ⟨1, _⟩ => rfl

/-- Entry `(r, k)` of a gated normed block, computed band by band. -/
theorem gated_apply (x : Vec Ideal S256x2048 .f32) (g : Vec Ideal S1x2048 .f32) (t : Vec Ideal S256x2048 .bf16) (r : Fin 256)
    (k : Fin 2048) :
    k0_pay36 (F := Ideal) (rows x (r.val / 16)) g (rows t (r.val / 16)) (ix2 (⟨r.val % 16, Nat.mod_lt _ (by decide)⟩ : Fin 16) k)
      = normed (fun k' => x (ix2 r k')) (x (ix2 r k)) (g (ix2 (0 : Fin 1) k)) * swish (t (ix2 r k)) := by
  rw [pay36_apply, rows_at, rows_at, show (fun k' => rows x (r.val / 16) (ix2 (⟨r.val % 16, Nat.mod_lt _ (by decide)⟩ : Fin 16) k'))
    = fun k' => x (ix2 r k') from funext fun k' => rows_at x r k']

theorem mix_left (a y : Vec Ideal S256x2048 .f32) (g og : Vec Ideal S1x2048 .f32) (ga gc : Vec Ideal S256x2048 .bf16) (r : Fin 256)
    (k : Fin 4096) (h : k.val < 2048) :
    mix a y g og ga gc (ix2 r k)
      = normed (fun k' => a (ix2 r k')) (a (ix2 r ⟨k.val, h⟩)) (g (ix2 (0 : Fin 1) ⟨k.val, h⟩)) * swish (ga (ix2 r ⟨k.val, h⟩)) := by
  unfold mix
  rw [dif_pos (show ((ix2 r k : S256x4096.Idx) 1).val < 2048 from h)]
  exact gated_apply a g ga r ⟨k.val, h⟩

theorem mix_right (a y : Vec Ideal S256x2048 .f32) (g og : Vec Ideal S1x2048 .f32) (ga gc : Vec Ideal S256x2048 .bf16) (r : Fin 256)
    (k : Fin 4096) (h : ¬k.val < 2048) :
    mix a y g og ga gc (ix2 r k)
      = normed (fun k' => y (ix2 r k')) (y (ix2 r ⟨k.val - 2048, by omega⟩)) (og (ix2 (0 : Fin 1) ⟨k.val - 2048, by omega⟩))
        * swish (gc (ix2 r ⟨k.val - 2048, by omega⟩)) := by
  unfold mix
  rw [dif_neg (show ¬((ix2 r k : S256x4096.Idx) 1).val < 2048 from h)]
  exact gated_apply y og gc r ⟨k.val - 2048, by omega⟩

variable (m : (ℓ : Loc nD τ sig) → Buf (Elt Ideal) ℓ) (c : Dev nD)

/-! ## The arrays the launch finds -/

/-- The launch's arguments. -/
abbrev a0 : Vec Ideal S4x4096x2048 .f32 := m ((c : Thread nD τ).loc main_arg0)
abbrev a1 : Vec Ideal S4x4096x14336 .bf16 := m ((c : Thread nD τ).loc main_arg1)
abbrev a2 : Vec Ideal S4x4096x2048 .bf16 := m ((c : Thread nD τ).loc main_arg2)
abbrev a3 : Vec Ideal S4x4096x2048 .f32 := m ((c : Thread nD τ).loc main_arg3)
abbrev a4 : Vec Ideal S2x2048 .f32 := m ((c : Thread nD τ).loc main_arg4)
abbrev a5 : Vec Ideal S2x2048 .f32 := m ((c : Thread nD τ).loc main_arg5)
abbrev a6 : Vec Ideal S2x2048x2048 .f32 := m ((c : Thread nD τ).loc main_arg6)
abbrev a7 : Vec Ideal S2x4096x2048 .f32 := m ((c : Thread nD τ).loc main_arg7)

/-- The arrays the windows cut. -/
abbrev wAtt : Vec Ideal S16384x2048 .f32 := V m c main_v2
abbrev wProj : Vec Ideal S16384x14336 .bf16 := V m c main_v3
abbrev wZ : Vec Ideal S16384x2048 .bf16 := V m c main_v4
abbrev wX : Vec Ideal S16384x2048 .f32 := V m c main_v5
abbrev wG : Vec Ideal S1x2048 .f32 := V m c main_v8
abbrev wOg : Vec Ideal S1x2048 .f32 := V m c main_v11
abbrev wPw : Vec Ideal S2x2048x2048 .bf16 := V m c main_v0
abbrev wOut : Vec Ideal S2x4096x2048 .bf16 := V m c main_v1

theorem att_at : wAtt m c = shapeCast S16384x2048 (a0 m c) shapeCasts_S4x4096x2048_S16384x2048 := by
  unfold_abbrev_sides
  after_results <;> rfl

theorem proj_at : wProj m c = shapeCast S16384x14336 (a1 m c) shapeCasts_S4x4096x14336_S16384x14336 := by
  unfold_abbrev_sides
  after_results <;> rfl

theorem z_at : wZ m c = shapeCast S16384x2048 (a2 m c) shapeCasts_S4x4096x2048_S16384x2048 := by
  unfold_abbrev_sides
  after_results <;> rfl

theorem x_at : wX m c = shapeCast S16384x2048 (a3 m c) shapeCasts_S4x4096x2048_S16384x2048 := by
  unfold_abbrev_sides
  after_results <;> rfl

theorem g_at : wG m c = shapeCast S1x2048 (shapeCast S2048 (extractStridedSlice S1x2048 ![1, 0] (a4 m c)
    slices_S2x2048_S1x2048_1_0) shapeCasts_S1x2048_S2048) shapeCasts_S2048_S1x2048 := by
  unfold_abbrev_sides
  after_results <;> rfl

theorem og_at : wOg m c = shapeCast S1x2048 (shapeCast S2048 (extractStridedSlice S1x2048 ![1, 0] (a5 m c)
    slices_S2x2048_S1x2048_1_0) shapeCasts_S1x2048_S2048) shapeCasts_S2048_S1x2048 := by
  unfold_abbrev_sides
  after_results <;> rfl

theorem pw_at : wPw m c = (fun i => a6 m c i : Vec Ideal S2x2048x2048 .bf16) := by
  unfold_abbrev_sides
  after_results <;> rfl

theorem out_at : wOut m c = (fun i => a7 m c i : Vec Ideal S2x4096x2048 .bf16) := by
  unfold_abbrev_sides
  after_results <;> rfl

/-- A row of the flattened array. -/
theorem flat_apply {e : EltTy} (x : Vec Ideal S4x4096x2048 e) (R : Fin 16384) (k : Fin 2048) :
    shapeCast S16384x2048 x shapeCasts_S4x4096x2048_S16384x2048 (ix2 R k)
      = x (ix3 (⟨R.val / 4096, by omega⟩ : Fin 4) (⟨R.val % 4096, by omega⟩ : Fin 4096) k) := by
  refine shapeCast_apply x shapeCasts_S4x4096x2048_S16384x2048 (ix2 R k) _ ?_
  rw [Shape.rowMajor_val_three, Shape.rowMajor_val_two]
  show (R.val / 4096 * 4096 + R.val % 4096) * 2048 + k.val = R.val * 2048 + k.val
  omega

theorem proj_apply (R : Fin 16384) (k : Fin 14336) :
    wProj m c (ix2 R k) = a1 m c (ix3 (⟨R.val / 4096, by omega⟩ : Fin 4) (⟨R.val % 4096, by omega⟩ : Fin 4096) k) := by
  rw [proj_at]
  refine shapeCast_apply (a1 m c) shapeCasts_S4x4096x14336_S16384x14336 (ix2 R k) _ ?_
  rw [Shape.rowMajor_val_three, Shape.rowMajor_val_two]
  show (R.val / 4096 * 4096 + R.val % 4096) * 14336 + k.val = R.val * 14336 + k.val
  omega

/-- The second layer's gains, as a row. -/
theorem gain_apply (x : Vec Ideal S2x2048 .f32) (k : Fin 2048) :
    shapeCast S1x2048 (shapeCast S2048 (extractStridedSlice S1x2048 ![1, 0] x
      slices_S2x2048_S1x2048_1_0) shapeCasts_S1x2048_S2048) shapeCasts_S2048_S1x2048 (ix2 (0 : Fin 1) k) = x (ix2 (1 : Fin 2) k) := by
  refine (shapeCast_apply _ _ _ (ix1 k) ?_).trans ?_
  · rw [Shape.rowMajor_val_one, Shape.rowMajor_val_two]
    show k.val = 0 * 2048 + k.val
    omega
  refine (shapeCast_apply _ _ _ (ix2 (0 : Fin 1) k) ?_).trans ?_
  · rw [Shape.rowMajor_val_one, Shape.rowMajor_val_two]
    show 0 * 2048 + k.val = k.val
    omega
  refine congrArg x (funext fun a => Fin.ext ?_)
  match a with
  | ⟨0, _⟩ => rfl
  | ⟨1, _⟩ => show 0 + k.val = k.val; omega

/-! ## The blocks of a point -/

theorem lt_points (t : Fin cfg0.N) : t.val < 64 := lt_of_lt_of_eq t.isLt (show cfg0.N = 64 from N_0)

theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = t.val ∧ win0_1.index t (1 : Fin 2) = 3 :=
  (by decide +kernel : ∀ t : Fin grid0.N, win0_1.index t (0 : Fin 2) = t.val ∧ win0_1.index t (1 : Fin 2) = 3)
theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem index3 : ∀ t : Fin cfg0.N, win0_3.index t (0 : Fin 2) = t.val ∧ win0_3.index t (1 : Fin 2) = 6 :=
  (by decide +kernel : ∀ t : Fin grid0.N, win0_3.index t (0 : Fin 2) = t.val ∧ win0_3.index t (1 : Fin 2) = 6)
theorem index4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem index5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem index6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem index7 : ∀ t : Fin cfg0.N, win0_7.index t (0 : Fin 3) = 1 ∧ win0_7.index t (1 : Fin 3) = 0 ∧ win0_7.index t (2 : Fin 3) = 0 :=
  (by decide +kernel : ∀ t : Fin grid0.N, win0_7.index t (0 : Fin 3) = 1 ∧ win0_7.index t (1 : Fin 3) = 0 ∧ win0_7.index t (2 : Fin 3) = 0)
theorem index8 : ∀ t : Fin cfg0.N, win0_8.index t (0 : Fin 3) = 1 ∧ win0_8.index t (1 : Fin 3) = 0 ∧ win0_8.index t (2 : Fin 3) = 0 :=
  (by decide +kernel : ∀ t : Fin grid0.N, win0_8.index t (0 : Fin 3) = 1 ∧ win0_8.index t (1 : Fin 3) = 0 ∧ win0_8.index t (2 : Fin 3) = 0)
theorem index9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

theorem flush9 : ∀ t : Fin cfg0.N, (cfg0.win 9).flush t = true :=
  (by decide +kernel : ∀ t : Fin grid0.N, win0_9.flush t = true)

/-- The row of the flattened arrays that row `r` of point `t`'s blocks is. -/
abbrev rowAt (t : Fin cfg0.N) (r : Fin 256) : Fin 16384 := ⟨256 * t.val + r.val, by have := lt_points t; omega⟩

abbrev bAtt (t : Fin cfg0.N) : Vec Ideal S256x2048 .f32 := iblk m c 0 t
abbrev bGateA (t : Fin cfg0.N) : Vec Ideal S256x2048 .bf16 := iblk m c 1 t
abbrev bZ (t : Fin cfg0.N) : Vec Ideal S256x2048 .bf16 := iblk m c 2 t
abbrev bGateC (t : Fin cfg0.N) : Vec Ideal S256x2048 .bf16 := iblk m c 3 t
abbrev bX (t : Fin cfg0.N) : Vec Ideal S256x2048 .f32 := iblk m c 4 t
abbrev bG (t : Fin cfg0.N) : Vec Ideal S1x2048 .f32 := iblk m c 5 t
abbrev bOg (t : Fin cfg0.N) : Vec Ideal S1x2048 .f32 := iblk m c 6 t
abbrev bPw (t : Fin cfg0.N) : Vec Ideal S1x2048x2048 .bf16 := iblk m c 7 t
abbrev bOut (t : Fin cfg0.N) : Vec Ideal S1x4096x2048 .bf16 := iblk m c 8 t

section

variable (t : Fin cfg0.N) (r : Fin 256) (k : Fin 2048)

theorem bAtt_apply : bAtt m c t (ix2 r k) = a0 m c (ix3 (⟨(rowAt t r).val / 4096, by omega⟩ : Fin 4) (⟨(rowAt t r).val % 4096, by omega⟩ : Fin 4096) k) := by
  obtain ⟨e0, e1⟩ := index0 t
  refine Eq.trans (congrArg (wAtt m c) (funext fun a => Fin.ext ?_)) ((congrFun (att_at m c) _).trans (flat_apply (a0 m c) (rowAt t r) k))
  match a with
  | ⟨0, _⟩ => show win0_0.index t (0 : Fin 2) * 256 + 1 * r.val = 256 * t.val + r.val; omega
  | ⟨1, _⟩ => show win0_0.index t (1 : Fin 2) * 2048 + 1 * k.val = k.val; omega

theorem bZ_apply : bZ m c t (ix2 r k) = a2 m c (ix3 (⟨(rowAt t r).val / 4096, by omega⟩ : Fin 4) (⟨(rowAt t r).val % 4096, by omega⟩ : Fin 4096) k) := by
  obtain ⟨e0, e1⟩ := index2 t
  refine Eq.trans (congrArg (wZ m c) (funext fun a => Fin.ext ?_)) ((congrFun (z_at m c) _).trans (flat_apply (a2 m c) (rowAt t r) k))
  match a with
  | ⟨0, _⟩ => show win0_2.index t (0 : Fin 2) * 256 + 1 * r.val = 256 * t.val + r.val; omega
  | ⟨1, _⟩ => show win0_2.index t (1 : Fin 2) * 2048 + 1 * k.val = k.val; omega

theorem bX_apply : bX m c t (ix2 r k) = a3 m c (ix3 (⟨(rowAt t r).val / 4096, by omega⟩ : Fin 4) (⟨(rowAt t r).val % 4096, by omega⟩ : Fin 4096) k) := by
  obtain ⟨e0, e1⟩ := index4 t
  refine Eq.trans (congrArg (wX m c) (funext fun a => Fin.ext ?_)) ((congrFun (x_at m c) _).trans (flat_apply (a3 m c) (rowAt t r) k))
  match a with
  | ⟨0, _⟩ => show win0_4.index t (0 : Fin 2) * 256 + 1 * r.val = 256 * t.val + r.val; omega
  | ⟨1, _⟩ => show win0_4.index t (1 : Fin 2) * 2048 + 1 * k.val = k.val; omega

theorem bGateA_apply : bGateA m c t (ix2 r k) = gateAtt (a1 m c) (⟨(rowAt t r).val / 4096, by omega⟩ : Fin 4) (⟨(rowAt t r).val % 4096, by omega⟩ : Fin 4096) k := by
  obtain ⟨e0, e1⟩ := index1 t
  refine Eq.trans (congrArg (wProj m c) (funext fun a => Fin.ext ?_)) (proj_apply m c (rowAt t r) (⟨6144 + k.val, by omega⟩ : Fin 14336))
  match a with
  | ⟨0, _⟩ => show win0_1.index t (0 : Fin 2) * 256 + 1 * r.val = 256 * t.val + r.val; omega
  | ⟨1, _⟩ => show win0_1.index t (1 : Fin 2) * 2048 + 1 * k.val = 6144 + k.val; omega

theorem bGateC_apply : bGateC m c t (ix2 r k) = gateConv (a1 m c) (⟨(rowAt t r).val / 4096, by omega⟩ : Fin 4) (⟨(rowAt t r).val % 4096, by omega⟩ : Fin 4096) k := by
  obtain ⟨e0, e1⟩ := index3 t
  refine Eq.trans (congrArg (wProj m c) (funext fun a => Fin.ext ?_)) (proj_apply m c (rowAt t r) (⟨12288 + k.val, by omega⟩ : Fin 14336))
  match a with
  | ⟨0, _⟩ => show win0_3.index t (0 : Fin 2) * 256 + 1 * r.val = 256 * t.val + r.val; omega
  | ⟨1, _⟩ => show win0_3.index t (1 : Fin 2) * 2048 + 1 * k.val = 12288 + k.val; omega

theorem bG_apply : bG m c t (ix2 (0 : Fin 1) k) = a4 m c (ix2 (1 : Fin 2) k) := by
  obtain ⟨e0, e1⟩ := index5 t
  refine Eq.trans (congrArg (wG m c) (funext fun a => Fin.ext ?_)) ((congrFun (g_at m c) (ix2 (0 : Fin 1) k)).trans (gain_apply (a4 m c) k))
  match a with
  | ⟨0, _⟩ => show win0_5.index t (0 : Fin 2) * 1 + 1 * 0 = 0; omega
  | ⟨1, _⟩ => show win0_5.index t (1 : Fin 2) * 2048 + 1 * k.val = k.val; omega

theorem bOg_apply : bOg m c t (ix2 (0 : Fin 1) k) = a5 m c (ix2 (1 : Fin 2) k) := by
  obtain ⟨e0, e1⟩ := index6 t
  refine Eq.trans (congrArg (wOg m c) (funext fun a => Fin.ext ?_)) ((congrFun (og_at m c) (ix2 (0 : Fin 1) k)).trans (gain_apply (a5 m c) k))
  match a with
  | ⟨0, _⟩ => show win0_6.index t (0 : Fin 2) * 1 + 1 * 0 = 0; omega
  | ⟨1, _⟩ => show win0_6.index t (1 : Fin 2) * 2048 + 1 * k.val = k.val; omega

theorem bPw_apply (j : Fin 2048) : bPw m c t (ix3 (0 : Fin 1) j k) = a6 m c (ix3 (1 : Fin 2) j k) := by
  obtain ⟨e0, e1, e2⟩ := index7 t
  refine Eq.trans (congrArg (wPw m c) (funext fun a => Fin.ext ?_)) (congrFun (pw_at m c) (ix3 (1 : Fin 2) j k))
  match a with
  | ⟨0, _⟩ => show win0_7.index t (0 : Fin 3) * 1 + 1 * 0 = 1; omega
  | ⟨1, _⟩ => show win0_7.index t (1 : Fin 3) * 2048 + 1 * j.val = j.val; omega
  | ⟨2, _⟩ => show win0_7.index t (2 : Fin 3) * 2048 + 1 * k.val = k.val; omega

theorem bOut_apply (j : Fin 4096) : bOut m c t (ix3 (0 : Fin 1) j k) = a7 m c (ix3 (1 : Fin 2) j k) := by
  obtain ⟨e0, e1, e2⟩ := index8 t
  refine Eq.trans (congrArg (wOut m c) (funext fun a => Fin.ext ?_)) (congrFun (out_at m c) (ix3 (1 : Fin 2) j k))
  match a with
  | ⟨0, _⟩ => show win0_8.index t (0 : Fin 3) * 1 + 1 * 0 = 1; omega
  | ⟨1, _⟩ => show win0_8.index t (1 : Fin 3) * 4096 + 1 * j.val = j.val; omega
  | ⟨2, _⟩ => show win0_8.index t (2 : Fin 3) * 2048 + 1 * k.val = k.val; omega

/-- The pointwise product of a point's block. -/
theorem bY_apply : k0_pay2 (F := Ideal) (bZ m c t) (bPw m c t) (ix2 r k)
    = pointwise (a2 m c) (a6 m c) (⟨(rowAt t r).val / 4096, by omega⟩ : Fin 4) (⟨(rowAt t r).val % 4096, by omega⟩ : Fin 4096) k := by
  rw [pay2_apply]
  unfold pointwise
  exact Finset.sum_congr rfl fun j _ => by rw [bZ_apply, bPw_apply]

end

/-! ## The array -/

/-- No gate of the projections is minus infinity. -/
def Above : Prop := ∀ (a : Fin 4) (b : Fin 4096) (k : Fin 2048), gateAtt (a1 m c) a b k ≠ ⊥ ∧ gateConv (a1 m c) a b k ≠ ⊥

theorem above_bits : FloatOps.ofBits (F := Ideal) .bf16 0xFF80#16 = (⊥ : EReal) := by
  show Ideal.ofBits .bf16 0xFF80#16 = _
  have e : (BitVec.extractLsb' 15 1 (0xFF80#16) == 1#1) = true := by decide
  have e1 : (BitVec.extractLsb' 7 8 (0xFF80#16)).toNat = 255 := by decide
  have e2 : (BitVec.extractLsb' 0 7 (0xFF80#16)).toNat = 0 := by decide
  simp only [Ideal.ofBits, Ideal.ieee, e, e1, e2]
  norm_num

/-- The precondition says so. -/
theorem above_of_pre [hp : Cert.Pre_gates_above.Facts] (h : Cert.Pre_Kernel3Ideal_gates_above m) : Above m c := by
  intro a b k
  have e := congrFun (h c) (ix3 a b k)
  have hb : ∀ x y : EReal, FloatOps.cmpf (F := Ideal) (φ := .bf16) .ogt (min x y) (FloatOps.ofBits (F := Ideal) .bf16 0xFF80#16) = 1#1
      → x ≠ ⊥ ∧ y ≠ ⊥ := by
    intro x y hxy
    rw [above_bits] at hxy
    have hlt : (⊥ : EReal) < min x y := by
      by_contra hn
      have h0 : FloatOps.cmpf (F := Ideal) (φ := .bf16) .ogt (min x y) (⊥ : EReal) = BitVec.ofBool (decide ((⊥ : EReal) < min x y)) := rfl
      rw [h0, decide_eq_false hn] at hxy
      exact absurd hxy (by decide)
    exact ⟨ne_of_gt (lt_of_lt_of_le hlt (min_le_left _ _)), ne_of_gt (lt_of_lt_of_le hlt (min_le_right _ _))⟩
  refine hb _ _ (Eq.trans ?_ e)
  refine congrArg₂ (fun x y : EReal => FloatOps.cmpf (F := Ideal) (φ := .bf16) .ogt (min x y) (FloatOps.ofBits (F := Ideal) .bf16 0xFF80#16))
    (congrArg (a1 m c) (funext fun d => Fin.ext ?_)) (congrArg (a1 m c) (funext fun d => Fin.ext ?_))
  · match d with
    | ⟨0, _⟩ => show a.val = 0 + a.val; omega
    | ⟨1, _⟩ => show b.val = 0 + b.val; omega
    | ⟨2, _⟩ => rfl
  · match d with
    | ⟨0, _⟩ => show a.val = 0 + a.val; omega
    | ⟨1, _⟩ => show b.val = 0 + b.val; omega
    | ⟨2, _⟩ => rfl

/-- The left operand's row at a point is the reference's. -/
theorem mix_apply (h : Above m c) (t : Fin cfg0.N) (r : Fin 256) (k : Fin 4096) :
    mix (bAtt m c t) (k0_pay2 (bZ m c t) (bPw m c t)) (bG m c t) (bOg m c t) (bGateA m c t) (bGateC m c t) (ix2 r k)
      = mixed (a0 m c) (a1 m c) (a2 m c) (a4 m c) (a5 m c) (a6 m c) (⟨(rowAt t r).val / 4096, by omega⟩ : Fin 4)
          (⟨(rowAt t r).val % 4096, by omega⟩ : Fin 4096) k := by
  by_cases hk : k.val < 2048
  · rw [mix_left _ _ _ _ _ _ r k hk, bG_apply, bGateA_apply, swish_eq _ (h _ _ _).1, bAtt_apply,
      show (fun k' => bAtt m c t (ix2 r k')) = _ from funext fun k' => bAtt_apply m c t r k']
    unfold mixed
    rw [dif_pos hk]
    rfl
  · rw [mix_right _ _ _ _ _ _ r k hk, bOg_apply, bGateC_apply, swish_eq _ (h _ _ _).2, bY_apply,
      show (fun k' => k0_pay2 (F := Ideal) (bZ m c t) (bPw m c t) (ix2 r k')) = _ from funext fun k' => bY_apply m c t r k']
    unfold mixed
    rw [dif_neg hk]
    rfl

/-- The array the launch leaves. -/
abbrev left : Vec Ideal S16384x2048 .f32 := (dats m 0 c).arrAt 9 cfg0.N

/-- An entry of the array is the entry of the block its point stored. -/
theorem left_apply (t : Fin cfg0.N) (r : Fin 256) (q : Fin 2048) :
    left m c (ix2 (rowAt t r) q)
      = k0_pay1 (F := Ideal) (k0_pay61 (bX m c t))
          (mix (bAtt m c t) (k0_pay2 (bZ m c t) (bPw m c t)) (bG m c t) (bOg m c t) (bGateA m c t) (bGateC m c t))
          (k0_pay62 (bOut m c t)) (ix2 r q) := by
  obtain ⟨e0, e1⟩ := index9 t
  have hb := (blocks9 m c t (flush9 t)).trans (flushed9_A m c t)
  rw [out_eq] at hb
  refine Eq.trans ?_ (congrFun hb (ix2 r q))
  refine congrArg (left m c) (funext fun a => Fin.ext ?_)
  match a with
  | ⟨0, _⟩ => show 256 * t.val + r.val = win0_9.index t (0 : Fin 2) * 256 + 1 * r.val; omega
  | ⟨1, _⟩ => show q.val = win0_9.index t (1 : Fin 2) * 2048 + 1 * q.val; omega

theorem left_res (h : Above m c) (t : Fin cfg0.N) (r : Fin 256) (q : Fin 2048) :
    left m c (ix2 (rowAt t r) q)
      = res (a0 m c) (a1 m c) (a2 m c) (a3 m c) (a4 m c) (a5 m c) (a6 m c) (a7 m c) (rowAt t r) q := by
  rw [left_apply, pay1_apply, bX_apply]
  unfold res
  exact congrArg (_ + ·) (Finset.sum_congr rfl fun k _ => by rw [mix_apply m c h, bOut_apply])

/-- The kernel's array is the reference's of the same arguments. -/
theorem array_eq (h : Above m c) : left m c = Cert.Reference3Ideal.Read.val_main_v46 (F := Ideal)
    (a0 m c) (a1 m c) (a2 m c) (a3 m c) (a4 m c) (a5 m c) (a6 m c) (a7 m c) := by
  funext i
  have h0 : (i 0).val < 16384 := (i 0).isLt
  have ht : (i 0).val / 256 < cfg0.N := by
    rw [show cfg0.N = 64 from N_0]
    omega
  have e : i = ix2 (rowAt ⟨(i 0).val / 256, ht⟩ (⟨(i 0).val % 256, Nat.mod_lt _ (by decide)⟩ : Fin 256)) (⟨(i 1).val, (i 1).isLt⟩ : Fin 2048) := by
    funext d
    apply Fin.ext
    match d with
    | ⟨0, _⟩ => show (i 0).val = 256 * ((i 0).val / 256) + (i 0).val % 256; omega
    | ⟨1, _⟩ => rfl
  rw [e]
  exact (left_res m c h _ _ _).trans (ref_apply _ _ _ _ _ _ _ _ _ _).symm

/-- The output projection's algebraic claim: over the extended reals, where no gate is minus infinity, the kernel and the
    reference leave one array. -/
theorem algebraic [Cert.Pre_gates_above.Facts] : Cert.algebraic_Kernel3Ideal_Reference3Ideal_pre_gates_above := by
  intro m g m' g' hpre hargs
  refine ⟨fun c => left m c, run_blocks m g, ?_⟩
  refine (θ_run Cert.Reference3Ideal.defs _ _).mono (fun r h c => ⟨(h c).1.trans ?_, (h c).2⟩)
    (Cert.Reference3Ideal.Value.run (F := Ideal) m' g')
  refine (Cert.Reference3Ideal.Read.val_main_v46_eq (F := Ideal) _ _).trans ?_
  obtain ⟨h0, h1, h2, h3, h4, h5, h6, h7⟩ := hargs c
  rw [h0, h1, h2, h3, h4, h5, h6, h7]
  exact (array_eq m c (above_of_pre m c hpre)).symm

end Cert.Proof.Out

end
-- ==== Proof.Last.Ref.lean ====
/-
  The second projection's reference read at one entry: the sum, over the model's width, of the row's entry times the
  second layer's weight.
-/
module

public import proofs.«01_k».proof.Proof.Gen.Reference4Ideal.Read
public import Idealize.ShloMosaic.PureOps.Ideal.Laws

@[expose] public section

noncomputable section

namespace Cert.Proof.Last

open Cert.Reference4Ideal Cert.Reference4Ideal.Gen Cert.Reference4Ideal.Read
open Idealize.ShloMosaic Idealize.ShloMosaic.ValueIdx

/-- Entry `(R, C)` of the projected rows. -/
def res (x0 : Vec Ideal S4x4096x2048 .bf16) (x1 : Vec Ideal S2x2048x14336 .f32) (R : Fin 16384) (C : Fin 14336) : EReal :=
  ∑ k : Fin 2048, x0 (ix3 (⟨R.val / 4096, by omega⟩ : Fin 4) (⟨R.val % 4096, by omega⟩ : Fin 4096) k)
    * x1 (ix3 (1 : Fin 2) k C)

theorem ref_apply (x0 : Vec Ideal S4x4096x2048 .bf16) (x1 : Vec Ideal S2x2048x14336 .f32) (R : Fin 16384) (C : Fin 14336) :
    val_main_v5 (F := Ideal) x0 x1 (ix2 R C) = res x0 x1 R C := by
  rw [val_main_v5_apply, val_main_v4_apply]
  refine (val_main_v3_apply x0 x1 _).trans ?_
  unfold res
  refine Finset.sum_congr rfl fun k _ => ?_
  have hR := R.isLt
  have hC := C.isLt
  have hk := k.isLt
  have hl : lidx_main_v3 (idx_main_v5 (ix2 R C)) k
      = ix3 (⟨R.val / 4096, by omega⟩ : Fin 4) (⟨R.val % 4096, by omega⟩ : Fin 4096) k := by
    funext d
    apply Fin.ext
    match d with
    | ⟨0, _⟩ => show (R.val * 14336 + C.val) / 58720256 = R.val / 4096; omega
    | ⟨1, _⟩ => show (R.val * 14336 + C.val) / 14336 % 4096 = R.val % 4096; omega
    | ⟨2, _⟩ => rfl
  have hr : idx_main_v1 (idx_main_v2 (ridx_main_v3 (idx_main_v5 (ix2 R C)) k)) = ix3 (1 : Fin 2) k C := by
    funext d
    apply Fin.ext
    match d with
    | ⟨0, _⟩ => rfl
    | ⟨1, _⟩ => show (k.val * 14336 + (R.val * 14336 + C.val) % 14336) / 14336 % 2048 = k.val; omega
    | ⟨2, _⟩ => show (k.val * 14336 + (R.val * 14336 + C.val) % 14336) % 14336 = C.val; omega
  rw [val_main_v2_apply, val_main_v1_apply, hl, hr]
  rfl

end Cert.Proof.Last

end
-- ==== Proof.Last.Value.lean ====
/-
  The second projection's value: the array the kernel leaves is the reference's, entry by entry, on the launch's arrays.
-/
module

public import proofs.«01_k».proof.Defs
public import proofs.«01_k».proof.Proof.Gen.Kernel4Ideal.Value
public import proofs.«01_k».proof.Proof.Last.Ref
public import Idealize.ShloMosaic.Lib.MatmulPlain

@[expose] public section

noncomputable section

namespace Cert.Proof.Last

open Cert.Kernel4Ideal Cert.Kernel4Ideal.Gen Cert.Kernel4Ideal.Value
open Idealize.ShloMosaic Idealize.ShloMosaic.TcCoe Idealize.ShloMosaic.ValueIdx
open Idealize.SL.Sem

/-! ## The block a point stores -/

theorem pay1_apply (h : Vec Ideal S2048x2048 .bf16) (w : Vec Ideal S1x2048x1024 .bf16) (r : Fin 2048) (q : Fin 1024) :
    k0_pay1 (F := Ideal) h w (ix2 r q) = ∑ k : Fin 2048, h (ix2 r k) * w (ix3 (0 : Fin 1) k q) := by
  unfold k0_pay1
  have hd : dot_S2048x2048_S2048x1024_S2048x1024_1_0_0_1_n_n = DotDims.plain 2048 2048 1024 := rfl
  show FloatOps.matmul (F := Ideal) (φ₁ := .bf16) (φ₂ := .bf16) dot_S2048x2048_S2048x1024_S2048x1024_1_0_0_1_n_n none
    (shapeCast (α := Elt Ideal .bf16) S2048x2048 h shapeCasts_S2048x2048_S2048x2048)
    (shapeCast (α := Elt Ideal .bf16) S2048x1024 w shapeCasts_S1x2048x1024_S2048x1024)
    (constant (F := Ideal) S2048x1024 .f32 0x00000000#32) (ix2 r q) = _
  rw [hd, Ideal.matmul_plain_apply, shapeCast_self]
  have h0 : constant (F := Ideal) S2048x1024 .f32 0x00000000#32 (ix2 r q) = 0 := Ideal.ofBits_zero_f32
  rw [h0, zero_add]
  refine Finset.sum_congr rfl fun k _ => ?_
  have e := shapeCast_dropUnit_apply ![2048, 1024] w shapeCasts_S1x2048x1024_S2048x1024 (ix2 k q)
  refine congrArg (h (ix2 r k) * ·) (e.trans (congrArg w (funext fun a => ?_)))
  match a with
  | ⟨0, _⟩ => rfl
  | ⟨1, _⟩ => rfl
  | ⟨2, _⟩ => rfl

/-- The store fills the block, and the loads read the whole blocks. -/
theorem out_eq (h : Vec Ideal S2048x2048 .bf16) (w : Vec Ideal S1x2048x1024 .bf16) :
    out0_2 (F := Ideal) h w = k0_pay1 h w := by
  have z2 : (![0, 0] : Fin 2 → ℕ) = fun _ => 0 := funext fun a => match a with
    | ⟨0, _⟩ => rfl
    | ⟨1, _⟩ => rfl
  have z3 : (![0, 0, 0] : Fin 3 → ℕ) = fun _ => 0 := funext fun a => match a with
    | ⟨0, _⟩ => rfl
    | ⟨1, _⟩ => rfl
    | ⟨2, _⟩ => rfl
  have eh : View.ld h r0_0 = h := funext fun p => congrArg h (funext fun a => Fin.ext (match a with
    | ⟨0, _⟩ => by show 0 + 1 * (p 0).val = (p 0).val; omega
    | ⟨1, _⟩ => by show 0 + 1 * (p 1).val = (p 1).val; omega))
  have ew : View.ld w r0_1 = w := funext fun p => congrArg w (funext fun a => Fin.ext (match a with
    | ⟨0, _⟩ => by show 0 + 1 * (p 0).val = (p 0).val; omega
    | ⟨1, _⟩ => by show 0 + 1 * (p 1).val = (p 1).val; omega
    | ⟨2, _⟩ => by show 0 + 1 * (p 2).val = (p 2).val; omega))
  unfold out0_2
  refine (View.canon_unit_zero z2 _ _).trans ?_
  rw [eh, ew]

variable (m : (ℓ : Loc nD τ sig) → Buf (Elt Ideal) ℓ) (c : Dev nD)

/-! ## The arrays the launch finds -/

/-- The launch's arguments. -/
abbrev a0 : Vec Ideal S4x4096x2048 .bf16 := m ((c : Thread nD τ).loc main_arg0)
abbrev a1 : Vec Ideal S2x2048x14336 .f32 := m ((c : Thread nD τ).loc main_arg1)

/-- The arrays the windows cut. -/
abbrev w0 : Vec Ideal S16384x2048 .bf16 := V m c main_v0
abbrev w1 : Vec Ideal S2x2048x14336 .bf16 := V m c main_v1

theorem rows_at : w0 m c = shapeCast S16384x2048 (a0 m c) shapeCasts_S4x4096x2048_S16384x2048 := by
  unfold_abbrev_sides
  after_results <;> rfl

theorem weights_at : w1 m c = (fun i => a1 m c i : Vec Ideal S2x2048x14336 .bf16) := by
  unfold_abbrev_sides
  after_results <;> rfl

theorem rows_apply (R : Fin 16384) (k : Fin 2048) :
    w0 m c (ix2 R k)
      = a0 m c (ix3 (⟨R.val / 4096, by omega⟩ : Fin 4) (⟨R.val % 4096, by omega⟩ : Fin 4096) k) := by
  rw [rows_at]
  refine shapeCast_apply (a0 m c) shapeCasts_S4x4096x2048_S16384x2048 (ix2 R k) _ ?_
  rw [Shape.rowMajor_val_three, Shape.rowMajor_val_two]
  show (R.val / 4096 * 4096 + R.val % 4096) * 2048 + k.val = R.val * 2048 + k.val
  omega

theorem weights_apply (k : Fin 2048) (C : Fin 14336) :
    w1 m c (ix3 (1 : Fin 2) k C) = (a1 m c) (ix3 (1 : Fin 2) k C) := by
  rw [weights_at]

/-! ## The blocks of a point -/

theorem index_rows : ∀ t : Fin cfg0.N, win0_0.index t (0 : Fin 2) = t.val / 14 ∧ win0_0.index t (1 : Fin 2) = 0 :=
  (by decide +kernel : ∀ t : Fin grid0.N, win0_0.index t (0 : Fin 2) = t.val / 14 ∧ win0_0.index t (1 : Fin 2) = 0)

theorem index_weights : ∀ t : Fin cfg0.N, win0_1.index t (0 : Fin 3) = 1 ∧ win0_1.index t (1 : Fin 3) = 0
    ∧ win0_1.index t (2 : Fin 3) = t.val % 14 :=
  (by decide +kernel : ∀ t : Fin grid0.N, win0_1.index t (0 : Fin 3) = 1 ∧ win0_1.index t (1 : Fin 3) = 0
    ∧ win0_1.index t (2 : Fin 3) = t.val % 14)

theorem index_out : ∀ t : Fin cfg0.N, win0_2.index t (0 : Fin 2) = t.val / 14 ∧ win0_2.index t (1 : Fin 2) = t.val % 14 :=
  (by decide +kernel : ∀ t : Fin grid0.N, win0_2.index t (0 : Fin 2) = t.val / 14 ∧ win0_2.index t (1 : Fin 2) = t.val % 14)

theorem flush_out : ∀ t : Fin cfg0.N, (cfg0.win 2).flush t = true :=
  (by decide +kernel : ∀ t : Fin grid0.N, win0_2.flush t = true)

theorem lt_points (t : Fin cfg0.N) : t.val < 112 := lt_of_lt_of_eq t.isLt (show cfg0.N = 112 from N_0)

/-- The block of rows and of weights at a point. -/
abbrev xb (t : Fin cfg0.N) : Vec Ideal S2048x2048 .bf16 := iblk m c 0 t
abbrev wb (t : Fin cfg0.N) : Vec Ideal S1x2048x1024 .bf16 := iblk m c 1 t

theorem xb_apply (t : Fin cfg0.N) (r : Fin 2048) (k : Fin 2048) :
    xb m c t (ix2 r k) = w0 m c
      (ix2 (⟨2048 * (t.val / 14) + r.val, by have := lt_points t; omega⟩ : Fin 16384) k) := by
  obtain ⟨e0, e1⟩ := index_rows t
  refine congrArg (w0 m c) (funext fun a => Fin.ext ?_)
  match a with
  | ⟨0, _⟩ => show win0_0.index t (0 : Fin 2) * 2048 + 1 * r.val = 2048 * (t.val / 14) + r.val; omega
  | ⟨1, _⟩ => show win0_0.index t (1 : Fin 2) * 2048 + 1 * k.val = k.val; omega

theorem wb_apply (t : Fin cfg0.N) (k : Fin 2048) (q : Fin 1024) :
    wb m c t (ix3 (0 : Fin 1) k q) = w1 m c
      (ix3 (1 : Fin 2) k (⟨1024 * (t.val % 14) + q.val, by omega⟩ : Fin 14336)) := by
  obtain ⟨e0, e1, e2⟩ := index_weights t
  refine congrArg (w1 m c) (funext fun a => Fin.ext ?_)
  match a with
  | ⟨0, _⟩ => show win0_1.index t (0 : Fin 3) * 1 + 1 * 0 = 1; omega
  | ⟨1, _⟩ => show win0_1.index t (1 : Fin 3) * 2048 + 1 * k.val = k.val; omega
  | ⟨2, _⟩ => show win0_1.index t (2 : Fin 3) * 1024 + 1 * q.val = 1024 * (t.val % 14) + q.val; omega

/-! ## The array -/

/-- The array the launch leaves. -/
abbrev left : Vec Ideal S16384x14336 .bf16 := (dats m 0 c).arrAt 2 cfg0.N

/-- An entry of the array is the entry of the block its point stored. -/
theorem left_apply (t : Fin cfg0.N) (r : Fin 2048) (q : Fin 1024) :
    left m c (ix2 (⟨2048 * (t.val / 14) + r.val, by have := lt_points t; omega⟩ : Fin 16384)
        (⟨1024 * (t.val % 14) + q.val, by omega⟩ : Fin 14336))
      = k0_pay1 (F := Ideal) (xb m c t) (wb m c t) (ix2 r q) := by
  obtain ⟨e0, e1⟩ := index_out t
  have hb := (blocks2 m c t (flush_out t)).trans (flushed2 m c t)
  rw [out_eq] at hb
  refine Eq.trans ?_ (congrFun hb (ix2 r q))
  refine congrArg (left m c) (funext fun a => Fin.ext ?_)
  match a with
  | ⟨0, _⟩ => show 2048 * (t.val / 14) + r.val = win0_2.index t (0 : Fin 2) * 2048 + 1 * r.val; omega
  | ⟨1, _⟩ => show 1024 * (t.val % 14) + q.val = win0_2.index t (1 : Fin 2) * 1024 + 1 * q.val; omega

/-- The array the launch leaves, entry by entry. -/
theorem array_apply (R : Fin 16384) (C : Fin 14336) : left m c (ix2 R C) = res (a0 m c) (a1 m c) R C := by
  have hR := R.isLt
  have hC := C.isLt
  have hlt : 14 * (R.val / 2048) + C.val / 1024 < cfg0.N := by
    rw [show cfg0.N = 112 from N_0]
    omega
  have hi : (ix2 R C : S16384x14336.Idx)
      = ix2 (⟨2048 * ((14 * (R.val / 2048) + C.val / 1024) / 14) + R.val % 2048, by omega⟩ : Fin 16384)
        (⟨1024 * ((14 * (R.val / 2048) + C.val / 1024) % 14) + C.val % 1024, by omega⟩ : Fin 14336) := by
    congr 1 <;> exact Fin.ext (by dsimp only; omega)
  rw [hi]
  refine (left_apply m c ⟨14 * (R.val / 2048) + C.val / 1024, hlt⟩ (⟨R.val % 2048, Nat.mod_lt _ (by decide)⟩ : Fin 2048)
    (⟨C.val % 1024, Nat.mod_lt _ (by decide)⟩ : Fin 1024)).trans ?_
  rw [pay1_apply]
  unfold res
  refine Finset.sum_congr rfl fun k _ => congrArg₂ (· * ·) ?_ ?_
  · refine (xb_apply m c _ _ _).trans (Eq.trans ?_ (rows_apply m c R k))
    refine congrArg (fun q => w0 m c (ix2 q k)) (Fin.ext ?_)
    show 2048 * ((14 * (R.val / 2048) + C.val / 1024) / 14) + R.val % 2048 = R.val
    omega
  · refine (wb_apply m c _ _ _).trans (Eq.trans ?_ (weights_apply m c k C))
    refine congrArg (fun q => w1 m c (ix3 (1 : Fin 2) k q)) (Fin.ext ?_)
    show 1024 * ((14 * (R.val / 2048) + C.val / 1024) % 14) + C.val % 1024 = C.val
    omega

/-- The kernel's array is the reference's of the same arguments. -/
theorem array_eq : left m c = Cert.Reference4Ideal.Read.val_main_v5 (F := Ideal) (a0 m c) (a1 m c) := by
  funext i
  have e : i = ix2 (⟨(i 0).val, (i 0).isLt⟩ : Fin 16384) (⟨(i 1).val, (i 1).isLt⟩ : Fin 14336) := by
    funext d
    match d with
    | ⟨0, _⟩ => rfl
    | ⟨1, _⟩ => rfl
  rw [e]
  exact (array_apply m c _ _).trans (ref_apply _ _ _ _).symm

/-- The second projection's algebraic claim: over the extended reals the kernel and the reference leave one array. -/
theorem algebraic : Cert.algebraic_Kernel4Ideal_Reference4Ideal := by
  intro m g m' g' _ hargs
  refine ⟨fun c => left m c, run_blocks m g, ?_⟩
  refine (θ_run Cert.Reference4Ideal.defs _ _).mono (fun r h c => ⟨(h c).1.trans ?_, (h c).2⟩)
    (Cert.Reference4Ideal.Value.run (F := Ideal) m' g')
  refine (Cert.Reference4Ideal.Read.val_main_v5_eq (F := Ideal) _ _).trans ?_
  rw [(hargs c).1, (hargs c).2]
  exact (array_eq m c).symm

end Cert.Proof.Last

end
-- ==== Proof.lean ====
/-
  The claim of the certificate: the calls' kernels, their idealizations and their references run and leave their arguments
  as they were, the idealizations of the projections rewrote nothing, and over the extended reals the kernels of the two
  layers' input projections, and of the last layer's output projection, leave their references' arrays.
-/
module

public import proofs.«01_k».proof.Defs
public import proofs.«01_k».proof.Proof.Att.Frames
public import proofs.«01_k».proof.Proof.Gen.Kernel2.Frame
public import proofs.«01_k».proof.Proof.Proj.Claim
public import proofs.«01_k».proof.Proof.Gen.Kernel2Ideal.Value
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Read
public import proofs.«01_k».proof.Proof.Out.Value
public import proofs.«01_k».proof.Proof.Gen.Kernel4.Frame
public import proofs.«01_k».proof.Proof.Gen.Kernel4Ideal.Value
public import proofs.«01_k».proof.Proof.Gen.Reference4Ideal.Read
public import proofs.«01_k».proof.Proof.Last.Value

@[expose] public section

noncomputable section

namespace Cert.Proof

open Idealize.ShloMosaic Idealize.SL.Sem

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The facts the gates' precondition states. -/
theorem facts_gates_above : Cert.Pre_gates_above.Facts := ⟨by decide, by decide, by decide⟩

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The certificate's claim. -/
theorem claim : Cert.Claim :=
  ⟨Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    facts_gates_above,
    Att.frame_kernelIdeal, Att.frame_reference,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ,
    fun m ρ _ => Cert.Kernel3Ideal.Gen.frame m ρ, frame_reference3, fun m ρ _ => frame_reference3 m ρ trivial,
    fun m ρ _ => Cert.Kernel4.Gen.frame m ρ, fun m ρ _ => Cert.Kernel4Ideal.Gen.frame m ρ, frame_reference4,
    trivial, Proj.algebraic, trivial, @Out.algebraic facts_gates_above, trivial, Last.algebraic⟩

end Cert.Proof

end
